-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qk_prompt [hPre_finite_qk_prompt : Cert.Pre_finite_qk_prompt.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qk_prompt.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qk_prompt [hPre_finite_qk_prompt : Cert.Pre_finite_qk_prompt.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qk_prompt.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_in [hPre_finite_in : Cert.Pre_finite_in.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_in [hPre_finite_in : Cert.Pre_finite_in.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_qk_prompt [hKernel3Ideal : Cert.Kernel3Ideal.Facts] [hPre_finite_qk_prompt : Cert.Pre_finite_qk_prompt.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qk_prompt m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_qk_prompt [hReference3Ideal : Cert.Reference3Ideal.Facts] [hPre_finite_qk_prompt : Cert.Pre_finite_qk_prompt.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qk_prompt m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_in [hKernel4Ideal : Cert.Kernel4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_in m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_in [hReference4Ideal : Cert.Reference4Ideal.Facts] [hPre_finite_in : Cert.Pre_finite_in.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_in m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_qk_prompt [hKernel3Ideal : Cert.Kernel3Ideal.Facts] [hReference3Ideal : Cert.Reference3Ideal.Facts] [hPre_finite_qk_prompt : Cert.Pre_finite_qk_prompt.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qk_prompt m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v169) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_in [hKernel4Ideal : Cert.Kernel4Ideal.Facts] [hReference4Ideal : Cert.Reference4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_in m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v63)) (v1 : (c : Dev Cert.Kernel4Ideal.nD) → Buf (Elt Ideal) ((c.tc : Thread Cert.Kernel4Ideal.nD Cert.Kernel4Ideal.τ).loc Cert.Kernel4Ideal.main_v64)) (v2 : (c : Dev Cert.Kernel4Ideal.nD) → Buf (Elt Ideal) ((c.tc : Thread Cert.Kernel4Ideal.nD Cert.Kernel4Ideal.τ).loc Cert.Kernel4Ideal.main_v65)) (v3 : (c : Dev Cert.Kernel4Ideal.nD) → Buf (Elt Ideal) ((c.tc : Thread Cert.Kernel4Ideal.nD Cert.Kernel4Ideal.τ).loc Cert.Kernel4Ideal.main_v62_3)) (v4 : (c : Dev Cert.Kernel4Ideal.nD) → Buf (Elt Ideal) ((c.tc : Thread Cert.Kernel4Ideal.nD Cert.Kernel4Ideal.τ).loc Cert.Kernel4Ideal.main_v62_4)) (v5 : (c : Dev Cert.Kernel4Ideal.nD) → Buf (Elt Ideal) ((c.tc : Thread Cert.Kernel4Ideal.nD Cert.Kernel4Ideal.τ).loc Cert.Kernel4Ideal.main_v62_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v63) = v0 c
          ∧ r.2.mem ((c.tc : Thread Cert.Kernel4Ideal.nD Cert.Kernel4Ideal.τ).loc Cert.Kernel4Ideal.main_v64) = v1 c
          ∧ r.2.mem ((c.tc : Thread Cert.Kernel4Ideal.nD Cert.Kernel4Ideal.τ).loc Cert.Kernel4Ideal.main_v65) = v2 c
          ∧ r.2.mem ((c.tc : Thread Cert.Kernel4Ideal.nD Cert.Kernel4Ideal.τ).loc Cert.Kernel4Ideal.main_v62_3) = v3 c
          ∧ r.2.mem ((c.tc : Thread Cert.Kernel4Ideal.nD Cert.Kernel4Ideal.τ).loc Cert.Kernel4Ideal.main_v62_4) = v4 c
          ∧ r.2.mem ((c.tc : Thread Cert.Kernel4Ideal.nD Cert.Kernel4Ideal.τ).loc Cert.Kernel4Ideal.main_v62_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v184) = v0 c
          ∧ r.2.mem ((c.tc : Thread Cert.Reference4Ideal.nD Cert.Reference4Ideal.τ).loc Cert.Reference4Ideal.main_v249) = v1 c
          ∧ r.2.mem ((c.tc : Thread Cert.Reference4Ideal.nD Cert.Reference4Ideal.τ).loc Cert.Reference4Ideal.main_v256) = v2 c
          ∧ r.2.mem ((c.tc : Thread Cert.Reference4Ideal.nD Cert.Reference4Ideal.τ).loc Cert.Reference4Ideal.main_v259) = v3 c
          ∧ r.2.mem ((c.tc : Thread Cert.Reference4Ideal.nD Cert.Reference4Ideal.τ).loc Cert.Reference4Ideal.main_v262) = v4 c
          ∧ r.2.mem ((c.tc : Thread Cert.Reference4Ideal.nD Cert.Reference4Ideal.τ).loc Cert.Reference4Ideal.main_v265) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_qk_prompt : Cert.Pre_finite_qk_prompt.Facts) (hPre_finite_in : Cert.Pre_finite_in.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_qk_prompt (hKernel3Ideal := hKernel3Ideal) (hPre_finite_qk_prompt := hPre_finite_qk_prompt)
    ∧ quiescent_Reference3Ideal (hReference3Ideal := hReference3Ideal)
    ∧ quiescent_Reference3Ideal_pre_finite_qk_prompt (hReference3Ideal := hReference3Ideal) (hPre_finite_qk_prompt := hPre_finite_qk_prompt)
    ∧ quiescent_Kernel4 (hKernel4 := hKernel4)
    ∧ quiescent_Kernel4Ideal (hKernel4Ideal := hKernel4Ideal)
    ∧ quiescent_Kernel4Ideal_pre_finite_in (hKernel4Ideal := hKernel4Ideal) (hPre_finite_in := hPre_finite_in)
    ∧ quiescent_Reference4Ideal (hReference4Ideal := hReference4Ideal)
    ∧ quiescent_Reference4Ideal_pre_finite_in (hReference4Ideal := hReference4Ideal) (hPre_finite_in := hPre_finite_in)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_qk_prompt (hKernel3Ideal := hKernel3Ideal) (hReference3Ideal := hReference3Ideal) (hPre_finite_qk_prompt := hPre_finite_qk_prompt)
    ∧ preserves_Kernel4_Kernel4Ideal
    ∧ algebraic_Kernel4Ideal_Reference4Ideal_pre_finite_in (hKernel4Ideal := hKernel4Ideal) (hReference4Ideal := hReference4Ideal) (hPre_finite_in := hPre_finite_in)
    ∧ preserves_Kernel5_Kernel5Ideal
    ∧ algebraic_Kernel5Ideal_Reference5Ideal (hKernel5Ideal := hKernel5Ideal) (hReference5Ideal := hReference5Ideal)
-- ==== Pre_finite_in.lean ====
abbrev S12288x1024 : Shape := ⟨2, ![12288, 1024]⟩
abbrev S8x6x1024 : Shape := ⟨3, ![8, 6, 1024]⟩
abbrev S1024 : Shape := ⟨1, ![1024]⟩
abbrev S1024x1280 : Shape := ⟨2, ![1024, 1280]⟩
abbrev S64 : Shape := ⟨1, ![64]⟩
abbrev S_ : Shape := ⟨0, ![]⟩

class Facts : Prop where
  bcast_S_S12288x1024 : S_.BroadcastsInDim S12288x1024 (![] : Fin 0 → Fin S12288x1024.rank)
  reducesTo_S12288x1024_S_d0_1 : S12288x1024.ReducesTo [0, 1] S_
  h_S_ : 0 < S_.numel
  bcast_S_S8x6x1024 : S_.BroadcastsInDim S8x6x1024 (![] : Fin 0 → Fin S8x6x1024.rank)
  reducesTo_S8x6x1024_S_d0_1_2 : S8x6x1024.ReducesTo [0, 1, 2] S_
  bcast_S_S1024 : S_.BroadcastsInDim S1024 (![] : Fin 0 → Fin S1024.rank)
  reducesTo_S1024_S_d0 : S1024.ReducesTo [0] S_
  bcast_S_S1024x1280 : S_.BroadcastsInDim S1024x1280 (![] : Fin 0 → Fin S1024x1280.rank)
  reducesTo_S1024x1280_S_d0_1 : S1024x1280.ReducesTo [0, 1] S_

variable [Facts]

def fn_part1 {F : FTy → Type} [FloatOps F] (main_v13 : IVec S_ 1) (main_v16 : IVec S1024x1280 1) : IVec S_ 1 :=
  let main_c_5 : IVec S_ 1 := constantI S_ 1 1#1
  let main_v17 : IVec S_ 1 := (fun x v => Host.reduce IntOp.andi x v reducesTo_S1024x1280_S_d0_1 h_S_) main_v16 main_c_5
  let main_v18 : IVec S_ 1 := andi main_v13 main_v17
  main_v18

def fn {F : FTy → Type} [FloatOps F] (main_arg0 : FVec F S12288x1024 .f32) (main_arg1 : FVec F S8x6x1024 .f32) (main_arg2 : FVec F S1024 .f32) (main_arg3 : FVec F S1024x1280 .f32) (main_arg4 : FVec F S64 .f32) (main_arg5 : FVec F S64 .f32) : IVec S_ 1 :=
  let main_v0 : FVec F S12288x1024 .f32 := Host.absf main_arg0
  let main_cst : FVec F S_ .f32 := constant S_ .f32 0x7F800000#32
  let main_v1 : FVec F S12288x1024 .f32 := broadcastInDim S12288x1024 ![] bcast_S_S12288x1024 main_cst
  let main_v2 : IVec S12288x1024 1 := cmpf .olt main_v0 main_v1
  let main_c : IVec S_ 1 := constantI S_ 1 1#1
  let main_v3 : IVec S_ 1 := (fun x v => Host.reduce IntOp.andi x v reducesTo_S12288x1024_S_d0_1 h_S_) main_v2 main_c
  let main_v4 : FVec F S8x6x1024 .f32 := Host.absf main_arg1
  let main_cst_0 : FVec F S_ .f32 := constant S_ .f32 0x7F800000#32
  let main_v5 : FVec F S8x6x1024 .f32 := broadcastInDim S8x6x1024 ![] bcast_S_S8x6x1024 main_cst_0
  let main_v6 : IVec S8x6x1024 1 := cmpf .olt main_v4 main_v5
  let main_c_1 : IVec S_ 1 := constantI S_ 1 1#1
  let main_v7 : IVec S_ 1 := (fun x v => Host.reduce IntOp.andi x v reducesTo_S8x6x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1280 .f32 := Host.absf main_arg3
  let main_cst_4 : FVec F S_ .f32 := constant S_ .f32 0x7F800000#32
  let main_v15 : FVec F S1024x1280 .f32 := broadcastInDim S1024x1280 ![] bcast_S_S1024x1280 main_cst_4
  let main_v16 : IVec S1024x1280 1 := cmpf .olt main_v14 main_v15
  fn_part1 (F := F) main_v13 main_v16
-- ==== Pre_finite_qk.lean ====
abbrev S12288x1024 : Shape := ⟨2, ![12288, 1024]⟩
abbrev S8x6x1024 : Shape := ⟨3, ![8, 6, 1024]⟩
abbrev S12288x512 : Shape := ⟨2, ![12288, 512]⟩
abbrev S2x2304x2x64 : Shape := ⟨4, ![2, 2304, 2, 64]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S2x2304x2x64 : S_.BroadcastsInDim S2x2304x2x64 (![] : Fin 0 → Fin S2x2304x2x64.rank)
  reducesTo_S2x2304x2x64_S_d0_1_2_3 : S2x2304x2x64.ReducesTo [0, 1, 2, 3] S_

variable [Facts]

def fn {F : FTy → Type} [FloatOps F] (main_arg0 : FVec F S12288x1024 .f32) (main_arg1 : FVec F S8x6x1024 .f32) (main_arg2 : FVec F S12288x512 .f32) (main_arg3 : FVec F S2x2304x2x64 .f32) (main_arg4 : FVec F S2x2304x2x64 .f32) (main_arg5 : FVec F S12288x512 .f32) (main_arg6 : FVec F S4x128x128 .f32) (main_arg7 : FVec F S512 .f32) (main_arg8 : FVec F S1024x1024 .f32) : IVec S_ 1 :=
  let main_v0 : FVec F S12288x512 .f32 := Host.absf main_arg2
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S2x2304x2x64 .f32 := Host.absf main_arg3
  let main_cst_0 : FVec F S_ .f32 := constant S_ .f32 0x7F800000#32
  let main_v5 : FVec F S2x2304x2x64 .f32 := broadcastInDim S2x2304x2x64 ![] bcast_S_S2x2304x2x64 main_cst_0
  let main_v6 : IVec S2x2304x2x64 1 := cmpf .olt main_v4 main_v5
  let main_c_1 : IVec S_ 1 := constantI S_ 1 1#1
  let main_v7 : IVec S_ 1 := (fun x v => Host.reduce IntOp.andi x v reducesTo_S2x2304x2x64_S_d0_1_2_3 h_S_) main_v6 main_c_1
  let main_v8 : IVec S_ 1 := andi main_v3 main_v7
  main_v8
-- ==== Pre_finite_qk_prompt.lean ====
abbrev S12288x1024 : Shape := ⟨2, ![12288, 1024]⟩
abbrev S8x6x1024 : Shape := ⟨3, ![8, 6, 1024]⟩
abbrev S12288x512 : Shape := ⟨2, ![12288, 512]⟩
abbrev S32x256x2x64 : Shape := ⟨4, ![32, 256, 2, 64]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S32x256x2x64 : S_.BroadcastsInDim S32x256x2x64 (![] : Fin 0 → Fin S32x256x2x64.rank)
  reducesTo_S32x256x2x64_S_d0_1_2_3 : S32x256x2x64.ReducesTo [0, 1, 2, 3] S_

variable [Facts]

def fn {F : FTy → Type} [FloatOps F] (main_arg0 : FVec F S12288x1024 .f32) (main_arg1 : FVec F S8x6x1024 .f32) (main_arg2 : FVec F S12288x512 .f32) (main_arg3 : FVec F S32x256x2x64 .f32) (main_arg4 : FVec F S32x256x2x64 .f32) (main_arg5 : FVec F S12288x512 .f32) (main_arg6 : FVec F S4x128x128 .f32) (main_arg7 : FVec F S512 .f32) (main_arg8 : FVec F S1024x1024 .f32) : IVec S_ 1 :=
  let main_v0 : FVec F S12288x512 .f32 := Host.absf main_arg2
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S32x256x2x64 .f32 := Host.absf main_arg3
  let main_cst_0 : FVec F S_ .f32 := constant S_ .f32 0x7F800000#32
  let main_v5 : FVec F S32x256x2x64 .f32 := broadcastInDim S32x256x2x64 ![] bcast_S_S32x256x2x64 main_cst_0
  let main_v6 : IVec S32x256x2x64 1 := cmpf .olt main_v4 main_v5
  let main_c_1 : IVec S_ 1 := constantI S_ 1 1#1
  let main_v7 : IVec S_ 1 := (fun x v => Host.reduce IntOp.andi x v reducesTo_S32x256x2x64_S_d0_1_2_3 h_S_) main_v6 main_c_1
  let main_v8 : IVec S_ 1 := andi main_v3 main_v7
  main_v8
-- ==== Kernel.lean ====
abbrev S12288x1024 : Shape := ⟨2, ![12288, 1024]⟩
abbrev S8x6x1024 : Shape := ⟨3, ![8, 6, 1024]⟩
abbrev S12288x512 : Shape := ⟨2, ![12288, 512]⟩
abbrev S2x2304x2x64 : Shape := ⟨4, ![2, 2304, 2, 64]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S2x2304x4x64 : Shape := ⟨4, ![2, 2304, 4, 64]⟩
abbrev S2x2304x256 : Shape := ⟨3, ![2, 2304, 256]⟩
abbrev S1x512 : Shape := ⟨2, ![1, 512]⟩
abbrev S256x1024 : Shape := ⟨2, ![256, 1024]⟩
abbrev S1x6x1024 : Shape := ⟨3, ![1, 6, 1024]⟩
abbrev S256x512 : Shape := ⟨2, ![256, 512]⟩
abbrev S1x2304x256 : Shape := ⟨3, ![1, 2304, 256]⟩
abbrev S8x512 : Shape := ⟨2, ![8, 512]⟩
abbrev S2304x256 : Shape := ⟨2, ![2304, 256]⟩
abbrev S256x128 : Shape := ⟨2, ![256, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S272x512 : Shape := ⟨2, ![272, 512]⟩
abbrev S272x128 : Shape := ⟨2, ![272, 128]⟩
abbrev S1x128x128 : Shape := ⟨3, ![1, 128, 128]⟩
abbrev S128x128 : Shape := ⟨2, ![128, 128]⟩
abbrev S1x128 : Shape := ⟨2, ![1, 128]⟩
abbrev S1x1x1024 : Shape := ⟨3, ![1, 1, 1024]⟩
abbrev S1x1024 : Shape := ⟨2, ![1, 1024]⟩

abbrev nBuf : Space → Nat
  | .hbm => 25
  | .vmem => 21
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S12288x512, .f32⟩
  | .hbm, ⟨3, _⟩ => ⟨S2x2304x2x64, .f32⟩
  | .hbm, ⟨4, _⟩ => ⟨S2x2304x2x64, .f32⟩
  | .hbm, ⟨5, _⟩ => ⟨S12288x512, .f32⟩
  | .hbm, ⟨6, _⟩ => ⟨S4x128x128, .f32⟩
  | .hbm, ⟨7, _⟩ => ⟨S512, .f32⟩
  | .hbm, ⟨8, _⟩ => ⟨S1024x1024, .f32⟩
  | .hbm, ⟨9, _⟩ => ⟨S_, .f32⟩
  | .hbm, ⟨10, _⟩ => ⟨S12288x512, .f32⟩
  | .hbm, ⟨11, _⟩ => ⟨S12288x512, .f32⟩
  | .hbm, ⟨12, _⟩ => ⟨S12288x512, .bf16⟩
  | .hbm, ⟨13, _⟩ => ⟨S2x2304x2x64, .f32⟩
  | .hbm, ⟨14, _⟩ => ⟨S2x2304x4x64, .f32⟩
  | .hbm, ⟨15, _⟩ => ⟨S2x2304x256, .f32⟩
  | .hbm, ⟨16, _⟩ => ⟨S2x2304x256, .bf16⟩
  | .hbm, ⟨17, _⟩ => ⟨S2x2304x2x64, .f32⟩
  | .hbm, ⟨18, _⟩ => ⟨S2x2304x4x64, .f32⟩
  | .hbm, ⟨19, _⟩ => ⟨S2x2304x256, .f32⟩
  | .hbm, ⟨20, _⟩ => ⟨S2x2304x256, .bf16⟩
  | .hbm, ⟨21, _⟩ => ⟨S4x128x128, .bf16⟩
  | .hbm, ⟨22, _⟩ => ⟨S1x512, .f32⟩
  | .hbm, ⟨23, _⟩ => ⟨S1024x1024, .bf16⟩
  | .hbm, ⟨24, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x512, .bf16⟩
  | .local _ .vmem, ⟨5, _⟩ => ⟨S256x512, .bf16⟩
  | .local _ .vmem, ⟨6, _⟩ => ⟨S1x2304x256, .bf16⟩
  | .local _ .vmem, ⟨7, _⟩ => ⟨S1x2304x256, .bf16⟩
  | .local _ .vmem, ⟨8, _⟩ => ⟨S1x2304x256, .bf16⟩
  | .local _ .vmem, ⟨9, _⟩ => ⟨S1x2304x256, .bf16⟩
  | .local _ .vmem, ⟨10, _⟩ => ⟨S256x512, .f32⟩
  | .local _ .vmem, ⟨11, _⟩ => ⟨S256x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S4x128x128, .bf16⟩
  | .local _ .vmem, ⟨17, _⟩ => ⟨S1x512, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.addi arg0 c32_i32
  let c256_i32 : BitVec 32 := 256#32
  let v1 : BitVec 32 := Scalar.muli v0 c256_i32
  let c8192_i32 : BitVec 32 := 8192#32
  let v2 : BitVec 1 := Scalar.cmpi .sge v1 c8192_i32
  let v3 : BitVec 32 := Scalar.extui v2
  let c10240_i32 : BitVec 32 := 10240#32
  let v4 : BitVec 1 := Scalar.cmpi .sge v1 c10240_i32
  let v5 : BitVec 32 := Scalar.extui v4
  let v6 : BitVec 32 := Scalar.addi v3 v5
  let c0_i32 : BitVec 32 := 0#32
  let c0_i32_0 : BitVec 32 := 0#32
  let c0_i32_1 : BitVec 32 := 0#32
  ![v6.toNat, c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.addi arg0 c32_i32
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let c32_i32 : BitVec 32 := 32#32
  let v0 : BitVec 32 := Scalar.addi arg0 c32_i32
  let c1_i32 : BitVec 32 := 1#32
  let v1 : BitVec 32 := Scalar.addi v0 c1_i32
  let c32_i32_0 : BitVec 32 := 32#32
  let v2 : BitVec 32 := Scalar.muli v1 c32_i32_0
  let c1535_i32 : BitVec 32 := 1535#32
  let v3 : BitVec 32 := Scalar.minsi v2 c1535_i32
  let c0_i32 : BitVec 32 := 0#32
  let c0_i32_1 : BitVec 32 := 0#32
  ![v3.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S12288x1024 : Shape := ⟨2, ![12288, 1024]⟩
abbrev S8x6x1024 : Shape := ⟨3, ![8, 6, 1024]⟩
abbrev S12288x512 : Shape := ⟨2, ![12288, 512]⟩
abbrev S2x2304x2x64 : Shape := ⟨4, ![2, 2304, 2, 64]⟩
abbrev S4x128x128 : Shape := ⟨3, ![4, 128, 128]⟩
abbrev S512 : Shape := ⟨1, ![512]⟩
abbrev S1024x1024 : Shape := ⟨2, ![1024, 1024]⟩
abbrev S4096x1024 : Shape := ⟨2, ![4096, 1024]⟩
abbrev S2x2048x1024 : Shape := ⟨3, ![2, 2048, 1024]⟩
abbrev S4096x512 : Shape := ⟨2, ![4096, 512]⟩
abbrev S2x2048x8x64 : Shape := ⟨4, ![2, 2048, 8, 64]⟩
abbrev S2x2048x512 : Shape := ⟨3, ![2, 2048, 512]⟩
abbrev S2x2048x2x4x64 : Shape := ⟨5, ![2, 2048, 2, 4, 64]⟩
abbrev S2x2x2304x2048x4 : Shape := ⟨5, ![2, 2, 2304, 2048, 4]⟩
abbrev S2x2x4x2048x2304 : Shape := ⟨5, ![2, 2, 4, 2048, 2304]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x4x128 : Shape := ⟨4, ![2, 2048, 4, 128]⟩
abbrev S2048 : Shape := ⟨1, ![2048]⟩
abbrev S2x2048x1x128 : Shape := ⟨4, ![2, 2048, 1, 128]⟩
abbrev S2x2048x128 : Shape := ⟨3, ![2, 2048, 128]⟩
abbrev S2x2050x128 : Shape := ⟨3, ![2, 2050, 128]⟩
abbrev S1x2048x1 : Shape := ⟨3, ![1, 2048, 1]⟩
abbrev S2x2052x128 : Shape := ⟨3, ![2, 2052, 128]⟩
abbrev S2x2056x128 : Shape := ⟨3, ![2, 2056, 128]⟩
abbrev S2x2064x128 : Shape := ⟨3, ![2, 2064, 128]⟩
abbrev S4x128x2x2048 : Shape := ⟨4, ![4, 128, 2, 2048]⟩
abbrev S1x1x512 : Shape := ⟨3, ![1, 1, 512]⟩
abbrev S2x1x1024 : Shape := ⟨3, ![2, 1, 1024]⟩
abbrev S2x1024 : Shape := ⟨2, ![2, 1024]⟩
abbrev S8192x1024 : Shape := ⟨2, ![8192, 1024]⟩

abbrev nBuf : Space → Nat
  | .hbm => 259
  | .vmem => 0
  | .smem => 0
  | _ => 0

abbrev hbmTy0_0 (i : Nat) : BufTy := match i % 128 with
  | 0 => ⟨S12288x1024, .f32⟩
  | 1 => ⟨S8x6x1024, .f32⟩
  | 2 => ⟨S12288x512, .f32⟩
  | 3 => ⟨S2x2304x2x64, .f32⟩
  | 4 => ⟨S2x2304x2x64, .f32⟩
  | 5 => ⟨S12288x512, .f32⟩
  | 6 => ⟨S4x128x128, .f32⟩
  | 7 => ⟨S512, .f32⟩
  | 8 => ⟨S1024x1024, .f32⟩
  | 9 => ⟨S4096x1024, .f32⟩
  | 10 => ⟨S2x2048x1024, .f32⟩
  | 11 => ⟨S4096x512, .f32⟩
  | 12 => ⟨S2x2048x8x64, .f32⟩
  | 13 => ⟨S4096x512, .f32⟩
  | 14 => ⟨S2x2048x512, .f32⟩
  | 15 => ⟨S2x2048x2x4x64, .f32⟩
  | 16 => ⟨S2x2x2304x2048x4, .f32⟩
  | 17 => ⟨S2x2x4x2048x2304, .f32⟩
  | 18 => ⟨S_, .f32⟩
  | 19 => ⟨S2x2x4x2048x2304, .f32⟩
  | 20 => ⟨S2x2x4x2048x2304, .f32⟩
  | 21 => ⟨S_, .f32⟩
  | 22 => ⟨S2x2x4x2048, .f32⟩
  | 23 => ⟨S_, .f32⟩
  | 24 => ⟨S2x2x4x2048, .f32⟩
  | 25 => ⟨S2x2x4x2048, .f32⟩
  | 26 => ⟨S2x2x4x2048x1, .f32⟩
  | 27 => ⟨S2x2x4x2048x2304, .f32⟩
  | 28 => ⟨S2x2x4x2048x2304, .f32⟩
  | 29 => ⟨S2x2x4x2048x2304, .f32⟩
  | 30 => ⟨S_, .f32⟩
  | 31 => ⟨S2x2x4x2048, .f32⟩
  | 32 => ⟨S2x2x4x2048x1, .f32⟩
  | 33 => ⟨S2x2x4x2048x2304, .f32⟩
  | 34 => ⟨S2x2x4x2048x2304, .f32⟩
  | 35 => ⟨S2x2x64x4x2048, .f32⟩
  | 36 => ⟨S2x2048x2x4x64, .f32⟩
  | 37 => ⟨S2x2048x512, .f32⟩
  | 38 => ⟨S2x2048x4x128, .f32⟩
  | 39 => ⟨S2048, .i32⟩
  | 40 => ⟨S_, .i32⟩
  | 41 => ⟨S2048, .i32⟩
  | 42 => ⟨S2048, .i32⟩
  | 43 => ⟨S_, .i32⟩
  | 44 => ⟨S_, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S_, .i32⟩
  | 58 => ⟨S_, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2x2048x1x128, .f32⟩
  | 66 => ⟨S2x2048x128, .f32⟩
  | 67 => ⟨S_, .i32⟩
  | 68 => ⟨S_, .f32⟩
  | 69 => ⟨S2x2050x128, .f32⟩
  | 70 => ⟨S2x2048x128, .f32⟩
  | 71 => ⟨S2x2048x128, .f32⟩
  | 72 => ⟨S2x2048x128, .f32⟩
  | 73 => ⟨S2048, .i32⟩
  | 74 => ⟨S2048, .f32⟩
  | 75 => ⟨S1x2048x1, .f32⟩
  | 76 => ⟨S2x2048x128, .f32⟩
  | 77 => ⟨S2x2048x128, .f32⟩
  | 78 => ⟨S_, .i32⟩
  | 79 => ⟨S2048, .i32⟩
  | 80 => ⟨S2048, .i32⟩
  | 81 => ⟨S_, .i32⟩
  | 82 => ⟨S_, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S_, .i32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S2x2048x1x128, .f32⟩
  | 104 => ⟨S2x2048x128, .f32⟩
  | 105 => ⟨S_, .i32⟩
  | 106 => ⟨S_, .f32⟩
  | 107 => ⟨S2x2052x128, .f32⟩
  | 108 => ⟨S2x2048x128, .f32⟩
  | 109 => ⟨S2x2048x128, .f32⟩
  | 110 => ⟨S2x2048x128, .f32⟩
  | 111 => ⟨S2x2048x128, .f32⟩
  | 112 => ⟨S2x2048x128, .f32⟩
  | 113 => ⟨S2x2048x128, .f32⟩
  | 114 => ⟨S2x2048x128, .f32⟩
  | 115 => ⟨S2048, .i32⟩
  | 116 => ⟨S2048, .f32⟩
  | 117 => ⟨S1x2048x1, .f32⟩
  | 118 => ⟨S2x2048x128, .f32⟩
  | 119 => ⟨S2x2048x128, .f32⟩
  | 120 => ⟨S_, .i32⟩
  | 121 => ⟨S2048, .i32⟩
  | 122 => ⟨S2048, .i32⟩
  | 123 => ⟨S_, .i32⟩
  | 124 => ⟨S_, .i32⟩
  | 125 => ⟨S_, .i32⟩
  | 126 => ⟨S2048, .i32⟩
  | 127 => ⟨S2048, .i32⟩
  | _ => ⟨S12288x1024, .f32⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S_, .i32⟩
  | 10 => ⟨S_, .i32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S2x2048x1x128, .f32⟩
  | 18 => ⟨S2x2048x128, .f32⟩
  | 19 => ⟨S_, .i32⟩
  | 20 => ⟨S_, .f32⟩
  | 21 => ⟨S2x2056x128, .f32⟩
  | 22 => ⟨S2x2048x128, .f32⟩
  | 23 => ⟨S2x2048x128, .f32⟩
  | 24 => ⟨S2x2048x128, .f32⟩
  | 25 => ⟨S2x2048x128, .f32⟩
  | 26 => ⟨S2x2048x128, .f32⟩
  | 27 => ⟨S2x2048x128, .f32⟩
  | 28 => ⟨S2x2048x128, .f32⟩
  | 29 => ⟨S2x2048x128, .f32⟩
  | 30 => ⟨S2x2048x128, .f32⟩
  | 31 => ⟨S2x2048x128, .f32⟩
  | 32 => ⟨S2x2048x128, .f32⟩
  | 33 => ⟨S2x2048x128, .f32⟩
  | 34 => ⟨S2x2048x128, .f32⟩
  | 35 => ⟨S2x2048x128, .f32⟩
  | 36 => ⟨S2x2048x128, .f32⟩
  | 37 => ⟨S2048, .i32⟩
  | 38 => ⟨S2048, .f32⟩
  | 39 => ⟨S1x2048x1, .f32⟩
  | 40 => ⟨S2x2048x128, .f32⟩
  | 41 => ⟨S2x2048x128, .f32⟩
  | 42 => ⟨S_, .i32⟩
  | 43 => ⟨S2048, .i32⟩
  | 44 => ⟨S2048, .i32⟩
  | 45 => ⟨S_, .i32⟩
  | 46 => ⟨S_, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S_, .i32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S2x2048x1x128, .f32⟩
  | 68 => ⟨S2x2048x128, .f32⟩
  | 69 => ⟨S_, .i32⟩
  | 70 => ⟨S_, .f32⟩
  | 71 => ⟨S2x2064x128, .f32⟩
  | 72 => ⟨S2x2048x128, .f32⟩
  | 73 => ⟨S2x2048x128, .f32⟩
  | 74 => ⟨S2x2048x128, .f32⟩
  | 75 => ⟨S2x2048x128, .f32⟩
  | 76 => ⟨S2x2048x128, .f32⟩
  | 77 => ⟨S2x2048x128, .f32⟩
  | 78 => ⟨S2x2048x128, .f32⟩
  | 79 => ⟨S2x2048x128, .f32⟩
  | 80 => ⟨S2x2048x128, .f32⟩
  | 81 => ⟨S2x2048x128, .f32⟩
  | 82 => ⟨S2x2048x128, .f32⟩
  | 83 => ⟨S2x2048x128, .f32⟩
  | 84 => ⟨S2x2048x128, .f32⟩
  | 85 => ⟨S2x2048x128, .f32⟩
  | 86 => ⟨S2x2048x128, .f32⟩
  | 87 => ⟨S2x2048x128, .f32⟩
  | 88 => ⟨S2x2048x128, .f32⟩
  | 89 => ⟨S2x2048x128, .f32⟩
  | 90 => ⟨S2x2048x128, .f32⟩
  | 91 => ⟨S2x2048x128, .f32⟩
  | 92 => ⟨S2x2048x128, .f32⟩
  | 93 => ⟨S2x2048x128, .f32⟩
  | 94 => ⟨S2x2048x128, .f32⟩
  | 95 => ⟨S2x2048x128, .f32⟩
  | 96 => ⟨S2x2048x128, .f32⟩
  | 97 => ⟨S2x2048x128, .f32⟩
  | 98 => ⟨S2x2048x128, .f32⟩
  | 99 => ⟨S2x2048x128, .f32⟩
  | 100 => ⟨S2x2048x128, .f32⟩
  | 101 => ⟨S2x2048x128, .f32⟩
  | 102 => ⟨S2x2048x128, .f32⟩
  | 103 => ⟨S2048, .i32⟩
  | 104 => ⟨S2048, .f32⟩
  | 105 => ⟨S1x2048x1, .f32⟩
  | 106 => ⟨S2x2048x128, .f32⟩
  | 107 => ⟨S2x2048x128, .f32⟩
  | 108 => ⟨S2x2048x1x128, .f32⟩
  | 109 => ⟨S2x2048x1x128, .f32⟩
  | 110 => ⟨S2x2048x1x128, .f32⟩
  | 111 => ⟨S2x2048x1x128, .f32⟩
  | 112 => ⟨S2x2048x4x128, .f32⟩
  | 113 => ⟨S2x2048x4x128, .f32⟩
  | 114 => ⟨S4x128x2x2048, .f32⟩
  | 115 => ⟨S2x2048x4x128, .f32⟩
  | 116 => ⟨S2x2048x512, .f32⟩
  | 117 => ⟨S1x1x512, .f32⟩
  | 118 => ⟨S2x2048x512, .f32⟩
  | 119 => ⟨S2x2048x512, .f32⟩
  | 120 => ⟨S2x2048x1024, .f32⟩
  | 121 => ⟨S2x1x1024, .f32⟩
  | 122 => ⟨S2x1024, .f32⟩
  | 123 => ⟨S2x1x1024, .f32⟩
  | 124 => ⟨S2x2048x1024, .f32⟩
  | 125 => ⟨S2x2048x1024, .f32⟩
  | 126 => ⟨S2x2048x1024, .f32⟩
  | 127 => ⟨S2x2048x1024, .f32⟩
  | _ => ⟨S12288x1024, .f32⟩

abbrev hbmTy0_2 (i : Nat) : BufTy := match i % 128 with
  | 0 => ⟨S8192x1024, .f32⟩
  | 1 => ⟨S4096x1024, .f32⟩
  | 2 => ⟨S12288x1024, .f32⟩
  | _ => ⟨S12288x1024, .f32⟩

abbrev hbmTy (i : Nat) : BufTy := match i / 128 with
  | 0 => hbmTy0_0 i
  | 1 => hbmTy0_1 i
  | 2 => hbmTy0_2 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_c_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_c_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_call2_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_c_12 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v48 : Ref sig .tc := ⟨.hbm, 88, rfl⟩
abbrev main_c_13 : Ref sig .tc := ⟨.hbm, 89, rfl⟩
abbrev main_v49 : Ref sig .tc := ⟨.hbm, 90, rfl⟩
abbrev main_v50 : Ref sig .tc := ⟨.hbm, 91, rfl⟩
abbrev main_c_14 : Ref sig .tc := ⟨.hbm, 92, rfl⟩
abbrev main_v51 : Ref sig .tc := ⟨.hbm, 93, rfl⟩
abbrev main_v52 : Ref sig .tc := ⟨.hbm, 94, rfl⟩
abbrev main_c_15 : Ref sig .tc := ⟨.hbm, 95, rfl⟩
abbrev main_c_16 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_17 : Ref sig .tc := ⟨.hbm, 105, rfl⟩
abbrev main_call5_v0 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_18 : Ref sig .tc := ⟨.hbm, 120, rfl⟩
abbrev main_v69 : Ref sig .tc := ⟨.hbm, 121, rfl⟩
abbrev main_v70 : Ref sig .tc := ⟨.hbm, 122, rfl⟩
abbrev main_c_19 : Ref sig .tc := ⟨.hbm, 123, rfl⟩
abbrev main_c_20 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v71 : Ref sig .tc := ⟨.hbm, 130, rfl⟩
abbrev main_c_21 : Ref sig .tc := ⟨.hbm, 131, rfl⟩
abbrev main_v72 : Ref sig .tc := ⟨.hbm, 132, rfl⟩
abbrev main_v73 : Ref sig .tc := ⟨.hbm, 133, rfl⟩
abbrev main_c_22 : Ref sig .tc := ⟨.hbm, 134, rfl⟩
abbrev main_v74 : Ref sig .tc := ⟨.hbm, 135, rfl⟩
abbrev main_v75 : Ref sig .tc := ⟨.hbm, 136, rfl⟩
abbrev main_c_23 : Ref sig .tc := ⟨.hbm, 137, rfl⟩
abbrev main_c_24 : Ref sig .tc := ⟨.hbm, 138, rfl⟩
abbrev main_call7_v0 : Ref sig .tc := ⟨.hbm, 139, rfl⟩
abbrev main_call7_v1 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_25 : Ref sig .tc := ⟨.hbm, 147, rfl⟩
abbrev main_call8_v0 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_26 : Ref sig .tc := ⟨.hbm, 170, rfl⟩
abbrev main_v100 : Ref sig .tc := ⟨.hbm, 171, rfl⟩
abbrev main_v101 : Ref sig .tc := ⟨.hbm, 172, rfl⟩
abbrev main_c_27 : Ref sig .tc := ⟨.hbm, 173, rfl⟩
abbrev main_c_28 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_call9_v3 : Ref sig .tc := ⟨.hbm, 178, rfl⟩
abbrev main_call9_v4 : Ref sig .tc := ⟨.hbm, 179, rfl⟩
abbrev main_v102 : Ref sig .tc := ⟨.hbm, 180, rfl⟩
abbrev main_c_29 : Ref sig .tc := ⟨.hbm, 181, rfl⟩
abbrev main_v103 : Ref sig .tc := ⟨.hbm, 182, rfl⟩
abbrev main_v104 : Ref sig .tc := ⟨.hbm, 183, rfl⟩
abbrev main_c_30 : Ref sig .tc := ⟨.hbm, 184, rfl⟩
abbrev main_v105 : Ref sig .tc := ⟨.hbm, 185, rfl⟩
abbrev main_v106 : Ref sig .tc := ⟨.hbm, 186, rfl⟩
abbrev main_c_31 : Ref sig .tc := ⟨.hbm, 187, rfl⟩
abbrev main_c_32 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_call10_v3 : Ref sig .tc := ⟨.hbm, 192, rfl⟩
abbrev main_call10_v4 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_c_33 : Ref sig .tc := ⟨.hbm, 197, rfl⟩
abbrev main_call11_v0 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩

abbrev nD : Nat := 1
abbrev τ : Topo := Topo.v7x

variable {F : FTy → Type} [FloatOps F]
-- ==== Kernel2.lean ====
abbrev S12288x1024 : Shape := ⟨2, ![12288, 1024]⟩
abbrev S8x6x1024 : Shape := ⟨3, ![8, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x1024 : Shape := ⟨2, ![8, 1024]⟩
abbrev S1 : Shape := ⟨1, ![1]⟩
abbrev S1x1024 : Shape := ⟨2, ![1, 1024]⟩
abbrev S256x1024 : Shape := ⟨2, ![256, 1024]⟩
abbrev S1x6x1024 : Shape := ⟨3, ![1, 6, 1024]⟩
abbrev S272x1024 : Shape := ⟨2, ![272, 1024]⟩
abbrev S1x1x1024 : Shape := ⟨3, ![1, 1, 1024]⟩
abbrev S272 : Shape := ⟨1, ![272]⟩
abbrev S272x1 : Shape := ⟨2, ![272, 1]⟩
abbrev S272x3072 : Shape := ⟨2, ![272, 3072]⟩

abbrev nBuf : Space → Nat
  | .hbm => 15
  | .vmem => 14
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S_, .f32⟩
  | .hbm, ⟨7, _⟩ => ⟨S8x1024, .f32⟩
  | .hbm, ⟨8, _⟩ => ⟨S_, .i32⟩
  | .hbm, ⟨9, _⟩ => ⟨S1, .i32⟩
  | .hbm, ⟨10, _⟩ => ⟨S8x1024, .f32⟩
  | .hbm, ⟨11, _⟩ => ⟨S1x1024, .f32⟩
  | .hbm, ⟨12, _⟩ => ⟨S1024x3072, .bf16⟩
  | .hbm, ⟨13, _⟩ => ⟨S1024x1024, .bf16⟩
  | .hbm, ⟨14, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3072, .bf16⟩
  | .local _ .vmem, ⟨10, _⟩ => ⟨S8x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1535_i32 : BitVec 32 := 1535#32
  let v2 : BitVec 32 := Scalar.minsi v1 c1535_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .sge v0 c8192_i32
  let v2 : BitVec 32 := Scalar.extui v1
  let c10240_i32 : BitVec 32 := 10240#32
  let v3 : BitVec 1 := Scalar.cmpi .sge v0 c10240_i32
  let v4 : BitVec 32 := Scalar.extui v3
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S12288x1024 : Shape := ⟨2, ![12288, 1024]⟩
abbrev S8x6x1024 : Shape := ⟨3, ![8, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1024 : Shape := ⟨3, ![1, 1, 1024]⟩
abbrev S2x1x1024 : Shape := ⟨3, ![2, 1, 1024]⟩
abbrev S2x1024 : Shape := ⟨2, ![2, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S32x258x1024 : Shape := ⟨3, ![32, 258, 1024]⟩
abbrev S1x1024 : Shape := ⟨2, ![1, 1024]⟩
abbrev S2x2048 : Shape := ⟨2, ![2, 2048]⟩
abbrev S2x2048x1 : Shape := ⟨3, ![2, 2048, 1]⟩
abbrev S2x2048x3072 : Shape := ⟨3, ![2, 2048, 3072]⟩
abbrev S2x2050x1024 : Shape := ⟨3, ![2, 2050, 1024]⟩

abbrev nBuf : Space → Nat
  | .hbm => 143
  | .vmem => 0
  | .smem => 0
  | _ => 0

abbrev hbmTy0_0 (i : Nat) : BufTy := match i % 128 with
  | 0 => ⟨S12288x1024, .f32⟩
  | 1 => ⟨S8x6x1024, .f32⟩
  | 2 => ⟨S1024, .f32⟩
  | 3 => ⟨S1024x3072, .f32⟩
  | 4 => ⟨S3x1024, .f32⟩
  | 5 => ⟨S1024x1024, .f32⟩
  | 6 => ⟨S8192x1024, .f32⟩
  | 7 => ⟨S32x256x1024, .f32⟩
  | 8 => ⟨S4096x1024, .f32⟩
  | 9 => ⟨S2x2048x1024, .f32⟩
  | 10 => ⟨S1x1x1024, .f32⟩
  | 11 => ⟨S1024, .f32⟩
  | 12 => ⟨S1x1x1024, .f32⟩
  | 13 => ⟨S1024, .f32⟩
  | 14 => ⟨S1x1x1024, .f32⟩
  | 15 => ⟨S1024, .f32⟩
  | 16 => ⟨S2x1x1024, .f32⟩
  | 17 => ⟨S2x1024, .f32⟩
  | 18 => ⟨S2x1x1024, .f32⟩
  | 19 => ⟨S2x1x1024, .f32⟩
  | 20 => ⟨S2x1024, .f32⟩
  | 21 => ⟨S2x1x1024, .f32⟩
  | 22 => ⟨S2x1x1024, .f32⟩
  | 23 => ⟨S2x1024, .f32⟩
  | 24 => ⟨S2x1x1024, .f32⟩
  | 25 => ⟨S32x256x1024, .f32⟩
  | 26 => ⟨S_, .f32⟩
  | 27 => ⟨S32x256, .f32⟩
  | 28 => ⟨S32x256x1, .f32⟩
  | 29 => ⟨S_, .f32⟩
  | 30 => ⟨S32x256x1, .f32⟩
  | 31 => ⟨S32x256x1, .f32⟩
  | 32 => ⟨S_, .f32⟩
  | 33 => ⟨S32x256x1, .f32⟩
  | 34 => ⟨S32x256x1, .f32⟩
  | 35 => ⟨S32x256x1, .f32⟩
  | 36 => ⟨S32x256x1024, .f32⟩
  | 37 => ⟨S32x256x1024, .f32⟩
  | 38 => ⟨S1x1x1024, .f32⟩
  | 39 => ⟨S32x256x1024, .f32⟩
  | 40 => ⟨S32x256x1024, .f32⟩
  | 41 => ⟨S_, .f32⟩
  | 42 => ⟨S1024, .f32⟩
  | 43 => ⟨S1024, .f32⟩
  | 44 => ⟨S1x1x1024, .f32⟩
  | 45 => ⟨S32x256x1024, .f32⟩
  | 46 => ⟨S32x256x1024, .f32⟩
  | 47 => ⟨S1x1x1024, .f32⟩
  | 48 => ⟨S32x256x1024, .f32⟩
  | 49 => ⟨S32x256x1024, .f32⟩
  | 50 => ⟨S32x256x3072, .f32⟩
  | 51 => ⟨S32x256x1024, .f32⟩
  | 52 => ⟨S32x256x1024, .f32⟩
  | 53 => ⟨S32x256x1024, .f32⟩
  | 54 => ⟨S32x256x1024, .f32⟩
  | 55 => ⟨S_, .i32⟩
  | 56 => ⟨S_, .f32⟩
  | 57 => ⟨S32x258x1024, .f32⟩
  | 58 => ⟨S32x256x1024, .f32⟩
  | 59 => ⟨S1x1024, .f32⟩
  | 60 => ⟨S1024, .f32⟩
  | 61 => ⟨S1x1x1024, .f32⟩
  | 62 => ⟨S32x256x1024, .f32⟩
  | 63 => ⟨S32x256x1024, .f32⟩
  | 64 => ⟨S32x256x1024, .f32⟩
  | 65 => ⟨S1x1024, .f32⟩
  | 66 => ⟨S1024, .f32⟩
  | 67 => ⟨S1x1x1024, .f32⟩
  | 68 => ⟨S32x256x1024, .f32⟩
  | 69 => ⟨S32x256x1024, .f32⟩
  | 70 => ⟨S32x256x1024, .f32⟩
  | 71 => ⟨S32x256x1024, .f32⟩
  | 72 => ⟨S1x1024, .f32⟩
  | 73 => ⟨S1024, .f32⟩
  | 74 => ⟨S1x1x1024, .f32⟩
  | 75 => ⟨S32x256x1024, .f32⟩
  | 76 => ⟨S32x256x1024, .f32⟩
  | 77 => ⟨S32x256x1024, .f32⟩
  | 78 => ⟨S32x256x1024, .f32⟩
  | 79 => ⟨S32x256x1024, .f32⟩
  | 80 => ⟨S2x2048x1024, .f32⟩
  | 81 => ⟨S_, .f32⟩
  | 82 => ⟨S2x2048, .f32⟩
  | 83 => ⟨S2x2048x1, .f32⟩
  | 84 => ⟨S_, .f32⟩
  | 85 => ⟨S2x2048x1, .f32⟩
  | 86 => ⟨S2x2048x1, .f32⟩
  | 87 => ⟨S_, .f32⟩
  | 88 => ⟨S2x2048x1, .f32⟩
  | 89 => ⟨S2x2048x1, .f32⟩
  | 90 => ⟨S2x2048x1, .f32⟩
  | 91 => ⟨S2x2048x1024, .f32⟩
  | 92 => ⟨S2x2048x1024, .f32⟩
  | 93 => ⟨S1x1x1024, .f32⟩
  | 94 => ⟨S2x2048x1024, .f32⟩
  | 95 => ⟨S2x2048x1024, .f32⟩
  | 96 => ⟨S_, .f32⟩
  | 97 => ⟨S2x1x1024, .f32⟩
  | 98 => ⟨S2x1x1024, .f32⟩
  | 99 => ⟨S2x2048x1024, .f32⟩
  | 100 => ⟨S2x2048x1024, .f32⟩
  | 101 => ⟨S2x2048x1024, .f32⟩
  | 102 => ⟨S2x2048x1024, .f32⟩
  | 103 => ⟨S2x2048x3072, .f32⟩
  | 104 => ⟨S2x2048x1024, .f32⟩
  | 105 => ⟨S2x2048x1024, .f32⟩
  | 106 => ⟨S2x2048x1024, .f32⟩
  | 107 => ⟨S2x2048x1024, .f32⟩
  | 108 => ⟨S_, .i32⟩
  | 109 => ⟨S_, .f32⟩
  | 110 => ⟨S2x2050x1024, .f32⟩
  | 111 => ⟨S2x2048x1024, .f32⟩
  | 112 => ⟨S1x1024, .f32⟩
  | 113 => ⟨S1024, .f32⟩
  | 114 => ⟨S1x1x1024, .f32⟩
  | 115 => ⟨S2x2048x1024, .f32⟩
  | 116 => ⟨S2x2048x1024, .f32⟩
  | 117 => ⟨S2x2048x1024, .f32⟩
  | 118 => ⟨S1x1024, .f32⟩
  | 119 => ⟨S1024, .f32⟩
  | 120 => ⟨S1x1x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S1x1024, .f32⟩
  | 126 => ⟨S1024, .f32⟩
  | 127 => ⟨S1x1x1024, .f32⟩
  | _ => ⟨S12288x1024, .f32⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S2x2048x1024, .f32⟩
  | 5 => ⟨S1x1x1024, .f32⟩
  | 6 => ⟨S32x256x1024, .f32⟩
  | 7 => ⟨S32x256x1024, .f32⟩
  | 8 => ⟨S32x256x1024, .f32⟩
  | 9 => ⟨S2x2048x1024, .f32⟩
  | 10 => ⟨S2x2048x1024, .f32⟩
  | 11 => ⟨S2x2048x1024, .f32⟩
  | 12 => ⟨S8192x1024, .f32⟩
  | 13 => ⟨S4096x1024, .f32⟩
  | 14 => ⟨S12288x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c : Ref sig .tc := ⟨.hbm, 55, rfl⟩
abbrev main_call0_v0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_3 : Ref sig .tc := ⟨.hbm, 81, rfl⟩
abbrev main_v69 : Ref sig .tc := ⟨.hbm, 82, rfl⟩
abbrev main_v70 : Ref sig .tc := ⟨.hbm, 83, rfl⟩
abbrev main_cst_4 : Ref sig .tc := ⟨.hbm, 84, rfl⟩
abbrev main_v71 : Ref sig .tc := ⟨.hbm, 85, rfl⟩
abbrev main_v72 : Ref sig .tc := ⟨.hbm, 86, rfl⟩
abbrev main_cst_5 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_6 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_c_7 : Ref sig .tc := ⟨.hbm, 108, rfl⟩
abbrev main_call1_v0 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩

abbrev nD : Nat := 1
abbrev τ : Topo := Topo.v7x

variable {F : FTy → Type} [FloatOps F]
-- ==== Kernel3.lean ====
abbrev S12288x1024 : Shape := ⟨2, ![12288, 1024]⟩
abbrev S8x6x1024 : Shape := ⟨3, ![8, 6, 1024]⟩
abbrev S12288x512 : Shape := ⟨2, ![12288, 512]⟩
abbrev S32x256x2x64 : Shape := ⟨4, ![32, 256, 2, 64]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S32x256x4x64 : Shape := ⟨4, ![32, 256, 4, 64]⟩
abbrev S32x256x256 : Shape := ⟨3, ![32, 256, 256]⟩
abbrev S1x512 : Shape := ⟨2, ![1, 512]⟩
abbrev S256x1024 : Shape := ⟨2, ![256, 1024]⟩
abbrev S1x6x1024 : Shape := ⟨3, ![1, 6, 1024]⟩
abbrev S256x512 : Shape := ⟨2, ![256, 512]⟩
abbrev S1x256x256 : Shape := ⟨3, ![1, 256, 256]⟩
abbrev S8x512 : Shape := ⟨2, ![8, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S272x512 : Shape := ⟨2, ![272, 512]⟩
abbrev S272x128 : Shape := ⟨2, ![272, 128]⟩
abbrev S1x128x128 : Shape := ⟨3, ![1, 128, 128]⟩
abbrev S128x128 : Shape := ⟨2, ![128, 128]⟩
abbrev S1x128 : Shape := ⟨2, ![1, 128]⟩
abbrev S1x1x1024 : Shape := ⟨3, ![1, 1, 1024]⟩
abbrev S1x1024 : Shape := ⟨2, ![1, 1024]⟩

abbrev nBuf : Space → Nat
  | .hbm => 25
  | .vmem => 21
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S12288x512, .f32⟩
  | .hbm, ⟨3, _⟩ => ⟨S32x256x2x64, .f32⟩
  | .hbm, ⟨4, _⟩ => ⟨S32x256x2x64, .f32⟩
  | .hbm, ⟨5, _⟩ => ⟨S12288x512, .f32⟩
  | .hbm, ⟨6, _⟩ => ⟨S4x128x128, .f32⟩
  | .hbm, ⟨7, _⟩ => ⟨S512, .f32⟩
  | .hbm, ⟨8, _⟩ => ⟨S1024x1024, .f32⟩
  | .hbm, ⟨9, _⟩ => ⟨S_, .f32⟩
  | .hbm, ⟨10, _⟩ => ⟨S12288x512, .f32⟩
  | .hbm, ⟨11, _⟩ => ⟨S12288x512, .f32⟩
  | .hbm, ⟨12, _⟩ => ⟨S12288x512, .bf16⟩
  | .hbm, ⟨13, _⟩ => ⟨S32x256x2x64, .f32⟩
  | .hbm, ⟨14, _⟩ => ⟨S32x256x4x64, .f32⟩
  | .hbm, ⟨15, _⟩ => ⟨S32x256x256, .f32⟩
  | .hbm, ⟨16, _⟩ => ⟨S32x256x256, .bf16⟩
  | .hbm, ⟨17, _⟩ => ⟨S32x256x2x64, .f32⟩
  | .hbm, ⟨18, _⟩ => ⟨S32x256x4x64, .f32⟩
  | .hbm, ⟨19, _⟩ => ⟨S32x256x256, .f32⟩
  | .hbm, ⟨20, _⟩ => ⟨S32x256x256, .bf16⟩
  | .hbm, ⟨21, _⟩ => ⟨S4x128x128, .bf16⟩
  | .hbm, ⟨22, _⟩ => ⟨S1x512, .f32⟩
  | .hbm, ⟨23, _⟩ => ⟨S1024x1024, .bf16⟩
  | .hbm, ⟨24, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x512, .bf16⟩
  | .local _ .vmem, ⟨5, _⟩ => ⟨S256x512, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S256x512, .f32⟩
  | .local _ .vmem, ⟨11, _⟩ => ⟨S256x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S4x128x128, .bf16⟩
  | .local _ .vmem, ⟨17, _⟩ => ⟨S1x512, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c256_i32 : BitVec 32 := 256#32
  let v1 : BitVec 32 := Scalar.muli v0 c256_i32
  let c8192_i32 : BitVec 32 := 8192#32
  let v2 : BitVec 1 := Scalar.cmpi .sge v1 c8192_i32
  let v3 : BitVec 32 := Scalar.extui v2
  let c10240_i32 : BitVec 32 := 10240#32
  let v4 : BitVec 1 := Scalar.cmpi .sge v1 c10240_i32
  let v5 : BitVec 32 := Scalar.extui v4
  let v6 : BitVec 32 := Scalar.addi v3 v5
  let c0_i32_0 : BitVec 32 := 0#32
  let c0_i32_1 : BitVec 32 := 0#32
  let c0_i32_2 : BitVec 32 := 0#32
  ![v6.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c32_i32 : BitVec 32 := 32#32
  let v2 : BitVec 32 := Scalar.muli v1 c32_i32
  let c1535_i32 : BitVec 32 := 1535#32
  let v3 : BitVec 32 := Scalar.minsi v2 c1535_i32
  let c0_i32_0 : BitVec 32 := 0#32
  let c0_i32_1 : BitVec 32 := 0#32
  ![v3.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S12288x1024 : Shape := ⟨2, ![12288, 1024]⟩
abbrev S8x6x1024 : Shape := ⟨3, ![8, 6, 1024]⟩
abbrev S12288x512 : Shape := ⟨2, ![12288, 512]⟩
abbrev S32x256x2x64 : Shape := ⟨4, ![32, 256, 2, 64]⟩
abbrev S4x128x128 : Shape := ⟨3, ![4, 128, 128]⟩
abbrev S512 : Shape := ⟨1, ![512]⟩
abbrev S1024x1024 : Shape := ⟨2, ![1024, 1024]⟩
abbrev S8192x1024 : Shape := ⟨2, ![8192, 1024]⟩
abbrev S32x256x1024 : Shape := ⟨3, ![32, 256, 1024]⟩
abbrev S8192x512 : Shape := ⟨2, ![8192, 512]⟩
abbrev S32x256x8x64 : Shape := ⟨4, ![32, 256, 8, 64]⟩
abbrev S32x256x512 : Shape := ⟨3, ![32, 256, 512]⟩
abbrev S32x256x2x4x64 : Shape := ⟨5, ![32, 256, 2, 4, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩
abbrev S32x256x4x128 : Shape := ⟨4, ![32, 256, 4, 128]⟩
abbrev S256 : Shape := ⟨1, ![256]⟩
abbrev S32x256x1x128 : Shape := ⟨4, ![32, 256, 1, 128]⟩
abbrev S32x256x128 : Shape := ⟨3, ![32, 256, 128]⟩
abbrev S32x258x128 : Shape := ⟨3, ![32, 258, 128]⟩
abbrev S1x256x1 : Shape := ⟨3, ![1, 256, 1]⟩
abbrev S32x260x128 : Shape := ⟨3, ![32, 260, 128]⟩
abbrev S32x264x128 : Shape := ⟨3, ![32, 264, 128]⟩
abbrev S32x272x128 : Shape := ⟨3, ![32, 272, 128]⟩
abbrev S4x128x32x256 : Shape := ⟨4, ![4, 128, 32, 256]⟩
abbrev S1x1x512 : Shape := ⟨3, ![1, 1, 512]⟩
abbrev S1x1x1024 : Shape := ⟨3, ![1, 1, 1024]⟩
abbrev S1024 : Shape := ⟨1, ![1024]⟩
abbrev S4096x1024 : Shape := ⟨2, ![4096, 1024]⟩

abbrev nBuf : Space → Nat
  | .hbm => 259
  | .vmem => 0
  | .smem => 0
  | _ => 0

abbrev hbmTy0_0 (i : Nat) : BufTy := match i % 128 with
  | 0 => ⟨S12288x1024, .f32⟩
  | 1 => ⟨S8x6x1024, .f32⟩
  | 2 => ⟨S12288x512, .f32⟩
  | 3 => ⟨S32x256x2x64, .f32⟩
  | 4 => ⟨S32x256x2x64, .f32⟩
  | 5 => ⟨S12288x512, .f32⟩
  | 6 => ⟨S4x128x128, .f32⟩
  | 7 => ⟨S512, .f32⟩
  | 8 => ⟨S1024x1024, .f32⟩
  | 9 => ⟨S8192x1024, .f32⟩
  | 10 => ⟨S32x256x1024, .f32⟩
  | 11 => ⟨S8192x512, .f32⟩
  | 12 => ⟨S32x256x8x64, .f32⟩
  | 13 => ⟨S8192x512, .f32⟩
  | 14 => ⟨S32x256x512, .f32⟩
  | 15 => ⟨S32x256x2x4x64, .f32⟩
  | 16 => ⟨S32x2x256x256x4, .f32⟩
  | 17 => ⟨S32x2x4x256x256, .f32⟩
  | 18 => ⟨S_, .f32⟩
  | 19 => ⟨S32x2x4x256x256, .f32⟩
  | 20 => ⟨S32x2x4x256x256, .f32⟩
  | 21 => ⟨S_, .f32⟩
  | 22 => ⟨S32x2x4x256, .f32⟩
  | 23 => ⟨S_, .f32⟩
  | 24 => ⟨S32x2x4x256, .f32⟩
  | 25 => ⟨S32x2x4x256, .f32⟩
  | 26 => ⟨S32x2x4x256x1, .f32⟩
  | 27 => ⟨S32x2x4x256x256, .f32⟩
  | 28 => ⟨S32x2x4x256x256, .f32⟩
  | 29 => ⟨S32x2x4x256x256, .f32⟩
  | 30 => ⟨S_, .f32⟩
  | 31 => ⟨S32x2x4x256, .f32⟩
  | 32 => ⟨S32x2x4x256x1, .f32⟩
  | 33 => ⟨S32x2x4x256x256, .f32⟩
  | 34 => ⟨S32x2x4x256x256, .f32⟩
  | 35 => ⟨S32x2x64x4x256, .f32⟩
  | 36 => ⟨S32x256x2x4x64, .f32⟩
  | 37 => ⟨S32x256x512, .f32⟩
  | 38 => ⟨S32x256x4x128, .f32⟩
  | 39 => ⟨S256, .i32⟩
  | 40 => ⟨S_, .i32⟩
  | 41 => ⟨S256, .i32⟩
  | 42 => ⟨S256, .i32⟩
  | 43 => ⟨S_, .i32⟩
  | 44 => ⟨S_, .i32⟩
  | 45 => ⟨S_, .i32⟩
  | 46 => ⟨S256, .i32⟩
  | 47 => ⟨S256, .i32⟩
  | 48 => ⟨S_, .i32⟩
  | 49 => ⟨S256, .i32⟩
  | 50 => ⟨S256, .i32⟩
  | 51 => ⟨S_, .i32⟩
  | 52 => ⟨S256, .i32⟩
  | 53 => ⟨S256, .i32⟩
  | 54 => ⟨S_, .i32⟩
  | 55 => ⟨S256, .i32⟩
  | 56 => ⟨S256, .i32⟩
  | 57 => ⟨S_, .i32⟩
  | 58 => ⟨S_, .i32⟩
  | 59 => ⟨S_, .i32⟩
  | 60 => ⟨S256, .i32⟩
  | 61 => ⟨S256, .i32⟩
  | 62 => ⟨S_, .i32⟩
  | 63 => ⟨S256, .i32⟩
  | 64 => ⟨S256, .i32⟩
  | 65 => ⟨S32x256x1x128, .f32⟩
  | 66 => ⟨S32x256x128, .f32⟩
  | 67 => ⟨S_, .i32⟩
  | 68 => ⟨S_, .f32⟩
  | 69 => ⟨S32x258x128, .f32⟩
  | 70 => ⟨S32x256x128, .f32⟩
  | 71 => ⟨S32x256x128, .f32⟩
  | 72 => ⟨S32x256x128, .f32⟩
  | 73 => ⟨S256, .i32⟩
  | 74 => ⟨S256, .f32⟩
  | 75 => ⟨S1x256x1, .f32⟩
  | 76 => ⟨S32x256x128, .f32⟩
  | 77 => ⟨S32x256x128, .f32⟩
  | 78 => ⟨S_, .i32⟩
  | 79 => ⟨S256, .i32⟩
  | 80 => ⟨S256, .i32⟩
  | 81 => ⟨S_, .i32⟩
  | 82 => ⟨S_, .i32⟩
  | 83 => ⟨S_, .i32⟩
  | 84 => ⟨S256, .i32⟩
  | 85 => ⟨S256, .i32⟩
  | 86 => ⟨S_, .i32⟩
  | 87 => ⟨S256, .i32⟩
  | 88 => ⟨S256, .i32⟩
  | 89 => ⟨S_, .i32⟩
  | 90 => ⟨S256, .i32⟩
  | 91 => ⟨S256, .i32⟩
  | 92 => ⟨S_, .i32⟩
  | 93 => ⟨S256, .i32⟩
  | 94 => ⟨S256, .i32⟩
  | 95 => ⟨S_, .i32⟩
  | 96 => ⟨S_, .i32⟩
  | 97 => ⟨S_, .i32⟩
  | 98 => ⟨S256, .i32⟩
  | 99 => ⟨S256, .i32⟩
  | 100 => ⟨S_, .i32⟩
  | 101 => ⟨S256, .i32⟩
  | 102 => ⟨S256, .i32⟩
  | 103 => ⟨S32x256x1x128, .f32⟩
  | 104 => ⟨S32x256x128, .f32⟩
  | 105 => ⟨S_, .i32⟩
  | 106 => ⟨S_, .f32⟩
  | 107 => ⟨S32x260x128, .f32⟩
  | 108 => ⟨S32x256x128, .f32⟩
  | 109 => ⟨S32x256x128, .f32⟩
  | 110 => ⟨S32x256x128, .f32⟩
  | 111 => ⟨S32x256x128, .f32⟩
  | 112 => ⟨S32x256x128, .f32⟩
  | 113 => ⟨S32x256x128, .f32⟩
  | 114 => ⟨S32x256x128, .f32⟩
  | 115 => ⟨S256, .i32⟩
  | 116 => ⟨S256, .f32⟩
  | 117 => ⟨S1x256x1, .f32⟩
  | 118 => ⟨S32x256x128, .f32⟩
  | 119 => ⟨S32x256x128, .f32⟩
  | 120 => ⟨S_, .i32⟩
  | 121 => ⟨S256, .i32⟩
  | 122 => ⟨S256, .i32⟩
  | 123 => ⟨S_, .i32⟩
  | 124 => ⟨S_, .i32⟩
  | 125 => ⟨S_, .i32⟩
  | 126 => ⟨S256, .i32⟩
  | 127 => ⟨S256, .i32⟩
  | _ => ⟨S12288x1024, .f32⟩

abbrev hbmTy0_1 (i : Nat) : BufTy := match i % 128 with
  | 0 => ⟨S_, .i32⟩
  | 1 => ⟨S256, .i32⟩
  | 2 => ⟨S256, .i32⟩
  | 3 => ⟨S_, .i32⟩
  | 4 => ⟨S256, .i32⟩
  | 5 => ⟨S256, .i32⟩
  | 6 => ⟨S_, .i32⟩
  | 7 => ⟨S256, .i32⟩
  | 8 => ⟨S256, .i32⟩
  | 9 => ⟨S_, .i32⟩
  | 10 => ⟨S_, .i32⟩
  | 11 => ⟨S_, .i32⟩
  | 12 => ⟨S256, .i32⟩
  | 13 => ⟨S256, .i32⟩
  | 14 => ⟨S_, .i32⟩
  | 15 => ⟨S256, .i32⟩
  | 16 => ⟨S256, .i32⟩
  | 17 => ⟨S32x256x1x128, .f32⟩
  | 18 => ⟨S32x256x128, .f32⟩
  | 19 => ⟨S_, .i32⟩
  | 20 => ⟨S_, .f32⟩
  | 21 => ⟨S32x264x128, .f32⟩
  | 22 => ⟨S32x256x128, .f32⟩
  | 23 => ⟨S32x256x128, .f32⟩
  | 24 => ⟨S32x256x128, .f32⟩
  | 25 => ⟨S32x256x128, .f32⟩
  | 26 => ⟨S32x256x128, .f32⟩
  | 27 => ⟨S32x256x128, .f32⟩
  | 28 => ⟨S32x256x128, .f32⟩
  | 29 => ⟨S32x256x128, .f32⟩
  | 30 => ⟨S32x256x128, .f32⟩
  | 31 => ⟨S32x256x128, .f32⟩
  | 32 => ⟨S32x256x128, .f32⟩
  | 33 => ⟨S32x256x128, .f32⟩
  | 34 => ⟨S32x256x128, .f32⟩
  | 35 => ⟨S32x256x128, .f32⟩
  | 36 => ⟨S32x256x128, .f32⟩
  | 37 => ⟨S256, .i32⟩
  | 38 => ⟨S256, .f32⟩
  | 39 => ⟨S1x256x1, .f32⟩
  | 40 => ⟨S32x256x128, .f32⟩
  | 41 => ⟨S32x256x128, .f32⟩
  | 42 => ⟨S_, .i32⟩
  | 43 => ⟨S256, .i32⟩
  | 44 => ⟨S256, .i32⟩
  | 45 => ⟨S_, .i32⟩
  | 46 => ⟨S_, .i32⟩
  | 47 => ⟨S_, .i32⟩
  | 48 => ⟨S256, .i32⟩
  | 49 => ⟨S256, .i32⟩
  | 50 => ⟨S_, .i32⟩
  | 51 => ⟨S256, .i32⟩
  | 52 => ⟨S256, .i32⟩
  | 53 => ⟨S_, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S_, .i32⟩
  | 61 => ⟨S_, .i32⟩
  | 62 => ⟨S256, .i32⟩
  | 63 => ⟨S256, .i32⟩
  | 64 => ⟨S_, .i32⟩
  | 65 => ⟨S256, .i32⟩
  | 66 => ⟨S256, .i32⟩
  | 67 => ⟨S32x256x1x128, .f32⟩
  | 68 => ⟨S32x256x128, .f32⟩
  | 69 => ⟨S_, .i32⟩
  | 70 => ⟨S_, .f32⟩
  | 71 => ⟨S32x272x128, .f32⟩
  | 72 => ⟨S32x256x128, .f32⟩
  | 73 => ⟨S32x256x128, .f32⟩
  | 74 => ⟨S32x256x128, .f32⟩
  | 75 => ⟨S32x256x128, .f32⟩
  | 76 => ⟨S32x256x128, .f32⟩
  | 77 => ⟨S32x256x128, .f32⟩
  | 78 => ⟨S32x256x128, .f32⟩
  | 79 => ⟨S32x256x128, .f32⟩
  | 80 => ⟨S32x256x128, .f32⟩
  | 81 => ⟨S32x256x128, .f32⟩
  | 82 => ⟨S32x256x128, .f32⟩
  | 83 => ⟨S32x256x128, .f32⟩
  | 84 => ⟨S32x256x128, .f32⟩
  | 85 => ⟨S32x256x128, .f32⟩
  | 86 => ⟨S32x256x128, .f32⟩
  | 87 => ⟨S32x256x128, .f32⟩
  | 88 => ⟨S32x256x128, .f32⟩
  | 89 => ⟨S32x256x128, .f32⟩
  | 90 => ⟨S32x256x128, .f32⟩
  | 91 => ⟨S32x256x128, .f32⟩
  | 92 => ⟨S32x256x128, .f32⟩
  | 93 => ⟨S32x256x128, .f32⟩
  | 94 => ⟨S32x256x128, .f32⟩
  | 95 => ⟨S32x256x128, .f32⟩
  | 96 => ⟨S32x256x128, .f32⟩
  | 97 => ⟨S32x256x128, .f32⟩
  | 98 => ⟨S32x256x128, .f32⟩
  | 99 => ⟨S32x256x128, .f32⟩
  | 100 => ⟨S32x256x128, .f32⟩
  | 101 => ⟨S32x256x128, .f32⟩
  | 102 => ⟨S32x256x128, .f32⟩
  | 103 => ⟨S256, .i32⟩
  | 104 => ⟨S256, .f32⟩
  | 105 => ⟨S1x256x1, .f32⟩
  | 106 => ⟨S32x256x128, .f32⟩
  | 107 => ⟨S32x256x128, .f32⟩
  | 108 => ⟨S32x256x1x128, .f32⟩
  | 109 => ⟨S32x256x1x128, .f32⟩
  | 110 => ⟨S32x256x1x128, .f32⟩
  | 111 => ⟨S32x256x1x128, .f32⟩
  | 112 => ⟨S32x256x4x128, .f32⟩
  | 113 => ⟨S32x256x4x128, .f32⟩
  | 114 => ⟨S4x128x32x256, .f32⟩
  | 115 => ⟨S32x256x4x128, .f32⟩
  | 116 => ⟨S32x256x512, .f32⟩
  | 117 => ⟨S1x1x512, .f32⟩
  | 118 => ⟨S32x256x512, .f32⟩
  | 119 => ⟨S32x256x512, .f32⟩
  | 120 => ⟨S32x256x1024, .f32⟩
  | 121 => ⟨S1x1x1024, .f32⟩
  | 122 => ⟨S1024, .f32⟩
  | 123 => ⟨S32x256x1024, .f32⟩
  | 124 => ⟨S1x1x1024, .f32⟩
  | 125 => ⟨S32x256x1024, .f32⟩
  | 126 => ⟨S32x256x1024, .f32⟩
  | 127 => ⟨S32x256x1024, .f32⟩
  | _ => ⟨S12288x1024, .f32⟩

abbrev hbmTy0_2 (i : Nat) : BufTy := match i % 128 with
  | 0 => ⟨S8192x1024, .f32⟩
  | 1 => ⟨S4096x1024, .f32⟩
  | 2 => ⟨S12288x1024, .f32⟩
  | _ => ⟨S12288x1024, .f32⟩

abbrev hbmTy (i : Nat) : BufTy := match i / 128 with
  | 0 => hbmTy0_0 i
  | 1 => hbmTy0_1 i
  | 2 => hbmTy0_2 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_c_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_c_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_call2_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_c_12 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v48 : Ref sig .tc := ⟨.hbm, 88, rfl⟩
abbrev main_c_13 : Ref sig .tc := ⟨.hbm, 89, rfl⟩
abbrev main_v49 : Ref sig .tc := ⟨.hbm, 90, rfl⟩
abbrev main_v50 : Ref sig .tc := ⟨.hbm, 91, rfl⟩
abbrev main_c_14 : Ref sig .tc := ⟨.hbm, 92, rfl⟩
abbrev main_v51 : Ref sig .tc := ⟨.hbm, 93, rfl⟩
abbrev main_v52 : Ref sig .tc := ⟨.hbm, 94, rfl⟩
abbrev main_c_15 : Ref sig .tc := ⟨.hbm, 95, rfl⟩
abbrev main_c_16 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_17 : Ref sig .tc := ⟨.hbm, 105, rfl⟩
abbrev main_call5_v0 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_18 : Ref sig .tc := ⟨.hbm, 120, rfl⟩
abbrev main_v69 : Ref sig .tc := ⟨.hbm, 121, rfl⟩
abbrev main_v70 : Ref sig .tc := ⟨.hbm, 122, rfl⟩
abbrev main_c_19 : Ref sig .tc := ⟨.hbm, 123, rfl⟩
abbrev main_c_20 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v71 : Ref sig .tc := ⟨.hbm, 130, rfl⟩
abbrev main_c_21 : Ref sig .tc := ⟨.hbm, 131, rfl⟩
abbrev main_v72 : Ref sig .tc := ⟨.hbm, 132, rfl⟩
abbrev main_v73 : Ref sig .tc := ⟨.hbm, 133, rfl⟩
abbrev main_c_22 : Ref sig .tc := ⟨.hbm, 134, rfl⟩
abbrev main_v74 : Ref sig .tc := ⟨.hbm, 135, rfl⟩
abbrev main_v75 : Ref sig .tc := ⟨.hbm, 136, rfl⟩
abbrev main_c_23 : Ref sig .tc := ⟨.hbm, 137, rfl⟩
abbrev main_c_24 : Ref sig .tc := ⟨.hbm, 138, rfl⟩
abbrev main_call7_v0 : Ref sig .tc := ⟨.hbm, 139, rfl⟩
abbrev main_call7_v1 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_25 : Ref sig .tc := ⟨.hbm, 147, rfl⟩
abbrev main_call8_v0 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_26 : Ref sig .tc := ⟨.hbm, 170, rfl⟩
abbrev main_v100 : Ref sig .tc := ⟨.hbm, 171, rfl⟩
abbrev main_v101 : Ref sig .tc := ⟨.hbm, 172, rfl⟩
abbrev main_c_27 : Ref sig .tc := ⟨.hbm, 173, rfl⟩
abbrev main_c_28 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_call9_v3 : Ref sig .tc := ⟨.hbm, 178, rfl⟩
abbrev main_call9_v4 : Ref sig .tc := ⟨.hbm, 179, rfl⟩
abbrev main_v102 : Ref sig .tc := ⟨.hbm, 180, rfl⟩
abbrev main_c_29 : Ref sig .tc := ⟨.hbm, 181, rfl⟩
abbrev main_v103 : Ref sig .tc := ⟨.hbm, 182, rfl⟩
abbrev main_v104 : Ref sig .tc := ⟨.hbm, 183, rfl⟩
abbrev main_c_30 : Ref sig .tc := ⟨.hbm, 184, rfl⟩
abbrev main_v105 : Ref sig .tc := ⟨.hbm, 185, rfl⟩
abbrev main_v106 : Ref sig .tc := ⟨.hbm, 186, rfl⟩
abbrev main_c_31 : Ref sig .tc := ⟨.hbm, 187, rfl⟩
abbrev main_c_32 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_call10_v3 : Ref sig .tc := ⟨.hbm, 192, rfl⟩
abbrev main_call10_v4 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_c_33 : Ref sig .tc := ⟨.hbm, 197, rfl⟩
abbrev main_call11_v0 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩

abbrev nD : Nat := 1
abbrev τ : Topo := Topo.v7x

variable {F : FTy → Type} [FloatOps F]
-- ==== Kernel4.lean ====
abbrev S12288x1024 : Shape := ⟨2, ![12288, 1024]⟩
abbrev S8x6x1024 : Shape := ⟨3, ![8, 6, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S256x64 : Shape := ⟨2, ![256, 64]⟩
abbrev S2304x64 : Shape := ⟨2, ![2304, 64]⟩
abbrev S1x2304x1x64 : Shape := ⟨4, ![1, 2304, 1, 64]⟩
abbrev S1x2304x8x64 : Shape := ⟨4, ![1, 2304, 8, 64]⟩
abbrev S2304x512 : Shape := ⟨2, ![2304, 512]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S12288x512 : Shape := ⟨2, ![12288, 512]⟩
abbrev S12288x256 : Shape := ⟨2, ![12288, 256]⟩
abbrev S12288x128 : Shape := ⟨2, ![12288, 128]⟩
abbrev S256x1024 : Shape := ⟨2, ![256, 1024]⟩
abbrev S1x6x1024 : Shape := ⟨3, ![1, 6, 1024]⟩
abbrev S256x512 : Shape := ⟨2, ![256, 512]⟩
abbrev S256x256 : Shape := ⟨2, ![256, 256]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S256x1280 : Shape := ⟨2, ![256, 1280]⟩

abbrev nBuf : Space → Nat
  | .hbm => 121
  | .vmem => 25
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x1280, .f32⟩
  | .hbm, ⟨4, _⟩ => ⟨S64, .f32⟩
  | .hbm, ⟨5, _⟩ => ⟨S64, .f32⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i1⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S128x128, .i1⟩
  | .hbm, ⟨16, _⟩ => ⟨S128x128, .i1⟩
  | .hbm, ⟨17, _⟩ => ⟨S128x128, .i1⟩
  | .hbm, ⟨18, _⟩ => ⟨S128x128, .bf16⟩
  | .hbm, ⟨19, _⟩ => ⟨S2048, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S_, .i1⟩
  | .hbm, ⟨54, _⟩ => ⟨S2048, .i1⟩
  | .hbm, ⟨55, _⟩ => ⟨S2048, .i1⟩
  | .hbm, ⟨56, _⟩ => ⟨S2048, .i1⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S2048, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048, .f32⟩
  | .hbm, ⟨75, _⟩ => ⟨S2048x1, .f32⟩
  | .hbm, ⟨76, _⟩ => ⟨S1x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x16, .f32⟩
  | .hbm, ⟨82, _⟩ => ⟨S2048x64, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x16, .f32⟩
  | .hbm, ⟨87, _⟩ => ⟨S2048x16, .f32⟩
  | .hbm, ⟨88, _⟩ => ⟨S2048x16, .f32⟩
  | .hbm, ⟨89, _⟩ => ⟨S2048x64, .f32⟩
  | .hbm, ⟨90, _⟩ => ⟨S_, .f32⟩
  | .hbm, ⟨91, _⟩ => ⟨S256x64, .f32⟩
  | .hbm, ⟨92, _⟩ => ⟨S2304x64, .f32⟩
  | .hbm, ⟨93, _⟩ => ⟨S_, .f32⟩
  | .hbm, ⟨94, _⟩ => ⟨S256x64, .f32⟩
  | .hbm, ⟨95, _⟩ => ⟨S2304x64, .f32⟩
  | .hbm, ⟨96, _⟩ => ⟨S1x2304x1x64, .f32⟩
  | .hbm, ⟨97, _⟩ => ⟨S1x2304x8x64, .f32⟩
  | .hbm, ⟨98, _⟩ => ⟨S2304x512, .f32⟩
  | .hbm, ⟨99, _⟩ => ⟨S1x2304x1x64, .f32⟩
  | .hbm, ⟨100, _⟩ => ⟨S1x2304x8x64, .f32⟩
  | .hbm, ⟨101, _⟩ => ⟨S2304x512, .f32⟩
  | .hbm, ⟨102, _⟩ => ⟨S1x1024, .f32⟩
  | .hbm, ⟨103, _⟩ => ⟨S1024x1280, .bf16⟩
  | .hbm, ⟨104, _⟩ => ⟨S1x64, .f32⟩
  | .hbm, ⟨105, _⟩ => ⟨S8x64, .f32⟩
  | .hbm, ⟨106, _⟩ => ⟨S512, .f32⟩
  | .hbm, ⟨107, _⟩ => ⟨S1x512, .f32⟩
  | .hbm, ⟨108, _⟩ => ⟨S1x64, .f32⟩
  | .hbm, ⟨109, _⟩ => ⟨S2x64, .f32⟩
  | .hbm, ⟨110, _⟩ => ⟨S128, .f32⟩
  | .hbm, ⟨111, _⟩ => ⟨S1x128, .f32⟩
  | .hbm, ⟨112, _⟩ => ⟨S12288x512, .bf16⟩
  | .hbm, ⟨113, _⟩ => ⟨S12288x256, .bf16⟩
  | .hbm, ⟨114, _⟩ => ⟨S12288x256, .bf16⟩
  | .hbm, ⟨115, _⟩ => ⟨S12288x128, .f32⟩
  | .hbm, ⟨116, _⟩ => ⟨S12288x128, .f32⟩
  | .hbm, ⟨117, _⟩ => ⟨S12288x512, .f32⟩
  | .hbm, ⟨118, _⟩ => ⟨S12288x512, .f32⟩
  | .hbm, ⟨119, _⟩ => ⟨S12288x256, .f32⟩
  | .hbm, ⟨120, _⟩ => ⟨S12288x256, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1280, .bf16⟩
  | .local _ .vmem, ⟨6, _⟩ => ⟨S1x512, .f32⟩
  | .local _ .vmem, ⟨7, _⟩ => ⟨S1x128, .f32⟩
  | .local _ .vmem, ⟨8, _⟩ => ⟨S128x128, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .bf16⟩
  | .local _ .vmem, ⟨14, _⟩ => ⟨S256x512, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x512, .f32⟩
  | .local _ .vmem, ⟨24, _⟩ => ⟨S256x512, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v12 : Ref sig .tc := ⟨.hbm, 37, rfl⟩
abbrev main_c_2 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst : Ref sig .tc := ⟨.hbm, 62, rfl⟩
abbrev main_v16 : Ref sig .tc := ⟨.hbm, 63, rfl⟩
abbrev main_v17 : Ref sig .tc := ⟨.hbm, 64, rfl⟩
abbrev main_cst_3 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_4 : Ref sig .tc := ⟨.hbm, 90, rfl⟩
abbrev main_v42 : Ref sig .tc := ⟨.hbm, 91, rfl⟩
abbrev main_v43 : Ref sig .tc := ⟨.hbm, 92, rfl⟩
abbrev main_cst_5 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62_0 : Ref sig .tc := ⟨.hbm, 112, rfl⟩
abbrev main_v62_1 : Ref sig .tc := ⟨.hbm, 113, rfl⟩
abbrev main_v62_2 : Ref sig .tc := ⟨.hbm, 114, rfl⟩
abbrev main_v62_3 : Ref sig .tc := ⟨.hbm, 115, rfl⟩
abbrev main_v62_4 : Ref sig .tc := ⟨.hbm, 116, rfl⟩
abbrev main_v62_5 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .sge v0 c8192_i32
  let v2 : BitVec 32 := Scalar.extui v1
  let c10240_i32 : BitVec 32 := 10240#32
  let v3 : BitVec 1 := Scalar.cmpi .sge v0 c10240_i32
  let v4 : BitVec 32 := Scalar.extui v3
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_8 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S12288x1024 : Shape := ⟨2, ![12288, 1024]⟩
abbrev S8x6x1024 : Shape := ⟨3, ![8, 6, 1024]⟩
abbrev S1024 : Shape := ⟨1, ![1024]⟩
abbrev S1024x1280 : Shape := ⟨2, ![1024, 1280]⟩
abbrev S64 : Shape := ⟨1, ![64]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x1280 : Shape := ⟨3, ![32, 256, 1280]⟩
abbrev S32x256x512 : Shape := ⟨3, ![32, 256, 512]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x128 : Shape := ⟨3, ![32, 256, 128]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S2x2048 : Shape := ⟨2, ![2, 2048]⟩
abbrev S2x2048x1 : Shape := ⟨3, ![2, 2048, 1]⟩
abbrev S2x1x1024 : Shape := ⟨3, ![2, 1, 1024]⟩
abbrev S2x1024 : Shape := ⟨2, ![2, 1024]⟩
abbrev S2x2048x1280 : Shape := ⟨3, ![2, 2048, 1280]⟩
abbrev S2x2048x512 : Shape := ⟨3, ![2, 2048, 512]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S2x2048x128 : Shape := ⟨3, ![2, 2048, 128]⟩
abbrev S2x2048x2x64 : Shape := ⟨4, ![2, 2048, 2, 64]⟩
abbrev S2x2048x2 : Shape := ⟨3, ![2, 2048, 2]⟩
abbrev S2x2048x2x1 : Shape := ⟨4, ![2, 2048, 2, 1]⟩
abbrev S2048 : Shape := ⟨1, ![2048]⟩
abbrev S16 : Shape := ⟨1, ![16]⟩
abbrev S2x2048x8x32 : Shape := ⟨4, ![2, 2048, 8, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S2x2048x8x16 : Shape := ⟨4, ![2, 2048, 8, 16]⟩
abbrev S8192x512 : Shape := ⟨2, ![8192, 512]⟩
abbrev S4096x512 : Shape := ⟨2, ![4096, 512]⟩
abbrev S12288x512 : Shape := ⟨2, ![12288, 512]⟩
abbrev S32x256x4x64 : Shape := ⟨4, ![32, 256, 4, 64]⟩
abbrev S2x2048x2x32 : Shape := ⟨4, ![2, 2048, 2, 32]⟩
abbrev S2x2048x2x16 : Shape := ⟨4, ![2, 2048, 2, 16]⟩
abbrev S2x2048x4x64 : Shape := ⟨4, ![2, 2048, 4, 64]⟩
abbrev S8192x256 : Shape := ⟨2, ![8192, 256]⟩
abbrev S4096x256 : Shape := ⟨2, ![4096, 256]⟩
abbrev S12288x256 : Shape := ⟨2, ![12288, 256]⟩
abbrev S8192x128 : Shape := ⟨2, ![8192, 128]⟩
abbrev S4096x128 : Shape := ⟨2, ![4096, 128]⟩
abbrev S12288x128 : Shape := ⟨2, ![12288, 128]⟩

abbrev nBuf : Space → Nat
  | .hbm => 373
  | .vmem => 0
  | .smem => 0
  | _ => 0

abbrev hbmTy0_0 (i : Nat) : BufTy := match i % 128 with
  | 0 => ⟨S12288x1024, .f32⟩
  | 1 => ⟨S8x6x1024, .f32⟩
  | 2 => ⟨S1024, .f32⟩
  | 3 => ⟨S1024x1280, .f32⟩
  | 4 => ⟨S64, .f32⟩
  | 5 => ⟨S64, .f32⟩
  | 6 => ⟨S8192x1024, .f32⟩
  | 7 => ⟨S32x256x1024, .f32⟩
  | 8 => ⟨S4096x1024, .f32⟩
  | 9 => ⟨S2x2048x1024, .f32⟩
  | 10 => ⟨S32x256x1024, .f32⟩
  | 11 => ⟨S_, .f32⟩
  | 12 => ⟨S32x256, .f32⟩
  | 13 => ⟨S32x256x1, .f32⟩
  | 14 => ⟨S_, .f32⟩
  | 15 => ⟨S32x256x1, .f32⟩
  | 16 => ⟨S32x256x1, .f32⟩
  | 17 => ⟨S_, .f32⟩
  | 18 => ⟨S32x256x1, .f32⟩
  | 19 => ⟨S32x256x1, .f32⟩
  | 20 => ⟨S32x256x1, .f32⟩
  | 21 => ⟨S32x256x1024, .f32⟩
  | 22 => ⟨S32x256x1024, .f32⟩
  | 23 => ⟨S1x1x1024, .f32⟩
  | 24 => ⟨S32x256x1024, .f32⟩
  | 25 => ⟨S32x256x1024, .f32⟩
  | 26 => ⟨S1x1x1024, .f32⟩
  | 27 => ⟨S1024, .f32⟩
  | 28 => ⟨S1x1x1024, .f32⟩
  | 29 => ⟨S1024, .f32⟩
  | 30 => ⟨S_, .f32⟩
  | 31 => ⟨S1024, .f32⟩
  | 32 => ⟨S1024, .f32⟩
  | 33 => ⟨S1x1x1024, .f32⟩
  | 34 => ⟨S32x256x1024, .f32⟩
  | 35 => ⟨S32x256x1024, .f32⟩
  | 36 => ⟨S1x1x1024, .f32⟩
  | 37 => ⟨S32x256x1024, .f32⟩
  | 38 => ⟨S32x256x1024, .f32⟩
  | 39 => ⟨S32x256x1280, .f32⟩
  | 40 => ⟨S32x256x512, .f32⟩
  | 41 => ⟨S32x256x8x64, .f32⟩
  | 42 => ⟨S32x256x8x64, .f32⟩
  | 43 => ⟨S_, .f32⟩
  | 44 => ⟨S32x256x8, .f32⟩
  | 45 => ⟨S32x256x8x1, .f32⟩
  | 46 => ⟨S_, .f32⟩
  | 47 => ⟨S32x256x8x1, .f32⟩
  | 48 => ⟨S32x256x8x1, .f32⟩
  | 49 => ⟨S_, .f32⟩
  | 50 => ⟨S32x256x8x1, .f32⟩
  | 51 => ⟨S32x256x8x1, .f32⟩
  | 52 => ⟨S32x256x8x1, .f32⟩
  | 53 => ⟨S32x256x8x64, .f32⟩
  | 54 => ⟨S32x256x8x64, .f32⟩
  | 55 => ⟨S1x1x1x64, .f32⟩
  | 56 => ⟨S32x256x8x64, .f32⟩
  | 57 => ⟨S32x256x8x64, .f32⟩
  | 58 => ⟨S32x256x128, .f32⟩
  | 59 => ⟨S32x256x2x64, .f32⟩
  | 60 => ⟨S32x256x2x64, .f32⟩
  | 61 => ⟨S_, .f32⟩
  | 62 => ⟨S32x256x2, .f32⟩
  | 63 => ⟨S32x256x2x1, .f32⟩
  | 64 => ⟨S_, .f32⟩
  | 65 => ⟨S32x256x2x1, .f32⟩
  | 66 => ⟨S32x256x2x1, .f32⟩
  | 67 => ⟨S_, .f32⟩
  | 68 => ⟨S32x256x2x1, .f32⟩
  | 69 => ⟨S32x256x2x1, .f32⟩
  | 70 => ⟨S32x256x2x1, .f32⟩
  | 71 => ⟨S32x256x2x64, .f32⟩
  | 72 => ⟨S32x256x2x64, .f32⟩
  | 73 => ⟨S1x1x1x64, .f32⟩
  | 74 => ⟨S32x256x2x64, .f32⟩
  | 75 => ⟨S32x256x2x64, .f32⟩
  | 76 => ⟨S32x256x128, .f32⟩
  | 77 => ⟨S32x256x2x64, .f32⟩
  | 78 => ⟨S32x256x512, .f32⟩
  | 79 => ⟨S2x2048x1024, .f32⟩
  | 80 => ⟨S_, .f32⟩
  | 81 => ⟨S2x2048, .f32⟩
  | 82 => ⟨S2x2048x1, .f32⟩
  | 83 => ⟨S_, .f32⟩
  | 84 => ⟨S2x2048x1, .f32⟩
  | 85 => ⟨S2x2048x1, .f32⟩
  | 86 => ⟨S_, .f32⟩
  | 87 => ⟨S2x2048x1, .f32⟩
  | 88 => ⟨S2x2048x1, .f32⟩
  | 89 => ⟨S2x2048x1, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | 95 => ⟨S2x1x1024, .f32⟩
  | 96 => ⟨S2x1024, .f32⟩
  | 97 => ⟨S2x1x1024, .f32⟩
  | 98 => ⟨S2x1x1024, .f32⟩
  | 99 => ⟨S2x1024, .f32⟩
  | 100 => ⟨S2x1x1024, .f32⟩
  | 101 => ⟨S_, .f32⟩
  | 102 => ⟨S2x1x1024, .f32⟩
  | 103 => ⟨S2x1x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S2x2048x1280, .f32⟩
  | 109 => ⟨S2x2048x512, .f32⟩
  | 110 => ⟨S2x2048x8x64, .f32⟩
  | 111 => ⟨S2x2048x8x64, .f32⟩
  | 112 => ⟨S_, .f32⟩
  | 113 => ⟨S2x2048x8, .f32⟩
  | 114 => ⟨S2x2048x8x1, .f32⟩
  | 115 => ⟨S_, .f32⟩
  | 116 => ⟨S2x2048x8x1, .f32⟩
  | 117 => ⟨S2x2048x8x1, .f32⟩
  | 118 => ⟨S_, .f32⟩
  | 119 => ⟨S2x2048x8x1, .f32⟩
  | 120 => ⟨S2x2048x8x1, .f32⟩
  | 121 => ⟨S2x2048x8x1, .f32⟩
  | 122 => ⟨S2x2048x8x64, .f32⟩
  | 123 => ⟨S2x2048x8x64, .f32⟩
  | 124 => ⟨S1x1x1x64, .f32⟩
  | 125 => ⟨S2x2048x8x64, .f32⟩
  | 126 => ⟨S2x2048x8x64, .f32⟩
  | 127 => ⟨S2x2048x128, .f32⟩
  | _ => ⟨S12288x1024, .f32⟩

abbrev hbmTy0_1 (i : Nat) : BufTy := match i % 128 with
  | 0 => ⟨S2x2048x2x64, .f32⟩
  | 1 => ⟨S2x2048x2x64, .f32⟩
  | 2 => ⟨S_, .f32⟩
  | 3 => ⟨S2x2048x2, .f32⟩
  | 4 => ⟨S2x2048x2x1, .f32⟩
  | 5 => ⟨S_, .f32⟩
  | 6 => ⟨S2x2048x2x1, .f32⟩
  | 7 => ⟨S2x2048x2x1, .f32⟩
  | 8 => ⟨S_, .f32⟩
  | 9 => ⟨S2x2048x2x1, .f32⟩
  | 10 => ⟨S2x2048x2x1, .f32⟩
  | 11 => ⟨S2x2048x2x1, .f32⟩
  | 12 => ⟨S2x2048x2x64, .f32⟩
  | 13 => ⟨S2x2048x2x64, .f32⟩
  | 14 => ⟨S1x1x1x64, .f32⟩
  | 15 => ⟨S2x2048x2x64, .f32⟩
  | 16 => ⟨S2x2048x2x64, .f32⟩
  | 17 => ⟨S2x2048x128, .f32⟩
  | 18 => ⟨S2x2048x2x64, .f32⟩
  | 19 => ⟨S2x2048x512, .f32⟩
  | 20 => ⟨S2048, .i32⟩
  | 21 => ⟨S_, .i32⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S2048, .i32⟩
  | 30 => ⟨S2048, .i32⟩
  | 31 => ⟨S_, .i32⟩
  | 32 => ⟨S2048, .i32⟩
  | 33 => ⟨S2048, .i1⟩
  | 34 => ⟨S2048, .i1⟩
  | 35 => ⟨S_, .i32⟩
  | 36 => ⟨S2048, .i32⟩
  | 37 => ⟨S2048, .i32⟩
  | 38 => ⟨S2048, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i1⟩
  | 50 => ⟨S_, .i32⟩
  | 51 => ⟨S2048, .i32⟩
  | 52 => ⟨S2048, .i1⟩
  | 53 => ⟨S_, .i32⟩
  | 54 => ⟨S_, .i1⟩
  | 55 => ⟨S2048, .i1⟩
  | 56 => ⟨S2048, .i1⟩
  | 57 => ⟨S2048, .i1⟩
  | 58 => ⟨S2048, .i32⟩
  | 59 => ⟨S2048, .i32⟩
  | 60 => ⟨S2048, .i32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S2x2048x8x32, .f32⟩
  | 70 => ⟨S2048, .f32⟩
  | 71 => ⟨S2048x1, .f32⟩
  | 72 => ⟨S1x16, .f32⟩
  | 73 => ⟨S2048x16, .f32⟩
  | 74 => ⟨S2048x16, .f32⟩
  | 75 => ⟨S2048x16, .f32⟩
  | 76 => ⟨S2048x16, .f32⟩
  | 77 => ⟨S1x2048x1x16, .f32⟩
  | 78 => ⟨S2048x16, .f32⟩
  | 79 => ⟨S1x2048x1x16, .f32⟩
  | 80 => ⟨S2x2048x8x16, .f32⟩
  | 81 => ⟨S2x2048x8x16, .f32⟩
  | 82 => ⟨S2x2048x8x16, .f32⟩
  | 83 => ⟨S2x2048x8x16, .f32⟩
  | 84 => ⟨S2x2048x8x16, .f32⟩
  | 85 => ⟨S2x2048x8x16, .f32⟩
  | 86 => ⟨S2x2048x8x16, .f32⟩
  | 87 => ⟨S2x2048x8x16, .f32⟩
  | 88 => ⟨S2x2048x8x16, .f32⟩
  | 89 => ⟨S2x2048x8x16, .f32⟩
  | 90 => ⟨S2x2048x8x16, .f32⟩
  | 91 => ⟨S2x2048x8x16, .f32⟩
  | 92 => ⟨S2x2048x8x32, .f32⟩
  | 93 => ⟨S2x2048x8x32, .f32⟩
  | 94 => ⟨S2048, .f32⟩
  | 95 => ⟨S2048x1, .f32⟩
  | 96 => ⟨S1x16, .f32⟩
  | 97 => ⟨S2048x16, .f32⟩
  | 98 => ⟨S2048x16, .f32⟩
  | 99 => ⟨S2048x16, .f32⟩
  | 100 => ⟨S2048x16, .f32⟩
  | 101 => ⟨S1x2048x1x16, .f32⟩
  | 102 => ⟨S2048x16, .f32⟩
  | 103 => ⟨S1x2048x1x16, .f32⟩
  | 104 => ⟨S2x2048x8x16, .f32⟩
  | 105 => ⟨S2x2048x8x16, .f32⟩
  | 106 => ⟨S2x2048x8x16, .f32⟩
  | 107 => ⟨S2x2048x8x16, .f32⟩
  | 108 => ⟨S2x2048x8x16, .f32⟩
  | 109 => ⟨S2x2048x8x16, .f32⟩
  | 110 => ⟨S2x2048x8x16, .f32⟩
  | 111 => ⟨S2x2048x8x16, .f32⟩
  | 112 => ⟨S2x2048x8x16, .f32⟩
  | 113 => ⟨S2x2048x8x16, .f32⟩
  | 114 => ⟨S2x2048x8x16, .f32⟩
  | 115 => ⟨S2x2048x8x16, .f32⟩
  | 116 => ⟨S2x2048x8x32, .f32⟩
  | 117 => ⟨S2x2048x8x64, .f32⟩
  | 118 => ⟨S8192x512, .f32⟩
  | 119 => ⟨S4096x512, .f32⟩
  | 120 => ⟨S12288x512, .f32⟩
  | 121 => ⟨S_, .f32⟩
  | 122 => ⟨S12288x512, .f32⟩
  | 123 => ⟨S12288x512, .f32⟩
  | 124 => ⟨S32x256x2x64, .f32⟩
  | 125 => ⟨S32x256x4x64, .f32⟩
  | 126 => ⟨S2048, .i32⟩
  | 127 => ⟨S_, .i32⟩
  | _ => ⟨S12288x1024, .f32⟩

abbrev hbmTy0_2 (i : Nat) : BufTy := match i % 128 with
  | 0 => ⟨S_, .i32⟩
  | 1 => ⟨S2048, .i32⟩
  | 2 => ⟨S2048, .i32⟩
  | 3 => ⟨S2048, .i32⟩
  | 4 => ⟨S_, .i32⟩
  | 5 => ⟨S2048, .i32⟩
  | 6 => ⟨S2048, .i1⟩
  | 7 => ⟨S2048, .i32⟩
  | 8 => ⟨S2048, .i32⟩
  | 9 => ⟨S_, .i32⟩
  | 10 => ⟨S2048, .i32⟩
  | 11 => ⟨S2048, .i1⟩
  | 12 => ⟨S2048, .i1⟩
  | 13 => ⟨S_, .i32⟩
  | 14 => ⟨S2048, .i32⟩
  | 15 => ⟨S2048, .i32⟩
  | 16 => ⟨S2048, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i1⟩
  | 28 => ⟨S_, .i32⟩
  | 29 => ⟨S2048, .i32⟩
  | 30 => ⟨S2048, .i1⟩
  | 31 => ⟨S_, .i32⟩
  | 32 => ⟨S_, .i1⟩
  | 33 => ⟨S2048, .i1⟩
  | 34 => ⟨S2048, .i1⟩
  | 35 => ⟨S2048, .i1⟩
  | 36 => ⟨S2048, .i32⟩
  | 37 => ⟨S2048, .i32⟩
  | 38 => ⟨S2048, .i32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S2x2048x2x32, .f32⟩
  | 48 => ⟨S2048, .f32⟩
  | 49 => ⟨S2048x1, .f32⟩
  | 50 => ⟨S1x16, .f32⟩
  | 51 => ⟨S2048x16, .f32⟩
  | 52 => ⟨S2048x16, .f32⟩
  | 53 => ⟨S2048x16, .f32⟩
  | 54 => ⟨S2048x16, .f32⟩
  | 55 => ⟨S1x2048x1x16, .f32⟩
  | 56 => ⟨S2048x16, .f32⟩
  | 57 => ⟨S1x2048x1x16, .f32⟩
  | 58 => ⟨S2x2048x2x16, .f32⟩
  | 59 => ⟨S2x2048x2x16, .f32⟩
  | 60 => ⟨S2x2048x2x16, .f32⟩
  | 61 => ⟨S2x2048x2x16, .f32⟩
  | 62 => ⟨S2x2048x2x16, .f32⟩
  | 63 => ⟨S2x2048x2x16, .f32⟩
  | 64 => ⟨S2x2048x2x16, .f32⟩
  | 65 => ⟨S2x2048x2x16, .f32⟩
  | 66 => ⟨S2x2048x2x16, .f32⟩
  | 67 => ⟨S2x2048x2x16, .f32⟩
  | 68 => ⟨S2x2048x2x16, .f32⟩
  | 69 => ⟨S2x2048x2x16, .f32⟩
  | 70 => ⟨S2x2048x2x32, .f32⟩
  | 71 => ⟨S2x2048x2x32, .f32⟩
  | 72 => ⟨S2048, .f32⟩
  | 73 => ⟨S2048x1, .f32⟩
  | 74 => ⟨S1x16, .f32⟩
  | 75 => ⟨S2048x16, .f32⟩
  | 76 => ⟨S2048x16, .f32⟩
  | 77 => ⟨S2048x16, .f32⟩
  | 78 => ⟨S2048x16, .f32⟩
  | 79 => ⟨S1x2048x1x16, .f32⟩
  | 80 => ⟨S2048x16, .f32⟩
  | 81 => ⟨S1x2048x1x16, .f32⟩
  | 82 => ⟨S2x2048x2x16, .f32⟩
  | 83 => ⟨S2x2048x2x16, .f32⟩
  | 84 => ⟨S2x2048x2x16, .f32⟩
  | 85 => ⟨S2x2048x2x16, .f32⟩
  | 86 => ⟨S2x2048x2x16, .f32⟩
  | 87 => ⟨S2x2048x2x16, .f32⟩
  | 88 => ⟨S2x2048x2x16, .f32⟩
  | 89 => ⟨S2x2048x2x16, .f32⟩
  | 90 => ⟨S2x2048x2x16, .f32⟩
  | 91 => ⟨S2x2048x2x16, .f32⟩
  | 92 => ⟨S2x2048x2x16, .f32⟩
  | 93 => ⟨S2x2048x2x16, .f32⟩
  | 94 => ⟨S2x2048x2x32, .f32⟩
  | 95 => ⟨S2x2048x2x64, .f32⟩
  | 96 => ⟨S2x2048x2x64, .f32⟩
  | 97 => ⟨S2x2048x4x64, .f32⟩
  | 98 => ⟨S8192x256, .f32⟩
  | 99 => ⟨S4096x256, .f32⟩
  | 100 => ⟨S12288x256, .f32⟩
  | 101 => ⟨S32x256x2x64, .f32⟩
  | 102 => ⟨S32x256x4x64, .f32⟩
  | 103 => ⟨S2x2048x2x64, .f32⟩
  | 104 => ⟨S2x2048x4x64, .f32⟩
  | 105 => ⟨S8192x256, .f32⟩
  | 106 => ⟨S4096x256, .f32⟩
  | 107 => ⟨S12288x256, .f32⟩
  | 108 => ⟨S8192x128, .f32⟩
  | 109 => ⟨S4096x128, .f32⟩
  | 110 => ⟨S12288x128, .f32⟩
  | 111 => ⟨S8192x128, .f32⟩
  | 112 => ⟨S4096x128, .f32⟩
  | 113 => ⟨S12288x128, .f32⟩
  | 114 => ⟨S8192x512, .f32⟩
  | 115 => ⟨S4096x512, .f32⟩
  | 116 => ⟨S12288x512, .f32⟩
  | _ => ⟨S12288x1024, .f32⟩

abbrev hbmTy (i : Nat) : BufTy := match i / 128 with
  | 0 => hbmTy0_0 i
  | 1 => hbmTy0_1 i
  | 2 => hbmTy0_2 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_13 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_v108 : Ref sig .tc := ⟨.hbm, 132, rfl⟩
abbrev main_cst_17 : Ref sig .tc := ⟨.hbm, 133, rfl⟩
abbrev main_v109 : Ref sig .tc := ⟨.hbm, 134, rfl⟩
abbrev main_v110 : Ref sig .tc := ⟨.hbm, 135, rfl⟩
abbrev main_cst_18 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c : Ref sig .tc := ⟨.hbm, 149, rfl⟩
abbrev main_call0_v0 : Ref sig .tc := ⟨.hbm, 150, rfl⟩
abbrev main_call0_v1 : Ref sig .tc := ⟨.hbm, 151, rfl⟩
abbrev main_call0_v2 : Ref sig .tc := ⟨.hbm, 152, rfl⟩
abbrev main_call0_v3 : Ref sig .tc := ⟨.hbm, 153, rfl⟩
abbrev main_call0_v4 : Ref sig .tc := ⟨.hbm, 154, rfl⟩
abbrev main_call0_v5 : Ref sig .tc := ⟨.hbm, 155, rfl⟩
abbrev main_call0_v6 : Ref sig .tc := ⟨.hbm, 156, rfl⟩
abbrev main_call0_v7 : Ref sig .tc := ⟨.hbm, 157, rfl⟩
abbrev main_call0_v8 : Ref sig .tc := ⟨.hbm, 158, rfl⟩
abbrev main_call0_c : Ref sig .tc := ⟨.hbm, 159, rfl⟩
abbrev main_call0_v9 : Ref sig .tc := ⟨.hbm, 160, rfl⟩
abbrev main_call0_v10 : Ref sig .tc := ⟨.hbm, 161, rfl⟩
abbrev main_call0_v11 : Ref sig .tc := ⟨.hbm, 162, rfl⟩
abbrev main_call0_c_0 : Ref sig .tc := ⟨.hbm, 163, rfl⟩
abbrev main_call0_v12 : Ref sig .tc := ⟨.hbm, 164, rfl⟩
abbrev main_call0_v13 : Ref sig .tc := ⟨.hbm, 165, rfl⟩
abbrev main_v123 : Ref sig .tc := ⟨.hbm, 166, rfl⟩
abbrev main_c_19 : Ref sig .tc := ⟨.hbm, 167, rfl⟩
abbrev main_call1_v0 : Ref sig .tc := ⟨.hbm, 168, rfl⟩
abbrev main_call1_c : Ref sig .tc := ⟨.hbm, 169, rfl⟩
abbrev main_call1_v1 : Ref sig .tc := ⟨.hbm, 170, rfl⟩
abbrev main_call1_c_0 : Ref sig .tc := ⟨.hbm, 171, rfl⟩
abbrev main_call1_v2 : Ref sig .tc := ⟨.hbm, 172, rfl⟩
abbrev main_call1_v3 : Ref sig .tc := ⟨.hbm, 173, rfl⟩
abbrev main_call1_v4 : Ref sig .tc := ⟨.hbm, 174, rfl⟩
abbrev main_call1_c_1 : Ref sig .tc := ⟨.hbm, 175, rfl⟩
abbrev main_call1_v5 : Ref sig .tc := ⟨.hbm, 176, rfl⟩
abbrev main_call1_v6 : Ref sig .tc := ⟨.hbm, 177, rfl⟩
abbrev main_call1_c_2 : Ref sig .tc := ⟨.hbm, 178, rfl⟩
abbrev main_call1_v7 : Ref sig .tc := ⟨.hbm, 179, rfl⟩
abbrev main_call1_v8 : Ref sig .tc := ⟨.hbm, 180, rfl⟩
abbrev main_call1_c_3 : Ref sig .tc := ⟨.hbm, 181, rfl⟩
abbrev main_call1_v9 : Ref sig .tc := ⟨.hbm, 182, rfl⟩
abbrev main_call1_v10 : Ref sig .tc := ⟨.hbm, 183, rfl⟩
abbrev main_call1_v11 : Ref sig .tc := ⟨.hbm, 184, rfl⟩
abbrev main_call1_v12 : Ref sig .tc := ⟨.hbm, 185, rfl⟩
abbrev main_call1_v13 : Ref sig .tc := ⟨.hbm, 186, rfl⟩
abbrev main_call1_v14 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_20 : Ref sig .tc := ⟨.hbm, 191, rfl⟩
abbrev main_v127 : Ref sig .tc := ⟨.hbm, 192, rfl⟩
abbrev main_v128 : Ref sig .tc := ⟨.hbm, 193, rfl⟩
abbrev main_cst_21 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_22 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_c_23 : Ref sig .tc := ⟨.hbm, 255, rfl⟩
abbrev main_call2_v0 : Ref sig .tc := ⟨.hbm, 256, rfl⟩
abbrev main_call2_v1 : Ref sig .tc := ⟨.hbm, 257, rfl⟩
abbrev main_call2_v2 : Ref sig .tc := ⟨.hbm, 258, rfl⟩
abbrev main_call2_v3 : Ref sig .tc := ⟨.hbm, 259, rfl⟩
abbrev main_call2_v4 : Ref sig .tc := ⟨.hbm, 260, rfl⟩
abbrev main_call2_v5 : Ref sig .tc := ⟨.hbm, 261, rfl⟩
abbrev main_call2_v6 : Ref sig .tc := ⟨.hbm, 262, rfl⟩
abbrev main_call2_v7 : Ref sig .tc := ⟨.hbm, 263, rfl⟩
abbrev main_call2_v8 : Ref sig .tc := ⟨.hbm, 264, rfl⟩
abbrev main_call2_c : Ref sig .tc := ⟨.hbm, 265, rfl⟩
abbrev main_call2_v9 : Ref sig .tc := ⟨.hbm, 266, rfl⟩
abbrev main_call2_v10 : Ref sig .tc := ⟨.hbm, 267, rfl⟩
abbrev main_call2_v11 : Ref sig .tc := ⟨.hbm, 268, rfl⟩
abbrev main_call2_c_0 : Ref sig .tc := ⟨.hbm, 269, rfl⟩
abbrev main_call2_v12 : Ref sig .tc := ⟨.hbm, 270, rfl⟩
abbrev main_call2_v13 : Ref sig .tc := ⟨.hbm, 271, rfl⟩
abbrev main_v188 : Ref sig .tc := ⟨.hbm, 272, rfl⟩
abbrev main_c_24 : Ref sig .tc := ⟨.hbm, 273, rfl⟩
abbrev main_call3_v0 : Ref sig .tc := ⟨.hbm, 274, rfl⟩
abbrev main_call3_c : Ref sig .tc := ⟨.hbm, 275, rfl⟩
abbrev main_call3_v1 : Ref sig .tc := ⟨.hbm, 276, rfl⟩
abbrev main_call3_c_0 : Ref sig .tc := ⟨.hbm, 277, rfl⟩
abbrev main_call3_v2 : Ref sig .tc := ⟨.hbm, 278, rfl⟩
abbrev main_call3_v3 : Ref sig .tc := ⟨.hbm, 279, rfl⟩
abbrev main_call3_v4 : Ref sig .tc := ⟨.hbm, 280, rfl⟩
abbrev main_call3_c_1 : Ref sig .tc := ⟨.hbm, 281, rfl⟩
abbrev main_call3_v5 : Ref sig .tc := ⟨.hbm, 282, rfl⟩
abbrev main_call3_v6 : Ref sig .tc := ⟨.hbm, 283, rfl⟩
abbrev main_call3_c_2 : Ref sig .tc := ⟨.hbm, 284, rfl⟩
abbrev main_call3_v7 : Ref sig .tc := ⟨.hbm, 285, rfl⟩
abbrev main_call3_v8 : Ref sig .tc := ⟨.hbm, 286, rfl⟩
abbrev main_call3_c_3 : Ref sig .tc := ⟨.hbm, 287, rfl⟩
abbrev main_call3_v9 : Ref sig .tc := ⟨.hbm, 288, rfl⟩
abbrev main_call3_v10 : Ref sig .tc := ⟨.hbm, 289, rfl⟩
abbrev main_call3_v11 : Ref sig .tc := ⟨.hbm, 290, rfl⟩
abbrev main_call3_v12 : Ref sig .tc := ⟨.hbm, 291, rfl⟩
abbrev main_call3_v13 : Ref sig .tc := ⟨.hbm, 292, rfl⟩
abbrev main_call3_v14 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_cst_25 : Ref sig .tc := ⟨.hbm, 297, rfl⟩
abbrev main_v192 : Ref sig .tc := ⟨.hbm, 298, rfl⟩
abbrev main_v193 : Ref sig .tc := ⟨.hbm, 299, rfl⟩
abbrev main_cst_26 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1024x8 : Shape := ⟨2, ![1024, 8]⟩
abbrev S1 : Shape := ⟨1, ![1]⟩
abbrev S1024x2 : Shape := ⟨2, ![1024, 2]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S1024x1 : Shape := ⟨2, ![1024, 1]⟩
abbrev S1536 : Shape := ⟨1, ![1536]⟩
abbrev S1x1536 : Shape := ⟨2, ![1, 1536]⟩
abbrev S5x1536 : Shape := ⟨2, ![5, 1536]⟩
abbrev S8x1536 : Shape := ⟨2, ![8, 1536]⟩
abbrev S4x8x6x1024 : Shape := ⟨4, ![4, 8, 6, 1024]⟩

abbrev nBuf : Space → Nat
  | .hbm => 16
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S1024x8, .f32⟩
  | .hbm, ⟨6, _⟩ => ⟨S_, .i32⟩
  | .hbm, ⟨7, _⟩ => ⟨S1, .i32⟩
  | .hbm, ⟨8, _⟩ => ⟨S1024x8, .f32⟩
  | .hbm, ⟨9, _⟩ => ⟨S1024x2, .f32⟩
  | .hbm, ⟨10, _⟩ => ⟨S_, .i32⟩
  | .hbm, ⟨11, _⟩ => ⟨S1, .i32⟩
  | .hbm, ⟨12, _⟩ => ⟨S1024x8, .f32⟩
  | .hbm, ⟨13, _⟩ => ⟨S4x1x6144, .f32⟩
  | .hbm, ⟨14, _⟩ => ⟨S4x8x6144, .f32⟩
  | .hbm, ⟨15, _⟩ => ⟨S4x8x6x1024, .f32⟩
  | .local _ .vmem, ⟨0, _⟩ => ⟨S1024x8, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x6144x2 : Shape := ⟨3, ![4, 6144, 2]⟩
abbrev S4x2x6144 : Shape := ⟨3, ![4, 2, 6144]⟩
abbrev S4x1x6144 : Shape := ⟨3, ![4, 1, 6144]⟩
abbrev S4x5x6144 : Shape := ⟨3, ![4, 5, 6144]⟩
abbrev S4x8x6144 : Shape := ⟨3, ![4, 8, 6144]⟩
abbrev S4x8x6x1024 : Shape := ⟨4, ![4, 8, 6, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S4x6144, .f32⟩
  | .hbm, ⟨14, _⟩ => ⟨S4x6144, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S2x1024, .f32⟩
  | .hbm, ⟨20, _⟩ => ⟨S_, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S4x6144x2, .f32⟩
  | .hbm, ⟨25, _⟩ => ⟨S4x2x6144, .f32⟩
  | .hbm, ⟨26, _⟩ => ⟨S4x1x6144, .f32⟩
  | .hbm, ⟨27, _⟩ => ⟨S4x2x6144, .f32⟩
  | .hbm, ⟨28, _⟩ => ⟨S4x2x6144, .f32⟩
  | .hbm, ⟨29, _⟩ => ⟨S4x1x6144, .f32⟩
  | .hbm, ⟨30, _⟩ => ⟨S_, .f32⟩
  | .hbm, ⟨31, _⟩ => ⟨S4x5x6144, .f32⟩
  | .hbm, ⟨32, _⟩ => ⟨S4x8x6144, .f32⟩
  | .hbm, ⟨33, _⟩ => ⟨S4x8x6x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Proof.AttnMath.lean ====
/- The mathematics of the attention and pooling mixer, over plain functions of extended reals. -/
module

public import Idealize.ShloMosaic.Lib.Pipeline.ValueKit
public import Idealize.ShloMosaic.Lib.Pointwise
public import Idealize.ShloMosaic.Lib.IdealHost

@[expose] public section

noncomputable section

open Idealize.ShloMosaic Idealize.ShloMosaic.TcCoe Idealize.SL.Sem

namespace Cert.AttnMath

/-! ## Attention -/

/-- The largest of the scores. -/
def top {n : ℕ} (s : Fin n → EReal) : EReal := Finset.fold max (Ideal.ofBits .f32 0xFF800000#32) s Finset.univ

/-- The weight of a key, before division by the total. -/
def wt {n : ℕ} (s : Fin n → EReal) (x : Fin n) : EReal := Ideal.exp (s x - top s)

/-- The weighted mean of the values under the exponentials of the scores. -/
def attend {n : ℕ} (s v : Fin n → EReal) : EReal := Ideal.div (∑ x, wt s x * v x) (∑ x, wt s x)

/-- The number an eighth, by which the scores are scaled. -/
abbrev eighth : EReal := Ideal.ofBits .f32 0x3E000000#32

/-- One channel of one query head's output. -/
def headOut {n : ℕ} (q : Fin 64 → EReal) (k v : Fin n → Fin 64 → EReal) (d : Fin 64) : EReal :=
  attend (fun x => ∑ e, q e * eighth * k x e) (fun x => v x d)

theorem neg_inf : Ideal.ofBits .f32 0xFF800000#32 = (⊥ : EReal) := by simp [Ideal.ofBits, Ideal.ieee]

theorem eighth_eq : eighth = (((1 : ℝ) / 8 : ℝ) : EReal) := by
  simp [eighth, Ideal.ofBits, Ideal.ieee, -EReal.coe_mul]; norm_num

/-- Multiplying a sum by a number that is neither negative nor infinite. -/
theorem sum_mul_of {n : ℕ} (f : Fin n → EReal) (c : EReal) (h0 : 0 ≤ c) (ht : c ≠ ⊤) : (∑ x, f x) * c = ∑ x, f x * c := by
  induction n with
  | zero => simp
  | succ n ih => rw [Fin.sum_univ_succ, Fin.sum_univ_succ, EReal.right_distrib_of_nonneg_of_ne_top h0 ht, ih]

theorem exp_nonneg (x : EReal) : 0 ≤ Ideal.exp x := by
  induction x with
  | bot => exact le_refl _
  | top => exact le_top
  | coe r => rw [Ideal.exp_coe]; exact_mod_cast (Real.exp_pos r).le

/-- With finite scores the total weight is not zero. -/
theorem total_ne {n : ℕ} (hn : 0 < n) (s : Fin n → EReal) (hs : ∀ x, ∃ r : ℝ, s x = r) : (∑ x, wt s x) ≠ 0 := by
  haveI : Nonempty (Fin n) := ⟨⟨0, hn⟩⟩
  obtain ⟨i, -, hi⟩ := Finset.exists_mem_eq_sup (Finset.univ : Finset (Fin n)) Finset.univ_nonempty s
  have ht : top s = s i := by
    unfold top
    rw [neg_inf]
    exact hi
  have h1 : wt s i = 1 := by
    unfold wt
    obtain ⟨r, hr⟩ := hs i
    rw [ht, hr, ← EReal.coe_sub, sub_self, Ideal.exp_coe, Real.exp_zero]; rfl
  have h2 : wt s i ≤ ∑ x, wt s x := Finset.single_le_sum (f := wt s) (fun x _ => exp_nonneg _) (Finset.mem_univ i)
  rw [h1] at h2
  intro h
  rw [h] at h2
  exact absurd h2 (by norm_num)

/-- Dividing each weight first gives the same weighted mean. -/
theorem attend_eq {n : ℕ} (hn : 0 < n) (s v : Fin n → EReal) (hs : ∀ x, ∃ r : ℝ, s x = r) :
    ∑ x, Ideal.div (wt s x) (∑ y, wt s y) * v x = attend s v := by
  have h0 := total_ne hn s hs
  have hp : 0 ≤ ∑ y, wt s y := Finset.sum_nonneg fun x _ => exp_nonneg _
  have hi : ∀ x, Ideal.div x (∑ y, wt s y) = x * (∑ y, wt s y)⁻¹ := fun x => by
    unfold Ideal.div
    rw [if_neg h0]
  unfold attend
  rw [hi, sum_mul_of _ _ (EReal.inv_nonneg_of_nonneg hp) (by
    induction (∑ y, wt s y) using EReal.rec with
    | bot => simp
    | top => simp
    | coe r => rw [← EReal.coe_inv]; exact EReal.coe_ne_top _)]
  exact Finset.sum_congr rfl fun x _ => by rw [hi]; ac_rfl

/-- Scaling the scores after the sum is scaling the query. -/
theorem score_eq (q k : Fin 64 → EReal) : (∑ e, q e * k e) * eighth = ∑ e, q e * eighth * k e := by
  rw [sum_mul_of _ _ (by rw [eighth_eq]; exact_mod_cast (by norm_num : (0 : ℝ) ≤ 1 / 8)) (by rw [eighth_eq]; exact EReal.coe_ne_top _)]
  exact Finset.sum_congr rfl fun e _ => mul_right_comm _ _ _

/-- The scores are finite when the queries and keys are. -/
theorem score_real (q k : Fin 64 → EReal) (hq : ∀ e, ∃ r : ℝ, q e = r) (hk : ∀ e, ∃ r : ℝ, k e = r) :
    ∃ r : ℝ, ∑ e, q e * eighth * k e = r := by
  choose a ha using hq
  choose b hb using hk
  refine ⟨∑ e, a e * (1 / 8) * b e, ?_⟩
  rw [eighth_eq]
  simp only [ha, hb, ← EReal.coe_mul]
  push_cast
  rfl

/-! ## Pooling -/

/-- The sum of the `w` entries `[t - w / 2, t + w / 2)` of a sequence, zero outside it. -/
def tot {T : ℕ} (w : ℕ) (f : Fin T → EReal) (t : ℕ) : EReal :=
  ∑ j ∈ Finset.range w, if h : w / 2 ≤ t + j ∧ t + j - w / 2 < T then f ⟨t + j - w / 2, h.2⟩ else 0

/-- How many of them lie in the sequence. -/
def cnt (w T t : ℕ) : EReal := (((min (t + w / 2) T - (t - w / 2) : ℕ) : ℝ) : EReal)

/-- One channel of the pooling mixer: the centred mean minus the entry itself, through its group's weights, scaled. -/
def poolOut {T : ℕ} (p : Fin T → Fin 512 → EReal) (W : Fin 4 → Fin 128 → Fin 128 → EReal) (S : Fin 512 → EReal)
    (t : Fin T) (g : Fin 4) (d : Fin 128) : EReal :=
  (∑ c : Fin 128, (Ideal.div (tot (2 ^ (g.val + 1)) (fun i => p i ⟨128 * g.val + c.val, by omega⟩) t) (cnt (2 ^ (g.val + 1)) T t)
    - p t ⟨128 * g.val + c.val, by omega⟩) * W g c d) * S ⟨128 * g.val + d.val, by omega⟩

theorem coe_max (a b : ℝ) : ((max a b : ℝ) : EReal) = max (a : EReal) (b : EReal) := EReal.coe_strictMono.monotone.map_max

/-- The kernel's count of a window's entries inside the sequence: the whole window, less what sticks out of the
    sequence before its first block and after its last. -/
theorem cnt_eq (h n u r : ℕ) (hh : h ≤ 8) (hu : u < n) (hr : r < 256) (mp mn : EReal) (hmp : mp = if u = 0 then 0 else 1)
    (hmn : mn = if u + 1 = n then 0 else 1) :
    (((2 * h : ℕ) : ℝ) : EReal) - max (((h : ℝ) : EReal) - ((r : ℝ) : EReal)) 0 * (1 - mp)
      - max (((r : ℝ) : EReal) + (((h : ℝ) - 256 : ℝ) : EReal)) 0 * (1 - mn) = cnt (2 * h) (256 * n) (256 * u + r) := by
  have e1 : max (((h : ℝ) : EReal) - ((r : ℝ) : EReal)) 0 = (((h - r : ℕ) : ℝ) : EReal) := by
    rw [← EReal.coe_sub, ← EReal.coe_zero, ← coe_max]
    refine congrArg _ ?_
    by_cases g : r ≤ h
    · rw [Nat.cast_sub g, max_eq_left (sub_nonneg.2 (by exact_mod_cast g))]
    · rw [Nat.sub_eq_zero_of_le (by omega), max_eq_right (sub_nonpos.2 (by exact_mod_cast (by omega : h ≤ r)))]; simp
  have e2 : max (((r : ℝ) : EReal) + (((h : ℝ) - 256 : ℝ) : EReal)) 0 = (((r + h - 256 : ℕ) : ℝ) : EReal) := by
    rw [← EReal.coe_add, ← EReal.coe_zero, ← coe_max]
    refine congrArg _ ?_
    by_cases g : 256 ≤ r + h
    · rw [Nat.cast_sub g, max_eq_left]
      · push_cast; ring
      · have : (256 : ℝ) ≤ r + h := by exact_mod_cast g
        linarith
    · rw [Nat.sub_eq_zero_of_le (by omega), max_eq_right]
      · simp
      · have : (r : ℝ) + h ≤ 256 := by exact_mod_cast (by omega : r + h ≤ 256)
        linarith
  have e3 : mp = (((if u = 0 then 0 else 1 : ℕ) : ℝ) : EReal) := by rw [hmp]; split <;> simp
  have e4 : mn = (((if u + 1 = n then 0 else 1 : ℕ) : ℝ) : EReal) := by rw [hmn]; split <;> simp
  rw [e1, e2, e3, e4, cnt, ← EReal.coe_one]
  simp only [← EReal.coe_sub, ← EReal.coe_mul]
  refine congrArg _ ?_
  have hd : 2 * h / 2 = h := by omega
  rw [hd]
  by_cases h0 : u = 0
  · subst h0
    rw [if_pos rfl]
    by_cases h1 : 0 + 1 = n
    · subst h1
      rw [if_pos rfl]
      by_cases g : r ≤ h
      · by_cases g2 : 256 ≤ r + h
        · omega
        · rw [show r + h - 256 = 0 by omega, show min (256 * 0 + r + h) (256 * (0 + 1)) - (256 * 0 + r - h) = r + h by omega, Nat.cast_sub g]
          push_cast; ring
      · rw [show h - r = 0 by omega]
        by_cases g2 : 256 ≤ r + h
        · rw [show min (256 * 0 + r + h) (256 * (0 + 1)) - (256 * 0 + r - h) = 256 - (r - h) by omega, Nat.cast_sub g2, Nat.cast_sub (show r - h ≤ 256 by omega), Nat.cast_sub (show h ≤ r by omega)]
          push_cast; ring
        · rw [show r + h - 256 = 0 by omega, show min (256 * 0 + r + h) (256 * (0 + 1)) - (256 * 0 + r - h) = 2 * h by omega]
          push_cast; ring
    · rw [if_neg h1]
      by_cases g : r ≤ h
      · rw [show min (256 * 0 + r + h) (256 * n) - (256 * 0 + r - h) = r + h by omega, Nat.cast_sub g]
        push_cast; ring
      · rw [show h - r = 0 by omega, show min (256 * 0 + r + h) (256 * n) - (256 * 0 + r - h) = 2 * h by omega]
        push_cast; ring
  · rw [if_neg h0]
    by_cases h1 : u + 1 = n
    · subst h1
      rw [if_pos rfl]
      by_cases g2 : 256 ≤ r + h
      · rw [show min (256 * u + r + h) (256 * (u + 1)) - (256 * u + r - h) = 256 - (r - h) by omega, Nat.cast_sub g2, Nat.cast_sub (show r - h ≤ 256 by omega), Nat.cast_sub (show h ≤ r by omega)]
        push_cast; ring
      · rw [show r + h - 256 = 0 by omega, show min (256 * u + r + h) (256 * (u + 1)) - (256 * u + r - h) = 2 * h by omega]
        push_cast; ring
    · rw [if_neg h1, show min (256 * u + r + h) (256 * n) - (256 * u + r - h) = 2 * h by
        have : 256 * (u + 2) ≤ 256 * n := by omega
        omega]
      push_cast; ring

/-- A sum over a window of twice the width, from two windows side by side. -/
theorem window_add (z : ℕ → EReal) (n w : ℕ) :
    (∑ j ∈ Finset.range w, z (n + j)) + (∑ j ∈ Finset.range w, z (n + w + j)) = ∑ j ∈ Finset.range (w + w), z (n + j) := by
  rw [Finset.sum_range_add]
  simp only [Nat.add_assoc]

/-- The window's sum from the block with its eight rows of neighbours on each side, which are zero outside the sequence. -/
theorem tot_eq {T : ℕ} (w u r : ℕ) (hw : w / 2 ≤ 8) (f : Fin T → EReal) (z : ℕ → EReal)
    (hz : ∀ n < 272, z n = if h : 8 ≤ 256 * u + n ∧ 256 * u + n - 8 < T then f ⟨256 * u + n - 8, h.2⟩ else 0) (hr : r < 256) (hw2 : w ≤ w / 2 + w / 2) :
    ∑ j ∈ Finset.range w, z (8 + r - w / 2 + j) = tot w f (256 * u + r) := by
  unfold tot
  refine Finset.sum_congr rfl fun j hj => ?_
  have hj' := Finset.mem_range.1 hj
  rw [hz _ (by omega)]
  by_cases h : w / 2 ≤ 256 * u + r + j ∧ 256 * u + r + j - w / 2 < T
  · rw [dif_pos h, dif_pos (by omega)]
    exact congrArg f (Fin.ext (by show 256 * u + (8 + r - w / 2 + j) - 8 = 256 * u + r + j - w / 2; omega))
  · rw [dif_neg h, dif_neg (by omega)]

/-! ## The mixer -/

/-- The mixed channels: eight heads of attention, then four groups of pooling. -/
def mix (att : Fin 8 → Fin 64 → EReal) (pool : Fin 4 → Fin 128 → EReal) (k : Fin 1024) : EReal :=
  if h : k.val < 512 then att ⟨k.val / 64, by omega⟩ ⟨k.val % 64, by omega⟩
  else pool ⟨(k.val - 512) / 128, by omega⟩ ⟨(k.val - 512) % 128, by omega⟩

/-- The mixed row, projected out, gated and added to the token. -/
def layer {n T : ℕ} (x : EReal) (gt : EReal) (q : Fin 8 → Fin 64 → EReal) (k v : Fin n → Fin 2 → Fin 64 → EReal)
    (p : Fin T → Fin 512 → EReal) (W : Fin 4 → Fin 128 → Fin 128 → EReal) (S : Fin 512 → EReal) (o : Fin 1024 → EReal) (t : Fin T) : EReal :=
  x + gt * ∑ c, mix (fun h d => headOut (q h) (fun s => k s ⟨h.val / 4, by omega⟩) (fun s => v s ⟨h.val / 4, by omega⟩) d)
    (poolOut p W S t) c * o c

end Cert.AttnMath

end
-- ==== Proof.AttnBody.lean ====
/- What the attention kernel's body computes for one half of a pair of heads, and for a pair. -/
module

public import proofs.«01_k».proof.Proof.Gen.KernelIdeal.Skeleton
public import proofs.«01_k».proof.Proof.AttnMath
public import Idealize.ShloMosaic.Lib.WordCmp

@[expose] public section

set_option maxRecDepth 16384

noncomputable section

open Idealize.ShloMosaic Idealize.ShloMosaic.TcCoe Idealize.SL.Sem

namespace Cert.AttnBody

open Cert.KernelIdeal Cert.KernelIdeal.Gen Cert.AttnMath

/-- The exponentials of a half's scores: its lanes of the queries against the keys, less each row's largest. -/
def expo (mk : IVec S256x128 1) (q : FVec Ideal S256x128 .bf16) (k : FVec Ideal S2304x128 .bf16) : FVec Ideal S256x2304 .f32 :=
  have s : FVec Ideal S256x2304 .f32 := matmul dot_S256x128_S2304x128_S256x2304_1_1_0_0_n_n none (select mk q (k0_pay7 (F := Ideal))) k (constant S256x2304 .f32 0x00000000#32)
  exp (subf s (broadcastTo S256x2304 (shapeCast S256x1 (multiReduction .maximumf [1] S256 s 0xFF800000#32 reduces_S256x2304_S256 (.inl rfl) rfl) shapeCasts_S256_S256x1) broadcasts_S256x1_S256x2304))

/-- The half's output: the weighted values over the total weight, on its own lanes. -/
def half (mk : IVec S256x128 1) (e : FVec Ideal S256x2304 .f32) (v : FVec Ideal S2304x128 .bf16) : FVec Ideal S256x128 .f32 :=
  select mk (divf (matmul dot_S256x2304_S2304x128_S256x128_1_0_0_1_n_n none (truncf .bf16 e bitsLt_bf16_f32) v (constant S256x128 .f32 0x00000000#32))
    (broadcastTo S256x128 (shapeCast S256x1 (multiReduction .add [1] S256 e 0x00000000#32 reduces_S256x2304_S256 (.inl rfl) rfl) shapeCasts_S256_S256x1) broadcasts_S256x1_S256x128))
    (broadcast S256x128 (Scalar.ofBits .f32 0x00000000#32))

theorem expo_at (mk : IVec S256x128 1) (q : FVec Ideal S256x128 .bf16) (k : FVec Ideal S2304x128 .bf16) (r : Fin 256) (s : Fin 2304) :
    expo mk q k (ix2 r s) = wt (fun x => ∑ l, Scalar.select (mk (ix2 r l)) ((show EReal from q (ix2 r l)) * k (ix2 x l)) 0) s := by
  unfold wt top
  pointwise [expo, k0_pay7]

theorem half_at (mk : IVec S256x128 1) (e : FVec Ideal S256x2304 .f32) (v : FVec Ideal S2304x128 .bf16) (r : Fin 256) (l : Fin 128) :
    half mk e v (ix2 r l) = Scalar.select (mk (ix2 r l)) (Ideal.div (∑ x, (show EReal from e (ix2 r x)) * v (ix2 x l)) (∑ x, (show EReal from e (ix2 r x)))) 0 := by
  pointwise [half]

theorem lo_at (r : Fin 256) (l : Fin 128) : k0_pay5 (ix2 r l) = BitVec.ofBool (decide (l.val < 64)) := by
  pointwise [k0_pay5]
  exact (by decide +kernel : ∀ l : Fin 128, IntOp.cmpi .slt (BitVec.ofNat 32 l.val) 64#32 = BitVec.ofBool (decide (l.val < 64))) l

theorem hi_at (r : Fin 256) (l : Fin 128) : k0_pay6 (ix2 r l) = BitVec.ofBool (decide (¬ l.val < 64)) := by
  pointwise [k0_pay6]
  exact (by decide +kernel : ∀ l : Fin 128, IntOp.cmpi .sge (BitVec.ofNat 32 l.val) 64#32 = BitVec.ofBool (decide (¬ l.val < 64))) l

theorem select_if (p : Prop) [Decidable p] (a b : EReal) : Scalar.select (BitVec.ofBool (decide p)) a b = if p then a else b := by
  by_cases h : p
  · rw [if_pos h]; simp only [h]; rfl
  · rw [if_neg h]; simp only [h]; rfl

/-- A sum over a pair's lanes kept on the first head's alone. -/
theorem sum_lo (f : Fin 128 → EReal) : (∑ l : Fin 128, if l.val < 64 then f l else 0) = ∑ e : Fin 64, f ⟨e.val, by omega⟩ := by
  refine (Fin.sum_univ_add (a := 64) (b := 64) (fun l : Fin 128 => if l.val < 64 then f l else 0)).trans ?_
  exact (congrArg₂ (· + ·) (Finset.sum_congr rfl fun e _ => if_pos e.isLt) (Finset.sum_eq_zero fun e _ => if_neg (by simp))).trans (add_zero _)

/-- A sum over a pair's lanes kept on the second head's alone. -/
theorem sum_hi (f : Fin 128 → EReal) : (∑ l : Fin 128, if ¬ l.val < 64 then f l else 0) = ∑ e : Fin 64, f ⟨64 + e.val, by omega⟩ := by
  refine (Fin.sum_univ_add (a := 64) (b := 64) (fun l : Fin 128 => if ¬ l.val < 64 then f l else 0)).trans ?_
  exact (congrArg₂ (· + ·) (Finset.sum_eq_zero fun e _ => if_neg (not_not.2 e.isLt)) (Finset.sum_congr rfl fun e _ => if_pos (by simp))).trans (zero_add _)

/-- Two heads side by side: the first on the lower lanes, the second on the upper. -/
def pair (q : FVec Ideal S256x128 .bf16) (ka va kb vb : FVec Ideal S2304x128 .bf16) : FVec Ideal S256x128 .f32 :=
  addf (half k0_pay5 (expo k0_pay5 q ka) va) (half k0_pay6 (expo k0_pay6 q kb) vb)

theorem pair_at (q : FVec Ideal S256x128 .bf16) (ka va kb vb : FVec Ideal S2304x128 .bf16) (r : Fin 256) (l : Fin 128) :
    pair q ka va kb vb (ix2 r l) = if l.val < 64
      then attend (fun x => ∑ e : Fin 64, (show EReal from q (ix2 r ⟨e.val, by omega⟩)) * ka (ix2 x ⟨e.val, by omega⟩)) (fun x => va (ix2 x l))
      else attend (fun x => ∑ e : Fin 64, (show EReal from q (ix2 r ⟨64 + e.val, by omega⟩)) * kb (ix2 x ⟨64 + e.val, by omega⟩)) (fun x => vb (ix2 x l)) := by
  have h0 : pair q ka va kb vb (ix2 r l) = (show EReal from half k0_pay5 (expo k0_pay5 q ka) va (ix2 r l)) + half k0_pay6 (expo k0_pay6 q kb) vb (ix2 r l) := rfl
  rw [h0, half_at, half_at, lo_at, hi_at, select_if, select_if]
  simp only [expo_at, lo_at, hi_at, select_if, sum_lo, sum_hi]
  by_cases h : l.val < 64
  · rw [if_pos h, if_pos h, if_neg (not_not.2 h)]; exact add_zero _
  · rw [if_neg h, if_neg h, if_pos h]; exact zero_add _

/-- A pair of heads' lanes of the queries. -/
abbrev laneQ (c : ℕ) (h : S256x512.Slices ![0, c] S256x128) (q : FVec Ideal S256x512 .bf16) : FVec Ideal S256x128 .bf16 :=
  extractStridedSlice S256x128 ![0, c] (shapeCast S256x512 q shapeCasts_S256x512_S256x512) h

/-- A pair of heads' lanes of the keys or the values. -/
abbrev laneK (c : ℕ) (h : S2304x256.Slices ![0, c] S2304x128) (k : FVec Ideal S1x2304x256 .bf16) : FVec Ideal S2304x128 .bf16 :=
  extractStridedSlice S2304x128 ![0, c] (shapeCast S2304x256 k shapeCasts_S1x2304x256_S2304x256) h

section
variable (q : FVec Ideal S256x512 .bf16) (k v : FVec Ideal S1x2304x256 .bf16)

theorem pair0_eq : k0_pay12 (k0_pay4 v) k0_pay6 (k0_pay9 q k v) (k0_pay10 q k) (k0_pay11 q k)
    = pair (laneQ 0 slices_S256x512_o0_0_S256x128 q) (laneK 0 slices_S2304x256_o0_0_S2304x128 k) (laneK 0 slices_S2304x256_o0_0_S2304x128 v)
      (laneK 128 slices_S2304x256_o0_128_S2304x128 k) (laneK 128 slices_S2304x256_o0_128_S2304x128 v) := rfl

theorem pair1_eq : k0_pay13 (k0_pay2 q) (k0_pay3 k) (k0_pay4 v) k0_pay5 k0_pay6 (k0_pay7 (F := Ideal))
    = pair (laneQ 128 slices_S256x512_o0_128_S256x128 q) (laneK 0 slices_S2304x256_o0_0_S2304x128 k) (laneK 0 slices_S2304x256_o0_0_S2304x128 v)
      (laneK 128 slices_S2304x256_o0_128_S2304x128 k) (laneK 128 slices_S2304x256_o0_128_S2304x128 v) := rfl

theorem pair2_eq : k0_pay17 (k0_pay3 k) (k0_pay4 v) k0_pay5 k0_pay6 (k0_pay7 (F := Ideal)) (k0_pay14 (k0_pay2 q)) (k0_pay15 (k0_pay2 q) k0_pay5 (k0_pay7 (F := Ideal)))
      (k0_pay16 (k0_pay3 k)) (constant S256x2304 .f32 0x00000000#32)
    = pair (laneQ 256 slices_S256x512_o0_256_S256x128 q) (laneK 128 slices_S2304x256_o0_128_S2304x128 k) (laneK 128 slices_S2304x256_o0_128_S2304x128 v)
      (laneK 0 slices_S2304x256_o0_0_S2304x128 k) (laneK 0 slices_S2304x256_o0_0_S2304x128 v) := rfl

theorem pair3_eq : k0_pay22 (k0_pay3 k) (k0_pay4 v) k0_pay5 k0_pay6 (k0_pay7 (F := Ideal)) (k0_pay18 (k0_pay2 q)) (k0_pay20 (k0_pay2 q) (k0_pay3 k) k0_pay5 (k0_pay7 (F := Ideal)))
      (k0_pay21 (k0_pay2 q) (k0_pay3 k) (k0_pay4 v) k0_pay5 (k0_pay7 (F := Ideal)))
    = pair (laneQ 384 slices_S256x512_o0_384_S256x128 q) (laneK 128 slices_S2304x256_o0_128_S2304x128 k) (laneK 128 slices_S2304x256_o0_128_S2304x128 v)
      (laneK 0 slices_S2304x256_o0_0_S2304x128 k) (laneK 0 slices_S2304x256_o0_0_S2304x128 v) := rfl

theorem laneQ_at (c : ℕ) (h) (hc : c + 128 ≤ 512) (r : Fin 256) (l : Fin 128) : laneQ c h q (ix2 r l) = q (ix2 r ⟨c + l.val, by omega⟩) := by
  pointwise [laneQ]

theorem laneK_at (c : ℕ) (h) (hc : c + 128 ≤ 256) (s : Fin 2304) (l : Fin 128) : laneK c h k (ix2 s l) = k (ix3 0 s ⟨c + l.val, by omega⟩) := by
  pointwise [laneK]

end

end Cert.AttnBody

end
-- ==== Proof.AttnPool.lean ====
/- What the attention kernel's body computes for one group of the pooling mixer. -/
module

public import proofs.«01_k».proof.Proof.Gen.KernelIdeal.Skeleton
public import proofs.«01_k».proof.Proof.AttnMath
public import Idealize.ShloMosaic.Lib.WordCmp

@[expose] public section

set_option maxRecDepth 16384

noncomputable section

open Idealize.ShloMosaic Idealize.ShloMosaic.TcCoe Idealize.SL.Sem

namespace Cert.AttnPool

open Cert.KernelIdeal Cert.KernelIdeal.Gen Cert.AttnMath

/-- Each row with the row before it. -/
def sum2 (z : FVec Ideal S272x128 .f32) : FVec Ideal S272x128 .f32 := addf z (dynamicRotate 0 1#32 none z rotates_S272x128_d0)

/-- Two copies of a sum, one moved down by `a` rows and one by `b`, added. -/
def widen (a b : BitVec 32) (z : FVec Ideal S272x128 .f32) : FVec Ideal S272x128 .f32 :=
  addf (dynamicRotate 0 a none z rotates_S272x128_d0) (dynamicRotate 0 b none z rotates_S272x128_d0)

/-- One group's output: the sums over the counts, less the block, through the weights, scaled. -/
def group (h w o : BitVec 32) (mp mn : Ideal .f32) (tot : FVec Ideal S272x128 .f32) (self : FVec Ideal S256x128 .f32)
    (W : FVec Ideal S1x128x128 .bf16) (S : FVec Ideal S1x128 .f32) : FVec Ideal S256x128 .f32 :=
  mulf (matmul dot_S256x128_S128x128_S256x128_1_0_0_1_n_n none
    (truncf .bf16 (subf (divf (extractStridedSlice S256x128 ![8, 0] tot slices_S272x128_o8_0_S256x128)
      (subf (subf (broadcast S256x128 (Scalar.ofBits (F := Ideal) .f32 w))
        (mulf (maximumf (subf (broadcast S256x128 (Scalar.ofBits (F := Ideal) .f32 h)) (k0_pay26 (F := Ideal))) (broadcast S256x128 (Scalar.ofBits (F := Ideal) .f32 0x00000000#32)))
          (broadcast S256x128 (Scalar.subf (Scalar.ofBits (F := Ideal) .f32 0x3F800000#32) mp))))
        (mulf (maximumf (addf (k0_pay26 (F := Ideal)) (broadcast S256x128 (Scalar.ofBits (F := Ideal) .f32 o))) (broadcast S256x128 (Scalar.ofBits (F := Ideal) .f32 0x00000000#32)))
          (broadcast S256x128 (Scalar.subf (Scalar.ofBits (F := Ideal) .f32 0x3F800000#32) mn))))) self) bitsLt_bf16_f32)
    (shapeCast S128x128 W shapeCasts_S1x128x128_S128x128) (constant S256x128 .f32 0x00000000#32))
  (broadcastTo S256x128 (shapeCast S1x128 S shapeCasts_S1x128_S1x128) broadcasts_S1x128_S256x128)

/-- A group's lanes of the block with its neighbours' rows. -/
abbrev laneE (c : ℕ) (h : S272x512.Slices ![0, c] S272x128) (z : FVec Ideal S272x512 .f32) : FVec Ideal S272x128 .f32 :=
  extractStridedSlice S272x128 ![0, c] z h

/-- A group's lanes of the block. -/
abbrev laneP (c : ℕ) (h : S256x512.Slices ![0, c] S256x128) (p : FVec Ideal S256x512 .f32) : FVec Ideal S256x128 .f32 :=
  extractStridedSlice S256x128 ![0, c] p h

section
variable (mp mn : Ideal .f32) (p : FVec Ideal S256x512 .f32) (pp pn : FVec Ideal S8x512 .f32) (W : FVec Ideal S1x128x128 .bf16) (S : FVec Ideal S1x128 .f32)

theorem group0_eq : k0_pay27 mp mn p pp pn W S = group 0x3F800000#32 0x40000000#32 0xC37F0000#32 mp mn
    (sum2 (laneE 0 slices_S272x512_o0_0_S272x128 (k0_pay25 mp mn p pp pn))) (laneP 0 slices_S256x512_o0_0_S256x128 p) W S := rfl

theorem group1_eq : k0_pay29 mp mn p (k0_pay26 (F := Ideal)) (k0_pay28 mp mn p pp pn) W S = group 0x40000000#32 0x40800000#32 0xC37E0000#32 mp mn
    (widen 1#32 271#32 (sum2 (laneE 128 slices_S272x512_o0_128_S272x128 (k0_pay25 mp mn p pp pn)))) (laneP 128 slices_S256x512_o0_128_S256x128 p) W S := rfl

theorem group2_eq : k0_pay33 mp mn p (k0_pay26 (F := Ideal)) (k0_pay31 (k0_pay25 mp mn p pp pn)) (k0_pay32 (k0_pay25 mp mn p pp pn)) W S = group 0x40800000#32 0x41000000#32 0xC37C0000#32 mp mn
    (widen 2#32 270#32 (widen 1#32 271#32 (sum2 (laneE 256 slices_S272x512_o0_256_S272x128 (k0_pay25 mp mn p pp pn))))) (laneP 256 slices_S256x512_o0_256_S256x128 p) W S := rfl

/-- The concatenation of the eight pieces, projected out. -/
def outp (v0 v1 v2 v3 v4 v5 v6 v7 : FVec Ideal S256x128 .f32) : FVec Ideal S256x1024 .f32 :=
  concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩] concatenates_S256x128_S256x128_S256x128_S256x128_S256x128_S256x128_S256x128_S256x128_S256x1024_d1

def proj (c : FVec Ideal S256x1024 .f32) (o : FVec Ideal S1024x1024 .bf16) : FVec Ideal S256x1024 .f32 :=
  matmul dot_S256x1024_S1024x1024_S256x1024_1_0_0_1_n_n none (truncf .bf16 c bitsLt_bf16_f32) (shapeCast S1024x1024 o shapeCasts_S1024x1024_S1024x1024) (constant S256x1024 .f32 0x00000000#32)

theorem pay37_eq (v0 v1 v2 v3 v4 v5 v6 : FVec Ideal S256x128 .f32) (o : FVec Ideal S1024x1024 .bf16) :
    k0_pay37 v0 v1 v2 v3 mp mn p (k0_pay26 (F := Ideal)) v4 v5 v6 (k0_pay34 (k0_pay25 mp mn p pp pn)) (k0_pay35 (k0_pay25 mp mn p pp pn)) 268#32 W S o
      = proj (outp v0 v1 v2 v3 v4 v5 v6 (group 0x41000000#32 0x41800000#32 0xC3780000#32 mp mn
    (widen 4#32 268#32 (widen 2#32 270#32 (widen 1#32 271#32 (sum2 (laneE 384 slices_S272x512_o0_384_S272x128 (k0_pay25 mp mn p pp pn)))))) (laneP 384 slices_S256x512_o0_384_S256x128 p) W S)) o := rfl

end

theorem row_word (r : Fin 256) : FloatOps.sitofp (F := Ideal) FTy.f32 (BitVec.ofNat 32 r.val) = (((r.val : ℕ) : ℝ) : EReal) := by
  have h : (BitVec.ofNat 32 r.val).toInt = (r.val : ℤ) := (by decide +kernel : ∀ r : Fin 256, (BitVec.ofNat 32 r.val).toInt = (r.val : ℤ)) r
  show ((((BitVec.ofNat 32 r.val).toInt : ℝ)) : EReal) = _
  rw [h]; norm_cast

theorem group_at (h w o : BitVec 32) (mp mn : Ideal .f32) (tot : FVec Ideal S272x128 .f32) (self : FVec Ideal S256x128 .f32)
    (W : FVec Ideal S1x128x128 .bf16) (S : FVec Ideal S1x128 .f32) (r : Fin 256) (d : Fin 128) :
    group h w o mp mn tot self W S (ix2 r d) = (∑ x : Fin 128, (Ideal.div (show EReal from tot (ix2 ⟨8 + r.val, by omega⟩ x))
        (Ideal.ofBits .f32 w - max (Ideal.ofBits .f32 h - (((r.val : ℕ) : ℝ) : EReal)) 0 * (1 - mp)
          - max ((((r.val : ℕ) : ℝ) : EReal) + Ideal.ofBits .f32 o) 0 * (1 - mn)) - (show EReal from self (ix2 r x))) * W (ix3 0 x d)) * S (ix2 0 d) := by
  pointwise [group, k0_pay26]
  simp only [row_word]

theorem sum2_at (z : FVec Ideal S272x128 .f32) (i : Fin 272) (l : Fin 128) :
    sum2 z (ix2 i l) = (show EReal from z (ix2 i l)) + z (ix2 ⟨(i.val + 272 - 1) % 272, Nat.mod_lt _ (by omega)⟩ l) := by
  pointwise [sum2]

theorem widen_at (a b : ℕ) (ha : a < 272) (hb : b < 272) (z : FVec Ideal S272x128 .f32) (i : Fin 272) (l : Fin 128) :
    widen (BitVec.ofNat 32 a) (BitVec.ofNat 32 b) z (ix2 i l) = (show EReal from z (ix2 ⟨(i.val + 272 - a) % 272, Nat.mod_lt _ (by omega)⟩ l))
      + z (ix2 ⟨(i.val + 272 - b) % 272, Nat.mod_lt _ (by omega)⟩ l) := by
  have ea : (BitVec.ofNat 32 a).toNat % 272 = a := by rw [BitVec.toNat_ofNat]; omega
  have eb : (BitVec.ofNat 32 b).toNat % 272 = b := by rw [BitVec.toNat_ofNat]; omega
  pointwise [widen]
  simp only [ea, eb]

theorem ext_at (mp mn : Ideal .f32) (p : FVec Ideal S256x512 .f32) (pp pn : FVec Ideal S8x512 .f32) (i : Fin 272) (l : Fin 512) :
    k0_pay25 mp mn p pp pn (ix2 i l) = if h : i.val < 8 then (show EReal from pp (ix2 ⟨i.val, h⟩ l)) * mp
      else if h' : i.val - 8 < 256 then p (ix2 ⟨i.val - 8, h'⟩ l) else (show EReal from pn (ix2 ⟨i.val - 8 - 256, by omega⟩ l)) * mn := by
  pointwise [k0_pay25]

/-- One lane of an extended block, row by row. -/
def col (z : FVec Ideal S272x128 .f32) (l : Fin 128) (n : ℕ) : EReal := if h : n < 272 then z (ix2 ⟨n, h⟩ l) else 0

/-- `z` holds the sums of `f` over the windows of `2 * h` rows. -/
def IsSum (h : ℕ) (z f : FVec Ideal S272x128 .f32) : Prop :=
  ∀ (l : Fin 128) (n : ℕ), n + (h + h) ≤ 272 → col z l (n + h) = ∑ j ∈ Finset.range (h + h), col f l (n + j)

theorem isSum_sum2 (f : FVec Ideal S272x128 .f32) : IsSum 1 (sum2 f) f := fun l n hn => by
  rw [Finset.sum_range_succ, Finset.sum_range_one]
  unfold col
  rw [dif_pos (show n + 1 < 272 by omega), dif_pos (show n + 1 < 272 by omega), dif_pos (show n + 0 < 272 by omega), sum2_at, add_comm]
  exact congrArg (· + _) (congrArg (fun a => f (ix2 a l)) (Fin.ext (by show (n + 1 + 272 - 1) % 272 = n + 0; omega)))

theorem isSum_widen (h b : ℕ) (hb : b + h = 272) (h0 : 0 < h) (h1 : h < 136) (z f : FVec Ideal S272x128 .f32) (hz : IsSum h z f) :
    IsSum (h + h) (widen (BitVec.ofNat 32 h) (BitVec.ofNat 32 b) z) f := fun l n hn => by
  rw [← window_add, ← hz l n (by omega), ← hz l (n + (h + h)) (by omega)]
  unfold col
  rw [dif_pos (show n + (h + h) < 272 by omega), dif_pos (show n + h < 272 by omega), dif_pos (show n + (h + h) + h < 272 by omega), widen_at _ _ (by omega) (by omega)]
  refine congrArg₂ (· + ·) ?_ ?_
  · exact congrArg (fun a => z (ix2 a l)) (Fin.ext (by show (n + (h + h) + 272 - h) % 272 = n + h; omega))
  · exact congrArg (fun a => z (ix2 a l)) (Fin.ext (by show (n + (h + h) + 272 - b) % 272 = n + (h + h) + h; omega))

theorem laneE_at (c : ℕ) (h) (hc : c + 128 ≤ 512) (z : FVec Ideal S272x512 .f32) (i : Fin 272) (l : Fin 128) :
    laneE c h z (ix2 i l) = z (ix2 i ⟨c + l.val, by omega⟩) := by
  pointwise [laneE]

theorem laneP_at (c : ℕ) (h) (hc : c + 128 ≤ 512) (z : FVec Ideal S256x512 .f32) (i : Fin 256) (l : Fin 128) :
    laneP c h z (ix2 i l) = z (ix2 i ⟨c + l.val, by omega⟩) := by
  pointwise [laneP]

/-- The extended block is the sequence around the block, zero outside the sequence. -/
theorem ext_val (n u : ℕ) (hu : u < n) (mp mn : Ideal .f32) (hmp : (mp : EReal) = if u = 0 then 0 else 1) (hmn : (mn : EReal) = if u + 1 = n then 0 else 1)
    (p : FVec Ideal S256x512 .f32) (pp pn : FVec Ideal S8x512 .f32) (f : Fin (256 * n) → Fin 512 → EReal)
    (hp : ∀ (r : Fin 256) l, p (ix2 r l) = f ⟨256 * u + r.val, by omega⟩ l)
    (hpp : ∀ (h : u ≠ 0) (r : Fin 8) l, pp (ix2 r l) = f ⟨256 * u + r.val - 8, by omega⟩ l)
    (hpn : ∀ (h : u + 1 ≠ n) (r : Fin 8) l, pn (ix2 r l) = f ⟨256 * u + 256 + r.val, by omega⟩ l) (i : Fin 272) (l : Fin 512) :
    k0_pay25 mp mn p pp pn (ix2 i l) = if h : 8 ≤ 256 * u + i.val ∧ 256 * u + i.val - 8 < 256 * n then f ⟨256 * u + i.val - 8, h.2⟩ l else 0 := by
  rw [ext_at]
  by_cases h1 : i.val < 8
  · rw [dif_pos h1, hmp]
    by_cases h2 : u = 0
    · rw [if_pos h2, mul_zero, dif_neg (by omega)]
    · rw [if_neg h2, mul_one, dif_pos (by omega)]; exact hpp h2 _ _
  · rw [dif_neg h1]
    by_cases h3 : i.val - 8 < 256
    · rw [dif_pos h3, dif_pos (by omega), hp]
      exact congrArg (fun a => f a l) (Fin.ext (by show 256 * u + (i.val - 8) = 256 * u + i.val - 8; omega))
    · rw [dif_neg h3, hmn]
      by_cases h2 : u + 1 = n
      · rw [if_pos h2, mul_zero, dif_neg (by omega)]
      · rw [if_neg h2, mul_one, dif_pos (by omega)]
        refine (hpn h2 _ _).trans ?_
        exact congrArg (fun a => f a l) (Fin.ext (by show 256 * u + 256 + (i.val - 8 - 256) = 256 * u + i.val - 8; omega))

theorem group_val (n u : ℕ) (hu : u < n) (mp mn : Ideal .f32) (hmp : (mp : EReal) = if u = 0 then 0 else 1) (hmn : (mn : EReal) = if u + 1 = n then 0 else 1)
    (p : FVec Ideal S256x512 .f32) (pp pn : FVec Ideal S8x512 .f32) (f : Fin (256 * n) → Fin 512 → EReal)
    (hp : ∀ (r : Fin 256) l, p (ix2 r l) = f ⟨256 * u + r.val, by omega⟩ l)
    (hpp : ∀ (h : u ≠ 0) (r : Fin 8) l, pp (ix2 r l) = f ⟨256 * u + r.val - 8, by omega⟩ l)
    (hpn : ∀ (h : u + 1 ≠ n) (r : Fin 8) l, pn (ix2 r l) = f ⟨256 * u + 256 + r.val, by omega⟩ l)
    (WW : Fin 4 → Fin 128 → Fin 128 → EReal) (SS : Fin 512 → EReal) (W : FVec Ideal S1x128x128 .bf16) (S : FVec Ideal S1x128 .f32)
    (g : Fin 4) (h c : ℕ) (hh : h + h = 2 ^ (g.val + 1)) (h8 : h ≤ 8) (hc : c = 128 * g.val) (hb wb ob : BitVec 32)
    (eh : Ideal.ofBits .f32 hb = ((h : ℝ) : EReal)) (ew : Ideal.ofBits .f32 wb = (((2 * h : ℕ) : ℝ) : EReal))
    (eo : Ideal.ofBits .f32 ob = (((h : ℝ) - 256 : ℝ) : EReal)) (hW : ∀ x d, W (ix3 0 x d) = WW g x d) (hS : ∀ d : Fin 128, S (ix2 0 d) = SS ⟨128 * g.val + d.val, by omega⟩)
    (t : FVec Ideal S272x128 .f32) (se) (sp) (ht : IsSum h t (laneE c se (k0_pay25 mp mn p pp pn))) (r : Fin 256) (d : Fin 128) :
    group hb wb ob mp mn t (laneP c sp p) W S (ix2 r d) = poolOut f WW SS ⟨256 * u + r.val, by omega⟩ g d := by
  subst hc
  rw [group_at, eh, ew, eo, cnt_eq h n u r.val h8 hu r.isLt mp mn hmp hmn]
  unfold poolOut
  rw [hS]
  refine congrArg (· * _) (Finset.sum_congr rfl fun x _ => ?_)
  rw [hW, ← hh, show 2 * h = h + h by omega]
  refine congrArg (· * _) (congrArg₂ (· - ·) (congrArg₂ Ideal.div ?_ rfl) ((laneP_at _ _ (by omega) _ _ _).trans (hp _ _)))
  have e := ht x (8 + r.val - h) (by omega)
  rw [show 8 + r.val - h + h = 8 + r.val by omega] at e
  have e' : col t x (8 + r.val) = t (ix2 ⟨8 + r.val, by omega⟩ x) := dif_pos _
  rw [e'] at e
  refine e.trans ?_
  have hd : (h + h) / 2 = h := by omega
  have k := tot_eq (h + h) u r.val (by omega) (fun i => f i ⟨128 * g.val + x.val, by omega⟩) (col (laneE (128 * g.val) se (k0_pay25 mp mn p pp pn)) x) (fun m hm => by
    refine (dif_pos hm).trans ?_
    rw [laneE_at _ _ (by omega)]
    exact ext_val n u hu mp mn hmp hmn p pp pn f hp hpp hpn ⟨m, hm⟩ _) r.isLt (by omega)
  rw [hd] at k
  exact k

theorem outp_at (v : Fin 8 → FVec Ideal S256x128 .f32) (r : Fin 256) (c : Fin 8) (l : Fin 128) :
    outp (v 0) (v 1) (v 2) (v 3) (v 4) (v 5) (v 6) (v 7) (ix2 r ⟨128 * c.val + l.val, by omega⟩) = v c (ix2 r l) := by
  obtain ⟨c, hc⟩ := c
  pointwise [outp]
  interval_cases c
  all_goals
    repeat' first | rw [dif_pos (by omega)] | rw [dif_neg (by omega)]
    refine congrArg (v _) (congrArg (ix2 r) (Fin.ext ?_))
    dsimp only
    omega

theorem proj_at (c : FVec Ideal S256x1024 .f32) (o : FVec Ideal S1024x1024 .bf16) (r : Fin 256) (l : Fin 1024) :
    proj c o (ix2 r l) = ∑ k : Fin 1024, (show EReal from c (ix2 r k)) * o (ix2 k l) := by
  pointwise [proj]

end Cert.AttnPool

end
-- ==== Proof.AttnCore.lean ====
/- What the attention kernel's body stores at one index of its block: the layer, over what its blocks hold. -/
module

public import proofs.«01_k».proof.Proof.AttnBody
public import proofs.«01_k».proof.Proof.AttnPool

@[expose] public section

set_option maxRecDepth 16384

noncomputable section

open Idealize.ShloMosaic Idealize.ShloMosaic.TcCoe Idealize.SL.Sem

namespace Cert.AttnCore

open Cert.KernelIdeal Cert.KernelIdeal.Gen Cert.AttnMath Cert.AttnBody Cert.AttnPool

/-- The key head in lane `c` of the doubled keys: the heads in order, then swapped. -/
def kvOf (c : ℕ) : Fin 2 := if c < 64 then 0 else if c < 192 then 1 else 0

/-- A pair of heads reads its key head from the lanes that hold it, however many keys there are. -/
theorem pair_fn {n : ℕ} (q : Fin 256 → Fin 512 → EReal) (k v : Fin n → Fin 256 → EReal)
    (Q : Fin 256 → Fin 8 → Fin 64 → EReal) (K V : Fin n → Fin 2 → Fin 64 → EReal)
    (hq : ∀ r (h : Fin 8) (e : Fin 64), q r ⟨64 * h.val + e.val, by omega⟩ = Q r h e * eighth)
    (hk : ∀ s (c : Fin 256), k s c = K s (kvOf c.val) ⟨c.val % 64, by omega⟩)
    (hv : ∀ s (c : Fin 256), v s c = V s (kvOf c.val) ⟨c.val % 64, by omega⟩)
    (a : Fin 4) (cq ca cb : ℕ) (hcq : cq = 128 * a.val) (ha : ca + 128 ≤ 256) (hb : cb + 128 ≤ 256) (da : ca % 64 = 0) (db : cb % 64 = 0)
    (ka : ∀ e < 64, kvOf (ca + e) = ⟨2 * a.val / 4, by omega⟩) (kb : ∀ e < 64, kvOf (cb + (64 + e)) = ⟨(2 * a.val + 1) / 4, by omega⟩) (r : Fin 256) (l : Fin 128) :
    (if l.val < 64
      then attend (fun x => ∑ e : Fin 64, q r ⟨cq + e.val, by omega⟩ * k x ⟨ca + e.val, by omega⟩) (fun x => v x ⟨ca + l.val, by omega⟩)
      else attend (fun x => ∑ e : Fin 64, q r ⟨cq + (64 + e.val), by omega⟩ * k x ⟨cb + (64 + e.val), by omega⟩) (fun x => v x ⟨cb + l.val, by omega⟩))
      = headOut (Q r ⟨2 * a.val + l.val / 64, by omega⟩) (fun s => K s ⟨(2 * a.val + l.val / 64) / 4, by omega⟩)
          (fun s => V s ⟨(2 * a.val + l.val / 64) / 4, by omega⟩) ⟨l.val % 64, by omega⟩ := by
  subst hcq
  have e0 : ∀ (b : Fin 2) (e : Fin 64), q r (⟨128 * a.val + (64 * b.val + e.val), by omega⟩) = Q r ⟨2 * a.val + b.val, by omega⟩ e * eighth := fun b e => by
    refine Eq.trans ?_ (hq r ⟨2 * a.val + b.val, by omega⟩ e)
    exact congrArg (fun c => q r c) (Fin.ext (by show 128 * a.val + (64 * b.val + e.val) = 64 * (2 * a.val + b.val) + e.val; omega))
  by_cases hl : l.val < 64
  · rw [if_pos hl]
    have el : l.val / 64 = 0 := by omega
    have em : l.val % 64 = l.val := by omega
    unfold headOut
    simp only [hk, hv]
    have kd : ∀ e : Fin 64, (⟨(ca + e.val) % 64, by omega⟩ : Fin 64) = e := fun e => Fin.ext (by show (ca + e.val) % 64 = e.val; omega)
    refine congrArg₂ attend (funext fun x => Finset.sum_congr rfl fun e _ => congrArg₂ (· * ·) ?_ ?_) (funext fun x => ?_)
    · refine Eq.trans ?_ ((e0 0 e).trans ?_)
      · exact congrArg (fun c => q r c) (Fin.ext (by show 128 * a.val + e.val = 128 * a.val + (64 * 0 + e.val); omega))
      · exact congrArg (fun h => Q r h e * eighth) (Fin.ext (by show 2 * a.val + 0 = 2 * a.val + l.val / 64; omega))
    · rw [ka e.val e.isLt, kd]
      exact congrArg (fun h => K x h e) (Fin.ext (by show 2 * a.val / 4 = (2 * a.val + l.val / 64) / 4; omega))
    · rw [ka l.val hl]
      exact congrArg₂ (fun h e => V x h e) (Fin.ext (by show 2 * a.val / 4 = (2 * a.val + l.val / 64) / 4; omega)) (Fin.ext (by show (ca + l.val) % 64 = l.val % 64; omega))
  · rw [if_neg hl]
    have el : l.val / 64 = 1 := by omega
    unfold headOut
    simp only [hk, hv]
    have kd : ∀ e : Fin 64, (⟨(cb + (64 + e.val)) % 64, by omega⟩ : Fin 64) = e := fun e => Fin.ext (by show (cb + (64 + e.val)) % 64 = e.val; omega)
    refine congrArg₂ attend (funext fun x => Finset.sum_congr rfl fun e _ => congrArg₂ (· * ·) ?_ ?_) (funext fun x => ?_)
    · refine Eq.trans ?_ ((e0 1 e).trans ?_)
      · exact congrArg (fun c => q r c) (Fin.ext (by show 128 * a.val + (64 + e.val) = 128 * a.val + (64 * 1 + e.val); omega))
      · exact congrArg (fun h => Q r h e * eighth) (Fin.ext (by show 2 * a.val + 1 = 2 * a.val + l.val / 64; omega))
    · rw [kb e.val e.isLt, kd]
      exact congrArg (fun h => K x h e) (Fin.ext (by show (2 * a.val + 1) / 4 = (2 * a.val + l.val / 64) / 4; omega))
    · have := kb (l.val - 64) (by omega)
      rw [show cb + (64 + (l.val - 64)) = cb + l.val by omega] at this
      rw [this]
      exact congrArg₂ (fun h e => V x h e) (Fin.ext (by show (2 * a.val + 1) / 4 = (2 * a.val + l.val / 64) / 4; omega)) (Fin.ext (by show (cb + l.val) % 64 = l.val % 64; omega))

/-- The mixed channels, a piece of 128 lanes at a time. -/
theorem mix_piece (att : Fin 8 → Fin 64 → EReal) (pool : Fin 4 → Fin 128 → EReal) (c : Fin 8) (l : Fin 128) :
    mix att pool ⟨128 * c.val + l.val, by omega⟩ = if h : c.val < 4 then att ⟨2 * c.val + l.val / 64, by omega⟩ ⟨l.val % 64, by omega⟩
      else pool ⟨c.val - 4, by omega⟩ l := by
  unfold mix
  dsimp only
  by_cases h : c.val < 4
  · rw [dif_pos h, dif_pos (by omega)]
    exact congrArg₂ att (Fin.ext (by show (128 * c.val + l.val) / 64 = 2 * c.val + l.val / 64; omega)) (Fin.ext (by show (128 * c.val + l.val) % 64 = l.val % 64; omega))
  · rw [dif_neg h, dif_neg (by omega)]
    exact congrArg₂ pool (Fin.ext (by show (128 * c.val + l.val - 512) / 128 = c.val - 4; omega)) (Fin.ext (by show (128 * c.val + l.val - 512) % 128 = l.val; omega))

theorem b1 : Ideal.ofBits .f32 0x3F800000#32 = (((1 : ℕ) : ℝ) : EReal) := by simp
theorem b2 : Ideal.ofBits .f32 0x40000000#32 = (((2 : ℕ) : ℝ) : EReal) := by simp [Ideal.ofBits, Ideal.ieee, -EReal.coe_mul]; norm_num
theorem b4 : Ideal.ofBits .f32 0x40800000#32 = (((4 : ℕ) : ℝ) : EReal) := by simp [Ideal.ofBits, Ideal.ieee, -EReal.coe_mul]; norm_num
theorem b8 : Ideal.ofBits .f32 0x41000000#32 = (((8 : ℕ) : ℝ) : EReal) := by simp [Ideal.ofBits, Ideal.ieee, -EReal.coe_mul]; norm_num
theorem b16 : Ideal.ofBits .f32 0x41800000#32 = (((16 : ℕ) : ℝ) : EReal) := by simp [Ideal.ofBits, Ideal.ieee, -EReal.coe_mul]; norm_num
theorem o1 : Ideal.ofBits .f32 0xC37F0000#32 = ((((1 : ℕ) : ℝ) - 256 : ℝ) : EReal) := by simp [Ideal.ofBits, Ideal.ieee, -EReal.coe_mul, -EReal.coe_neg, -EReal.coe_sub]; norm_num
theorem o2 : Ideal.ofBits .f32 0xC37E0000#32 = ((((2 : ℕ) : ℝ) - 256 : ℝ) : EReal) := by simp [Ideal.ofBits, Ideal.ieee, -EReal.coe_mul, -EReal.coe_neg, -EReal.coe_sub]; norm_num
theorem o4 : Ideal.ofBits .f32 0xC37C0000#32 = ((((4 : ℕ) : ℝ) - 256 : ℝ) : EReal) := by simp [Ideal.ofBits, Ideal.ieee, -EReal.coe_mul, -EReal.coe_neg, -EReal.coe_sub]; norm_num
theorem o8 : Ideal.ofBits .f32 0xC3780000#32 = ((((8 : ℕ) : ℝ) - 256 : ℝ) : EReal) := by simp [Ideal.ofBits, Ideal.ieee, -EReal.coe_mul, -EReal.coe_neg, -EReal.coe_sub]; norm_num

/-- The four pairs, each reading its key head where the doubled keys hold it. -/
theorem pairs_val {n : ℕ} (q : Fin 256 → Fin 512 → EReal) (k v : Fin n → Fin 256 → EReal)
    (Q : Fin 256 → Fin 8 → Fin 64 → EReal) (K V : Fin n → Fin 2 → Fin 64 → EReal)
    (hq : ∀ r (h : Fin 8) (e : Fin 64), q r ⟨64 * h.val + e.val, by omega⟩ = Q r h e * eighth)
    (hk : ∀ s (c : Fin 256), k s c = K s (kvOf c.val) ⟨c.val % 64, by omega⟩)
    (hv : ∀ s (c : Fin 256), v s c = V s (kvOf c.val) ⟨c.val % 64, by omega⟩)
    (y : Fin 4 → Fin 256 → Fin 128 → EReal) (ca cb : Fin 4 → ℕ) (ea : ca = ![0, 0, 128, 128]) (eb : cb = ![128, 128, 0, 0])
    (ha : ∀ a, ca a + 128 ≤ 256) (hb : ∀ a, cb a + 128 ≤ 256)
    (hy : ∀ (a : Fin 4) r (l : Fin 128), y a r l = if l.val < 64
      then attend (fun x => ∑ e : Fin 64, q r ⟨128 * a.val + e.val, by omega⟩ * k x ⟨ca a + e.val, by have := ha a; omega⟩) (fun x => v x ⟨ca a + l.val, by have := ha a; omega⟩)
      else attend (fun x => ∑ e : Fin 64, q r ⟨128 * a.val + (64 + e.val), by omega⟩ * k x ⟨cb a + (64 + e.val), by have := hb a; omega⟩) (fun x => v x ⟨cb a + l.val, by have := hb a; omega⟩))
    (a : Fin 4) (r : Fin 256) (l : Fin 128) :
    y a r l = headOut (Q r ⟨2 * a.val + l.val / 64, by omega⟩) (fun s => K s ⟨(2 * a.val + l.val / 64) / 4, by omega⟩)
          (fun s => V s ⟨(2 * a.val + l.val / 64) / 4, by omega⟩) ⟨l.val % 64, by omega⟩ := by
  have ka : ∀ e < 64, kvOf (0 + e) = 0 := fun e he => by unfold kvOf; rw [if_pos (by omega)]
  have ka' : ∀ e < 64, kvOf (128 + e) = 1 := fun e he => by unfold kvOf; rw [if_neg (by omega), if_pos (by omega)]
  have kb : ∀ e < 64, kvOf (128 + (64 + e)) = 0 := fun e he => by unfold kvOf; rw [if_neg (by omega), if_neg (by omega)]
  have kb' : ∀ e < 64, kvOf (0 + (64 + e)) = 1 := fun e he => by unfold kvOf; rw [if_neg (by omega), if_pos (by omega)]
  rw [hy]
  subst ea eb
  refine pair_fn q k v Q K V hq hk hv a _ _ _ rfl (ha a) (hb a) ?_ ?_ ?_ ?_ r l
  · fin_cases a <;> rfl
  · fin_cases a <;> rfl
  · fin_cases a <;> first | exact ka | exact ka'
  · fin_cases a <;> first | exact kb | exact kb'

/-- The body's value, whatever four pieces hold the heads' outputs. -/
theorem core_of {N : ℕ} (n u : ℕ) (hu : u < n) (mp mn : Ideal .f32) (hmp : (mp : EReal) = if u = 0 then 0 else 1) (hmn : (mn : EReal) = if u + 1 = n then 0 else 1)
    (x : FVec Ideal S256x1024 .f32) (gt : FVec Ideal S1x1x1024 .f32) (y0 y1 y2 y3 : FVec Ideal S256x128 .f32)
    (p : FVec Ideal S256x512 .f32) (pp pn : FVec Ideal S8x512 .f32) (W0 W1 W2 W3 : FVec Ideal S1x128x128 .bf16) (S0 S1 S2 S3 : FVec Ideal S1x128 .f32)
    (o : FVec Ideal S1024x1024 .bf16)
    (Q : Fin 256 → Fin 8 → Fin 64 → EReal) (K V : Fin N → Fin 2 → Fin 64 → EReal) (f : Fin (256 * n) → Fin 512 → EReal)
    (WW : Fin 4 → Fin 128 → Fin 128 → EReal) (SS : Fin 512 → EReal)
    (hy : ∀ (a : Fin 4) (r : Fin 256) (l : Fin 128), (![y0, y1, y2, y3] a) (ix2 r l)
      = headOut (Q r ⟨2 * a.val + l.val / 64, by omega⟩) (fun s => K s ⟨(2 * a.val + l.val / 64) / 4, by omega⟩)
          (fun s => V s ⟨(2 * a.val + l.val / 64) / 4, by omega⟩) ⟨l.val % 64, by omega⟩)
    (hp : ∀ (r : Fin 256) l, p (ix2 r l) = f ⟨256 * u + r.val, by omega⟩ l)
    (hpp : ∀ (h : u ≠ 0) (r : Fin 8) l, pp (ix2 r l) = f ⟨256 * u + r.val - 8, by omega⟩ l)
    (hpn : ∀ (h : u + 1 ≠ n) (r : Fin 8) l, pn (ix2 r l) = f ⟨256 * u + 256 + r.val, by omega⟩ l)
    (hW0 : ∀ x d, W0 (ix3 0 x d) = WW 0 x d) (hW1 : ∀ x d, W1 (ix3 0 x d) = WW 1 x d) (hW2 : ∀ x d, W2 (ix3 0 x d) = WW 2 x d) (hW3 : ∀ x d, W3 (ix3 0 x d) = WW 3 x d)
    (hS0 : ∀ d : Fin 128, S0 (ix2 0 d) = SS ⟨d.val, by omega⟩) (hS1 : ∀ d : Fin 128, S1 (ix2 0 d) = SS ⟨128 + d.val, by omega⟩)
    (hS2 : ∀ d : Fin 128, S2 (ix2 0 d) = SS ⟨256 + d.val, by omega⟩) (hS3 : ∀ d : Fin 128, S3 (ix2 0 d) = SS ⟨384 + d.val, by omega⟩)
    (r : Fin 256) (l : Fin 1024) :
    k0_pay1 x (k0_pay36 gt) (k0_pay37 y0 y1 y2 y3
      mp mn p (k0_pay26 (F := Ideal)) (k0_pay27 mp mn p pp pn W0 S0)
      (k0_pay29 mp mn p (k0_pay26 (F := Ideal)) (k0_pay28 mp mn p pp pn) W1 S1)
      (k0_pay33 mp mn p (k0_pay26 (F := Ideal)) (k0_pay31 (k0_pay25 mp mn p pp pn)) (k0_pay32 (k0_pay25 mp mn p pp pn)) W2 S2)
      (k0_pay34 (k0_pay25 mp mn p pp pn)) (k0_pay35 (k0_pay25 mp mn p pp pn)) 268#32 W3 S3 o) (ix2 r l)
    = layer (x (ix2 r l)) (gt (ix3 0 0 l)) (Q r) K V f WW SS (fun c => o (ix2 c l)) ⟨256 * u + r.val, by omega⟩ := by
  rw [group0_eq, group1_eq, group2_eq, pay37_eq]
  have e : ∀ y : FVec Ideal S256x1024 .f32, k0_pay1 x (k0_pay36 gt) y (ix2 r l)
      = (show EReal from x (ix2 r l)) + (show EReal from gt (ix3 0 0 l)) * (show EReal from y (ix2 r l)) := fun y => by
    pointwise [k0_pay1, k0_pay36]
  rw [e, proj_at]
  unfold layer
  refine congrArg₂ (· + ·) rfl (congrArg₂ (· * ·) rfl (Finset.sum_congr rfl fun c _ => congrArg (· * _) ?_))
  obtain ⟨c, l', rfl⟩ : ∃ (c' : Fin 8) (l' : Fin 128), c = ⟨128 * c'.val + l'.val, by omega⟩ :=
    ⟨⟨c.val / 128, by omega⟩, ⟨c.val % 128, by omega⟩, Fin.ext (by show c.val = 128 * (c.val / 128) + c.val % 128; omega)⟩
  rw [mix_piece]
  refine (outp_at ![_, _, _, _, _, _, _, _] r c l').trans ?_
  obtain ⟨c, hc⟩ := c
  have s1 := isSum_sum2 (laneE 0 slices_S272x512_o0_0_S272x128 (k0_pay25 mp mn p pp pn))
  have s2 := isSum_widen 1 271 rfl (by decide) (by decide) _ _ (isSum_sum2 (laneE 128 slices_S272x512_o0_128_S272x128 (k0_pay25 mp mn p pp pn)))
  have s3 := isSum_widen 2 270 rfl (by decide) (by decide) _ _ (isSum_widen 1 271 rfl (by decide) (by decide) _ _ (isSum_sum2 (laneE 256 slices_S272x512_o0_256_S272x128 (k0_pay25 mp mn p pp pn))))
  have s4 := isSum_widen 4 268 rfl (by decide) (by decide) _ _ (isSum_widen 2 270 rfl (by decide) (by decide) _ _ (isSum_widen 1 271 rfl (by decide) (by decide) _ _ (isSum_sum2 (laneE 384 slices_S272x512_o0_384_S272x128 (k0_pay25 mp mn p pp pn)))))
  interval_cases c
  · exact hy 0 r l'
  · exact hy 1 r l'
  · exact hy 2 r l'
  · exact hy 3 r l'
  · exact group_val n u hu mp mn hmp hmn p pp pn f hp hpp hpn WW SS W0 S0 0 1 0 rfl (by decide) rfl _ _ _ b1 b2 o1 hW0
      (fun d => (hS0 d).trans (congrArg SS (Fin.ext (by show d.val = 128 * 0 + d.val; omega)))) _ _ _ s1 r l'
  · exact group_val n u hu mp mn hmp hmn p pp pn f hp hpp hpn WW SS W1 S1 1 2 128 rfl (by decide) rfl _ _ _ b2 b4 o2 hW1 hS1 _ _ _ s2 r l'
  · exact group_val n u hu mp mn hmp hmn p pp pn f hp hpp hpn WW SS W2 S2 2 4 256 rfl (by decide) rfl _ _ _ b4 b8 o4 hW2 hS2 _ _ _ s3 r l'
  · exact group_val n u hu mp mn hmp hmn p pp pn f hp hpp hpn WW SS W3 S3 3 8 384 rfl (by decide) rfl _ _ _ b8 b16 o8 hW3 hS3 _ _ _ s4 r l'

theorem core (n u : ℕ) (hu : u < n) (mp mn : Ideal .f32) (hmp : (mp : EReal) = if u = 0 then 0 else 1) (hmn : (mn : EReal) = if u + 1 = n then 0 else 1)
    (x : FVec Ideal S256x1024 .f32) (gt : FVec Ideal S1x1x1024 .f32)
    (q : FVec Ideal S256x512 .bf16) (k v : FVec Ideal S1x2304x256 .bf16)
    (p : FVec Ideal S256x512 .f32) (pp pn : FVec Ideal S8x512 .f32) (W0 W1 W2 W3 : FVec Ideal S1x128x128 .bf16) (S0 S1 S2 S3 : FVec Ideal S1x128 .f32)
    (o : FVec Ideal S1024x1024 .bf16)
    (Q : Fin 256 → Fin 8 → Fin 64 → EReal) (K V : Fin 2304 → Fin 2 → Fin 64 → EReal) (f : Fin (256 * n) → Fin 512 → EReal)
    (WW : Fin 4 → Fin 128 → Fin 128 → EReal) (SS : Fin 512 → EReal)
    (hq : ∀ r (h : Fin 8) (e : Fin 64), q (ix2 r ⟨64 * h.val + e.val, by omega⟩) = Q r h e * eighth)
    (hk : ∀ s (c : Fin 256), k (ix3 0 s c) = K s (kvOf c.val) ⟨c.val % 64, by omega⟩)
    (hv : ∀ s (c : Fin 256), v (ix3 0 s c) = V s (kvOf c.val) ⟨c.val % 64, by omega⟩)
    (hp : ∀ (r : Fin 256) l, p (ix2 r l) = f ⟨256 * u + r.val, by omega⟩ l)
    (hpp : ∀ (h : u ≠ 0) (r : Fin 8) l, pp (ix2 r l) = f ⟨256 * u + r.val - 8, by omega⟩ l)
    (hpn : ∀ (h : u + 1 ≠ n) (r : Fin 8) l, pn (ix2 r l) = f ⟨256 * u + 256 + r.val, by omega⟩ l)
    (hW0 : ∀ x d, W0 (ix3 0 x d) = WW 0 x d) (hW1 : ∀ x d, W1 (ix3 0 x d) = WW 1 x d) (hW2 : ∀ x d, W2 (ix3 0 x d) = WW 2 x d) (hW3 : ∀ x d, W3 (ix3 0 x d) = WW 3 x d)
    (hS0 : ∀ d : Fin 128, S0 (ix2 0 d) = SS ⟨d.val, by omega⟩) (hS1 : ∀ d : Fin 128, S1 (ix2 0 d) = SS ⟨128 + d.val, by omega⟩)
    (hS2 : ∀ d : Fin 128, S2 (ix2 0 d) = SS ⟨256 + d.val, by omega⟩) (hS3 : ∀ d : Fin 128, S3 (ix2 0 d) = SS ⟨384 + d.val, by omega⟩)
    (r : Fin 256) (l : Fin 1024) :
    k0_pay1 x (k0_pay36 gt) (k0_pay37
      (k0_pay12 (k0_pay4 v) k0_pay6 (k0_pay9 q k v) (k0_pay10 q k) (k0_pay11 q k))
      (k0_pay13 (k0_pay2 q) (k0_pay3 k) (k0_pay4 v) k0_pay5 k0_pay6 (k0_pay7 (F := Ideal)))
      (k0_pay17 (k0_pay3 k) (k0_pay4 v) k0_pay5 k0_pay6 (k0_pay7 (F := Ideal)) (k0_pay14 (k0_pay2 q)) (k0_pay15 (k0_pay2 q) k0_pay5 (k0_pay7 (F := Ideal)))
        (k0_pay16 (k0_pay3 k)) (constant S256x2304 .f32 0x00000000#32))
      (k0_pay22 (k0_pay3 k) (k0_pay4 v) k0_pay5 k0_pay6 (k0_pay7 (F := Ideal)) (k0_pay18 (k0_pay2 q)) (k0_pay20 (k0_pay2 q) (k0_pay3 k) k0_pay5 (k0_pay7 (F := Ideal)))
        (k0_pay21 (k0_pay2 q) (k0_pay3 k) (k0_pay4 v) k0_pay5 (k0_pay7 (F := Ideal))))
      mp mn p (k0_pay26 (F := Ideal)) (k0_pay27 mp mn p pp pn W0 S0)
      (k0_pay29 mp mn p (k0_pay26 (F := Ideal)) (k0_pay28 mp mn p pp pn) W1 S1)
      (k0_pay33 mp mn p (k0_pay26 (F := Ideal)) (k0_pay31 (k0_pay25 mp mn p pp pn)) (k0_pay32 (k0_pay25 mp mn p pp pn)) W2 S2)
      (k0_pay34 (k0_pay25 mp mn p pp pn)) (k0_pay35 (k0_pay25 mp mn p pp pn)) 268#32 W3 S3 o) (ix2 r l)
    = layer (x (ix2 r l)) (gt (ix3 0 0 l)) (Q r) K V f WW SS (fun c => o (ix2 c l)) ⟨256 * u + r.val, by omega⟩ := by
  rw [pair0_eq, pair1_eq, pair2_eq, pair3_eq]
  refine core_of n u hu mp mn hmp hmn x gt _ _ _ _ p pp pn W0 W1 W2 W3 S0 S1 S2 S3 o Q K V f WW SS ?_ hp hpp hpn hW0 hW1 hW2 hW3 hS0 hS1 hS2 hS3 r l
  refine pairs_val (fun r c => q (ix2 r c)) (fun s c => k (ix3 0 s c)) (fun s c => v (ix3 0 s c)) Q K V hq hk hv _ ![0, 0, 128, 128] ![128, 128, 0, 0] rfl rfl
    (by decide) (by decide) fun a r l => ?_
  obtain ⟨a, ha⟩ := a
  interval_cases a
  all_goals
    refine (pair_at _ _ _ _ _ r l).trans ?_
    simp only [laneQ_at _ 0 _ (by decide), laneQ_at _ 128 _ (by decide), laneQ_at _ 256 _ (by decide), laneQ_at _ 384 _ (by decide), laneK_at _ 0 _ (by decide), laneK_at _ 128 _ (by decide)]
    rfl

end Cert.AttnCore

end
-- ==== Proof.AttnOut.lean ====
/- What the attention kernel's body leaves in its output block, over the blocks of its inputs. -/
module

public import proofs.«01_k».proof.Proof.Gen.KernelIdeal.Frame
public import proofs.«01_k».proof.Proof.AttnCore
public import Idealize.ShloMosaic.Lib.Claim

@[expose] public section

set_option maxRecDepth 16384

noncomputable section

open Idealize.ShloMosaic Idealize.ShloMosaic.TcCoe Idealize.SL.Sem

namespace Cert.AttnOut

open Cert.KernelIdeal Cert.KernelIdeal.Gen Cert.AttnMath Cert.AttnBody Cert.AttnCore

variable (i : grid0.Coords) (x0 : FVec Ideal S256x1024 .f32) (x1 : FVec Ideal S1x6x1024 .f32) (x2 : FVec Ideal S256x512 .bf16)
  (x3 x4 : FVec Ideal S1x2304x256 .bf16) (x5 : FVec Ideal S256x512 .f32) (x6 x7 : FVec Ideal S8x512 .f32) (x8 : FVec Ideal S4x128x128 .bf16)
  (x9 : FVec Ideal S1x512 .f32) (x10 : FVec Ideal S1024x1024 .bf16)

theorem out_at (n u : ℕ) (hu : u < n) (hmp : (k0_pay23 (F := Ideal) (BitVec.ofNat 32 (i 0).val) : EReal) = if u = 0 then 0 else 1)
    (hmn : (k0_pay24 (F := Ideal) (BitVec.ofNat 32 (i 0).val) : EReal) = if u + 1 = n then 0 else 1)
    (Q : Fin 256 → Fin 8 → Fin 64 → EReal) (K V : Fin 2304 → Fin 2 → Fin 64 → EReal) (f : Fin (256 * n) → Fin 512 → EReal)
    (hq : ∀ r (h : Fin 8) (e : Fin 64), x2 (ix2 r ⟨64 * h.val + e.val, by omega⟩) = Q r h e * eighth)
    (hk : ∀ s (c : Fin 256), x3 (ix3 0 s c) = K s (kvOf c.val) ⟨c.val % 64, by omega⟩)
    (hv : ∀ s (c : Fin 256), x4 (ix3 0 s c) = V s (kvOf c.val) ⟨c.val % 64, by omega⟩)
    (hp : ∀ (r : Fin 256) l, x5 (ix2 r l) = f ⟨256 * u + r.val, by omega⟩ l)
    (hpp : ∀ (h : u ≠ 0) (r : Fin 8) l, x6 (ix2 r l) = f ⟨256 * u + r.val - 8, by omega⟩ l)
    (hpn : ∀ (h : u + 1 ≠ n) (r : Fin 8) l, x7 (ix2 r l) = f ⟨256 * u + 256 + r.val, by omega⟩ l) (r : Fin 256) (l : Fin 1024) :
    out0_11 (F := Ideal) i x0 x1 x2 x3 x4 x5 x6 x7 x8 x9 x10 (ix2 r l)
      = layer (x0 (ix2 r l)) (x1 (ix3 0 2 l)) (Q r) K V f (fun g c d => x8 (ix3 g c d)) (fun c => x9 (ix2 0 c)) (fun c => x10 (ix2 c l)) ⟨256 * u + r.val, by omega⟩ := by
  unfold_out out0_11; frame_out
  refine (core n u hu _ _ hmp hmn _ _ _ _ _ _ _ _ _ _ _ _ _ _ _ _ _ Q K V f (fun g c d => x8 (ix3 g c d)) (fun c => x9 (ix2 0 c)) hq hk hv hp hpp hpn
    ?_ ?_ ?_ ?_ ?_ ?_ ?_ ?_ r l).trans ?_
  · intro x d; pointwise [r0_3]
  · intro x d; pointwise [r0_5]
  · intro x d; pointwise [r0_7]
  · intro x d; pointwise [r0_9]
  · intro d; pointwise [r0_4]
  · intro d; pointwise [r0_6]
  · intro d; pointwise [r0_8]
  · intro d; pointwise [r0_10]
  · refine congrArg (fun g => layer (x0 (ix2 r l)) g (Q r) K V f _ _ _ _) ?_
    pointwise [r0_12]

end Cert.AttnOut

end
-- ==== Proof.AttnEntry.lean ====
/- What the attention kernel's host code hands its call, and where each grid point's blocks lie in it. -/
module

public import proofs.«01_k».proof.Proof.Gen.KernelIdeal.Frame
public import proofs.«01_k».proof.Proof.AttnCore
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnEntry

open Cert.KernelIdeal Cert.KernelIdeal.Gen Cert.AttnMath Cert.AttnBody Cert.AttnCore

variable (m : (ℓ : Loc nD τ sig) → Buf (Elt Ideal) ℓ)

/-- The block each window is at, by the grid point. -/
theorem idx : ∀ t : Fin cfg0.N, win0_0.index t = ![32 + t.val, 0] ∧ win0_1.index t = ![1 + t.val / 8, 0, 0]
    ∧ win0_2.index t = ![32 + t.val, 0] ∧ win0_3.index t = ![t.val / 8, 0, 0] ∧ win0_4.index t = ![t.val / 8, 0, 0]
    ∧ win0_5.index t = ![32 + t.val, 0] ∧ win0_6.index t = ![32 * (32 + t.val) - 1, 0]
    ∧ win0_7.index t = ![min (32 * (33 + t.val)) 1535, 0] ∧ win0_8.index t = ![0, 0, 0] ∧ win0_9.index t = ![0, 0]
    ∧ win0_10.index t = ![0, 0] ∧ win0_11.index t = ![32 + t.val, 0] :=
  (by decide +kernel : ∀ t : Fin grid0.N, _)

theorem V_q (c : Dev nD) (r : Fin 12288) (l : Fin 512) :
    V m c main_v2 (ix2 r l) = (show EReal from m ((c : Thread nD τ).loc main_arg2) (ix2 r l)) * eighth := by
  entry_read
  rfl

theorem kv_read (A : FVec Ideal S2x2304x2x64 .f32) (b : Fin 2) (s : Fin 2304) (l : Fin 256) :
    truncf .bf16 (fun i => shapeCast S2x2304x256 (concatenate S2x2304x4x64 2 [⟨S2x2304x2x64, A⟩, ⟨S2x2304x2x64, Host.reverse [2] A⟩]
      concatenates_S2x2304x2x64_S2x2304x2x64_S2x2304x4x64_d2) shapeCasts_S2x2304x4x64_S2x2304x256 i) bitsLt_bf16_f32 (ix3 b s l)
    = A (ix4 b s (kvOf l.val) ⟨l.val % 64, by omega⟩) := by
  pointwise
  by_cases h : l.val / 64 < 2
  · rw [dif_pos h]
    refine congrArg (fun h => A (ix4 b s h _)) (Fin.ext ?_)
    show l.val / 64 = _
    unfold kvOf
    by_cases h1 : l.val < 64
    · rw [if_pos h1]; show l.val / 64 = 0; omega
    · rw [if_neg h1, if_pos (by omega)]; show l.val / 64 = 1; omega
  · rw [dif_neg h]
    refine (congrArg (fun h => A (ix4 b s (h : Fin 2) _)) (if_pos (show (2 : Fin 4) ∈ [2] by decide))).trans (congrArg (fun h => A (ix4 b s (h : Fin 2) _)) (Fin.ext ?_))
    show 2 - (l.val / 64 - 2 + 1) = _
    unfold kvOf
    rw [if_neg (by omega)]
    by_cases h1 : l.val < 192
    · rw [if_pos h1]; show 2 - (l.val / 64 - 2 + 1) = 1; omega
    · rw [if_neg h1]; show 2 - (l.val / 64 - 2 + 1) = 0; omega

theorem V_k (c : Dev nD) (b : Fin 2) (s : Fin 2304) (l : Fin 256) :
    V m c main_v6 (ix3 b s l) = m ((c : Thread nD τ).loc main_arg3) (ix4 b s (kvOf l.val) ⟨l.val % 64, by omega⟩) := by
  entry_read
  exact kv_read _ b s l

theorem V_v (c : Dev nD) (b : Fin 2) (s : Fin 2304) (l : Fin 256) :
    V m c main_v10 (ix3 b s l) = m ((c : Thread nD τ).loc main_arg4) (ix4 b s (kvOf l.val) ⟨l.val % 64, by omega⟩) := by
  entry_read
  exact kv_read _ b s l

theorem V_x (c : Dev nD) : V m c main_v14 = m ((c : Thread nD τ).loc main_arg0) := by
  entry_read
  rfl

theorem V_s (c : Dev nD) (a : Fin 512) : V m c main_v12 (ix2 0 a) = m ((c : Thread nD τ).loc main_arg7) (ix1 a) := by
  entry_read
  pointwise

theorem block_k (c : Dev nD) (t : Fin cfg0.N) (ht : t.val < 16) (s : Fin 2304) (a : Fin 256) :
    iblk m c 3 t (ix3 0 s a : S1x2304x256.Idx) = V m c main_v6 (ix3 ⟨t.val / 8, by omega⟩ s a) := by blk_ext [iblk, idx t]

theorem block_v (c : Dev nD) (t : Fin cfg0.N) (ht : t.val < 16) (s : Fin 2304) (a : Fin 256) :
    iblk m c 4 t (ix3 0 s a : S1x2304x256.Idx) = V m c main_v10 (ix3 ⟨t.val / 8, by omega⟩ s a) := by blk_ext [iblk, idx t]

theorem block_s (c : Dev nD) (t : Fin cfg0.N) (a : Fin 512) : iblk m c 9 t (ix2 0 a : S1x512.Idx) = V m c main_v12 (ix2 0 a) := by blk_ext [iblk, idx t]

end Cert.AttnEntry

end
-- ==== Proof.AttnValue.lean ====
/- The array the attention kernel leaves is the layer, token by token. -/
module

public import proofs.«01_k».proof.Proof.Gen.KernelIdeal.Frame
public import proofs.«01_k».proof.Proof.AttnOut
public import proofs.«01_k».proof.Proof.AttnEntry
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnValue

open Cert.KernelIdeal Cert.KernelIdeal.Gen Cert.AttnEntry Cert.AttnMath Cert.AttnBody Cert.AttnCore

variable (m : (ℓ : Loc nD τ sig) → Buf (Elt Ideal) ℓ)

theorem select_zero_one (p : Prop) [Decidable p] :
    (Scalar.select (BitVec.ofBool (decide p)) (Scalar.ofBits (F := Ideal) .f32 0x00000000#32) (Scalar.ofBits (F := Ideal) .f32 0x3F800000#32) : EReal)
      = if p then 0 else 1 := by
  have e0 : (Scalar.ofBits (F := Ideal) .f32 0x00000000#32 : EReal) = 0 := Ideal.ofBits_zero_f32
  have e1 : (Scalar.ofBits (F := Ideal) .f32 0x3F800000#32 : EReal) = 1 := Ideal.ofBits_one_f32
  rw [e0, e1, select_if]

/-- The grid point's place in its sequence, as the kernel computes it. -/
def place (a : BitVec 32) : BitVec 32 :=
  let v157 : BitVec 32 := Scalar.select (Scalar.cmpi .eq 8#32 0#32) 1#32 8#32
  let v158 : BitVec 32 := Scalar.remsi a v157
  Scalar.select (Scalar.andi (Scalar.xori (Scalar.cmpi .slt v158 0#32) (Scalar.cmpi .slt v157 0#32)) (Scalar.cmpi .ne v158 0#32)) (Scalar.addi v158 v157) v158

theorem prev_bit : ∀ t : Fin cfg0.N, Scalar.cmpi .eq (place (BitVec.ofNat 32 (grid0.coords t 0).val)) 0#32 = BitVec.ofBool (decide (t.val % 8 = 0)) :=
  (by decide +kernel : ∀ t : Fin grid0.N, _)

theorem next_bit : ∀ t : Fin cfg0.N, Scalar.cmpi .eq (place (BitVec.ofNat 32 (grid0.coords t 0).val)) 7#32 = BitVec.ofBool (decide (t.val % 8 + 1 = 8)) :=
  (by decide +kernel : ∀ t : Fin grid0.N, _)

theorem pay23_at (t : Fin cfg0.N) : (k0_pay23 (F := Ideal) (BitVec.ofNat 32 (grid0.coords t 0).val) : EReal) = if t.val % 8 = 0 then 0 else 1 := by
  rw [← select_zero_one, ← prev_bit]; rfl

theorem pay24_at (t : Fin cfg0.N) : (k0_pay24 (F := Ideal) (BitVec.ofNat 32 (grid0.coords t 0).val) : EReal) = if t.val % 8 + 1 = 8 then 0 else 1 := by
  rw [← select_zero_one, ← next_bit]; rfl

/-- The layer over the whole arrays: the latent tokens' rows, the context's as they were. -/
def attnLayer (X : FVec Ideal S12288x1024 .f32) (M : FVec Ideal S8x6x1024 .f32) (Q : FVec Ideal S12288x512 .f32) (K V : FVec Ideal S2x2304x2x64 .f32)
    (P : FVec Ideal S12288x512 .f32) (W : FVec Ideal S4x128x128 .f32) (S : FVec Ideal S512 .f32) (O : FVec Ideal S1024x1024 .f32)
    (b : Fin 2) (t : Fin 2048) (l : Fin 1024) : EReal :=
  layer (X (ix2 ⟨8192 + 2048 * b.val + t.val, by omega⟩ l)) (M (ix3 ⟨1 + b.val, by omega⟩ 2 l))
    (fun h e => Q (ix2 ⟨8192 + 2048 * b.val + t.val, by omega⟩ ⟨64 * h.val + e.val, by omega⟩))
    (fun s h e => K (ix4 b s h e)) (fun s h e => V (ix4 b s h e)) (fun (i : Fin 2048) c => P (ix2 ⟨8192 + 2048 * b.val + i.val, by omega⟩ c))
    (fun g c d => W (ix3 g c d)) (fun c => S (ix1 c)) (fun c => O (ix2 c l)) t

theorem attnLayer_congr (X : FVec Ideal S12288x1024 .f32) (M : FVec Ideal S8x6x1024 .f32) (Q : FVec Ideal S12288x512 .f32) (K V : FVec Ideal S2x2304x2x64 .f32)
    (P : FVec Ideal S12288x512 .f32) (W : FVec Ideal S4x128x128 .f32) (S : FVec Ideal S512 .f32) (O : FVec Ideal S1024x1024 .f32)
    {b b' : Fin 2} {t t' : Fin 2048} {l l' : Fin 1024} (hb : b = b') (ht : t = t') (hl : l = l') :
    attnLayer X M Q K V P W S O b t l = attnLayer X M Q K V P W S O b' t' l' := by rw [hb, ht, hl]

theorem layer_congr {n T : ℕ} {x x' gt gt' : EReal} {q q' : Fin 8 → Fin 64 → EReal} {k k' v v' : Fin n → Fin 2 → Fin 64 → EReal}
    {p p' : Fin T → Fin 512 → EReal} {W W' : Fin 4 → Fin 128 → Fin 128 → EReal} {S S' : Fin 512 → EReal} {o o' : Fin 1024 → EReal} {t : Fin T}
    (hx : x = x') (hg : gt = gt') (hq : q = q') (hk : k = k') (hv : v = v') (hp : p = p') (hW : W = W') (hS : S = S') (ho : o = o') :
    layer x gt q k v p W S o t = layer x' gt' q' k' v' p' W' S' o' t := by rw [hx, hg, hq, hk, hv, hp, hW, hS, ho]

set_option maxHeartbeats 1000000 in
theorem final (c : Dev nD) : (dats m 0 c).arrAt 11 (cfgs 0).N = fun i : S12288x1024.Idx => if 8192 ≤ (i 0).val then
    attnLayer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ⟨((i 0).val - 8192) / 2048 % 2, by omega⟩ ⟨(i 0).val % 2048, by omega⟩ (i 1) else V m c main_v14 i := by
  refine (dats m 0 c).arrAt_eq_of_coversWhere 11 _ (fun β => 32 ≤ β 0) (by decide +kernel) (fun t hf y => ?_) (fun j => by blk_simp [Pipeline.Window.cell_apply]; omega)
  blk_simp
  rw [after0_11]
  idx_vars y
  have ht : t.val < 16 := t.isLt
  refine (AttnOut.out_at _ _ _ _ _ _ _ _ _ _ _ _ 8 (t.val % 8) (by omega) (pay23_at t) (pay24_at t)
    (fun r h e => m ((c : Thread nD τ).loc main_arg2) (ix2 ⟨8192 + 256 * t.val + r.val, by omega⟩ ⟨64 * h.val + e.val, by omega⟩))
    (fun s h e => m ((c : Thread nD τ).loc main_arg3) (ix4 ⟨t.val / 8, by omega⟩ s h e))
    (fun s h e => m ((c : Thread nD τ).loc main_arg4) (ix4 ⟨t.val / 8, by omega⟩ s h e))
    (fun i l => m ((c : Thread nD τ).loc main_arg5) (ix2 ⟨8192 + 2048 * (t.val / 8) + i.val, by omega⟩ l))
    ?_ ?_ ?_ ?_ ?_ ?_ y0 y1).trans ?_
  · intro r h e
    have k : iblk m c 2 t (ix2 r ⟨64 * h.val + e.val, by omega⟩ : S256x512.Idx) = V m c main_v2 (ix2 ⟨8192 + 256 * t.val + r.val, by omega⟩ ⟨64 * h.val + e.val, by omega⟩) := by
      blk_ext [iblk, idx t]
    rw [k]; exact V_q m c _ _
  · intro s a; exact (block_k m c t ht s a).trans (V_k m c _ s a)
  · intro s a; exact (block_v m c t ht s a).trans (V_v m c _ s a)
  · intro r l; blk_ext [iblk, V, idx t]
  · intro h r l; blk_ext [iblk, V, idx t]
  · intro h r l; blk_ext [iblk, V, idx t]
  · have eb : (win0_11.index t 0 * 256 + y0.val - 8192) / 2048 % 2 = t.val / 8 := by rw [(idx t).2.2.2.2.2.2.2.2.2.2.2]; show ((32 + t.val) * 256 + y0.val - 8192) / 2048 % 2 = _; omega
    have et : (win0_11.index t 0 * 256 + y0.val) % 2048 = 256 * (t.val % 8) + y0.val := by rw [(idx t).2.2.2.2.2.2.2.2.2.2.2]; show ((32 + t.val) * 256 + y0.val) % 2048 = _; omega
    have el : (((View.whole main_v14).slice (win0_11.rect t)).emb (ix2 y0 y1) 1 : Fin 1024) = y1 := Fin.ext (by blk_simp [idx t])
    refine Eq.trans ?_ (attnLayer_congr _ _ _ _ _ _ _ _ _ (Fin.ext eb.symm : (⟨t.val / 8, by omega⟩ : Fin 2) = _) (Fin.ext et.symm : (⟨256 * (t.val % 8) + y0.val, by omega⟩ : Fin 2048) = _) el.symm)
    unfold attnLayer
    refine layer_congr ?_ ?_ ?_ rfl rfl rfl ?_ ?_ ?_
    · blk_ext [iblk, V, idx t]
    · blk_ext [iblk, V, idx t]
    · funext h e; exact congrArg (fun r => m ((c : Thread nD τ).loc main_arg2) (ix2 r _)) (Fin.ext (by show 8192 + 256 * t.val + y0.val = 8192 + 2048 * (t.val / 8) + (256 * (t.val % 8) + y0.val); omega))
    · funext g a d; blk_point [iblk, V, idx t]
    · funext a; exact (block_s m c t a).trans (V_s m c a)
    · funext a; blk_point [iblk, V, idx t]

end Cert.AttnValue

end
-- ==== Proof.AttnPre.lean ====
/- The precondition read: no query and no key is infinite. -/
module

public import proofs.«01_k».proof.Pre_finite_qk
public import Idealize.ShloMosaic.Lib.ReduceAll
public import proofs.«01_k».proof.Proof.AttnMath
public import Idealize.ShloMosaic.Lib.Claim

@[expose] public section

set_option maxRecDepth 16384

noncomputable section

open Idealize.ShloMosaic

namespace Cert.AttnPre

open Cert.Pre_finite_qk

instance facts : Facts where
  bcast_S_S12288x512 := by decide
  reducesTo_S12288x512_S_d0_1 := by decide
  h_S_ := by decide
  bcast_S_S2x2304x2x64 := by decide
  reducesTo_S2x2304x2x64_S_d0_1_2_3 := by decide

instance : Subsingleton S_.Idx := ⟨fun a b => funext fun i => i.elim0⟩

/-- A number whose size is below infinity is a real number. -/
theorem real_of (x : EReal) (h : (FloatOps.cmpf (F := Ideal) (φ := .f32) .olt (FloatOps.hostAbsf (F := Ideal) (φ := .f32) x) (FloatOps.ofBits (F := Ideal) .f32 0x7F800000#32)) = 1#1) : ∃ r : ℝ, x = r := by
  have hi : (FloatOps.ofBits (F := Ideal) .f32 0x7F800000#32 : EReal) = ⊤ := by simp [FloatOps.ofBits, Ideal.ofBits, Ideal.ieee]
  rw [hi] at h
  induction x with
  | bot => exact absurd h (by simp [FloatOps.cmpf, FloatOps.hostAbsf, Ideal.cmp])
  | top => exact absurd h (by simp [FloatOps.cmpf, FloatOps.hostAbsf, Ideal.cmp])
  | coe r => exact ⟨r, rfl⟩

theorem read (a0 : FVec Ideal S12288x1024 .f32) (a1 : FVec Ideal S8x6x1024 .f32) (a2 : FVec Ideal S12288x512 .f32) (a3 a4 : FVec Ideal S2x2304x2x64 .f32)
    (a5 : FVec Ideal S12288x512 .f32) (a6 : FVec Ideal S4x128x128 .f32) (a7 : FVec Ideal S512 .f32) (a8 : FVec Ideal S1024x1024 .f32)
    (h : Cert.Pre_finite_qk.fn (F := Ideal) a0 a1 a2 a3 a4 a5 a6 a7 a8 = fun _ => 1#1) :
    (∀ i, ∃ r : ℝ, (show EReal from a2 i) = r) ∧ (∀ i, ∃ r : ℝ, (show EReal from a3 i) = r) := by
  have h0 := congrFun h (fun i => i.elim0)
  simp only [Cert.Pre_finite_qk.fn] at h0
  have h1 := IntOp.andi_eq_one.1 h0
  constructor
  · intro i; have := Host.reduce_andi_all _ _ _ _ _ h1.1 i; exact real_of _ this
  · intro i; have := Host.reduce_andi_all _ _ _ _ _ h1.2 i; exact real_of _ this

end Cert.AttnPre

end
-- ==== Proof.AttnRef.lean ====
/- What the reference of the attention computes, read at an element. -/
module

public import proofs.«01_k».proof.Proof.Gen.ReferenceIdeal.Run
public import proofs.«01_k».proof.Proof.AttnMath
public import Idealize.ShloMosaic.Lib.Claim

@[expose] public section

set_option maxRecDepth 16384

noncomputable section

open Idealize.ShloMosaic Idealize.ShloMosaic.TcCoe Idealize.SL.Sem Idealize.ShloMosaic.StableHlo

namespace Cert.AttnRef

open Cert.ReferenceIdeal Cert.ReferenceIdeal.Gen Cert.ReferenceIdeal.Value Cert.AttnMath

variable (L : Valuation τ sig (Elt Ideal))

/-- The queries of one token, by head. -/
def qrow (Q : FVec Ideal S12288x512 .f32) (b : Fin 2) (t : Fin 2048) (h : Fin 8) (e : Fin 64) : EReal :=
  Q (ix2 ⟨8192 + 2048 * b.val + t.val, by omega⟩ ⟨64 * h.val + e.val, by omega⟩)

/-- The pooled channels of one sequence. -/
def prow (P : FVec Ideal S12288x512 .f32) (b : Fin 2) (t : Fin 2048) (c : Fin 512) : EReal :=
  P (ix2 ⟨8192 + 2048 * b.val + t.val, by omega⟩ c)

theorem at2 {a b : ℕ} (A : FVec Ideal ⟨2, ![a, b]⟩ .f32) {i i' : Fin a} {j j' : Fin b} (hi : i.val = i'.val) (hj : j.val = j'.val) :
    A (ix2 i j) = A (ix2 i' j') := by rw [Fin.ext hi, Fin.ext hj]

theorem score_at (b : Fin 2) (g : Fin 2) (h : Fin 4) (t : Fin 2048) (s : Fin 2304) :
    (show EReal from res_main_v10 L (ix5 b g h t s))
      = ∑ e, qrow (L (Proc.devRef .tc main_arg2)) b t ⟨4 * g.val + h.val, by omega⟩ e * eighth * (show EReal from L (Proc.devRef .tc main_arg3) (ix4 b s g e)) := by
  rw [← score_eq]
  unfold res_main_v10
  show (_ : EReal) = _
  pointwise
  refine congrArg (fun z : EReal => z * _) (Finset.sum_congr rfl fun e _ => ?_)
  refine (mul_comm _ _).trans (congrArg (fun z : EReal => z * _) ?_)
  exact at2 _ (by show 8192 + (b.val * 2048 + t.val) = 8192 + 2048 * b.val + t.val; omega)
    (by show g.val * 256 + h.val * 64 + e.val = 64 * (4 * g.val + h.val) + e.val; omega)

theorem weight_of (R : FVec Ideal S2x2x4x2048x2304 .f32) (M : FVec Ideal S2x2x4x2048 .f32) (b : Fin 2) (g : Fin 2) (h : Fin 4) (t : Fin 2048) (s : Fin 2304) :
    Host.exp (subf R (broadcastInDim S2x2x4x2048x2304 ![0, 1, 2, 3, 4] bcast_S2x2x4x2048x1_S2x2x4x2048x2304_0_1_2_3_4 (broadcastInDim S2x2x4x2048x1 ![0, 1, 2, 3] bcast_S2x2x4x2048_S2x2x4x2048x1_0_1_2_3 (maximumf (broadcastInDim S2x2x4x2048 ![] bcast_S_S2x2x4x2048 (constant S_ .f32 0xFF800000#32)) M)))) (ix5 b g h t s)
      = Ideal.exp (R (ix5 b g h t s) - max (Ideal.ofBits .f32 0xFF800000#32) (M (ix4 b g h t))) := by
  pointwise

/-- The host's maximum of a row is the row's greatest entry. -/
theorem fold_top {n : ℕ} (s : Fin n → EReal) :
    (Finset.univ : Finset (Fin n)).fold (FloatOps.maximumf (F := Ideal) (φ := .f32)) (Ideal.ofBits .f32 0xFF800000#32) s = top s := rfl

theorem max_of (R : FVec Ideal S2x2x4x2048x2304 .f32) (b : Fin 2) (g : Fin 2) (h : Fin 4) (t : Fin 2048) :
    Host.reduce FloatOps.maximumf R (constant S_ .f32 0xFF800000#32) reducesTo_S2x2x4x2048x2304_S2x2x4x2048_d4 h_S_ (ix4 b g h t)
      = top (fun x => R (ix5 b g h t x)) :=
  ((Host.reduce_eq_fold FloatOps.maximumf R (constant S_ .f32 0xFF800000#32) reducesTo_S2x2x4x2048x2304_S2x2x4x2048_d4 h_S_ (ix4 b g h t)).trans
    (reducesTo_S2x2x4x2048x2304_S2x2x4x2048_d4.fold_fiber_r5_a4 (ix4 b g h t) FloatOps.maximumf _ R)).trans (fold_top fun x => R (ix5 b g h t x))

theorem weight_at (b : Fin 2) (g : Fin 2) (h : Fin 4) (t : Fin 2048) (s : Fin 2304) :
    (show EReal from res_main_v17 L (ix5 b g h t s)) = wt (fun x => (show EReal from res_main_v10 L (ix5 b g h t x))) s := by
  unfold res_main_v17
  generalize res_main_v10 L = R
  refine (weight_of R _ b g h t s).trans ?_
  rw [max_of, neg_inf, max_eq_right bot_le]
  rfl

theorem group_at (b : Fin 2) (t : Fin 2048) (g : Fin 4) (c : Fin 128) :
    (show EReal from res_main_v25 L (ix4 b t g c)) = prow (L (Proc.devRef .tc main_arg5)) b t ⟨128 * g.val + c.val, by omega⟩ := by
  unfold res_main_v25
  show (_ : EReal) = _
  pointwise
  exact at2 _ (by show 8192 + (b.val * 2048 + t.val) = 8192 + 2048 * b.val + t.val; omega)
    (by show g.val * 128 + c.val = 128 * g.val + c.val; omega)

/-- The windows' counts, as the words the reference computes them by. -/
def count (h t : ℕ) : BitVec 32 :=
  IntOp.subi (IntOp.minsi 2048#32 (IntOp.maxsi 0#32 (IntOp.subi (IntOp.addi (BitVec.ofNat 32 t) (BitVec.ofNat 32 (2 * h))) (BitVec.ofNat 32 h))))
    (IntOp.minsi 2048#32 (IntOp.maxsi 0#32 (IntOp.subi (BitVec.ofNat 32 t) (BitVec.ofNat 32 h))))

theorem count_at : ∀ h ∈ [1, 2, 4, 8], ∀ t : Fin 2048, (count h t.val).toInt = ((min (t.val + h) 2048 - (t.val - h) : ℕ) : ℤ) := by decide +kernel

theorem cnt_at (h : ℕ) (hh : h ∈ [1, 2, 4, 8]) (t : Fin 2048) : (FloatOps.sitofp (F := Ideal) .f32 (count h t.val) : EReal) = cnt (2 * h) 2048 t.val := by
  show (((count h t.val).toInt : ℝ) : EReal) = _
  rw [count_at h hh t]
  unfold cnt
  rw [Nat.mul_div_cancel_left _ (by decide : 0 < 2)]
  norm_cast

/-- One entry of a padded group: zero outside the sequence. -/
def padded (L : Valuation τ sig (Elt Ideal)) (b : Fin 2) (g : Fin 4) (c : Fin 128) (h n : ℕ) : EReal :=
  if k : h ≤ n ∧ n - h < 2048 then prow (L (Proc.devRef .tc main_arg5)) b ⟨n - h, k.2⟩ ⟨128 * g.val + c.val, by omega⟩ else 0

theorem zero_word : (FloatOps.sitofp (F := Ideal) .f32 0#32 : EReal) = 0 := by
  show (((0#32 : BitVec 32).toInt : ℝ) : EReal) = 0
  norm_num

theorem pad0 (b : Fin 2) (t : Fin 2050) (c : Fin 128) : (show EReal from res_main_v37 L (ix3 b t c)) = padded L b 0 c 1 t.val := by
  unfold res_main_v37 padded
  simp only [← group_at]
  generalize res_main_v25 L = G
  show (_ : EReal) = _
  pointwise
  exact dite_congr rfl (fun _ => rfl) (fun _ => zero_word)

theorem pad1 (b : Fin 2) (t : Fin 2052) (c : Fin 128) : (show EReal from res_main_v56 L (ix3 b t c)) = padded L b 1 c 2 t.val := by
  unfold res_main_v56 padded
  simp only [← group_at]
  generalize res_main_v25 L = G
  show (_ : EReal) = _
  pointwise
  exact dite_congr rfl (fun _ => rfl) (fun _ => zero_word)

theorem pad2 (b : Fin 2) (t : Fin 2056) (c : Fin 128) : (show EReal from res_main_v79 L (ix3 b t c)) = padded L b 2 c 4 t.val := by
  unfold res_main_v79 padded
  simp only [← group_at]
  generalize res_main_v25 L = G
  show (_ : EReal) = _
  pointwise
  exact dite_congr rfl (fun _ => rfl) (fun _ => zero_word)

theorem pad3 (b : Fin 2) (t : Fin 2064) (c : Fin 128) : (show EReal from res_main_v110 L (ix3 b t c)) = padded L b 3 c 8 t.val := by
  unfold res_main_v110 padded
  simp only [← group_at]
  generalize res_main_v25 L = G
  show (_ : EReal) = _
  pointwise
  exact dite_congr rfl (fun _ => rfl) (fun _ => zero_word)

theorem tot_at (b : Fin 2) (g : Fin 4) (c : Fin 128) (h t : ℕ) :
    ∑ j ∈ Finset.range (2 * h), padded L b g c h (t + j) = tot (2 * h) (fun i => prow (L (Proc.devRef .tc main_arg5)) b i ⟨128 * g.val + c.val, by omega⟩) t := by
  unfold tot padded
  refine Finset.sum_congr rfl fun j _ => ?_
  simp only [Nat.mul_div_cancel_left h (by decide : 0 < 2)]

theorem pool0 (b : Fin 2) (t : Fin 2048) (c : Fin 128) :
    (show EReal from res_main_v151 L (ix4 b t 0 c)) = Ideal.div (tot (2 * 1) (fun i => prow (L (Proc.devRef .tc main_arg5)) b i ⟨128 * ((0 : Fin 4).val) + c.val, by omega⟩) t.val) (cnt (2 * 1) 2048 t.val) := by
  have e : (show EReal from res_main_v151 L (ix4 b t 0 c))
      = Ideal.div ((show EReal from res_main_v37 L (ix3 b ⟨t.val, by omega⟩ c)) + (show EReal from res_main_v37 L (ix3 b ⟨1 + t.val, by omega⟩ c)))
        (FloatOps.sitofp (F := Ideal) .f32 (count 1 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 1 (by decide) t]
  simp only [pad0]
  refine congrArg (fun z : EReal => Ideal.div z _) (Eq.trans ?_ (tot_at L b 0 c 1 t.val))
  simp only [Finset.sum_range_succ, Finset.sum_range_zero, zero_add, add_zero, Nat.reduceMul, Nat.add_comm]

theorem pool1 (b : Fin 2) (t : Fin 2048) (c : Fin 128) :
    (show EReal from res_main_v151 L (ix4 b t 1 c)) = Ideal.div (tot (2 * 2) (fun i => prow (L (Proc.devRef .tc main_arg5)) b i ⟨128 * ((1 : Fin 4).val) + c.val, by omega⟩) t.val) (cnt (2 * 2) 2048 t.val) := by
  have e : (show EReal from res_main_v151 L (ix4 b t 1 c))
      = Ideal.div ((((show EReal from res_main_v56 L (ix3 b ⟨t.val, by omega⟩ c)) + (show EReal from res_main_v56 L (ix3 b ⟨1 + t.val, by omega⟩ c))) + (show EReal from res_main_v56 L (ix3 b ⟨2 + t.val, by omega⟩ c))) + (show EReal from res_main_v56 L (ix3 b ⟨3 + t.val, by omega⟩ c)))
        (FloatOps.sitofp (F := Ideal) .f32 (count 2 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 2 (by decide) t]
  simp only [pad1]
  refine congrArg (fun z : EReal => Ideal.div z _) (Eq.trans ?_ (tot_at L b 1 c 2 t.val))
  simp only [Finset.sum_range_succ, Finset.sum_range_zero, zero_add, add_zero, Nat.reduceMul, Nat.add_comm]

theorem pool2 (b : Fin 2) (t : Fin 2048) (c : Fin 128) :
    (show EReal from res_main_v151 L (ix4 b t 2 c)) = Ideal.div (tot (2 * 4) (fun i => prow (L (Proc.devRef .tc main_arg5)) b i ⟨128 * ((2 : Fin 4).val) + c.val, by omega⟩) t.val) (cnt (2 * 4) 2048 t.val) := by
  have e : (show EReal from res_main_v151 L (ix4 b t 2 c))
      = Ideal.div ((((((((show EReal from res_main_v79 L (ix3 b ⟨t.val, by omega⟩ c)) + (show EReal from res_main_v79 L (ix3 b ⟨1 + t.val, by omega⟩ c))) + (show EReal from res_main_v79 L (ix3 b ⟨2 + t.val, by omega⟩ c))) + (show EReal from res_main_v79 L (ix3 b ⟨3 + t.val, by omega⟩ c))) + (show EReal from res_main_v79 L (ix3 b ⟨4 + t.val, by omega⟩ c))) + (show EReal from res_main_v79 L (ix3 b ⟨5 + t.val, by omega⟩ c))) + (show EReal from res_main_v79 L (ix3 b ⟨6 + t.val, by omega⟩ c))) + (show EReal from res_main_v79 L (ix3 b ⟨7 + t.val, by omega⟩ c)))
        (FloatOps.sitofp (F := Ideal) .f32 (count 4 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 4 (by decide) t]
  simp only [pad2]
  refine congrArg (fun z : EReal => Ideal.div z _) (Eq.trans ?_ (tot_at L b 2 c 4 t.val))
  simp only [Finset.sum_range_succ, Finset.sum_range_zero, zero_add, add_zero, Nat.reduceMul, Nat.add_comm]

theorem pool3 (b : Fin 2) (t : Fin 2048) (c : Fin 128) :
    (show EReal from res_main_v151 L (ix4 b t 3 c)) = Ideal.div (tot (2 * 8) (fun i => prow (L (Proc.devRef .tc main_arg5)) b i ⟨128 * ((3 : Fin 4).val) + c.val, by omega⟩) t.val) (cnt (2 * 8) 2048 t.val) := by
  have e : (show EReal from res_main_v151 L (ix4 b t 3 c))
      = Ideal.div ((((((((((((((((show EReal from res_main_v110 L (ix3 b ⟨t.val, by omega⟩ c)) + (show EReal from res_main_v110 L (ix3 b ⟨1 + t.val, by omega⟩ c))) + (show EReal from res_main_v110 L (ix3 b ⟨2 + t.val, by omega⟩ c))) + (show EReal from res_main_v110 L (ix3 b ⟨3 + t.val, by omega⟩ c))) + (show EReal from res_main_v110 L (ix3 b ⟨4 + t.val, by omega⟩ c))) + (show EReal from res_main_v110 L (ix3 b ⟨5 + t.val, by omega⟩ c))) + (show EReal from res_main_v110 L (ix3 b ⟨6 + t.val, by omega⟩ c))) + (show EReal from res_main_v110 L (ix3 b ⟨7 + t.val, by omega⟩ c))) + (show EReal from res_main_v110 L (ix3 b ⟨8 + t.val, by omega⟩ c))) + (show EReal from res_main_v110 L (ix3 b ⟨9 + t.val, by omega⟩ c))) + (show EReal from res_main_v110 L (ix3 b ⟨10 + t.val, by omega⟩ c))) + (show EReal from res_main_v110 L (ix3 b ⟨11 + t.val, by omega⟩ c))) + (show EReal from res_main_v110 L (ix3 b ⟨12 + t.val, by omega⟩ c))) + (show EReal from res_main_v110 L (ix3 b ⟨13 + t.val, by omega⟩ c))) + (show EReal from res_main_v110 L (ix3 b ⟨14 + t.val, by omega⟩ c))) + (show EReal from res_main_v110 L (ix3 b ⟨15 + t.val, by omega⟩ c)))
        (FloatOps.sitofp (F := Ideal) .f32 (count 8 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 8 (by decide) t]
  simp only [pad3]
  refine congrArg (fun z : EReal => Ideal.div z _) (Eq.trans ?_ (tot_at L b 3 c 8 t.val))
  simp only [Finset.sum_range_succ, Finset.sum_range_zero, zero_add, add_zero, Nat.reduceMul, Nat.add_comm]

end Cert.AttnRef

end
-- ==== Proof.AttnRes.lean ====
/- The reference of the attention's result: the layer over the whole arrays, element by element. -/
module

public import proofs.«01_k».proof.Proof.AttnRef
public import proofs.«01_k».proof.Proof.AttnValue

@[expose] public section

set_option maxRecDepth 16384

noncomputable section

open Idealize.ShloMosaic Idealize.ShloMosaic.TcCoe Idealize.SL.Sem Idealize.ShloMosaic.StableHlo

namespace Cert.AttnRes

open Cert.ReferenceIdeal Cert.ReferenceIdeal.Gen Cert.ReferenceIdeal.Value Cert.AttnMath Cert.AttnRef

theorem attend_of (V : FVec Ideal S2x2304x2x64 .f32) (E : FVec Ideal S2x2x4x2048x2304 .f32) (T : FVec Ideal S2x2x4x2048 .f32) (b : Fin 2) (t : Fin 2048) (c : Fin 512) :
    shapeCast S2x2048x512 (transpose S2x2048x2x4x64 [0, 4, 1, 3, 2] (Host.dotGeneral dot_S2x2304x2x64_S2x2x4x2048x2304_S2x2x64x4x2048_1_4_3_23_02_01 none V
      (Host.divf E (broadcastInDim S2x2x4x2048x2304 ![0, 1, 2, 3, 4] bcast_S2x2x4x2048x1_S2x2x4x2048x2304_0_1_2_3_4 (broadcastInDim S2x2x4x2048x1 ![0, 1, 2, 3] bcast_S2x2x4x2048_S2x2x4x2048x1_0_1_2_3 T))))
        transposes_S2x2x64x4x2048_S2x2048x2x4x64_0_4_1_3_2) shapeCasts_S2x2048x2x4x64_S2x2048x512 (ix3 b t c)
      = ∑ x, V (ix4 b x ⟨c.val / 256, by omega⟩ ⟨c.val % 64, by omega⟩) *
        Ideal.div (E (ix5 b ⟨c.val / 256, by omega⟩ ⟨c.val / 64 % 4, by omega⟩ t x)) (T (ix4 b ⟨c.val / 256, by omega⟩ ⟨c.val / 64 % 4, by omega⟩ t)) := by
  pointwise

theorem total_of (E : FVec Ideal S2x2x4x2048x2304 .f32) (b : Fin 2) (g : Fin 2) (h : Fin 4) (t : Fin 2048) :
    Host.reduceAdd E (constant S_ .f32 0x00000000#32) reducesTo_S2x2x4x2048x2304_S2x2x4x2048_d4 h_S_ (ix4 b g h t) = ∑ x, E (ix5 b g h t x) := by
  pointwise

theorem pool_of (W : FVec Ideal S4x128x128 .f32) (A B : FVec Ideal S2x2048x4x128 .f32) (S : FVec Ideal S512 .f32) (b : Fin 2) (t : Fin 2048) (c : Fin 512) :
    mulf (shapeCast S2x2048x512 (transpose S2x2048x4x128 [2, 3, 0, 1] (Host.dotGeneral dot_S4x128x128_S2x2048x4x128_S4x128x2x2048_1_3_2_01_0_2 none W (subf A B))
      transposes_S4x128x2x2048_S2x2048x4x128_2_3_0_1) shapeCasts_S2x2048x4x128_S2x2048x512) (broadcastInDim S2x2048x512 ![0, 1, 2] bcast_S1x1x512_S2x2048x512_0_1_2 (broadcastInDim S1x1x512 ![2] bcast_S512_S1x1x512_2 S)) (ix3 b t c)
      = (∑ x, W (ix3 ⟨c.val / 128, by omega⟩ x ⟨c.val % 128, by omega⟩) * (A (ix4 b t ⟨c.val / 128, by omega⟩ x) - B (ix4 b t ⟨c.val / 128, by omega⟩ x))) * S (ix1 c) := by
  pointwise

theorem moved_of (X : FVec Ideal S12288x1024 .f32) (M : FVec Ideal S8x6x1024 .f32) (A : FVec Ideal S2x2048x1024 .f32) (O : FVec Ideal S1024x1024 .f32) (j : Fin 4096) (l : Fin 1024) :
    shapeCast S4096x1024 (addf (shapeCast S2x2048x1024 (extractStridedSlice S4096x1024 ![8192, 0] X slices_S12288x1024_S4096x1024_8192_0) shapeCasts_S4096x1024_S2x2048x1024) (mulf (broadcastInDim S2x2048x1024 ![0, 1, 2] bcast_S2x1x1024_S2x2048x1024_0_1_2 (broadcastInDim S2x1x1024 ![0, 2] bcast_S2x1024_S2x1x1024_0_2 (shapeCast S2x1024 (extractStridedSlice S2x1x1024 ![1, 2, 0] M slices_S8x6x1024_S2x1x1024_1_2_0) shapeCasts_S2x1x1024_S2x1024))) (Host.dotGeneral dot_S2x2048x1024_S1024x1024_S2x2048x1024_2_0_01_1_n_n none A O))) shapeCasts_S2x2048x1024_S4096x1024 (ix2 j l)
      = X (ix2 ⟨8192 + j.val, by omega⟩ l)
        + M (ix3 ⟨1 + j.val / 2048, by omega⟩ 2 l) * ∑ x, A (ix3 ⟨j.val / 2048, by omega⟩ ⟨j.val % 2048, by omega⟩ x) * O (ix2 x l) := by
  pointwise

theorem mix_of (A B : FVec Ideal S2x2048x512 .f32) (b : Fin 2) (t : Fin 2048) (k : Fin 1024) :
    concatenate S2x2048x1024 2 [⟨S2x2048x512, A⟩, ⟨S2x2048x512, B⟩] concatenates_S2x2048x512_S2x2048x512_S2x2048x1024_d2 (ix3 b t k)
      = if h : k.val < 512 then A (ix3 b t ⟨k.val, h⟩) else B (ix3 b t ⟨k.val - 512, by omega⟩) := by
  pointwise

theorem rows_of (X : FVec Ideal S12288x1024 .f32) (Y : FVec Ideal S4096x1024 .f32) (r : Fin 12288) (l : Fin 1024) :
    concatenate S12288x1024 0 [⟨S8192x1024, (extractStridedSlice S8192x1024 ![0, 0] X slices_S12288x1024_S8192x1024_0_0)⟩, ⟨S4096x1024, Y⟩] concatenates_S8192x1024_S4096x1024_S12288x1024_d0 (ix2 r l)
      = if h : r.val < 8192 then X (ix2 r l) else Y (ix2 ⟨r.val - 8192, by omega⟩ l) := by
  pointwise

variable (L : Valuation τ sig (Elt Ideal))

/-- One query head's output, from the reference's weights divided by their total. -/
theorem head_at (hq : ∀ i, ∃ r : ℝ, (show EReal from L (Proc.devRef .tc main_arg2) i) = r) (hk : ∀ i, ∃ r : ℝ, (show EReal from L (Proc.devRef .tc main_arg3) i) = r)
    (V : FVec Ideal S2x2304x2x64 .f32) (b : Fin 2) (g : Fin 2) (h : Fin 4) (t : Fin 2048) (d : Fin 64) :
    ∑ x, V (ix4 b x g d) * Ideal.div (show EReal from res_main_v17 L (ix5 b g h t x)) (∑ y, (show EReal from res_main_v17 L (ix5 b g h t y)))
      = headOut (qrow (L (Proc.devRef .tc main_arg2)) b t ⟨4 * g.val + h.val, by omega⟩) (fun s e => (show EReal from L (Proc.devRef .tc main_arg3) (ix4 b s g e))) (fun s e => V (ix4 b s g e)) d := by
  simp only [weight_at, score_at]
  refine Eq.trans (Finset.sum_congr rfl fun x _ => mul_comm _ _) (attend_eq (by decide) _ _ fun x => ?_)
  exact score_real _ _ (fun e => hq _) (fun e => hk _)

/-- A group's windowed means, whichever the group. -/
theorem means_at (b : Fin 2) (t : Fin 2048) (g : Fin 4) (c : Fin 128) :
    (show EReal from res_main_v151 L (ix4 b t g c))
      = Ideal.div (tot (2 ^ (g.val + 1)) (fun i => prow (L (Proc.devRef .tc main_arg5)) b i ⟨128 * g.val + c.val, by omega⟩) t.val) (cnt (2 ^ (g.val + 1)) 2048 t.val) :=
  match g with
  | ⟨0, _⟩ => pool0 L b t c
  | ⟨1, _⟩ => pool1 L b t c
  | ⟨2, _⟩ => pool2 L b t c
  | ⟨3, _⟩ => pool3 L b t c

theorem pool_at (W : FVec Ideal S4x128x128 .f32) (S : FVec Ideal S512 .f32) (b : Fin 2) (t : Fin 2048) (g : Fin 4) (d : Fin 128) :
    (∑ x, W (ix3 g x d) * ((show EReal from res_main_v151 L (ix4 b t g x)) - (show EReal from res_main_v25 L (ix4 b t g x)))) * S (ix1 ⟨128 * g.val + d.val, by omega⟩)
      = poolOut (prow (L (Proc.devRef .tc main_arg5)) b) (fun g c d => W (ix3 g c d)) (fun c => S (ix1 c)) t g d := by
  unfold poolOut
  simp only [means_at, Cert.AttnRef.group_at]
  exact congrArg (fun z : EReal => z * _) (Finset.sum_congr rfl fun x _ => mul_comm _ _)

/-- The mixed row: the heads' outputs, then the pooled channels. -/
theorem row_at (hq : ∀ i, ∃ r : ℝ, (show EReal from L (Proc.devRef .tc main_arg2) i) = r) (hk : ∀ i, ∃ r : ℝ, (show EReal from L (Proc.devRef .tc main_arg3) i) = r)
    (V : FVec Ideal S2x2304x2x64 .f32) (W : FVec Ideal S4x128x128 .f32) (S : FVec Ideal S512 .f32) (E : FVec Ideal S2x2x4x2048x2304 .f32) (hE : E = res_main_v17 L)
    (A B : FVec Ideal S2x2048x4x128 .f32) (hA : A = res_main_v151 L) (hB : B = res_main_v25 L) (b : Fin 2) (t : Fin 2048) (k : Fin 1024) :
    concatenate S2x2048x1024 2 [⟨S2x2048x512, shapeCast S2x2048x512 (transpose S2x2048x2x4x64 [0, 4, 1, 3, 2] (Host.dotGeneral dot_S2x2304x2x64_S2x2x4x2048x2304_S2x2x64x4x2048_1_4_3_23_02_01 none V
      (Host.divf E (broadcastInDim S2x2x4x2048x2304 ![0, 1, 2, 3, 4] bcast_S2x2x4x2048x1_S2x2x4x2048x2304_0_1_2_3_4 (broadcastInDim S2x2x4x2048x1 ![0, 1, 2, 3] bcast_S2x2x4x2048_S2x2x4x2048x1_0_1_2_3
        (Host.reduceAdd E (constant S_ .f32 0x00000000#32) reducesTo_S2x2x4x2048x2304_S2x2x4x2048_d4 h_S_)))))
        transposes_S2x2x64x4x2048_S2x2048x2x4x64_0_4_1_3_2) shapeCasts_S2x2048x2x4x64_S2x2048x512⟩,
      ⟨S2x2048x512, mulf (shapeCast S2x2048x512 (transpose S2x2048x4x128 [2, 3, 0, 1] (Host.dotGeneral dot_S4x128x128_S2x2048x4x128_S4x128x2x2048_1_3_2_01_0_2 none W (subf A B))
      transposes_S4x128x2x2048_S2x2048x4x128_2_3_0_1) shapeCasts_S2x2048x4x128_S2x2048x512) (broadcastInDim S2x2048x512 ![0, 1, 2] bcast_S1x1x512_S2x2048x512_0_1_2 (broadcastInDim S1x1x512 ![2] bcast_S512_S1x1x512_2 S))⟩]
      concatenates_S2x2048x512_S2x2048x512_S2x2048x1024_d2 (ix3 b t k)
    = mix (fun h d => headOut (qrow (L (Proc.devRef .tc main_arg2)) b t h) (fun s e => (show EReal from L (Proc.devRef .tc main_arg3) (ix4 b s (⟨h.val / 4, by omega⟩ : Fin 2) e))) (fun s e => V (ix4 b s ⟨h.val / 4, by omega⟩ e)) d)
        (poolOut (prow (L (Proc.devRef .tc main_arg5)) b) (fun g c d => W (ix3 g c d)) (fun c => S (ix1 c)) t) k := by
  subst hE hA hB
  rw [mix_of]
  unfold mix
  by_cases h : k.val < 512
  · rw [dif_pos h, dif_pos h, attend_of, total_of]
    refine (head_at L hq hk V b _ _ t _).trans ?_
    have e1 : (⟨4 * (k.val / 256) + k.val / 64 % 4, by omega⟩ : Fin 8) = ⟨k.val / 64, by omega⟩ := Fin.ext (by show 4 * (k.val / 256) + k.val / 64 % 4 = k.val / 64; omega)
    have e2 : (⟨k.val / 256, by omega⟩ : Fin 2) = ⟨k.val / 64 / 4, by omega⟩ := Fin.ext (by show k.val / 256 = k.val / 64 / 4; omega)
    dsimp only
    rw [e1, e2]
  · rw [dif_neg h, dif_neg h, pool_of]
    have e : (⟨k.val - 512, by omega⟩ : Fin 512) = ⟨128 * ((k.val - 512) / 128) + (k.val - 512) % 128, by omega⟩ := Fin.ext (by show k.val - 512 = 128 * ((k.val - 512) / 128) + (k.val - 512) % 128; omega)
    refine Eq.trans ?_ (pool_at L W S b t ⟨(k.val - 512) / 128, by omega⟩ ⟨(k.val - 512) % 128, by omega⟩)
    rw [← e]

/-- The reference's result is the layer: the latent tokens' rows moved, the context's as they were. -/
theorem res_eq (hq : ∀ i, ∃ r : ℝ, (show EReal from L (Proc.devRef .tc main_arg2) i) = r) (hk : ∀ i, ∃ r : ℝ, (show EReal from L (Proc.devRef .tc main_arg3) i) = r)
    (X : FVec Ideal S12288x1024 .f32) (M : FVec Ideal S8x6x1024 .f32)
    (V : FVec Ideal S2x2304x2x64 .f32) (W : FVec Ideal S4x128x128 .f32) (S : FVec Ideal S512 .f32) (O : FVec Ideal S1024x1024 .f32) (E : FVec Ideal S2x2x4x2048x2304 .f32) (hE : E = res_main_v17 L)
    (A B : FVec Ideal S2x2048x4x128 .f32) (hA : A = res_main_v151 L) (hB : B = res_main_v25 L) (r : Fin 12288) (l : Fin 1024) :
    concatenate S12288x1024 0 [⟨S8192x1024, extractStridedSlice S8192x1024 ![0, 0] X slices_S12288x1024_S8192x1024_0_0⟩, ⟨S4096x1024, shapeCast S4096x1024 (addf (shapeCast S2x2048x1024 (extractStridedSlice S4096x1024 ![8192, 0] X slices_S12288x1024_S4096x1024_8192_0) shapeCasts_S4096x1024_S2x2048x1024) (mulf (broadcastInDim S2x2048x1024 ![0, 1, 2] bcast_S2x1x1024_S2x2048x1024_0_1_2 (broadcastInDim S2x1x1024 ![0, 2] bcast_S2x1024_S2x1x1024_0_2 (shapeCast S2x1024 (extractStridedSlice S2x1x1024 ![1, 2, 0] M slices_S8x6x1024_S2x1x1024_1_2_0) shapeCasts_S2x1x1024_S2x1024)))
      (Host.dotGeneral dot_S2x2048x1024_S1024x1024_S2x2048x1024_2_0_01_1_n_n none (concatenate S2x2048x1024 2 [⟨S2x2048x512, shapeCast S2x2048x512 (transpose S2x2048x2x4x64 [0, 4, 1, 3, 2] (Host.dotGeneral dot_S2x2304x2x64_S2x2x4x2048x2304_S2x2x64x4x2048_1_4_3_23_02_01 none V
      (Host.divf E (broadcastInDim S2x2x4x2048x2304 ![0, 1, 2, 3, 4] bcast_S2x2x4x2048x1_S2x2x4x2048x2304_0_1_2_3_4 (broadcastInDim S2x2x4x2048x1 ![0, 1, 2, 3] bcast_S2x2x4x2048_S2x2x4x2048x1_0_1_2_3
        (Host.reduceAdd E (constant S_ .f32 0x00000000#32) reducesTo_S2x2x4x2048x2304_S2x2x4x2048_d4 h_S_)))))
        transposes_S2x2x64x4x2048_S2x2048x2x4x64_0_4_1_3_2) shapeCasts_S2x2048x2x4x64_S2x2048x512⟩,
      ⟨S2x2048x512, mulf (shapeCast S2x2048x512 (transpose S2x2048x4x128 [2, 3, 0, 1] (Host.dotGeneral dot_S4x128x128_S2x2048x4x128_S4x128x2x2048_1_3_2_01_0_2 none W (subf A B))
      transposes_S4x128x2x2048_S2x2048x4x128_2_3_0_1) shapeCasts_S2x2048x4x128_S2x2048x512) (broadcastInDim S2x2048x512 ![0, 1, 2] bcast_S1x1x512_S2x2048x512_0_1_2 (broadcastInDim S1x1x512 ![2] bcast_S512_S1x1x512_2 S))⟩]
      concatenates_S2x2048x512_S2x2048x512_S2x2048x1024_d2) O))) shapeCasts_S2x2048x1024_S4096x1024⟩] concatenates_S8192x1024_S4096x1024_S12288x1024_d0 (ix2 r l)
    = if 8192 ≤ r.val then Cert.AttnValue.attnLayer X M (L (Proc.devRef .tc main_arg2)) (L (Proc.devRef .tc main_arg3)) V (L (Proc.devRef .tc main_arg5)) W S O
        ⟨(r.val - 8192) / 2048 % 2, by omega⟩ ⟨r.val % 2048, by omega⟩ l else X (ix2 r l) := by
  rw [rows_of]
  by_cases h : r.val < 8192
  · rw [dif_pos h, if_neg (by omega)]
  · rw [dif_neg h, if_pos (by omega), moved_of]
    have eb : (⟨(r.val - 8192) / 2048, by omega⟩ : Fin 2) = ⟨(r.val - 8192) / 2048 % 2, by omega⟩ := Fin.ext (by show (r.val - 8192) / 2048 = (r.val - 8192) / 2048 % 2; omega)
    have et : (⟨(r.val - 8192) % 2048, by omega⟩ : Fin 2048) = ⟨r.val % 2048, by omega⟩ := Fin.ext (by show (r.val - 8192) % 2048 = r.val % 2048; omega)
    simp only [row_at L hq hk V W S E hE A B hA hB]
    refine Eq.trans ?_ (Cert.AttnValue.attnLayer_congr _ _ _ _ _ _ _ _ _ eb et rfl)
    unfold Cert.AttnValue.attnLayer layer
    refine congrArg₂ (fun a b : EReal => a + b) (at2 X (by show 8192 + (r.val - 8192) = 8192 + 2048 * ((r.val - 8192) / 2048) + (r.val - 8192) % 2048; omega) rfl) ?_
    rfl

end Cert.AttnRes

end
-- ==== Proof.AttnClaim.lean ====
/- The attention kernel and its reference leave the same array, whenever no query and no key is infinite. -/
module

public import proofs.«01_k».proof.Defs
public import proofs.«01_k».proof.Proof.AttnValue
public import proofs.«01_k».proof.Proof.AttnPre
public import proofs.«01_k».proof.Proof.AttnRes
public import Idealize.ShloMosaic.Lib.Quiescent

@[expose] public section

set_option maxRecDepth 16384

noncomputable section

open Idealize.ShloMosaic Idealize.ShloMosaic.TcCoe Idealize.SL.Sem

namespace Cert.AttnClaim

theorem quiescent : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel's array and the reference's are the same layer. -/
theorem algebraic : Cert.algebraic_KernelIdeal_ReferenceIdeal_pre_finite_qk := by
  pair_intro
  · run_from Cert.KernelIdeal.Gen.run_main m g
  · run_from Cert.ReferenceIdeal.Value.run m' g'
    rw [Cert.AttnValue.final m c]
    funext i
    obtain ⟨j, l, rfl⟩ : ∃ (j : Fin 12288) (l : Fin 1024), i = ix2 j l := ⟨i 0, i 1, by funext a; fin_cases a <;> rfl⟩
    obtain ⟨h0, h1, h2, h3, h4, h5, h6, h7, h8⟩ := hagree c
    obtain ⟨hq, hk⟩ := Cert.AttnPre.read _ _ _ _ _ _ _ _ _ (hpre c)
    have eq2 : (StableHlo.launchContents m' c) (Proc.devRef .tc Cert.ReferenceIdeal.main_arg2) = _ := h2
    have eq3 : (StableHlo.launchContents m' c) (Proc.devRef .tc Cert.ReferenceIdeal.main_arg3) = _ := h3
    refine (Cert.AttnRes.res_eq (StableHlo.launchContents m' c) (by rw [eq2]; exact hq) (by rw [eq3]; exact hk) _ _ _ _ _ _ _ rfl _ _ rfl rfl j l).trans ?_
    rw [Cert.AttnEntry.V_x]
    have hx : ∀ k, (StableHlo.launchContents m' c) (Proc.devRef .tc k) = m' ((c.tc : Thread Cert.ReferenceIdeal.nD Cert.ReferenceIdeal.τ).loc k) := fun _ => rfl
    simp only [hx]
    rw [h2, h3, h4, h5, h6, h7, h8]
    rfl

end Cert.AttnClaim

end
-- ==== Proof.CtxBody.lean ====
/- The attention kernel's body as called for the context tokens, whose sequences hold 256 keys. -/
module

public import proofs.«01_k».proof.Proof.Gen.Kernel3Ideal.Skeleton
public import proofs.«01_k».proof.Proof.AttnCore
public import Idealize.ShloMosaic.Lib.WordCmp

@[expose] public section

set_option maxRecDepth 16384

noncomputable section

open Idealize.ShloMosaic Idealize.ShloMosaic.TcCoe Idealize.SL.Sem

namespace Cert.CtxBody

open Cert.Kernel3Ideal Cert.Kernel3Ideal.Gen Cert.AttnMath Cert.AttnBody Cert.AttnCore

/-- The exponentials of a half's scores: its lanes of the queries against the keys, less each row's largest. -/
def expo (mk : IVec S256x128 1) (q : FVec Ideal S256x128 .bf16) (k : FVec Ideal S256x128 .bf16) : FVec Ideal S256x256 .f32 :=
  have s : FVec Ideal S256x256 .f32 := matmul dot_S256x128_S256x128_S256x256_1_1_0_0_n_n none (select mk q (k0_pay7 (F := Ideal))) k (constant S256x256 .f32 0x00000000#32)
  exp (subf s (broadcastTo S256x256 (shapeCast S256x1 (multiReduction .maximumf [1] S256 s 0xFF800000#32 reduces_S256x256_S256 (.inl rfl) rfl) shapeCasts_S256_S256x1) broadcasts_S256x1_S256x256))

/-- The half's output: the weighted values over the total weight, on its own lanes. -/
def half (mk : IVec S256x128 1) (e : FVec Ideal S256x256 .f32) (v : FVec Ideal S256x128 .bf16) : FVec Ideal S256x128 .f32 :=
  select mk (divf (matmul dot_S256x256_S256x128_S256x128_1_0_0_1_n_n none (truncf .bf16 e bitsLt_bf16_f32) v (constant S256x128 .f32 0x00000000#32))
    (broadcastTo S256x128 (shapeCast S256x1 (multiReduction .add [1] S256 e 0x00000000#32 reduces_S256x256_S256 (.inl rfl) rfl) shapeCasts_S256_S256x1) broadcasts_S256x1_S256x128))
    (broadcast S256x128 (Scalar.ofBits .f32 0x00000000#32))

theorem expo_at (mk : IVec S256x128 1) (q : FVec Ideal S256x128 .bf16) (k : FVec Ideal S256x128 .bf16) (r : Fin 256) (s : Fin 256) :
    expo mk q k (ix2 r s) = wt (fun x => ∑ l, Scalar.select (mk (ix2 r l)) ((show EReal from q (ix2 r l)) * k (ix2 x l)) 0) s := by
  unfold wt top
  pointwise [expo, k0_pay7]

theorem half_at (mk : IVec S256x128 1) (e : FVec Ideal S256x256 .f32) (v : FVec Ideal S256x128 .bf16) (r : Fin 256) (l : Fin 128) :
    half mk e v (ix2 r l) = Scalar.select (mk (ix2 r l)) (Ideal.div (∑ x, (show EReal from e (ix2 r x)) * v (ix2 x l)) (∑ x, (show EReal from e (ix2 r x)))) 0 := by
  pointwise [half]

/-- Two heads side by side: the first on the lower lanes, the second on the upper. -/
def pair (q : FVec Ideal S256x128 .bf16) (ka va kb vb : FVec Ideal S256x128 .bf16) : FVec Ideal S256x128 .f32 :=
  addf (half Cert.KernelIdeal.Gen.k0_pay5 (expo Cert.KernelIdeal.Gen.k0_pay5 q ka) va) (half Cert.KernelIdeal.Gen.k0_pay6 (expo Cert.KernelIdeal.Gen.k0_pay6 q kb) vb)

theorem pair_at (q : FVec Ideal S256x128 .bf16) (ka va kb vb : FVec Ideal S256x128 .bf16) (r : Fin 256) (l : Fin 128) :
    pair q ka va kb vb (ix2 r l) = if l.val < 64
      then attend (fun x => ∑ e : Fin 64, (show EReal from q (ix2 r ⟨e.val, by omega⟩)) * ka (ix2 x ⟨e.val, by omega⟩)) (fun x => va (ix2 x l))
      else attend (fun x => ∑ e : Fin 64, (show EReal from q (ix2 r ⟨64 + e.val, by omega⟩)) * kb (ix2 x ⟨64 + e.val, by omega⟩)) (fun x => vb (ix2 x l)) := by
  have h0 : pair q ka va kb vb (ix2 r l) = (show EReal from half Cert.KernelIdeal.Gen.k0_pay5 (expo Cert.KernelIdeal.Gen.k0_pay5 q ka) va (ix2 r l)) + half Cert.KernelIdeal.Gen.k0_pay6 (expo Cert.KernelIdeal.Gen.k0_pay6 q kb) vb (ix2 r l) := rfl
  rw [h0, half_at, half_at, lo_at, hi_at, select_if, select_if]
  simp only [expo_at, lo_at, hi_at, select_if, sum_lo, sum_hi]
  by_cases h : l.val < 64
  · rw [if_pos h, if_pos h, if_neg (not_not.2 h)]; exact add_zero _
  · rw [if_neg h, if_neg h, if_pos h]; exact zero_add _

/-- A pair of heads' lanes of the keys or the values. -/
abbrev laneK (c : ℕ) (h : S256x256.Slices ![0, c] S256x128) (k : FVec Ideal S1x256x256 .bf16) : FVec Ideal S256x128 .bf16 :=
  extractStridedSlice S256x128 ![0, c] (shapeCast S256x256 k shapeCasts_S1x256x256_S256x256) h

section
variable (q : FVec Ideal S256x512 .bf16) (k v : FVec Ideal S1x256x256 .bf16)

theorem pair0_eq : k0_pay12 (k0_pay4 v) k0_pay6 (k0_pay9 q k v) (k0_pay10 q k) (k0_pay11 q k)
    = pair (laneQ 0 slices_S256x512_o0_0_S256x128 q) (laneK 0 slices_S256x256_o0_0_S256x128 k) (laneK 0 slices_S256x256_o0_0_S256x128 v)
      (laneK 128 slices_S256x256_o0_128_S256x128 k) (laneK 128 slices_S256x256_o0_128_S256x128 v) := rfl

theorem pair1_eq : k0_pay13 (k0_pay2 q) (k0_pay3 k) (k0_pay4 v) k0_pay5 k0_pay6 (k0_pay7 (F := Ideal))
    = pair (laneQ 128 slices_S256x512_o0_128_S256x128 q) (laneK 0 slices_S256x256_o0_0_S256x128 k) (laneK 0 slices_S256x256_o0_0_S256x128 v)
      (laneK 128 slices_S256x256_o0_128_S256x128 k) (laneK 128 slices_S256x256_o0_128_S256x128 v) := rfl

theorem pair2_eq : k0_pay17 (k0_pay3 k) (k0_pay4 v) k0_pay5 k0_pay6 (k0_pay7 (F := Ideal)) (k0_pay14 (k0_pay2 q)) (k0_pay15 (k0_pay2 q) k0_pay5 (k0_pay7 (F := Ideal)))
      (k0_pay16 (k0_pay3 k)) (constant S256x256 .f32 0x00000000#32)
    = pair (laneQ 256 slices_S256x512_o0_256_S256x128 q) (laneK 128 slices_S256x256_o0_128_S256x128 k) (laneK 128 slices_S256x256_o0_128_S256x128 v)
      (laneK 0 slices_S256x256_o0_0_S256x128 k) (laneK 0 slices_S256x256_o0_0_S256x128 v) := rfl

theorem pair3_eq : k0_pay22 (k0_pay3 k) (k0_pay4 v) k0_pay5 k0_pay6 (k0_pay7 (F := Ideal)) (k0_pay18 (k0_pay2 q)) (k0_pay20 (k0_pay2 q) (k0_pay3 k) k0_pay5 (k0_pay7 (F := Ideal)))
      (k0_pay21 (k0_pay2 q) (k0_pay3 k) (k0_pay4 v) k0_pay5 (k0_pay7 (F := Ideal)))
    = pair (laneQ 384 slices_S256x512_o0_384_S256x128 q) (laneK 128 slices_S256x256_o0_128_S256x128 k) (laneK 128 slices_S256x256_o0_128_S256x128 v)
      (laneK 0 slices_S256x256_o0_0_S256x128 k) (laneK 0 slices_S256x256_o0_0_S256x128 v) := rfl

theorem laneK_at (c : ℕ) (h) (hc : c + 128 ≤ 256) (s : Fin 256) (l : Fin 128) : laneK c h k (ix2 s l) = k (ix3 0 s ⟨c + l.val, by omega⟩) := by
  pointwise [laneK]

end

set_option maxHeartbeats 1000000 in
theorem core (n u : ℕ) (hu : u < n) (mp mn : Ideal .f32) (hmp : (mp : EReal) = if u = 0 then 0 else 1) (hmn : (mn : EReal) = if u + 1 = n then 0 else 1)
    (x : FVec Ideal S256x1024 .f32) (gt : FVec Ideal S1x1x1024 .f32)
    (q : FVec Ideal S256x512 .bf16) (k v : FVec Ideal S1x256x256 .bf16)
    (p : FVec Ideal S256x512 .f32) (pp pn : FVec Ideal S8x512 .f32) (W0 W1 W2 W3 : FVec Ideal S1x128x128 .bf16) (S0 S1 S2 S3 : FVec Ideal S1x128 .f32)
    (o : FVec Ideal S1024x1024 .bf16)
    (Q : Fin 256 → Fin 8 → Fin 64 → EReal) (K V : Fin 256 → Fin 2 → Fin 64 → EReal) (f : Fin (256 * n) → Fin 512 → EReal)
    (WW : Fin 4 → Fin 128 → Fin 128 → EReal) (SS : Fin 512 → EReal)
    (hq : ∀ r (h : Fin 8) (e : Fin 64), q (ix2 r ⟨64 * h.val + e.val, by omega⟩) = Q r h e * eighth)
    (hk : ∀ s (c : Fin 256), k (ix3 0 s c) = K s (kvOf c.val) ⟨c.val % 64, by omega⟩)
    (hv : ∀ s (c : Fin 256), v (ix3 0 s c) = V s (kvOf c.val) ⟨c.val % 64, by omega⟩)
    (hp : ∀ (r : Fin 256) l, p (ix2 r l) = f ⟨256 * u + r.val, by omega⟩ l)
    (hpp : ∀ (h : u ≠ 0) (r : Fin 8) l, pp (ix2 r l) = f ⟨256 * u + r.val - 8, by omega⟩ l)
    (hpn : ∀ (h : u + 1 ≠ n) (r : Fin 8) l, pn (ix2 r l) = f ⟨256 * u + 256 + r.val, by omega⟩ l)
    (hW0 : ∀ x d, W0 (ix3 0 x d) = WW 0 x d) (hW1 : ∀ x d, W1 (ix3 0 x d) = WW 1 x d) (hW2 : ∀ x d, W2 (ix3 0 x d) = WW 2 x d) (hW3 : ∀ x d, W3 (ix3 0 x d) = WW 3 x d)
    (hS0 : ∀ d : Fin 128, S0 (ix2 0 d) = SS ⟨d.val, by omega⟩) (hS1 : ∀ d : Fin 128, S1 (ix2 0 d) = SS ⟨128 + d.val, by omega⟩)
    (hS2 : ∀ d : Fin 128, S2 (ix2 0 d) = SS ⟨256 + d.val, by omega⟩) (hS3 : ∀ d : Fin 128, S3 (ix2 0 d) = SS ⟨384 + d.val, by omega⟩)
    (r : Fin 256) (l : Fin 1024) :
    k0_pay1 x (k0_pay36 gt) (k0_pay37
      (k0_pay12 (k0_pay4 v) k0_pay6 (k0_pay9 q k v) (k0_pay10 q k) (k0_pay11 q k))
      (k0_pay13 (k0_pay2 q) (k0_pay3 k) (k0_pay4 v) k0_pay5 k0_pay6 (k0_pay7 (F := Ideal)))
      (k0_pay17 (k0_pay3 k) (k0_pay4 v) k0_pay5 k0_pay6 (k0_pay7 (F := Ideal)) (k0_pay14 (k0_pay2 q)) (k0_pay15 (k0_pay2 q) k0_pay5 (k0_pay7 (F := Ideal)))
        (k0_pay16 (k0_pay3 k)) (constant S256x256 .f32 0x00000000#32))
      (k0_pay22 (k0_pay3 k) (k0_pay4 v) k0_pay5 k0_pay6 (k0_pay7 (F := Ideal)) (k0_pay18 (k0_pay2 q)) (k0_pay20 (k0_pay2 q) (k0_pay3 k) k0_pay5 (k0_pay7 (F := Ideal)))
        (k0_pay21 (k0_pay2 q) (k0_pay3 k) (k0_pay4 v) k0_pay5 (k0_pay7 (F := Ideal))))
      mp mn p (k0_pay26 (F := Ideal)) (k0_pay27 mp mn p pp pn W0 S0)
      (k0_pay29 mp mn p (k0_pay26 (F := Ideal)) (k0_pay28 mp mn p pp pn) W1 S1)
      (k0_pay33 mp mn p (k0_pay26 (F := Ideal)) (k0_pay31 (k0_pay25 mp mn p pp pn)) (k0_pay32 (k0_pay25 mp mn p pp pn)) W2 S2)
      (k0_pay34 (k0_pay25 mp mn p pp pn)) (k0_pay35 (k0_pay25 mp mn p pp pn)) 268#32 W3 S3 o) (ix2 r l)
    = layer (x (ix2 r l)) (gt (ix3 0 0 l)) (Q r) K V f WW SS (fun c => o (ix2 c l)) ⟨256 * u + r.val, by omega⟩ := by
  rw [pair0_eq, pair1_eq, pair2_eq, pair3_eq]
  refine core_of n u hu mp mn hmp hmn x gt _ _ _ _ p pp pn W0 W1 W2 W3 S0 S1 S2 S3 o Q K V f WW SS ?_ hp hpp hpn hW0 hW1 hW2 hW3 hS0 hS1 hS2 hS3 r l
  refine pairs_val (fun r c => q (ix2 r c)) (fun s c => k (ix3 0 s c)) (fun s c => v (ix3 0 s c)) Q K V hq hk hv _ ![0, 0, 128, 128] ![128, 128, 0, 0] rfl rfl
    (by decide) (by decide) fun a r l => ?_
  obtain ⟨a, ha⟩ := a
  interval_cases a
  all_goals
    refine (pair_at _ _ _ _ _ r l).trans ?_
    simp only [laneQ_at _ 0 _ (by decide), laneQ_at _ 128 _ (by decide), laneQ_at _ 256 _ (by decide), laneQ_at _ 384 _ (by decide), laneK_at _ 0 _ (by decide), laneK_at _ 128 _ (by decide)]
    rfl

end Cert.CtxBody

end
-- ==== Proof.CtxOut.lean ====
/- What the attention kernel's body, as called for the context tokens, leaves in its output block, over the blocks of its inputs. -/
module

public import proofs.«01_k».proof.Proof.Gen.Kernel3Ideal.Frame
public import proofs.«01_k».proof.Proof.CtxBody
public import Idealize.ShloMosaic.Lib.Claim

@[expose] public section

set_option maxRecDepth 16384

noncomputable section

open Idealize.ShloMosaic Idealize.ShloMosaic.TcCoe Idealize.SL.Sem

namespace Cert.CtxOut

open Cert.Kernel3Ideal Cert.Kernel3Ideal.Gen Cert.AttnMath Cert.AttnCore Cert.CtxBody

variable (i : grid0.Coords) (x0 : FVec Ideal S256x1024 .f32) (x1 : FVec Ideal S1x6x1024 .f32) (x2 : FVec Ideal S256x512 .bf16)
  (x3 x4 : FVec Ideal S1x256x256 .bf16) (x5 : FVec Ideal S256x512 .f32) (x6 x7 : FVec Ideal S8x512 .f32) (x8 : FVec Ideal S4x128x128 .bf16)
  (x9 : FVec Ideal S1x512 .f32) (x10 : FVec Ideal S1024x1024 .bf16)

theorem out_at (n u : ℕ) (hu : u < n) (hmp : (k0_pay23 (F := Ideal) (BitVec.ofNat 32 (i 0).val) : EReal) = if u = 0 then 0 else 1)
    (hmn : (k0_pay24 (F := Ideal) (BitVec.ofNat 32 (i 0).val) : EReal) = if u + 1 = n then 0 else 1)
    (Q : Fin 256 → Fin 8 → Fin 64 → EReal) (K V : Fin 256 → Fin 2 → Fin 64 → EReal) (f : Fin (256 * n) → Fin 512 → EReal)
    (hq : ∀ r (h : Fin 8) (e : Fin 64), x2 (ix2 r ⟨64 * h.val + e.val, by omega⟩) = Q r h e * eighth)
    (hk : ∀ s (c : Fin 256), x3 (ix3 0 s c) = K s (kvOf c.val) ⟨c.val % 64, by omega⟩)
    (hv : ∀ s (c : Fin 256), x4 (ix3 0 s c) = V s (kvOf c.val) ⟨c.val % 64, by omega⟩)
    (hp : ∀ (r : Fin 256) l, x5 (ix2 r l) = f ⟨256 * u + r.val, by omega⟩ l)
    (hpp : ∀ (h : u ≠ 0) (r : Fin 8) l, x6 (ix2 r l) = f ⟨256 * u + r.val - 8, by omega⟩ l)
    (hpn : ∀ (h : u + 1 ≠ n) (r : Fin 8) l, x7 (ix2 r l) = f ⟨256 * u + 256 + r.val, by omega⟩ l) (r : Fin 256) (l : Fin 1024) :
    out0_11 (F := Ideal) i x0 x1 x2 x3 x4 x5 x6 x7 x8 x9 x10 (ix2 r l)
      = layer (x0 (ix2 r l)) (x1 (ix3 0 2 l)) (Q r) K V f (fun g c d => x8 (ix3 g c d)) (fun c => x9 (ix2 0 c)) (fun c => x10 (ix2 c l)) ⟨256 * u + r.val, by omega⟩ := by
  unfold_out out0_11; frame_out
  refine (core n u hu _ _ hmp hmn _ _ _ _ _ _ _ _ _ _ _ _ _ _ _ _ _ Q K V f (fun g c d => x8 (ix3 g c d)) (fun c => x9 (ix2 0 c)) hq hk hv hp hpp hpn
    ?_ ?_ ?_ ?_ ?_ ?_ ?_ ?_ r l).trans ?_
  · intro x d; pointwise [r0_3]
  · intro x d; pointwise [r0_5]
  · intro x d; pointwise [r0_7]
  · intro x d; pointwise [r0_9]
  · intro d; pointwise [r0_4]
  · intro d; pointwise [r0_6]
  · intro d; pointwise [r0_8]
  · intro d; pointwise [r0_10]
  · refine congrArg (fun g => layer (x0 (ix2 r l)) g (Q r) K V f _ _ _ _) ?_
    pointwise [r0_12]

end Cert.CtxOut

end
-- ==== Proof.CtxEntry.lean ====
/- What the host code hands the attention kernel's call for the context tokens, and where each grid point's blocks lie in it. -/
module

public import proofs.«01_k».proof.Proof.Gen.Kernel3Ideal.Frame
public import proofs.«01_k».proof.Proof.CtxBody
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxEntry

open Cert.Kernel3Ideal Cert.Kernel3Ideal.Gen Cert.AttnMath Cert.AttnCore

variable (m : (ℓ : Loc nD τ sig) → Buf (Elt Ideal) ℓ)

/-- The block each window is at, by the grid point. -/
theorem idx : ∀ t : Fin cfg0.N, win0_0.index t = ![t.val, 0] ∧ win0_1.index t = ![0, 0, 0]
    ∧ win0_2.index t = ![t.val, 0] ∧ win0_3.index t = ![t.val, 0, 0] ∧ win0_4.index t = ![t.val, 0, 0]
    ∧ win0_5.index t = ![t.val, 0] ∧ win0_8.index t = ![0, 0, 0] ∧ win0_9.index t = ![0, 0]
    ∧ win0_10.index t = ![0, 0] ∧ win0_11.index t = ![t.val, 0] :=
  (by decide +kernel : ∀ t : Fin grid0.N, _)

theorem V_q (c : Dev nD) (r : Fin 12288) (l : Fin 512) :
    V m c main_v2 (ix2 r l) = (show EReal from m ((c : Thread nD τ).loc main_arg2) (ix2 r l)) * eighth := by
  entry_read
  rfl

theorem kv_read (A : FVec Ideal S32x256x2x64 .f32) (b : Fin 32) (s : Fin 256) (l : Fin 256) :
    truncf .bf16 (fun i => shapeCast S32x256x256 (concatenate S32x256x4x64 2 [⟨S32x256x2x64, A⟩, ⟨S32x256x2x64, Host.reverse [2] A⟩]
      concatenates_S32x256x2x64_S32x256x2x64_S32x256x4x64_d2) shapeCasts_S32x256x4x64_S32x256x256 i) bitsLt_bf16_f32 (ix3 b s l)
    = A (ix4 b s (kvOf l.val) ⟨l.val % 64, by omega⟩) := by
  pointwise
  by_cases h : l.val / 64 < 2
  · rw [dif_pos h]
    refine congrArg (fun h => A (ix4 b s h _)) (Fin.ext ?_)
    show l.val / 64 = _
    unfold kvOf
    by_cases h1 : l.val < 64
    · rw [if_pos h1]; show l.val / 64 = 0; omega
    · rw [if_neg h1, if_pos (by omega)]; show l.val / 64 = 1; omega
  · rw [dif_neg h]
    refine (congrArg (fun h => A (ix4 b s (h : Fin 2) _)) (if_pos (show (2 : Fin 4) ∈ [2] by decide))).trans (congrArg (fun h => A (ix4 b s (h : Fin 2) _)) (Fin.ext ?_))
    show 2 - (l.val / 64 - 2 + 1) = _
    unfold kvOf
    rw [if_neg (by omega)]
    by_cases h1 : l.val < 192
    · rw [if_pos h1]; show 2 - (l.val / 64 - 2 + 1) = 1; omega
    · rw [if_neg h1]; show 2 - (l.val / 64 - 2 + 1) = 0; omega

theorem V_k (c : Dev nD) (b : Fin 32) (s : Fin 256) (l : Fin 256) :
    V m c main_v6 (ix3 b s l) = m ((c : Thread nD τ).loc main_arg3) (ix4 b s (kvOf l.val) ⟨l.val % 64, by omega⟩) := by
  entry_read
  exact kv_read _ b s l

theorem V_v (c : Dev nD) (b : Fin 32) (s : Fin 256) (l : Fin 256) :
    V m c main_v10 (ix3 b s l) = m ((c : Thread nD τ).loc main_arg4) (ix4 b s (kvOf l.val) ⟨l.val % 64, by omega⟩) := by
  entry_read
  exact kv_read _ b s l

theorem V_x (c : Dev nD) : V m c main_v14 = m ((c : Thread nD τ).loc main_arg0) := by
  entry_read
  rfl

theorem V_s (c : Dev nD) (a : Fin 512) : V m c main_v12 (ix2 0 a) = m ((c : Thread nD τ).loc main_arg7) (ix1 a) := by
  entry_read
  pointwise

theorem block_k (c : Dev nD) (t : Fin cfg0.N) (ht : t.val < 32) (s : Fin 256) (a : Fin 256) :
    iblk m c 3 t (ix3 0 s a : S1x256x256.Idx) = V m c main_v6 (ix3 ⟨t.val, ht⟩ s a) := by blk_ext [iblk, idx t]

theorem block_v (c : Dev nD) (t : Fin cfg0.N) (ht : t.val < 32) (s : Fin 256) (a : Fin 256) :
    iblk m c 4 t (ix3 0 s a : S1x256x256.Idx) = V m c main_v10 (ix3 ⟨t.val, ht⟩ s a) := by blk_ext [iblk, idx t]

theorem block_s (c : Dev nD) (t : Fin cfg0.N) (a : Fin 512) : iblk m c 9 t (ix2 0 a : S1x512.Idx) = V m c main_v12 (ix2 0 a) := by blk_ext [iblk, idx t]

end Cert.CtxEntry

end
-- ==== Proof.CtxValue.lean ====
/- The array the attention kernel leaves when called for the context tokens is the layer, token by token. -/
module

public import proofs.«01_k».proof.Proof.Gen.Kernel3Ideal.Frame
public import proofs.«01_k».proof.Proof.CtxOut
public import proofs.«01_k».proof.Proof.CtxEntry
public import proofs.«01_k».proof.Proof.AttnValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxValue

open Cert.Kernel3Ideal Cert.Kernel3Ideal.Gen Cert.CtxEntry Cert.AttnMath Cert.AttnCore Cert.CtxBody Cert.AttnValue

variable (m : (ℓ : Loc nD τ sig) → Buf (Elt Ideal) ℓ)

/-- The grid point's place in its sequence, as the kernel computes it. -/
def place (a : BitVec 32) : BitVec 32 :=
  let v157 : BitVec 32 := Scalar.select (Scalar.cmpi .eq 1#32 0#32) 1#32 1#32
  let v158 : BitVec 32 := Scalar.remsi a v157
  Scalar.select (Scalar.andi (Scalar.xori (Scalar.cmpi .slt v158 0#32) (Scalar.cmpi .slt v157 0#32)) (Scalar.cmpi .ne v158 0#32)) (Scalar.addi v158 v157) v158

theorem bit : ∀ t : Fin cfg0.N, Scalar.cmpi .eq (place (BitVec.ofNat 32 (grid0.coords t 0).val)) 0#32 = BitVec.ofBool (decide (0 = 0)) :=
  (by decide +kernel : ∀ t : Fin grid0.N, _)

theorem pay23_at (t : Fin cfg0.N) : (k0_pay23 (F := Ideal) (BitVec.ofNat 32 (grid0.coords t 0).val) : EReal) = if 0 = 0 then 0 else 1 := by
  rw [← select_zero_one, ← bit]; rfl

theorem pay24_at (t : Fin cfg0.N) : (k0_pay24 (F := Ideal) (BitVec.ofNat 32 (grid0.coords t 0).val) : EReal) = if 0 + 1 = 1 then 0 else 1 :=
  pay23_at t

/-- The layer over the whole arrays: the context tokens' rows, each request over its own. -/
def ctxLayer (X : FVec Ideal S12288x1024 .f32) (M : FVec Ideal S8x6x1024 .f32) (Q : FVec Ideal S12288x512 .f32) (K V : FVec Ideal S32x256x2x64 .f32)
    (P : FVec Ideal S12288x512 .f32) (W : FVec Ideal S4x128x128 .f32) (S : FVec Ideal S512 .f32) (O : FVec Ideal S1024x1024 .f32)
    (b : Fin 32) (t : Fin 256) (l : Fin 1024) : EReal :=
  layer (X (ix2 ⟨256 * b.val + t.val, by omega⟩ l)) (M (ix3 0 2 l))
    (fun h e => Q (ix2 ⟨256 * b.val + t.val, by omega⟩ ⟨64 * h.val + e.val, by omega⟩))
    (fun s h e => K (ix4 b s h e)) (fun s h e => V (ix4 b s h e)) (fun (i : Fin 256) c => P (ix2 ⟨256 * b.val + i.val, by omega⟩ c))
    (fun g c d => W (ix3 g c d)) (fun c => S (ix1 c)) (fun c => O (ix2 c l)) t

theorem ctxLayer_congr (X : FVec Ideal S12288x1024 .f32) (M : FVec Ideal S8x6x1024 .f32) (Q : FVec Ideal S12288x512 .f32) (K V : FVec Ideal S32x256x2x64 .f32)
    (P : FVec Ideal S12288x512 .f32) (W : FVec Ideal S4x128x128 .f32) (S : FVec Ideal S512 .f32) (O : FVec Ideal S1024x1024 .f32)
    {b b' : Fin 32} {t t' : Fin 256} {l l' : Fin 1024} (hb : b = b') (ht : t = t') (hl : l = l') :
    ctxLayer X M Q K V P W S O b t l = ctxLayer X M Q K V P W S O b' t' l' := by rw [hb, ht, hl]

set_option maxHeartbeats 1000000 in
theorem final (c : Dev nD) : (dats m 0 c).arrAt 11 (cfgs 0).N = fun i : S12288x1024.Idx => if (i 0).val < 8192 then
    ctxLayer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ⟨(i 0).val / 256 % 32, by omega⟩ ⟨(i 0).val % 256, by omega⟩ (i 1) else V m c main_v14 i := by
  refine (dats m 0 c).arrAt_eq_of_coversWhere 11 _ (fun β => β 0 < 32) (by decide +kernel) (fun t hf y => ?_) (fun j => by blk_simp [Pipeline.Window.cell_apply]; omega)
  blk_simp
  rw [after0_11]
  idx_vars y
  have ht : t.val < 32 := t.isLt
  refine (CtxOut.out_at _ _ _ _ _ _ _ _ _ _ _ _ 1 0 (by omega) (pay23_at t) (pay24_at t)
    (fun r h e => m ((c : Thread nD τ).loc main_arg2) (ix2 ⟨256 * t.val + r.val, by omega⟩ ⟨64 * h.val + e.val, by omega⟩))
    (fun s h e => m ((c : Thread nD τ).loc main_arg3) (ix4 ⟨t.val, ht⟩ s h e))
    (fun s h e => m ((c : Thread nD τ).loc main_arg4) (ix4 ⟨t.val, ht⟩ s h e))
    (fun i l => m ((c : Thread nD τ).loc main_arg5) (ix2 ⟨256 * t.val + i.val, by omega⟩ l))
    ?_ ?_ ?_ ?_ (fun h => absurd rfl h) (fun h => absurd rfl h) y0 y1).trans ?_
  · intro r h e
    have k : iblk m c 2 t (ix2 r ⟨64 * h.val + e.val, by omega⟩ : S256x512.Idx) = V m c main_v2 (ix2 ⟨256 * t.val + r.val, by omega⟩ ⟨64 * h.val + e.val, by omega⟩) := by
      blk_ext [iblk, idx t]
    rw [k]; exact V_q m c _ _
  · intro s a; exact (block_k m c t ht s a).trans (V_k m c _ s a)
  · intro s a; exact (block_v m c t ht s a).trans (V_v m c _ s a)
  · intro r l; blk_ext [iblk, V, idx t]
  · have eb : (win0_11.index t 0 * 256 + y0.val) / 256 % 32 = t.val := by rw [(idx t).2.2.2.2.2.2.2.2.2]; show (t.val * 256 + y0.val) / 256 % 32 = _; omega
    have et : (win0_11.index t 0 * 256 + y0.val) % 256 = y0.val := by rw [(idx t).2.2.2.2.2.2.2.2.2]; show (t.val * 256 + y0.val) % 256 = _; omega
    have el : (((View.whole main_v14).slice (win0_11.rect t)).emb (ix2 y0 y1) 1 : Fin 1024) = y1 := Fin.ext (by blk_simp [idx t])
    refine Eq.trans ?_ (ctxLayer_congr _ _ _ _ _ _ _ _ _ (Fin.ext eb.symm : (⟨t.val, ht⟩ : Fin 32) = _) (Fin.ext et.symm : (⟨y0.val, y0.isLt⟩ : Fin 256) = _) el.symm)
    unfold ctxLayer
    have e0 : (⟨256 * 0 + y0.val, by omega⟩ : Fin (256 * 1)) = ⟨y0.val, y0.isLt⟩ := Fin.ext (by show 256 * 0 + y0.val = y0.val; omega)
    rw [e0]
    refine layer_congr ?_ ?_ ?_ rfl rfl rfl ?_ ?_ ?_
    · blk_ext [iblk, V, idx t]
    · blk_ext [iblk, V, idx t]
    · rfl
    · funext g a d; blk_point [iblk, V, idx t]
    · funext a; exact (block_s m c t a).trans (V_s m c a)
    · funext a; blk_point [iblk, V, idx t]

end Cert.CtxValue

end
-- ==== Proof.CtxPre.lean ====
/- The precondition of the context tokens' attention read: no query and no key is infinite. -/
module

public import proofs.«01_k».proof.Pre_finite_qk_prompt
public import Idealize.ShloMosaic.Lib.ReduceAll
public import proofs.«01_k».proof.Proof.AttnPre
public import Idealize.ShloMosaic.Lib.Claim

@[expose] public section

set_option maxRecDepth 16384

noncomputable section

open Idealize.ShloMosaic

namespace Cert.CtxPre

open Cert.Pre_finite_qk_prompt

instance facts : Facts where
  bcast_S_S12288x512 := by decide
  reducesTo_S12288x512_S_d0_1 := by decide
  h_S_ := by decide
  bcast_S_S32x256x2x64 := by decide
  reducesTo_S32x256x2x64_S_d0_1_2_3 := by decide

instance : Subsingleton S_.Idx := ⟨fun a b => funext fun i => i.elim0⟩

theorem read (a0 : FVec Ideal S12288x1024 .f32) (a1 : FVec Ideal S8x6x1024 .f32) (a2 : FVec Ideal S12288x512 .f32) (a3 a4 : FVec Ideal S32x256x2x64 .f32)
    (a5 : FVec Ideal S12288x512 .f32) (a6 : FVec Ideal S4x128x128 .f32) (a7 : FVec Ideal S512 .f32) (a8 : FVec Ideal S1024x1024 .f32)
    (h : Cert.Pre_finite_qk_prompt.fn (F := Ideal) a0 a1 a2 a3 a4 a5 a6 a7 a8 = fun _ => 1#1) :
    (∀ i, ∃ r : ℝ, (show EReal from a2 i) = r) ∧ (∀ i, ∃ r : ℝ, (show EReal from a3 i) = r) := by
  have h0 := congrFun h (fun i => i.elim0)
  simp only [Cert.Pre_finite_qk_prompt.fn] at h0
  have h1 := IntOp.andi_eq_one.1 h0
  constructor
  · intro i; have := Host.reduce_andi_all _ _ _ _ _ h1.1 i; exact Cert.AttnPre.real_of _ this
  · intro i; have := Host.reduce_andi_all _ _ _ _ _ h1.2 i; exact Cert.AttnPre.real_of _ this

end Cert.CtxPre

end
-- ==== Proof.CtxRef.lean ====
/- What the reference of the context tokens' attention computes, read at an element. -/
module

public import proofs.«01_k».proof.Proof.Gen.Reference3Ideal.Run
public import proofs.«01_k».proof.Proof.AttnRef
public import Idealize.ShloMosaic.Lib.Claim

@[expose] public section

set_option maxRecDepth 16384

noncomputable section

open Idealize.ShloMosaic Idealize.ShloMosaic.TcCoe Idealize.SL.Sem Idealize.ShloMosaic.StableHlo

namespace Cert.CtxRef

open Cert.Reference3Ideal Cert.Reference3Ideal.Gen Cert.Reference3Ideal.Value Cert.AttnMath
open Cert.AttnRef (at2 fold_top zero_word)

variable (L : Valuation τ sig (Elt Ideal))

/-- The queries of one token, by head. -/
def qrow (Q : FVec Ideal S12288x512 .f32) (b : Fin 32) (t : Fin 256) (h : Fin 8) (e : Fin 64) : EReal :=
  Q (ix2 ⟨256 * b.val + t.val, by omega⟩ ⟨64 * h.val + e.val, by omega⟩)

/-- The pooled channels of one sequence. -/
def prow (P : FVec Ideal S12288x512 .f32) (b : Fin 32) (t : Fin 256) (c : Fin 512) : EReal :=
  P (ix2 ⟨256 * b.val + t.val, by omega⟩ c)

theorem score_at (b : Fin 32) (g : Fin 2) (h : Fin 4) (t : Fin 256) (s : Fin 256) :
    (show EReal from res_main_v10 L (ix5 b g h t s))
      = ∑ e, qrow (L (Proc.devRef .tc main_arg2)) b t ⟨4 * g.val + h.val, by omega⟩ e * eighth * (show EReal from L (Proc.devRef .tc main_arg3) (ix4 b s g e)) := by
  rw [← score_eq]
  unfold res_main_v10
  show (_ : EReal) = _
  pointwise
  refine congrArg (fun z : EReal => z * _) (Finset.sum_congr rfl fun e _ => ?_)
  refine (mul_comm _ _).trans (congrArg (fun z : EReal => z * _) ?_)
  exact at2 _ (by show b.val * 256 + t.val = 256 * b.val + t.val; omega)
    (by show g.val * 256 + h.val * 64 + e.val = 64 * (4 * g.val + h.val) + e.val; omega)

theorem weight_of (R : FVec Ideal S32x2x4x256x256 .f32) (M : FVec Ideal S32x2x4x256 .f32) (b : Fin 32) (g : Fin 2) (h : Fin 4) (t : Fin 256) (s : Fin 256) :
    Host.exp (subf R (broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3 (maximumf (broadcastInDim S32x2x4x256 ![] bcast_S_S32x2x4x256 (constant S_ .f32 0xFF800000#32)) M)))) (ix5 b g h t s)
      = Ideal.exp (R (ix5 b g h t s) - max (Ideal.ofBits .f32 0xFF800000#32) (M (ix4 b g h t))) := by
  pointwise

theorem max_of (R : FVec Ideal S32x2x4x256x256 .f32) (b : Fin 32) (g : Fin 2) (h : Fin 4) (t : Fin 256) :
    Host.reduce FloatOps.maximumf R (constant S_ .f32 0xFF800000#32) reducesTo_S32x2x4x256x256_S32x2x4x256_d4 h_S_ (ix4 b g h t)
      = top (fun x => R (ix5 b g h t x)) :=
  ((Host.reduce_eq_fold FloatOps.maximumf R (constant S_ .f32 0xFF800000#32) reducesTo_S32x2x4x256x256_S32x2x4x256_d4 h_S_ (ix4 b g h t)).trans
    (reducesTo_S32x2x4x256x256_S32x2x4x256_d4.fold_fiber_r5_a4 (ix4 b g h t) FloatOps.maximumf _ R)).trans (fold_top fun x => R (ix5 b g h t x))

theorem weight_at (b : Fin 32) (g : Fin 2) (h : Fin 4) (t : Fin 256) (s : Fin 256) :
    (show EReal from res_main_v17 L (ix5 b g h t s)) = wt (fun x => (show EReal from res_main_v10 L (ix5 b g h t x))) s := by
  unfold res_main_v17
  generalize res_main_v10 L = R
  refine (weight_of R _ b g h t s).trans ?_
  rw [max_of, neg_inf, max_eq_right bot_le]
  rfl

theorem group_at (b : Fin 32) (t : Fin 256) (g : Fin 4) (c : Fin 128) :
    (show EReal from res_main_v25 L (ix4 b t g c)) = prow (L (Proc.devRef .tc main_arg5)) b t ⟨128 * g.val + c.val, by omega⟩ := by
  unfold res_main_v25
  show (_ : EReal) = _
  pointwise
  exact at2 _ (by show b.val * 256 + t.val = 256 * b.val + t.val; omega)
    (by show g.val * 128 + c.val = 128 * g.val + c.val; omega)

/-- The windows' counts, as the words the reference computes them by. -/
def count (h t : ℕ) : BitVec 32 :=
  IntOp.subi (IntOp.minsi 256#32 (IntOp.maxsi 0#32 (IntOp.subi (IntOp.addi (BitVec.ofNat 32 t) (BitVec.ofNat 32 (2 * h))) (BitVec.ofNat 32 h))))
    (IntOp.minsi 256#32 (IntOp.maxsi 0#32 (IntOp.subi (BitVec.ofNat 32 t) (BitVec.ofNat 32 h))))

theorem count_at : ∀ h ∈ [1, 2, 4, 8], ∀ t : Fin 256, (count h t.val).toInt = ((min (t.val + h) 256 - (t.val - h) : ℕ) : ℤ) := by decide +kernel

theorem cnt_at (h : ℕ) (hh : h ∈ [1, 2, 4, 8]) (t : Fin 256) : (FloatOps.sitofp (F := Ideal) .f32 (count h t.val) : EReal) = cnt (2 * h) 256 t.val := by
  show (((count h t.val).toInt : ℝ) : EReal) = _
  rw [count_at h hh t]
  unfold cnt
  rw [Nat.mul_div_cancel_left _ (by decide : 0 < 2)]
  norm_cast

/-- One entry of a padded group: zero outside the sequence. -/
def padded (L : Valuation τ sig (Elt Ideal)) (b : Fin 32) (g : Fin 4) (c : Fin 128) (h n : ℕ) : EReal :=
  if k : h ≤ n ∧ n - h < 256 then prow (L (Proc.devRef .tc main_arg5)) b ⟨n - h, k.2⟩ ⟨128 * g.val + c.val, by omega⟩ else 0

theorem pad0 (b : Fin 32) (t : Fin 258) (c : Fin 128) : (show EReal from res_main_v37 L (ix3 b t c)) = padded L b 0 c 1 t.val := by
  unfold res_main_v37 padded
  simp only [← group_at]
  generalize res_main_v25 L = G
  show (_ : EReal) = _
  pointwise
  exact dite_congr rfl (fun _ => rfl) (fun _ => zero_word)

theorem pad1 (b : Fin 32) (t : Fin 260) (c : Fin 128) : (show EReal from res_main_v56 L (ix3 b t c)) = padded L b 1 c 2 t.val := by
  unfold res_main_v56 padded
  simp only [← group_at]
  generalize res_main_v25 L = G
  show (_ : EReal) = _
  pointwise
  exact dite_congr rfl (fun _ => rfl) (fun _ => zero_word)

theorem pad2 (b : Fin 32) (t : Fin 264) (c : Fin 128) : (show EReal from res_main_v79 L (ix3 b t c)) = padded L b 2 c 4 t.val := by
  unfold res_main_v79 padded
  simp only [← group_at]
  generalize res_main_v25 L = G
  show (_ : EReal) = _
  pointwise
  exact dite_congr rfl (fun _ => rfl) (fun _ => zero_word)

theorem pad3 (b : Fin 32) (t : Fin 272) (c : Fin 128) : (show EReal from res_main_v110 L (ix3 b t c)) = padded L b 3 c 8 t.val := by
  unfold res_main_v110 padded
  simp only [← group_at]
  generalize res_main_v25 L = G
  show (_ : EReal) = _
  pointwise
  exact dite_congr rfl (fun _ => rfl) (fun _ => zero_word)

theorem tot_at (b : Fin 32) (g : Fin 4) (c : Fin 128) (h t : ℕ) :
    ∑ j ∈ Finset.range (2 * h), padded L b g c h (t + j) = tot (2 * h) (fun i => prow (L (Proc.devRef .tc main_arg5)) b i ⟨128 * g.val + c.val, by omega⟩) t := by
  unfold tot padded
  refine Finset.sum_congr rfl fun j _ => ?_
  simp only [Nat.mul_div_cancel_left h (by decide : 0 < 2)]

theorem pool0 (b : Fin 32) (t : Fin 256) (c : Fin 128) :
    (show EReal from res_main_v151 L (ix4 b t 0 c)) = Ideal.div (tot (2 * 1) (fun i => prow (L (Proc.devRef .tc main_arg5)) b i ⟨128 * ((0 : Fin 4).val) + c.val, by omega⟩) t.val) (cnt (2 * 1) 256 t.val) := by
  have e : (show EReal from res_main_v151 L (ix4 b t 0 c))
      = Ideal.div ((show EReal from res_main_v37 L (ix3 b ⟨t.val, by omega⟩ c)) + (show EReal from res_main_v37 L (ix3 b ⟨1 + t.val, by omega⟩ c)))
        (FloatOps.sitofp (F := Ideal) .f32 (count 1 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 1 (by decide) t]
  simp only [pad0]
  refine congrArg (fun z : EReal => Ideal.div z _) (Eq.trans ?_ (tot_at L b 0 c 1 t.val))
  simp only [Finset.sum_range_succ, Finset.sum_range_zero, zero_add, add_zero, Nat.reduceMul, Nat.add_comm]

theorem pool1 (b : Fin 32) (t : Fin 256) (c : Fin 128) :
    (show EReal from res_main_v151 L (ix4 b t 1 c)) = Ideal.div (tot (2 * 2) (fun i => prow (L (Proc.devRef .tc main_arg5)) b i ⟨128 * ((1 : Fin 4).val) + c.val, by omega⟩) t.val) (cnt (2 * 2) 256 t.val) := by
  have e : (show EReal from res_main_v151 L (ix4 b t 1 c))
      = Ideal.div ((((show EReal from res_main_v56 L (ix3 b ⟨t.val, by omega⟩ c)) + (show EReal from res_main_v56 L (ix3 b ⟨1 + t.val, by omega⟩ c))) + (show EReal from res_main_v56 L (ix3 b ⟨2 + t.val, by omega⟩ c))) + (show EReal from res_main_v56 L (ix3 b ⟨3 + t.val, by omega⟩ c)))
        (FloatOps.sitofp (F := Ideal) .f32 (count 2 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 2 (by decide) t]
  simp only [pad1]
  refine congrArg (fun z : EReal => Ideal.div z _) (Eq.trans ?_ (tot_at L b 1 c 2 t.val))
  simp only [Finset.sum_range_succ, Finset.sum_range_zero, zero_add, add_zero, Nat.reduceMul, Nat.add_comm]

theorem pool2 (b : Fin 32) (t : Fin 256) (c : Fin 128) :
    (show EReal from res_main_v151 L (ix4 b t 2 c)) = Ideal.div (tot (2 * 4) (fun i => prow (L (Proc.devRef .tc main_arg5)) b i ⟨128 * ((2 : Fin 4).val) + c.val, by omega⟩) t.val) (cnt (2 * 4) 256 t.val) := by
  have e : (show EReal from res_main_v151 L (ix4 b t 2 c))
      = Ideal.div ((((((((show EReal from res_main_v79 L (ix3 b ⟨t.val, by omega⟩ c)) + (show EReal from res_main_v79 L (ix3 b ⟨1 + t.val, by omega⟩ c))) + (show EReal from res_main_v79 L (ix3 b ⟨2 + t.val, by omega⟩ c))) + (show EReal from res_main_v79 L (ix3 b ⟨3 + t.val, by omega⟩ c))) + (show EReal from res_main_v79 L (ix3 b ⟨4 + t.val, by omega⟩ c))) + (show EReal from res_main_v79 L (ix3 b ⟨5 + t.val, by omega⟩ c))) + (show EReal from res_main_v79 L (ix3 b ⟨6 + t.val, by omega⟩ c))) + (show EReal from res_main_v79 L (ix3 b ⟨7 + t.val, by omega⟩ c)))
        (FloatOps.sitofp (F := Ideal) .f32 (count 4 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 4 (by decide) t]
  simp only [pad2]
  refine congrArg (fun z : EReal => Ideal.div z _) (Eq.trans ?_ (tot_at L b 2 c 4 t.val))
  simp only [Finset.sum_range_succ, Finset.sum_range_zero, zero_add, add_zero, Nat.reduceMul, Nat.add_comm]

theorem pool3 (b : Fin 32) (t : Fin 256) (c : Fin 128) :
    (show EReal from res_main_v151 L (ix4 b t 3 c)) = Ideal.div (tot (2 * 8) (fun i => prow (L (Proc.devRef .tc main_arg5)) b i ⟨128 * ((3 : Fin 4).val) + c.val, by omega⟩) t.val) (cnt (2 * 8) 256 t.val) := by
  have e : (show EReal from res_main_v151 L (ix4 b t 3 c))
      = Ideal.div ((((((((((((((((show EReal from res_main_v110 L (ix3 b ⟨t.val, by omega⟩ c)) + (show EReal from res_main_v110 L (ix3 b ⟨1 + t.val, by omega⟩ c))) + (show EReal from res_main_v110 L (ix3 b ⟨2 + t.val, by omega⟩ c))) + (show EReal from res_main_v110 L (ix3 b ⟨3 + t.val, by omega⟩ c))) + (show EReal from res_main_v110 L (ix3 b ⟨4 + t.val, by omega⟩ c))) + (show EReal from res_main_v110 L (ix3 b ⟨5 + t.val, by omega⟩ c))) + (show EReal from res_main_v110 L (ix3 b ⟨6 + t.val, by omega⟩ c))) + (show EReal from res_main_v110 L (ix3 b ⟨7 + t.val, by omega⟩ c))) + (show EReal from res_main_v110 L (ix3 b ⟨8 + t.val, by omega⟩ c))) + (show EReal from res_main_v110 L (ix3 b ⟨9 + t.val, by omega⟩ c))) + (show EReal from res_main_v110 L (ix3 b ⟨10 + t.val, by omega⟩ c))) + (show EReal from res_main_v110 L (ix3 b ⟨11 + t.val, by omega⟩ c))) + (show EReal from res_main_v110 L (ix3 b ⟨12 + t.val, by omega⟩ c))) + (show EReal from res_main_v110 L (ix3 b ⟨13 + t.val, by omega⟩ c))) + (show EReal from res_main_v110 L (ix3 b ⟨14 + t.val, by omega⟩ c))) + (show EReal from res_main_v110 L (ix3 b ⟨15 + t.val, by omega⟩ c)))
        (FloatOps.sitofp (F := Ideal) .f32 (count 8 t.val)) := by
    unfold res_main_v151
    generalize res_main_v37 L = P0
    generalize res_main_v56 L = P1
    generalize res_main_v79 L = P2
    generalize res_main_v110 L = P3
    unfold res_main_v26
    show (_ : EReal) = _
    pointwise
    rfl
  rw [e, cnt_at 8 (by decide) t]
  simp only [pad3]
  refine congrArg (fun z : EReal => Ideal.div z _) (Eq.trans ?_ (tot_at L b 3 c 8 t.val))
  simp only [Finset.sum_range_succ, Finset.sum_range_zero, zero_add, add_zero, Nat.reduceMul, Nat.add_comm]

end Cert.CtxRef

end
-- ==== Proof.CtxRes.lean ====
/- The result of the reference of the context tokens' attention: the layer over the whole arrays, element by element. -/
module

public import proofs.«01_k».proof.Proof.CtxRef
public import proofs.«01_k».proof.Proof.CtxValue

@[expose] public section

set_option maxRecDepth 16384

noncomputable section

open Idealize.ShloMosaic Idealize.ShloMosaic.TcCoe Idealize.SL.Sem Idealize.ShloMosaic.StableHlo

namespace Cert.CtxRes

open Cert.Reference3Ideal Cert.Reference3Ideal.Gen Cert.Reference3Ideal.Value Cert.AttnMath Cert.CtxRef
open Cert.AttnRef (at2)

theorem attend_of (V : FVec Ideal S32x256x2x64 .f32) (E : FVec Ideal S32x2x4x256x256 .f32) (T : FVec Ideal S32x2x4x256 .f32) (b : Fin 32) (t : Fin 256) (c : Fin 512) :
    shapeCast S32x256x512 (transpose S32x256x2x4x64 [0, 4, 1, 3, 2] (Host.dotGeneral dot_S32x256x2x64_S32x2x4x256x256_S32x2x64x4x256_1_4_3_23_02_01 none V
      (Host.divf E (broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3 T))))
        transposes_S32x2x64x4x256_S32x256x2x4x64_0_4_1_3_2) shapeCasts_S32x256x2x4x64_S32x256x512 (ix3 b t c)
      = ∑ x, V (ix4 b x ⟨c.val / 256, by omega⟩ ⟨c.val % 64, by omega⟩) *
        Ideal.div (E (ix5 b ⟨c.val / 256, by omega⟩ ⟨c.val / 64 % 4, by omega⟩ t x)) (T (ix4 b ⟨c.val / 256, by omega⟩ ⟨c.val / 64 % 4, by omega⟩ t)) := by
  pointwise

theorem total_of (E : FVec Ideal S32x2x4x256x256 .f32) (b : Fin 32) (g : Fin 2) (h : Fin 4) (t : Fin 256) :
    Host.reduceAdd E (constant S_ .f32 0x00000000#32) reducesTo_S32x2x4x256x256_S32x2x4x256_d4 h_S_ (ix4 b g h t) = ∑ x, E (ix5 b g h t x) := by
  pointwise

theorem pool_of (W : FVec Ideal S4x128x128 .f32) (A B : FVec Ideal S32x256x4x128 .f32) (S : FVec Ideal S512 .f32) (b : Fin 32) (t : Fin 256) (c : Fin 512) :
    mulf (shapeCast S32x256x512 (transpose S32x256x4x128 [2, 3, 0, 1] (Host.dotGeneral dot_S4x128x128_S32x256x4x128_S4x128x32x256_1_3_2_01_0_2 none W (subf A B))
      transposes_S4x128x32x256_S32x256x4x128_2_3_0_1) shapeCasts_S32x256x4x128_S32x256x512) (broadcastInDim S32x256x512 ![0, 1, 2] bcast_S1x1x512_S32x256x512_0_1_2 (broadcastInDim S1x1x512 ![2] bcast_S512_S1x1x512_2 S)) (ix3 b t c)
      = (∑ x, W (ix3 ⟨c.val / 128, by omega⟩ x ⟨c.val % 128, by omega⟩) * (A (ix4 b t ⟨c.val / 128, by omega⟩ x) - B (ix4 b t ⟨c.val / 128, by omega⟩ x))) * S (ix1 c) := by
  pointwise

theorem moved_of (X : FVec Ideal S12288x1024 .f32) (M : FVec Ideal S8x6x1024 .f32) (A : FVec Ideal S32x256x1024 .f32) (O : FVec Ideal S1024x1024 .f32) (j : Fin 8192) (l : Fin 1024) :
    shapeCast S8192x1024 (addf (shapeCast S32x256x1024 (extractStridedSlice S8192x1024 ![0, 0] X slices_S12288x1024_S8192x1024_0_0) shapeCasts_S8192x1024_S32x256x1024) (mulf (broadcastInDim S32x256x1024 ![0, 1, 2] bcast_S1x1x1024_S32x256x1024_0_1_2 (broadcastInDim S1x1x1024 ![2] bcast_S1024_S1x1x1024_2 (shapeCast S1024 (extractStridedSlice S1x1x1024 ![0, 2, 0] M slices_S8x6x1024_S1x1x1024_0_2_0) shapeCasts_S1x1x1024_S1024))) (Host.dotGeneral dot_S32x256x1024_S1024x1024_S32x256x1024_2_0_01_1_n_n none A O))) shapeCasts_S32x256x1024_S8192x1024 (ix2 j l)
      = X (ix2 ⟨j.val, by omega⟩ l)
        + M (ix3 0 2 l) * ∑ x, A (ix3 ⟨j.val / 256, by omega⟩ ⟨j.val % 256, by omega⟩ x) * O (ix2 x l) := by
  pointwise

theorem mix_of (A B : FVec Ideal S32x256x512 .f32) (b : Fin 32) (t : Fin 256) (k : Fin 1024) :
    concatenate S32x256x1024 2 [⟨S32x256x512, A⟩, ⟨S32x256x512, B⟩] concatenates_S32x256x512_S32x256x512_S32x256x1024_d2 (ix3 b t k)
      = if h : k.val < 512 then A (ix3 b t ⟨k.val, h⟩) else B (ix3 b t ⟨k.val - 512, by omega⟩) := by
  pointwise

theorem rows_of (X : FVec Ideal S12288x1024 .f32) (Y : FVec Ideal S8192x1024 .f32) (r : Fin 12288) (l : Fin 1024) :
    concatenate S12288x1024 0 [⟨S8192x1024, Y⟩, ⟨S4096x1024, (extractStridedSlice S4096x1024 ![8192, 0] X slices_S12288x1024_S4096x1024_8192_0)⟩] concatenates_S8192x1024_S4096x1024_S12288x1024_d0 (ix2 r l)
      = if h : r.val < 8192 then Y (ix2 ⟨r.val, h⟩ l) else X (ix2 r l) := by
  pointwise
  refine dite_congr rfl (fun _ => rfl) (fun h => congrArg (fun r => X (ix2 r l)) (Fin.ext ?_))
  show 8192 + (r.val - 8192) = r.val
  omega

variable (L : Valuation τ sig (Elt Ideal))

/-- One query head's output, from the reference's weights divided by their total. -/
theorem head_at (hq : ∀ i, ∃ r : ℝ, (show EReal from L (Proc.devRef .tc main_arg2) i) = r) (hk : ∀ i, ∃ r : ℝ, (show EReal from L (Proc.devRef .tc main_arg3) i) = r)
    (V : FVec Ideal S32x256x2x64 .f32) (b : Fin 32) (g : Fin 2) (h : Fin 4) (t : Fin 256) (d : Fin 64) :
    ∑ x, V (ix4 b x g d) * Ideal.div (show EReal from res_main_v17 L (ix5 b g h t x)) (∑ y, (show EReal from res_main_v17 L (ix5 b g h t y)))
      = headOut (qrow (L (Proc.devRef .tc main_arg2)) b t ⟨4 * g.val + h.val, by omega⟩) (fun s e => (show EReal from L (Proc.devRef .tc main_arg3) (ix4 b s g e))) (fun s e => V (ix4 b s g e)) d := by
  simp only [weight_at, score_at]
  refine Eq.trans (Finset.sum_congr rfl fun x _ => mul_comm _ _) (attend_eq (by decide) _ _ fun x => ?_)
  exact score_real _ _ (fun e => hq _) (fun e => hk _)

/-- A group's windowed means, whichever the group. -/
theorem means_at (b : Fin 32) (t : Fin 256) (g : Fin 4) (c : Fin 128) :
    (show EReal from res_main_v151 L (ix4 b t g c))
      = Ideal.div (tot (2 ^ (g.val + 1)) (fun i => prow (L (Proc.devRef .tc main_arg5)) b i ⟨128 * g.val + c.val, by omega⟩) t.val) (cnt (2 ^ (g.val + 1)) 256 t.val) :=
  match g with
  | ⟨0, _⟩ => pool0 L b t c
  | ⟨1, _⟩ => pool1 L b t c
  | ⟨2, _⟩ => pool2 L b t c
  | ⟨3, _⟩ => pool3 L b t c

theorem pool_at (W : FVec Ideal S4x128x128 .f32) (S : FVec Ideal S512 .f32) (b : Fin 32) (t : Fin 256) (g : Fin 4) (d : Fin 128) :
    (∑ x, W (ix3 g x d) * ((show EReal from res_main_v151 L (ix4 b t g x)) - (show EReal from res_main_v25 L (ix4 b t g x)))) * S (ix1 ⟨128 * g.val + d.val, by omega⟩)
      = poolOut (prow (L (Proc.devRef .tc main_arg5)) b) (fun g c d => W (ix3 g c d)) (fun c => S (ix1 c)) t g d := by
  unfold poolOut
  simp only [means_at, Cert.CtxRef.group_at]
  exact congrArg (fun z : EReal => z * _) (Finset.sum_congr rfl fun x _ => mul_comm _ _)

/-- The mixed row: the heads' outputs, then the pooled channels. -/
theorem row_at (hq : ∀ i, ∃ r : ℝ, (show EReal from L (Proc.devRef .tc main_arg2) i) = r) (hk : ∀ i, ∃ r : ℝ, (show EReal from L (Proc.devRef .tc main_arg3) i) = r)
    (V : FVec Ideal S32x256x2x64 .f32) (W : FVec Ideal S4x128x128 .f32) (S : FVec Ideal S512 .f32) (E : FVec Ideal S32x2x4x256x256 .f32) (hE : E = res_main_v17 L)
    (A B : FVec Ideal S32x256x4x128 .f32) (hA : A = res_main_v151 L) (hB : B = res_main_v25 L) (b : Fin 32) (t : Fin 256) (k : Fin 1024) :
    concatenate S32x256x1024 2 [⟨S32x256x512, shapeCast S32x256x512 (transpose S32x256x2x4x64 [0, 4, 1, 3, 2] (Host.dotGeneral dot_S32x256x2x64_S32x2x4x256x256_S32x2x64x4x256_1_4_3_23_02_01 none V
      (Host.divf E (broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3
        (Host.reduceAdd E (constant S_ .f32 0x00000000#32) reducesTo_S32x2x4x256x256_S32x2x4x256_d4 h_S_)))))
        transposes_S32x2x64x4x256_S32x256x2x4x64_0_4_1_3_2) shapeCasts_S32x256x2x4x64_S32x256x512⟩,
      ⟨S32x256x512, mulf (shapeCast S32x256x512 (transpose S32x256x4x128 [2, 3, 0, 1] (Host.dotGeneral dot_S4x128x128_S32x256x4x128_S4x128x32x256_1_3_2_01_0_2 none W (subf A B))
      transposes_S4x128x32x256_S32x256x4x128_2_3_0_1) shapeCasts_S32x256x4x128_S32x256x512) (broadcastInDim S32x256x512 ![0, 1, 2] bcast_S1x1x512_S32x256x512_0_1_2 (broadcastInDim S1x1x512 ![2] bcast_S512_S1x1x512_2 S))⟩]
      concatenates_S32x256x512_S32x256x512_S32x256x1024_d2 (ix3 b t k)
    = mix (fun h d => headOut (qrow (L (Proc.devRef .tc main_arg2)) b t h) (fun s e => (show EReal from L (Proc.devRef .tc main_arg3) (ix4 b s (⟨h.val / 4, by omega⟩ : Fin 2) e))) (fun s e => V (ix4 b s ⟨h.val / 4, by omega⟩ e)) d)
        (poolOut (prow (L (Proc.devRef .tc main_arg5)) b) (fun g c d => W (ix3 g c d)) (fun c => S (ix1 c)) t) k := by
  subst hE hA hB
  rw [mix_of]
  unfold mix
  by_cases h : k.val < 512
  · rw [dif_pos h, dif_pos h, attend_of, total_of]
    refine (head_at L hq hk V b _ _ t _).trans ?_
    have e1 : (⟨4 * (k.val / 256) + k.val / 64 % 4, by omega⟩ : Fin 8) = ⟨k.val / 64, by omega⟩ := Fin.ext (by show 4 * (k.val / 256) + k.val / 64 % 4 = k.val / 64; omega)
    have e2 : (⟨k.val / 256, by omega⟩ : Fin 2) = ⟨k.val / 64 / 4, by omega⟩ := Fin.ext (by show k.val / 256 = k.val / 64 / 4; omega)
    dsimp only
    rw [e1, e2]
  · rw [dif_neg h, dif_neg h, pool_of]
    have e : (⟨k.val - 512, by omega⟩ : Fin 512) = ⟨128 * ((k.val - 512) / 128) + (k.val - 512) % 128, by omega⟩ := Fin.ext (by show k.val - 512 = 128 * ((k.val - 512) / 128) + (k.val - 512) % 128; omega)
    refine Eq.trans ?_ (pool_at L W S b t ⟨(k.val - 512) / 128, by omega⟩ ⟨(k.val - 512) % 128, by omega⟩)
    rw [← e]

/-- The reference's result is the layer: the latent tokens' rows moved, the context's as they were. -/
theorem res_eq (hq : ∀ i, ∃ r : ℝ, (show EReal from L (Proc.devRef .tc main_arg2) i) = r) (hk : ∀ i, ∃ r : ℝ, (show EReal from L (Proc.devRef .tc main_arg3) i) = r)
    (X : FVec Ideal S12288x1024 .f32) (M : FVec Ideal S8x6x1024 .f32)
    (V : FVec Ideal S32x256x2x64 .f32) (W : FVec Ideal S4x128x128 .f32) (S : FVec Ideal S512 .f32) (O : FVec Ideal S1024x1024 .f32) (E : FVec Ideal S32x2x4x256x256 .f32) (hE : E = res_main_v17 L)
    (A B : FVec Ideal S32x256x4x128 .f32) (hA : A = res_main_v151 L) (hB : B = res_main_v25 L) (r : Fin 12288) (l : Fin 1024) :
    concatenate S12288x1024 0 [⟨S8192x1024, shapeCast S8192x1024 (addf (shapeCast S32x256x1024 (extractStridedSlice S8192x1024 ![0, 0] X slices_S12288x1024_S8192x1024_0_0) shapeCasts_S8192x1024_S32x256x1024) (mulf (broadcastInDim S32x256x1024 ![0, 1, 2] bcast_S1x1x1024_S32x256x1024_0_1_2 (broadcastInDim S1x1x1024 ![2] bcast_S1024_S1x1x1024_2 (shapeCast S1024 (extractStridedSlice S1x1x1024 ![0, 2, 0] M slices_S8x6x1024_S1x1x1024_0_2_0) shapeCasts_S1x1x1024_S1024))) (Host.dotGeneral dot_S32x256x1024_S1024x1024_S32x256x1024_2_0_01_1_n_n none (concatenate S32x256x1024 2 [⟨S32x256x512, shapeCast S32x256x512 (transpose S32x256x2x4x64 [0, 4, 1, 3, 2] (Host.dotGeneral dot_S32x256x2x64_S32x2x4x256x256_S32x2x64x4x256_1_4_3_23_02_01 none V
      (Host.divf E (broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3
        (Host.reduceAdd E (constant S_ .f32 0x00000000#32) reducesTo_S32x2x4x256x256_S32x2x4x256_d4 h_S_)))))
        transposes_S32x2x64x4x256_S32x256x2x4x64_0_4_1_3_2) shapeCasts_S32x256x2x4x64_S32x256x512⟩,
      ⟨S32x256x512, mulf (shapeCast S32x256x512 (transpose S32x256x4x128 [2, 3, 0, 1] (Host.dotGeneral dot_S4x128x128_S32x256x4x128_S4x128x32x256_1_3_2_01_0_2 none W (subf A B))
      transposes_S4x128x32x256_S32x256x4x128_2_3_0_1) shapeCasts_S32x256x4x128_S32x256x512) (broadcastInDim S32x256x512 ![0, 1, 2] bcast_S1x1x512_S32x256x512_0_1_2 (broadcastInDim S1x1x512 ![2] bcast_S512_S1x1x512_2 S))⟩]
      concatenates_S32x256x512_S32x256x512_S32x256x1024_d2) O))) shapeCasts_S32x256x1024_S8192x1024⟩, ⟨S4096x1024, extractStridedSlice S4096x1024 ![8192, 0] X slices_S12288x1024_S4096x1024_8192_0⟩] concatenates_S8192x1024_S4096x1024_S12288x1024_d0 (ix2 r l)
    = if r.val < 8192 then Cert.CtxValue.ctxLayer X M (L (Proc.devRef .tc main_arg2)) (L (Proc.devRef .tc main_arg3)) V (L (Proc.devRef .tc main_arg5)) W S O
        ⟨r.val / 256 % 32, by omega⟩ ⟨r.val % 256, by omega⟩ l else X (ix2 r l) := by
  rw [rows_of]
  by_cases h : r.val < 8192
  · rw [dif_pos h, if_pos h, moved_of]
    have eb : (⟨r.val / 256, by omega⟩ : Fin 32) = ⟨r.val / 256 % 32, by omega⟩ := Fin.ext (by show r.val / 256 = r.val / 256 % 32; omega)
    simp only [row_at L hq hk V W S E hE A B hA hB]
    refine Eq.trans ?_ (Cert.CtxValue.ctxLayer_congr _ _ _ _ _ _ _ _ _ eb rfl rfl)
    unfold Cert.CtxValue.ctxLayer layer
    refine congrArg₂ (fun a b : EReal => a + b) (at2 X (by show r.val = 256 * (r.val / 256) + r.val % 256; omega) rfl) ?_
    rfl
  · rw [dif_neg h, if_neg h]

end Cert.CtxRes

end
-- ==== Proof.CtxClaim.lean ====
/- Called for the context tokens, the attention kernel and its reference leave the same array, whenever no query and no key is infinite. -/
module

public import proofs.«01_k».proof.Defs
public import proofs.«01_k».proof.Proof.CtxValue
public import proofs.«01_k».proof.Proof.CtxPre
public import proofs.«01_k».proof.Proof.CtxRes
public import Idealize.ShloMosaic.Lib.Quiescent

@[expose] public section

set_option maxRecDepth 16384

noncomputable section

open Idealize.ShloMosaic Idealize.ShloMosaic.TcCoe Idealize.SL.Sem

namespace Cert.CtxClaim

theorem quiescent : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The kernel's array and the reference's are the same layer. -/
theorem algebraic : Cert.algebraic_Kernel3Ideal_Reference3Ideal_pre_finite_qk_prompt := by
  pair_intro
  · run_from Cert.Kernel3Ideal.Gen.run_main m g
  · run_from Cert.Reference3Ideal.Value.run m' g'
    rw [Cert.CtxValue.final m c]
    funext i
    obtain ⟨j, l, rfl⟩ : ∃ (j : Fin 12288) (l : Fin 1024), i = ix2 j l := ⟨i 0, i 1, by funext a; fin_cases a <;> rfl⟩
    obtain ⟨h0, h1, h2, h3, h4, h5, h6, h7, h8⟩ := hagree c
    obtain ⟨hq, hk⟩ := Cert.CtxPre.read _ _ _ _ _ _ _ _ _ (hpre c)
    have eq2 : (StableHlo.launchContents m' c) (Proc.devRef .tc Cert.Reference3Ideal.main_arg2) = _ := h2
    have eq3 : (StableHlo.launchContents m' c) (Proc.devRef .tc Cert.Reference3Ideal.main_arg3) = _ := h3
    refine (Cert.CtxRes.res_eq (StableHlo.launchContents m' c) (by rw [eq2]; exact hq) (by rw [eq3]; exact hk) _ _ _ _ _ _ _ rfl _ _ rfl rfl j l).trans ?_
    rw [Cert.CtxEntry.V_x]
    have hx : ∀ k, (StableHlo.launchContents m' c) (Proc.devRef .tc k) = m' ((c.tc : Thread Cert.Reference3Ideal.nD Cert.Reference3Ideal.τ).loc k) := fun _ => rfl
    simp only [hx]
    rw [h2, h3, h4, h5, h6, h7, h8]
    rfl

end Cert.CtxClaim

end
-- ==== Proof.ConvMath.lean ====
/- The mathematics of one convolution layer, row by row, over plain functions of extended reals. -/
module

public import Idealize.ShloMosaic.Lib.Pipeline.ValueKit
public import Idealize.ShloMosaic.Lib.Pointwise

@[expose] public section

noncomputable section

open Idealize.ShloMosaic

namespace Cert.ConvMath

/-- A row, normalised by its root mean square, scaled by `g` and `1 + sc`, and shifted by `sh`. -/
def modn (x g sc sh : Fin 1024 → EReal) (l : Fin 1024) : EReal :=
  x l * Ideal.rsqrt (Ideal.div (∑ k, x k * x k) (Ideal.ofBits .f32 0x44800000#32) + Ideal.ofBits .f32 0x358637BD#32)
    * g l * (1 + sc l) + sh l

/-- The normalised row against column `j` of the input weights. -/
def proj (x g sc sh : Fin 1024 → EReal) (w : Fin 1024 → Fin 3072 → EReal) (j : Fin 3072) : EReal :=
  ∑ k, modn x g sc sh k * w k j

/-- What the convolution runs over: the product of the second and third thirds of the projected row. -/
def gated (x g sc sh : Fin 1024 → EReal) (w : Fin 1024 → Fin 3072 → EReal) (l : Fin 1024) : EReal :=
  proj x g sc sh w ⟨1024 + l.val, by omega⟩ * proj x g sc sh w ⟨2048 + l.val, by omega⟩

/-- The first third of the projected row. -/
def gate (x g sc sh : Fin 1024 → EReal) (w : Fin 1024 → Fin 3072 → EReal) (l : Fin 1024) : EReal :=
  proj x g sc sh w ⟨l.val, by omega⟩

/-- One output of the layer: the row's residual, plus the gated three-tap convolution projected out.
    `up` and `un` are the convolved values of the row before and the row after. -/
def out (x g sc sh gt : Fin 1024 → EReal) (w : Fin 1024 → Fin 3072 → EReal) (c0 c1 c2 : Fin 1024 → EReal)
    (wo : Fin 1024 → Fin 1024 → EReal) (up un : Fin 1024 → EReal) (l : Fin 1024) : EReal :=
  x l + gt l * ∑ k, gate x g sc sh w k * (up k * c0 k + gated x g sc sh w k * c1 k + un k * c2 k) * wo k l

/-- The row of the modulation table that token `j` uses: the prompt's, or one of the two samples'. -/
def modRow (j : ℕ) : Fin 8 := if j < 8192 then 0 else if j < 10240 then 1 else 2

/-- Token `j` has a token before it in its own sequence: 32 prompts of 256 tokens, then 2 samples of 2048. -/
abbrev HasPrev (j : ℕ) : Prop := (j < 8192 ∧ j % 256 ≠ 0) ∨ (8192 ≤ j ∧ j % 2048 ≠ 0)

/-- Token `j` has a token after it in its own sequence. -/
abbrev HasNext (j : ℕ) : Prop := (j < 8192 ∧ j % 256 ≠ 255) ∨ (8192 ≤ j ∧ j % 2048 ≠ 2047)

/-- The convolution layer on the flat array of tokens, at token `j` and channel `l`. -/
def layer (X : (⟨2, ![12288, 1024]⟩ : Shape).Idx → EReal) (M : (⟨3, ![8, 6, 1024]⟩ : Shape).Idx → EReal)
    (G : (⟨1, ![1024]⟩ : Shape).Idx → EReal) (W : (⟨2, ![1024, 3072]⟩ : Shape).Idx → EReal)
    (C : (⟨2, ![3, 1024]⟩ : Shape).Idx → EReal) (O : (⟨2, ![1024, 1024]⟩ : Shape).Idx → EReal)
    (j : Fin 12288) (l : Fin 1024) : EReal :=
  out (fun k => X (ix2 j k)) (fun k => G (ix1 k)) (fun k => M (ix3 (modRow j) 1 k)) (fun k => M (ix3 (modRow j) 0 k))
    (fun k => M (ix3 (modRow j) 2 k)) (fun k i => W (ix2 k i)) (fun k => C (ix2 0 k)) (fun k => C (ix2 1 k))
    (fun k => C (ix2 2 k)) (fun k i => O (ix2 k i))
    (fun k => if HasPrev j then gated (fun k => X (ix2 ⟨j.val - 1, by omega⟩ k)) (fun k => G (ix1 k))
      (fun k => M (ix3 (modRow j) 1 k)) (fun k => M (ix3 (modRow j) 0 k)) (fun k i => W (ix2 k i)) k else 0)
    (fun k => if HasNext j then gated (fun k => X (ix2 ⟨min (j.val + 1) 12287, by omega⟩ k)) (fun k => G (ix1 k))
      (fun k => M (ix3 (modRow j) 1 k)) (fun k => M (ix3 (modRow j) 0 k)) (fun k i => W (ix2 k i)) k else 0) l

end Cert.ConvMath

end
-- ==== Proof.ConvBody.lean ====
/- What the convolution kernel's body stores at one index of its block, over the blocks it loads. -/
module

public import proofs.«01_k».proof.Proof.Gen.Kernel2Ideal.Skeleton
public import proofs.«01_k».proof.Proof.ConvMath
public import Idealize.ShloMosaic.Lib.WordCmp

@[expose] public section

set_option maxRecDepth 16384

noncomputable section

open Idealize.ShloMosaic Idealize.ShloMosaic.TcCoe Idealize.SL.Sem

namespace Cert.ConvBody

open Cert.Kernel2Ideal Cert.Kernel2Ideal.Gen Cert.ConvMath

/-- The block with eight rows of its neighbours above and below. -/
def ext (x : FVec Ideal S256x1024 .f32) (xp xn : FVec Ideal S8x1024 .f32) : FVec Ideal S272x1024 .f32 :=
  concatenate S272x1024 0 [⟨S8x1024, xp⟩, ⟨S256x1024, x⟩, ⟨S8x1024, xn⟩]
    concatenates_S8x1024_S256x1024_S8x1024_S272x1024_d0

/-- The normalised and modulated extended block. -/
def nrm (x : FVec Ideal S256x1024 .f32) (xp xn : FVec Ideal S8x1024 .f32) (g : FVec Ideal S1x1024 .f32)
    (sc sh : FVec Ideal S1x1x1024 .f32) : FVec Ideal S272x1024 .f32 :=
  addf (mulf (k0_pay5 x xp xn g) (k0_pay6 sc)) (broadcastTo S272x1024 (k0_pay4 sh) broadcasts_S1x1024_S272x1024)

theorem nrm_at (x : FVec Ideal S256x1024 .f32) (xp xn : FVec Ideal S8x1024 .f32) (g : FVec Ideal S1x1024 .f32)
    (sc sh : FVec Ideal S1x1x1024 .f32) (i : Fin 272) (l : Fin 1024) :
    nrm x xp xn g sc sh (ix2 i l) = modn (fun k => ext x xp xn (ix2 i k)) (fun k => g (ix2 0 k))
      (fun k => sc (ix3 0 0 k)) (fun k => sh (ix3 0 0 k)) l := by
  have e : ∀ k : Fin 1024, ext x xp xn (ix2 i k) = concatenate S272x1024 0 [⟨S8x1024, xp⟩, ⟨S256x1024, x⟩, ⟨S8x1024, xn⟩]
    concatenates_S8x1024_S256x1024_S8x1024_S272x1024_d0 (ix2 i k) := fun _ => rfl
  unfold modn
  simp only [e]
  pointwise! [nrm, k0_pay5, k0_pay6, k0_pay4]

/-- The extended block projected by the input weights. -/
def prj (n : FVec Ideal S272x1024 .f32) (w : FVec Ideal S1024x3072 .bf16) : FVec Ideal S272x3072 .f32 :=
  matmul dot_S272x1024_S1024x3072_S272x3072_1_0_0_1_n_n none (truncf .bf16 n bitsLt_bf16_f32)
    (shapeCast S1024x3072 w shapeCasts_S1024x3072_S1024x3072) (constant S272x3072 .f32 0x00000000#32)

/-- What the convolution runs over, the rows of the neighbours multiplied by `mp` and `mn`. -/
def cnv (mp mn : Ideal .f32) (z : FVec Ideal S272x3072 .f32) : FVec Ideal S272x1024 .f32 :=
  mulf (mulf (extractStridedSlice S272x1024 ![0, 1024] z slices_S272x3072_o0_1024_S272x1024)
      (extractStridedSlice S272x1024 ![0, 2048] z slices_S272x3072_o0_2048_S272x1024))
    (broadcastTo S272x1024
      (select (cmpi .slt (iota .tc S272x1 32 [0] iota_S272x1_d0_w32) (broadcast S272x1 8#32)) (broadcast S272x1 mp)
        (select (cmpi .sge (iota .tc S272x1 32 [0] iota_S272x1_d0_w32) (broadcast S272x1 264#32)) (broadcast S272x1 mn)
          (broadcast S272x1 (Scalar.ofBits .f32 0x3F800000#32)))) broadcasts_S272x1_S272x1024)

/-- The output projection of the gated three-tap convolution of `u`. -/
def fin (z : FVec Ideal S272x3072 .f32) (u : FVec Ideal S272x1024 .f32) (cw : FVec Ideal S8x1024 .f32)
    (wo : FVec Ideal S1024x1024 .bf16) : FVec Ideal S256x1024 .f32 :=
  matmul dot_S256x1024_S1024x1024_S256x1024_1_0_0_1_n_n none
    (truncf .bf16 (mulf (extractStridedSlice S256x1024 ![8, 0] z slices_S272x3072_o8_0_S256x1024)
      (addf (addf
        (mulf (extractStridedSlice S256x1024 ![8, 0] (dynamicRotate 0 1#32 none u rotates_S272x1024_d0) slices_S272x1024_o8_0_S256x1024)
          (broadcastTo S256x1024 (extractStridedSlice S1x1024 ![0, 0] (shapeCast S8x1024 cw shapeCasts_S8x1024_S8x1024) slices_S8x1024_o0_0_S1x1024) broadcasts_S1x1024_S256x1024))
        (mulf (extractStridedSlice S256x1024 ![8, 0] u slices_S272x1024_o8_0_S256x1024)
          (broadcastTo S256x1024 (extractStridedSlice S1x1024 ![1, 0] (shapeCast S8x1024 cw shapeCasts_S8x1024_S8x1024) slices_S8x1024_o1_0_S1x1024) broadcasts_S1x1024_S256x1024)))
        (mulf (extractStridedSlice S256x1024 ![8, 0] (dynamicRotate 0 271#32 none u rotates_S272x1024_d0) slices_S272x1024_o8_0_S256x1024)
          (broadcastTo S256x1024 (extractStridedSlice S1x1024 ![2, 0] (shapeCast S8x1024 cw shapeCasts_S8x1024_S8x1024) slices_S8x1024_o2_0_S1x1024) broadcasts_S1x1024_S256x1024))))
      bitsLt_bf16_f32)
    (shapeCast S1024x1024 wo shapeCasts_S1024x1024_S1024x1024) (constant S256x1024 .f32 0x00000000#32)

theorem pay7_eq (mp mn : Ideal .f32) (x : FVec Ideal S256x1024 .f32) (xp xn : FVec Ideal S8x1024 .f32)
    (g : FVec Ideal S1x1024 .f32) (sc sh : FVec Ideal S1x1x1024 .f32) (w : FVec Ideal S1024x3072 .bf16)
    (cw : FVec Ideal S8x1024 .f32) (wo : FVec Ideal S1024x1024 .bf16) :
    k0_pay7 mp mn (k0_pay4 sh) (k0_pay5 x xp xn g) (k0_pay6 sc) w cw wo
      = fin (prj (nrm x xp xn g sc sh) w) (cnv mp mn (prj (nrm x xp xn g sc sh) w)) cw wo := rfl

theorem prj_at (n : FVec Ideal S272x1024 .f32) (w : FVec Ideal S1024x3072 .bf16) (i : Fin 272) (j : Fin 3072) :
    prj n w (ix2 i j) = ∑ k : Fin 1024, (show EReal from n (ix2 i k)) * (show EReal from w (ix2 k j)) := by
  pointwise [prj]

theorem cnv_at (mp mn : Ideal .f32) (z : FVec Ideal S272x3072 .f32) (i : Fin 272) (l : Fin 1024) :
    cnv mp mn z (ix2 i l) = (show EReal from z (ix2 i ⟨1024 + l.val, by omega⟩)) * (show EReal from z (ix2 i ⟨2048 + l.val, by omega⟩))
      * (if i.val < 8 then mp else if 264 ≤ i.val then mn else (1 : EReal)) := by
  pointwise [cnv]
  word_cmp

theorem fin_at (z : FVec Ideal S272x3072 .f32) (u : FVec Ideal S272x1024 .f32) (cw : FVec Ideal S8x1024 .f32)
    (wo : FVec Ideal S1024x1024 .bf16) (r : Fin 256) (l : Fin 1024) :
    fin z u cw wo (ix2 r l) = ∑ k : Fin 1024, (show EReal from z (ix2 ⟨8 + r.val, by omega⟩ ⟨k.val, by omega⟩)) *
      ((show EReal from u (ix2 ⟨7 + r.val, by omega⟩ k)) * cw (ix2 0 k)
        + (show EReal from u (ix2 ⟨8 + r.val, by omega⟩ k)) * cw (ix2 1 k)
        + (show EReal from u (ix2 ⟨9 + r.val, by omega⟩ k)) * cw (ix2 2 k)) * wo (ix2 k l) := by
  have e1 : (⟨(8 + r.val + 272 - 1) % 272, Nat.mod_lt _ (by omega)⟩ : Fin 272) = ⟨7 + r.val, by omega⟩ :=
    Fin.ext (by show (8 + r.val + 272 - 1) % 272 = 7 + r.val; omega)
  have e2 : (⟨(8 + r.val + 272 - 271) % 272, Nat.mod_lt _ (by omega)⟩ : Fin 272) = ⟨9 + r.val, by omega⟩ :=
    Fin.ext (by show (8 + r.val + 272 - 271) % 272 = 9 + r.val; omega)
  pointwise [fin]
  simp only [e1, e2]

/-- The rows of the extended block. -/
theorem ext_at (x : FVec Ideal S256x1024 .f32) (xp xn : FVec Ideal S8x1024 .f32) (i : Fin 272) (k : Fin 1024) :
    ext x xp xn (ix2 i k) = if h : i.val < 8 then xp (ix2 ⟨i.val, h⟩ k) else
      if h' : i.val - 8 < 256 then x (ix2 ⟨i.val - 8, h'⟩ k) else xn (ix2 ⟨i.val - 8 - 256, by omega⟩ k) := by
  pointwise [ext]

section
variable (mp mn : Ideal .f32) (x : FVec Ideal S256x1024 .f32) (xp xn : FVec Ideal S8x1024 .f32)
  (g : FVec Ideal S1x1024 .f32) (sc sh gt : FVec Ideal S1x1x1024 .f32) (w : FVec Ideal S1024x3072 .bf16)
  (cw : FVec Ideal S8x1024 .f32) (wo : FVec Ideal S1024x1024 .bf16)

theorem prj_nrm (i : Fin 272) (j : Fin 3072) :
    prj (nrm x xp xn g sc sh) w (ix2 i j) = proj (fun k => ext x xp xn (ix2 i k)) (fun k => g (ix2 0 k))
      (fun k => sc (ix3 0 0 k)) (fun k => sh (ix3 0 0 k)) (fun k j => w (ix2 k j)) j := by
  rw [prj_at]
  exact Finset.sum_congr rfl fun k _ => congrArg (· * _) (nrm_at x xp xn g sc sh i k)

/-- The convolved values of a row, by the row. -/
abbrev gatedAt (row : Fin 1024 → EReal) (k : Fin 1024) : EReal :=
  gated row (fun k => g (ix2 0 k)) (fun k => sc (ix3 0 0 k)) (fun k => sh (ix3 0 0 k)) (fun k j => w (ix2 k j)) k

theorem cnv_nrm (i : Fin 272) (l : Fin 1024) :
    cnv mp mn (prj (nrm x xp xn g sc sh) w) (ix2 i l)
      = gatedAt g sc sh w (fun k => ext x xp xn (ix2 i k)) l
        * (if i.val < 8 then mp else if 264 ≤ i.val then mn else (1 : EReal)) := by
  rw [cnv_at]
  exact congrArg (· * _) (congrArg₂ (· * ·) (prj_nrm x xp xn g sc sh w i _) (prj_nrm x xp xn g sc sh w i _))

theorem cnv_prev (r : Fin 256) (l : Fin 1024) :
    cnv mp mn (prj (nrm x xp xn g sc sh) w) (ix2 ⟨7 + r.val, by omega⟩ l)
      = if r.val = 0 then gatedAt g sc sh w (fun k => xp (ix2 7 k)) l * mp
        else gatedAt g sc sh w (fun k => x (ix2 ⟨r.val - 1, by omega⟩ k)) l := by
  rw [cnv_nrm]
  by_cases h : r.val = 0
  · have e : ∀ k, ext x xp xn (ix2 ⟨7 + r.val, by omega⟩ k) = xp (ix2 7 k) := fun k => by
      rw [ext_at, dif_pos (show 7 + r.val < 8 by omega)]
      exact congrArg (fun a => xp (ix2 a k)) (Fin.ext (by show 7 + r.val = 7; omega))
    simp only [e]
    rw [if_pos (show 7 + r.val < 8 by omega), if_pos h]
  · have e : ∀ k, ext x xp xn (ix2 ⟨7 + r.val, by omega⟩ k) = x (ix2 ⟨r.val - 1, by omega⟩ k) := fun k => by
      rw [ext_at, dif_neg (show ¬ 7 + r.val < 8 by omega), dif_pos (show 7 + r.val - 8 < 256 by omega)]
      exact congrArg (fun a => x (ix2 a k)) (Fin.ext (by show 7 + r.val - 8 = r.val - 1; omega))
    simp only [e]
    rw [if_neg (show ¬ 7 + r.val < 8 by omega), if_neg (show ¬ 264 ≤ 7 + r.val by omega), if_neg h, mul_one]

theorem cnv_here (r : Fin 256) (l : Fin 1024) :
    cnv mp mn (prj (nrm x xp xn g sc sh) w) (ix2 ⟨8 + r.val, by omega⟩ l)
      = gatedAt g sc sh w (fun k => x (ix2 r k)) l := by
  rw [cnv_nrm]
  have e : ∀ k, ext x xp xn (ix2 ⟨8 + r.val, by omega⟩ k) = x (ix2 r k) := fun k => by
    rw [ext_at, dif_neg (show ¬ 8 + r.val < 8 by omega), dif_pos (show 8 + r.val - 8 < 256 by omega)]
    exact congrArg (fun a => x (ix2 a k)) (Fin.ext (by show 8 + r.val - 8 = r.val; omega))
  simp only [e]
  rw [if_neg (show ¬ 8 + r.val < 8 by omega), if_neg (show ¬ 264 ≤ 8 + r.val by omega), mul_one]

theorem cnv_next (r : Fin 256) (l : Fin 1024) :
    cnv mp mn (prj (nrm x xp xn g sc sh) w) (ix2 ⟨9 + r.val, by omega⟩ l)
      = if h : r.val = 255 then gatedAt g sc sh w (fun k => xn (ix2 0 k)) l * mn
        else gatedAt g sc sh w (fun k => x (ix2 ⟨r.val + 1, by omega⟩ k)) l := by
  rw [cnv_nrm]
  by_cases h : r.val = 255
  · have e : ∀ k, ext x xp xn (ix2 ⟨9 + r.val, by omega⟩ k) = xn (ix2 0 k) := fun k => by
      rw [ext_at, dif_neg (show ¬ 9 + r.val < 8 by omega), dif_neg (show ¬ 9 + r.val - 8 < 256 by omega)]
      exact congrArg (fun a => xn (ix2 a k)) (Fin.ext (by show 9 + r.val - 8 - 256 = 0; omega))
    simp only [e]
    rw [if_neg (show ¬ 9 + r.val < 8 by omega), if_pos (show 264 ≤ 9 + r.val by omega), dif_pos h]
  · have e : ∀ k, ext x xp xn (ix2 ⟨9 + r.val, by omega⟩ k) = x (ix2 ⟨r.val + 1, by omega⟩ k) := fun k => by
      rw [ext_at, dif_neg (show ¬ 9 + r.val < 8 by omega), dif_pos (show 9 + r.val - 8 < 256 by omega)]
      exact congrArg (fun a => x (ix2 a k)) (Fin.ext (by show 9 + r.val - 8 = r.val + 1; omega))
    simp only [e]
    rw [if_neg (show ¬ 9 + r.val < 8 by omega), if_neg (show ¬ 264 ≤ 9 + r.val by omega), dif_neg h, mul_one]

theorem body_at (r : Fin 256) (l : Fin 1024) :
    k0_pay1 x (k0_pay7 mp mn (k0_pay4 sh) (k0_pay5 x xp xn g) (k0_pay6 sc) w cw wo) gt (ix2 r l)
      = out (fun k => x (ix2 r k)) (fun k => g (ix2 0 k)) (fun k => sc (ix3 0 0 k)) (fun k => sh (ix3 0 0 k))
          (fun k => gt (ix3 0 0 k)) (fun k j => w (ix2 k j)) (fun k => cw (ix2 0 k)) (fun k => cw (ix2 1 k))
          (fun k => cw (ix2 2 k)) (fun k j => wo (ix2 k j))
          (fun k => if r.val = 0 then gatedAt g sc sh w (fun k => xp (ix2 7 k)) k * mp
            else gatedAt g sc sh w (fun k => x (ix2 ⟨r.val - 1, by omega⟩ k)) k)
          (fun k => if h : r.val = 255 then gatedAt g sc sh w (fun k => xn (ix2 0 k)) k * mn
            else gatedAt g sc sh w (fun k => x (ix2 ⟨r.val + 1, by omega⟩ k)) k) l := by
  rw [pay7_eq]
  have e0 : ∀ k : Fin 1024, prj (nrm x xp xn g sc sh) w (ix2 ⟨8 + r.val, by omega⟩ ⟨k.val, by omega⟩)
      = gate (fun k => x (ix2 r k)) (fun k => g (ix2 0 k)) (fun k => sc (ix3 0 0 k)) (fun k => sh (ix3 0 0 k))
          (fun k j => w (ix2 k j)) k := fun k => by
    rw [prj_nrm]
    have e : ∀ k, ext x xp xn (ix2 ⟨8 + r.val, by omega⟩ k) = x (ix2 r k) := fun k => by
      rw [ext_at, dif_neg (show ¬ 8 + r.val < 8 by omega), dif_pos (show 8 + r.val - 8 < 256 by omega)]
      exact congrArg (fun a => x (ix2 a k)) (Fin.ext (by show 8 + r.val - 8 = r.val; omega))
    simp only [e]; rfl
  have e1 : k0_pay1 x (fin (prj (nrm x xp xn g sc sh) w) (cnv mp mn (prj (nrm x xp xn g sc sh) w)) cw wo) gt (ix2 r l)
      = (show EReal from x (ix2 r l)) + (show EReal from gt (ix3 0 0 l)) * (show EReal from
          fin (prj (nrm x xp xn g sc sh) w) (cnv mp mn (prj (nrm x xp xn g sc sh) w)) cw wo (ix2 r l)) := by
    pointwise [k0_pay1]
  rw [e1, fin_at]
  unfold out
  refine congrArg₂ (· + ·) rfl (congrArg₂ (· * ·) rfl (Finset.sum_congr rfl fun k _ => ?_))
  refine congrArg (· * _) (congrArg₂ (· * ·) (e0 k) ?_)
  refine congrArg₂ (· + ·) (congrArg₂ (· + ·) ?_ ?_) ?_
  · exact congrArg (· * _) (cnv_prev mp mn x xp xn g sc sh w r k)
  · exact congrArg (· * _) (cnv_here mp mn x xp xn g sc sh w r k)
  · exact congrArg (· * _) (cnv_next mp mn x xp xn g sc sh w r k)

end

end Cert.ConvBody

end
-- ==== Proof.ConvValue.lean ====
/- The array the convolution kernel leaves is the layer, token by token. -/
module

public import proofs.«01_k».proof.Proof.Gen.Kernel2Ideal.Frame
public import proofs.«01_k».proof.Proof.ConvBody
public import Idealize.ShloMosaic.Lib.Claim
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.ConvValue

open Cert.Kernel2Ideal Cert.Kernel2Ideal.Gen Cert.ConvMath

variable (m : (ℓ : Loc nD τ sig) → Buf (Elt Ideal) ℓ)

/-- The block each window is at, by the grid point. -/
theorem idx : ∀ t : Fin cfg0.N, win0_0.index t = ![t.val, 0] ∧ win0_1.index t = ![32 * t.val - 1, 0]
    ∧ win0_2.index t = ![min (32 * (t.val + 1)) 1535, 0]
    ∧ win0_3.index t = ![if t.val < 32 then 0 else if t.val < 40 then 1 else 2, 0, 0]
    ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

theorem mask_prev_bit : ∀ t : Fin cfg0.N,
    Scalar.ori (Scalar.cmpi .slt (BitVec.ofNat 32 (grid0.coords t 0).val) 32#32)
      (Scalar.cmpi .eq (Scalar.andi (BitVec.ofNat 32 (grid0.coords t 0).val) 7#32) 0#32)
      = BitVec.ofBool (decide (t.val < 32 ∨ t.val % 8 = 0)) :=
  (by decide +kernel : ∀ t : Fin grid0.N, _)

theorem mask_next_bit : ∀ t : Fin cfg0.N,
    Scalar.ori (Scalar.cmpi .slt (BitVec.ofNat 32 (grid0.coords t 0).val) 32#32)
      (Scalar.cmpi .eq (Scalar.andi (BitVec.ofNat 32 (grid0.coords t 0).val) 7#32) 7#32)
      = BitVec.ofBool (decide (t.val < 32 ∨ t.val % 8 = 7)) :=
  (by decide +kernel : ∀ t : Fin grid0.N, _)

theorem select_zero_one (p : Prop) [Decidable p] :
    (Scalar.select (BitVec.ofBool (decide p)) (Scalar.ofBits (F := Ideal) .f32 0x00000000#32) (Scalar.ofBits (F := Ideal) .f32 0x3F800000#32) : EReal)
      = if p then 0 else 1 := by
  have e0 : (Scalar.ofBits (F := Ideal) .f32 0x00000000#32 : EReal) = 0 := Ideal.ofBits_zero_f32
  have e1 : (Scalar.ofBits (F := Ideal) .f32 0x3F800000#32 : EReal) = 1 := Ideal.ofBits_one_f32
  rw [e0, e1]
  by_cases h : p
  · rw [if_pos h]; simp only [h]; rfl
  · rw [if_neg h]; simp only [h]; rfl

theorem pay2_at (t : Fin cfg0.N) : (k0_pay2 (F := Ideal) (grid0.coords t) : EReal) = if t.val < 32 ∨ t.val % 8 = 0 then 0 else 1 := by
  rw [← select_zero_one, ← mask_prev_bit]; rfl

theorem pay3_at (t : Fin cfg0.N) : (k0_pay3 (F := Ideal) (grid0.coords t) : EReal) = if t.val < 32 ∨ t.val % 8 = 7 then 0 else 1 := by
  rw [← select_zero_one, ← mask_next_bit]; rfl

/-- The taps, padded with rows of zeros: their first three rows are the taps. -/
theorem taps_at (z : FVec Ideal S8x1024 .f32) (C : FVec Ideal S3x1024 .f32) (j : IVec S1 32) (hj : j (ix1 0) = 0#32)
    (a : Fin 3) (b : Fin 8) (hab : b.val = a.val) (k : Fin 1024) :
    Host.scatter scatter_S8x1024_S1_S3x1024_01_n_0_0 (fun _ b => b) z j C (ix2 b k) = C (ix2 a k) := by
  have key : ∀ u : S3x1024.Idx, scatter_S8x1024_S1_S3x1024_01_n_0_0.resultIdx? u j = some (ix2 b k : S8x1024.Idx) ↔ u = ix2 a k := fun u => by
    have w0 : scatter_S8x1024_S1_S3x1024_01_n_0_0.window u 0 = (u 0).val := rfl
    have w1 : scatter_S8x1024_S1_S3x1024_01_n_0_0.window u 1 = (u 1).val := rfl
    have s0 : scatter_S8x1024_S1_S3x1024_01_n_0_0.start u j 0 = 0 := by
      unfold ScatterDims.start
      rw [dif_pos (by decide)]
      have e : ∀ q : S1.Idx, j q = 0#32 := fun q => by
        rw [← hj]; exact congrArg j (funext fun b => match b with | ⟨0, _⟩ => Subsingleton.elim (α := Fin 1) _ _)
      rw [e]; rfl
    have s1 : scatter_S8x1024_S1_S3x1024_01_n_0_0.start u j 1 = 0 := by
      unfold ScatterDims.start
      rw [dif_neg (by decide)]
    refine (Routing.resultIdx?_ix2 _ u j b k).trans ?_
    rw [w0, w1, s0, s1]
    idx_vars u
    rw [ix2_inj]
    constructor
    · rintro ⟨h0, h1⟩; exact ⟨Fin.ext (by have : ((u0.val : ℤ)) = b.val := by simpa using h0
                                          omega), Fin.ext (by have : ((u1.val : ℤ)) = k.val := by simpa using h1
                                                              omega)⟩
    · rintro ⟨rfl, rfl⟩; constructor
      · show (0 : ℤ) + (u0.val : ℤ) = b.val; omega
      · show (0 : ℤ) + (u1.val : ℤ) = u1.val; omega
  exact Routing.scatter_set_hit _ _ _ _ _ _ (fun u hu => by rw [(key u).1 hu]) (ix2 a k) ((key _).2 rfl)

theorem core (t : Fin 48) (mp mn : Ideal .f32) (hmp : mp = if t.val < 32 ∨ t.val % 8 = 0 then 0 else 1)
    (hmn : mn = if t.val < 32 ∨ t.val % 8 = 7 then 0 else 1)
    (x : FVec Ideal S256x1024 .f32) (xp xn : FVec Ideal S8x1024 .f32)
    (g : FVec Ideal S1x1024 .f32) (sc sh gt : FVec Ideal S1x1x1024 .f32) (w : FVec Ideal S1024x3072 .bf16)
    (cw : FVec Ideal S8x1024 .f32) (wo : FVec Ideal S1024x1024 .bf16)
    (X : FVec Ideal S12288x1024 .f32) (M : FVec Ideal S8x6x1024 .f32) (G : FVec Ideal S1024 .f32)
    (W : FVec Ideal S1024x3072 .f32) (C : FVec Ideal S3x1024 .f32) (O : FVec Ideal S1024x1024 .f32)
    (hx : ∀ (r : Fin 256) k, x (ix2 r k) = X (ix2 ⟨256 * t.val + r.val, by omega⟩ k))
    (hxp : t.val ≠ 0 → ∀ k, xp (ix2 7 k) = X (ix2 ⟨256 * t.val - 1, by omega⟩ k))
    (hxn : ∀ h : t.val < 47, ∀ k, xn (ix2 0 k) = X (ix2 ⟨256 * t.val + 256, by omega⟩ k))
    (hg : ∀ k, g (ix2 0 k) = G (ix1 k)) (hsc : ∀ k, sc (ix3 0 0 k) = M (ix3 (modRow (256 * t.val)) 1 k))
    (hsh : ∀ k, sh (ix3 0 0 k) = M (ix3 (modRow (256 * t.val)) 0 k)) (hgt : ∀ k, gt (ix3 0 0 k) = M (ix3 (modRow (256 * t.val)) 2 k))
    (hw : ∀ k (i : Fin 3072), w (ix2 k i) = W (ix2 k i)) (hc0 : ∀ k, cw (ix2 0 k) = C (ix2 0 k)) (hc1 : ∀ k, cw (ix2 1 k) = C (ix2 1 k))
    (hc2 : ∀ k, cw (ix2 2 k) = C (ix2 2 k)) (ho : ∀ k (i : Fin 1024), wo (ix2 k i) = O (ix2 k i))
    (r : Fin 256) (l : Fin 1024) :
    k0_pay1 (F := Ideal) x (k0_pay7 mp mn (k0_pay4 sh) (k0_pay5 x xp xn g) (k0_pay6 sc) w cw wo) gt (ix2 r l)
      = layer X M G W C O ⟨256 * t.val + r.val, by omega⟩ l := by
  rw [ConvBody.body_at]
  have hm : modRow (256 * t.val + r.val) = modRow (256 * t.val) := by
    unfold modRow
    by_cases h1 : 256 * t.val < 8192
    · rw [if_pos h1, if_pos (by omega)]
    · rw [if_neg h1, if_neg (by omega)]
      by_cases h2 : 256 * t.val < 10240
      · rw [if_pos h2, if_pos (by omega)]
      · rw [if_neg h2, if_neg (by omega)]
  unfold layer
  dsimp only
  rw [hm]
  have e : ∀ {a b c d e f g h i j a' b' : _} {k : Fin 1024}, a = a' → b = b' →
      out c d e f g h i j (fun k => C (ix2 2 k)) (fun k i => O (ix2 k i)) a b k
      = out c d e f g h i j (fun k => C (ix2 2 k)) (fun k i => O (ix2 k i)) a' b' k := fun h h' => by rw [h, h']
  simp only [ConvBody.gatedAt, hx, hg, hsc, hsh, hgt, hw, hc0, hc1, hc2, ho]
  refine e (funext fun k => ?_) (funext fun k => ?_)
  · by_cases h : r.val = 0
    · rw [if_pos h]
      by_cases h2 : t.val < 32 ∨ t.val % 8 = 0
      · rw [hmp, if_pos h2, mul_zero, if_neg (by omega)]
      · rw [hmp, if_neg h2, mul_one, if_pos (by omega)]
        refine congrArg (fun q => gated q _ _ _ _ k) (funext fun k' => (hxp (by omega) k').trans ?_)
        exact congrArg (fun a => X (ix2 a k')) (Fin.ext (by show 256 * t.val - 1 = 256 * t.val + r.val - 1; omega))
    · rw [if_neg h, if_pos (by omega)]
      refine congrArg (fun q => gated q _ _ _ _ k) (funext fun k' => ?_)
      exact congrArg (fun a => X (ix2 a k')) (Fin.ext (by show 256 * t.val + (r.val - 1) = 256 * t.val + r.val - 1; omega))
  · by_cases h : r.val = 255
    · rw [dif_pos h]
      by_cases h2 : t.val < 32 ∨ t.val % 8 = 7
      · rw [hmn, if_pos h2, mul_zero, if_neg (by omega)]
      · rw [hmn, if_neg h2, mul_one, if_pos (by omega)]
        refine congrArg (fun q => gated q _ _ _ _ k) (funext fun k' => (hxn (by omega) k').trans ?_)
        exact congrArg (fun a => X (ix2 a k')) (Fin.ext (by show 256 * t.val + 256 = min (256 * t.val + r.val + 1) 12287; omega))
    · rw [dif_neg h, if_pos (by omega)]
      refine congrArg (fun q => gated q _ _ _ _ k) (funext fun k' => ?_)
      exact congrArg (fun a => X (ix2 a k')) (Fin.ext (by show 256 * t.val + (r.val + 1) = min (256 * t.val + r.val + 1) 12287; omega))

theorem modRow_val (n : ℕ) : (modRow (256 * n)).val = if n < 32 then 0 else if n < 40 then 1 else 2 := by
  unfold modRow
  by_cases h1 : n < 32
  · rw [if_pos h1, if_pos (by omega)]; rfl
  · rw [if_neg h1, if_neg (by omega)]
    by_cases h2 : n < 40
    · rw [if_pos h2, if_pos (by omega)]; rfl
    · rw [if_neg h2, if_neg (by omega)]; rfl

/-- The taps as the region finds them. -/
theorem V_taps (c : Dev nD) : V m c main_v2 = Host.scatter scatter_S8x1024_S1_S3x1024_01_n_0_0 (fun _ b => b)
    (broadcastInDim S8x1024 ![] bcast_S_S8x1024 (constant S_ .f32 0x00000000#32) : FVec Ideal S8x1024 .f32)
    (broadcastInDim S1 ![] bcast_S_S1 (constantI S_ 32 0#32)) (m ((c : Thread nD τ).loc main_arg4)) := by
  entry_read; rfl

theorem taps_blk (c : Dev nD) (t : Fin cfg0.N) (a : Fin 3) (b : Fin 8) (hab : b.val = a.val) (k : Fin 1024) :
    iblk m c 6 t (ix2 b k : S8x1024.Idx) = m ((c : Thread nD τ).loc main_arg4) (ix2 a k) := by
  have h : iblk m c 6 t (ix2 b k : S8x1024.Idx) = V m c main_v2 (ix2 b k) := by blk_ext [iblk, idx t]
  rw [h, V_taps]
  exact taps_at _ _ _ rfl a b hab k

set_option maxHeartbeats 1000000 in
theorem final (c : Dev nD) : (dats m 0 c).arrAt 8 (cfgs 0).N = fun i : S12288x1024.Idx =>
    layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (dats m 0 c).arrAt_eq_of_covers 8 _ (by decide +kernel) fun t _ y => ?_
  blk_simp
  rw [after0_8]; frame_out
  idx_vars y
  refine (core t _ _ (pay2_at t) (pay3_at t) _ _ _ _ _ _ _ _ _ _
    (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
    ?_ ?_ ?_ ?_ ?_ ?_ ?_ ?_ ?_ ?_ ?_ ?_ y0 y1).trans ?_
  · intro r k; blk_ext [iblk, V, idx t]
  · intro h k; blk_ext [iblk, V, idx t]
  · intro h k; blk_ext [iblk, V, idx t]
  · intro k; blk_point [iblk, V, idx t]
  · intro k; pointwise [r0_4]; blk_ext [iblk, V, idx t]; rw [modRow_val, Nat.add_zero]
  · intro k; pointwise [r0_3]; blk_ext [iblk, V, idx t]; rw [modRow_val, Nat.add_zero]
  · intro k; pointwise [r0_7]; blk_ext [iblk, V, idx t]; rw [modRow_val, Nat.add_zero]
  · intro k i; blk_point [iblk, V, idx t]
  · exact fun k => taps_blk m c t 0 0 rfl k
  · exact fun k => taps_blk m c t 1 1 rfl k
  · exact fun k => taps_blk m c t 2 2 rfl k
  · intro k i; blk_point [iblk, V, idx t]
  · refine congrArg₂ (layer _ _ _ _ _ _) (Fin.ext ?_) (Fin.ext ?_)
    · show 256 * t.val + y0.val = _
      blk_simp [idx t]; omega
    · blk_simp [idx t]

end Cert.ConvValue

end
-- ==== Proof.ConvRun.lean ====
/- The run of the convolution reference: its host operations as a list, and the result as one composed term.
   The generated module of the same content stops at the default step limit on this list; here the limit is raised. -/
module

public import proofs.«01_k».proof.Proof.Gen.Reference2Ideal
public import Idealize.ShloMosaic.Lib.StableHlo.Run

@[expose] public section

noncomputable section

namespace Cert.Reference2Ideal.Listed

open Cert.Reference2Ideal Cert.Reference2Ideal.Gen Idealize.ShloMosaic Idealize.ShloMosaic.TcCoe Idealize.SL.Sem Idealize.ShloMosaic.StableHlo

variable {F : FTy → Type} [FloatOps F]

/-- The function of the operation that writes `main_v124`, named. It packs its operands into a list of dependent pairs
    whose shapes a later argument's type mentions, so `simp` cannot rewrite an operand where it stands; applied by
    name, the operands are plain arguments, which `run`'s simp pass rewrites before the name unfolds. -/
def fn_main_v124 : (⟨S8192x1024, .f32⟩ : BufTy).Contents (Elt F) → (⟨S4096x1024, .f32⟩ : BufTy).Contents (Elt F) → (⟨S12288x1024, .f32⟩ : BufTy).Contents (Elt F) :=
  (fun a b => concatenate S12288x1024 0 [⟨S8192x1024, a⟩, ⟨S4096x1024, b⟩] concatenates_S8192x1024_S4096x1024_S12288x1024_d0)

set_option maxHeartbeats 4000000 in
/-- @main's 137 operations, in order (a called function's operations stand in its call's place, spelt `TRef.…`). -/
abbrev ops : List (HloOp τ sig (Elt F)) :=
  [ unary main_arg0 main_v0 ((extractStridedSlice S8192x1024 ![0, 0] · slices_S12288x1024_S8192x1024_0_0) : (⟨S12288x1024, .f32⟩ : BufTy).Contents (Elt F) → (⟨S8192x1024, .f32⟩ : BufTy).Contents (Elt F)),
    reshape main_v0 main_v1 (rfl : (.f32 : EltTy) = .f32) shapeCasts_S8192x1024_S32x256x1024,
    unary main_arg0 main_v2 ((extractStridedSlice S4096x1024 ![8192, 0] · slices_S12288x1024_S4096x1024_8192_0) : (⟨S12288x1024, .f32⟩ : BufTy).Contents (Elt F) → (⟨S4096x1024, .f32⟩ : BufTy).Contents (Elt F)),
    reshape main_v2 main_v3 (rfl : (.f32 : EltTy) = .f32) shapeCasts_S4096x1024_S2x2048x1024,
    unary main_arg1 main_v4 ((extractStridedSlice S1x1x1024 ![0, 0, 0] · slices_S8x6x1024_S1x1x1024_0_0_0) : (⟨S8x6x1024, .f32⟩ : BufTy).Contents (Elt F) → (⟨S1x1x1024, .f32⟩ : BufTy).Contents (Elt F)),
    reshape main_v4 main_v5 (rfl : (.f32 : EltTy) = .f32) shapeCasts_S1x1x1024_S1024,
    unary main_arg1 main_v6 ((extractStridedSlice S1x1x1024 ![0, 1, 0] · slices_S8x6x1024_S1x1x1024_0_1_0) : (⟨S8x6x1024, .f32⟩ : BufTy).Contents (Elt F) → (⟨S1x1x1024, .f32⟩ : BufTy).Contents (Elt F)),
    reshape main_v6 main_v7 (rfl : (.f32 : EltTy) = .f32) shapeCasts_S1x1x1024_S1024,
    unary main_arg1 main_v8 ((extractStridedSlice S1x1x1024 ![0, 2, 0] · slices_S8x6x1024_S1x1x1024_0_2_0) : (⟨S8x6x1024, .f32⟩ : BufTy).Contents (Elt F) → (⟨S1x1x1024, .f32⟩ : BufTy).Contents (Elt F)),
    reshape main_v8 main_v9 (rfl : (.f32 : EltTy) = .f32) shapeCasts_S1x1x1024_S1024,
    unary main_arg1 main_v10 ((extractStridedSlice S2x1x1024 ![1, 0, 0] · slices_S8x6x1024_S2x1x1024_1_0_0) : (⟨S8x6x1024, .f32⟩ : BufTy).Contents (Elt F) → (⟨S2x1x1024, .f32⟩ : BufTy).Contents (Elt F)),
    reshape main_v10 main_v11 (rfl : (.f32 : EltTy) = .f32) shapeCasts_S2x1x1024_S2x1024,
    unary main_v11 main_v12 (broadcastInDim S2x1x1024 ![0, 2] bcast_S2x1024_S2x1x1024_0_2 : (⟨S2x1024, .f32⟩ : BufTy).Contents (Elt F) → (⟨S2x1x1024, .f32⟩ : BufTy).Contents (Elt F)),
    unary main_arg1 main_v13 ((extractStridedSlice S2x1x1024 ![1, 1, 0] · slices_S8x6x1024_S2x1x1024_1_1_0) : (⟨S8x6x1024, .f32⟩ : BufTy).Contents (Elt F) → (⟨S2x1x1024, .f32⟩ : BufTy).Contents (Elt F)),
    reshape main_v13 main_v14 (rfl : (.f32 : EltTy) = .f32) shapeCasts_S2x1x1024_S2x1024,
    unary main_v14 main_v15 (broadcastInDim S2x1x1024 ![0, 2] bcast_S2x1024_S2x1x1024_0_2 : (⟨S2x1024, .f32⟩ : BufTy).Contents (Elt F) → (⟨S2x1x1024, .f32⟩ : BufTy).Contents (Elt F)),
    unary main_arg1 main_v16 ((extractStridedSlice S2x1x1024 ![1, 2, 0] · slices_S8x6x1024_S2x1x1024_1_2_0) : (⟨S8x6x1024, .f32⟩ : BufTy).Contents (Elt F) → (⟨S2x1x1024, .f32⟩ : BufTy).Contents (Elt F)),
    reshape main_v16 main_v17 (rfl : (.f32 : EltTy) = .f32) shapeCasts_S2x1x1024_S2x1024,
    unary main_v17 main_v18 (broadcastInDim S2x1x1024 ![0, 2] bcast_S2x1024_S2x1x1024_0_2 : (⟨S2x1024, .f32⟩ : BufTy).Contents (Elt F) → (⟨S2x1x1024, .f32⟩ : BufTy).Contents (Elt F)),
    binary main_v1 main_v1 main_v19 (mulf : (⟨S32x256x1024, .f32⟩ : BufTy).Contents (Elt F) → (⟨S32x256x1024, .f32⟩ : BufTy).Contents (Elt F) → (⟨S32x256x1024, .f32⟩ : BufTy).Contents (Elt F)),
    nullary main_cst (constant S_ .f32 0x00000000#32),
    binary main_v19 main_cst main_v20 ((fun x v => Host.reduceAdd x v reducesTo_S32x256x1024_S32x256_d2 h_S_) : (⟨S32x256x1024, .f32⟩ : BufTy).Contents (Elt F) → (⟨S_, .f32⟩ : BufTy).Contents (Elt F) → (⟨S32x256, .f32⟩ : BufTy).Contents (Elt F)),
    unary main_v20 main_v21 (broadcastInDim S32x256x1 ![0, 1] bcast_S32x256_S32x256x1_0_1 : (⟨S32x256, .f32⟩ : BufTy).Contents (Elt F) → (⟨S32x256x1, .f32⟩ : BufTy).Contents (Elt F)),
    nullary main_cst_0 (constant S_ .f32 0x44800000#32),
    unary main_cst_0 main_v22 (broadcastInDim S32x256x1 ![] bcast_S_S32x256x1 : (⟨S_, .f32⟩ : BufTy).Contents (Elt F) → (⟨S32x256x1, .f32⟩ : BufTy).Contents (Elt F)),
    binary main_v21 main_v22 main_v23 (Host.divf : (⟨S32x256x1, .f32⟩ : BufTy).Contents (Elt F) → (⟨S32x256x1, .f32⟩ : BufTy).Contents (Elt F) → (⟨S32x256x1, .f32⟩ : BufTy).Contents (Elt F)),
    nullary main_cst_1 (constant S_ .f32 0x358637BD#32),
    unary main_cst_1 main_v24 (broadcastInDim S32x256x1 ![] bcast_S_S32x256x1 : (⟨S_, .f32⟩ : BufTy).Contents (Elt F) → (⟨S32x256x1, .f32⟩ : BufTy).Contents (Elt F)),
    binary main_v23 main_v24 main_v25 (addf : (⟨S32x256x1, .f32⟩ : BufTy).Contents (Elt F) → (⟨S32x256x1, .f32⟩ : BufTy).Contents (Elt F) → (⟨S32x256x1, .f32⟩ : BufTy).Contents (Elt F)),
    unary main_v25 main_v26 (Host.rsqrt : (⟨S32x256x1, .f32⟩ : BufTy).Contents (Elt F) → (⟨S32x256x1, .f32⟩ : BufTy).Contents (Elt F)),
    unary main_v26 main_v27 (broadcastInDim S32x256x1024 ![0, 1, 2] bcast_S32x256x1_S32x256x1024_0_1_2 : (⟨S32x256x1, .f32⟩ : BufTy).Contents (Elt F) → (⟨S32x256x1024, .f32⟩ : BufTy).Contents (Elt F)),
    binary main_v1 main_v27 main_v28 (mulf : (⟨S32x256x1024, .f32⟩ : BufTy).Contents (Elt F) → (⟨S32x256x1024, .f32⟩ : BufTy).Contents (Elt F) → (⟨S32x256x1024, .f32⟩ : BufTy).Contents (Elt F)),
    unary main_arg2 main_v29 (broadcastInDim S1x1x1024 ![2] bcast_S1024_S1x1x1024_2 : (⟨S1024, .f32⟩ : BufTy).Contents (Elt F) → (⟨S1x1x1024, .f32⟩ : BufTy).Contents (Elt F)),
    unary main_v29 main_v30 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v28 main_v30 main_v31 (mulf : (⟨S32x256x1024, .f32⟩ : BufTy).Contents (Elt F) → (⟨S32x256x1024, .f32⟩ : BufTy).Contents (Elt F) → (⟨S32x256x1024, .f32⟩ : BufTy).Contents (Elt F)),
    nullary main_cst_2 (constant S_ .f32 0x3F800000#32),
    unary main_cst_2 main_v32 (broadcastInDim S1024 ![] bcast_S_S1024 : (⟨S_, .f32⟩ : BufTy).Contents (Elt F) → (⟨S1024, .f32⟩ : BufTy).Contents (Elt F)),
    binary main_v32 main_v7 main_v33 (addf : (⟨S1024, .f32⟩ : BufTy).Contents (Elt F) → (⟨S1024, .f32⟩ : BufTy).Contents (Elt F) → (⟨S1024, .f32⟩ : BufTy).Contents (Elt F)),
    unary main_v33 main_v34 (broadcastInDim S1x1x1024 ![2] bcast_S1024_S1x1x1024_2 : (⟨S1024, .f32⟩ : BufTy).Contents (Elt F) → (⟨S1x1x1024, .f32⟩ : BufTy).Contents (Elt F)),
    unary main_v34 main_v35 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v31 main_v35 main_v36 (mulf : (⟨S32x256x1024, .f32⟩ : BufTy).Contents (Elt F) → (⟨S32x256x1024, .f32⟩ : BufTy).Contents (Elt F) → (⟨S32x256x1024, .f32⟩ : BufTy).Contents (Elt F)),
    unary main_v5 main_v37 (broadcastInDim S1x1x1024 ![2] bcast_S1024_S1x1x1024_2 : (⟨S1024, .f32⟩ : BufTy).Contents (Elt F) → (⟨S1x1x1024, .f32⟩ : BufTy).Contents (Elt F)),
    unary main_v37 main_v38 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v36 main_v38 main_v39 (addf : (⟨S32x256x1024, .f32⟩ : BufTy).Contents (Elt F) → (⟨S32x256x1024, .f32⟩ : BufTy).Contents (Elt F) → (⟨S32x256x1024, .f32⟩ : BufTy).Contents (Elt F)),
    binary main_v39 main_arg3 main_v40 ((fun l r => Host.dotGeneral dot_S32x256x1024_S1024x3072_S32x256x3072_2_0_01_1_n_n none l r) : (⟨S32x256x1024, .f32⟩ : BufTy).Contents (Elt F) → (⟨S1024x3072, .f32⟩ : BufTy).Contents (Elt F) → (⟨S32x256x3072, .f32⟩ : BufTy).Contents (Elt F)),
    unary main_v40 main_v41 ((extractStridedSlice S32x256x1024 ![0, 0, 0] · slices_S32x256x3072_S32x256x1024_0_0_0) : (⟨S32x256x3072, .f32⟩ : BufTy).Contents (Elt F) → (⟨S32x256x1024, .f32⟩ : BufTy).Contents (Elt F)),
    unary main_v40 main_v42 ((extractStridedSlice S32x256x1024 ![0, 0, 1024] · slices_S32x256x3072_S32x256x1024_0_0_1024) : (⟨S32x256x3072, .f32⟩ : BufTy).Contents (Elt F) → (⟨S32x256x1024, .f32⟩ : BufTy).Contents (Elt F)),
    unary main_v40 main_v43 ((extractStridedSlice S32x256x1024 ![0, 0, 2048] · slices_S32x256x3072_S32x256x1024_0_0_2048) : (⟨S32x256x3072, .f32⟩ : BufTy).Contents (Elt F) → (⟨S32x256x1024, .f32⟩ : BufTy).Contents (Elt F)),
    binary main_v42 main_v43 main_v44 (mulf : (⟨S32x256x1024, .f32⟩ : BufTy).Contents (Elt F) → (⟨S32x256x1024, .f32⟩ : BufTy).Contents (Elt F) → (⟨S32x256x1024, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S32x256x1024, .f32⟩) main_v44) (TRef.of (T := ⟨S_, .f32⟩) main_call0_v0) (TRef.of (T := ⟨S32x258x1024, .f32⟩) main_v45) (fun x v => pad S32x258x1024 ![0, 1, 0] ![0, 1, 0] ![0, 0, 0] x v pads_S32x256x1024_S32x258x1024_000_110_000 h_S_),
    unary main_v45 main_v46 ((extractStridedSlice S32x256x1024 ![0, 0, 0] · slices_S32x258x1024_S32x256x1024_0_0_0) : (⟨S32x258x1024, .f32⟩ : BufTy).Contents (Elt F) → (⟨S32x256x1024, .f32⟩ : BufTy).Contents (Elt F)),
    unary main_arg4 main_v47 ((extractStridedSlice S1x1024 ![0, 0] · slices_S3x1024_S1x1024_0_0) : (⟨S3x1024, .f32⟩ : BufTy).Contents (Elt F) → (⟨S1x1024, .f32⟩ : BufTy).Contents (Elt F)),
    reshape main_v47 main_v48 (rfl : (.f32 : EltTy) = .f32) shapeCasts_S1x1024_S1024,
    unary main_v48 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v46 main_v50 main_v51 (mulf : (⟨S32x256x1024, .f32⟩ : BufTy).Contents (Elt F) → (⟨S32x256x1024, .f32⟩ : BufTy).Contents (Elt F) → (⟨S32x256x1024, .f32⟩ : BufTy).Contents (Elt F)),
    unary main_v45 main_v52 ((extractStridedSlice S32x256x1024 ![0, 1, 0] · slices_S32x258x1024_S32x256x1024_0_1_0) : (⟨S32x258x1024, .f32⟩ : BufTy).Contents (Elt F) → (⟨S32x256x1024, .f32⟩ : BufTy).Contents (Elt F)),
    unary main_arg4 main_v53 ((extractStridedSlice S1x1024 ![1, 0] · slices_S3x1024_S1x1024_1_0) : (⟨S3x1024, .f32⟩ : BufTy).Contents (Elt F) → (⟨S1x1024, .f32⟩ : BufTy).Contents (Elt F)),
    reshape main_v53 main_v54 (rfl : (.f32 : EltTy) = .f32) shapeCasts_S1x1024_S1024,
    unary main_v54 main_v55 (broadcastInDim S1x1x1024 ![2] bcast_S1024_S1x1x1024_2 : (⟨S1024, .f32⟩ : BufTy).Contents (Elt F) → (⟨S1x1x1024, .f32⟩ : BufTy).Contents (Elt F)),
    unary main_v55 main_v56 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v52 main_v56 main_v57 (mulf : (⟨S32x256x1024, .f32⟩ : BufTy).Contents (Elt F) → (⟨S32x256x1024, .f32⟩ : BufTy).Contents (Elt F) → (⟨S32x256x1024, .f32⟩ : BufTy).Contents (Elt F)),
    binary main_v51 main_v57 main_v58 (addf : (⟨S32x256x1024, .f32⟩ : BufTy).Contents (Elt F) → (⟨S32x256x1024, .f32⟩ : BufTy).Contents (Elt F) → (⟨S32x256x1024, .f32⟩ : BufTy).Contents (Elt F)),
    unary main_v45 main_v59 ((extractStridedSlice S32x256x1024 ![0, 2, 0] · slices_S32x258x1024_S32x256x1024_0_2_0) : (⟨S32x258x1024, .f32⟩ : BufTy).Contents (Elt F) → (⟨S32x256x1024, .f32⟩ : BufTy).Contents (Elt F)),
    unary main_arg4 main_v60 ((extractStridedSlice S1x1024 ![2, 0] · slices_S3x1024_S1x1024_2_0) : (⟨S3x1024, .f32⟩ : BufTy).Contents (Elt F) → (⟨S1x1024, .f32⟩ : BufTy).Contents (Elt F)),
    reshape main_v60 main_v61 (rfl : (.f32 : EltTy) = .f32) shapeCasts_S1x1024_S1024,
    unary main_v61 main_v62 (broadcastInDim S1x1x1024 ![2] bcast_S1024_S1x1x1024_2 : (⟨S1024, .f32⟩ : BufTy).Contents (Elt F) → (⟨S1x1x1024, .f32⟩ : BufTy).Contents (Elt F)),
    unary main_v62 main_v63 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v59 main_v63 main_v64 (mulf : (⟨S32x256x1024, .f32⟩ : BufTy).Contents (Elt F) → (⟨S32x256x1024, .f32⟩ : BufTy).Contents (Elt F) → (⟨S32x256x1024, .f32⟩ : BufTy).Contents (Elt F)),
    binary main_v58 main_v64 main_v65 (addf : (⟨S32x256x1024, .f32⟩ : BufTy).Contents (Elt F) → (⟨S32x256x1024, .f32⟩ : BufTy).Contents (Elt F) → (⟨S32x256x1024, .f32⟩ : BufTy).Contents (Elt F)),
    binary main_v41 main_v65 main_v66 (mulf : (⟨S32x256x1024, .f32⟩ : BufTy).Contents (Elt F) → (⟨S32x256x1024, .f32⟩ : BufTy).Contents (Elt F) → (⟨S32x256x1024, .f32⟩ : BufTy).Contents (Elt F)),
    binary main_v66 main_arg5 main_v67 ((fun l r => Host.dotGeneral dot_S32x256x1024_S1024x1024_S32x256x1024_2_0_01_1_n_n none l r) : (⟨S32x256x1024, .f32⟩ : BufTy).Contents (Elt F) → (⟨S1024x1024, .f32⟩ : BufTy).Contents (Elt F) → (⟨S32x256x1024, .f32⟩ : BufTy).Contents (Elt F)),
    binary main_v3 main_v3 main_v68 (mulf : (⟨S2x2048x1024, .f32⟩ : BufTy).Contents (Elt F) → (⟨S2x2048x1024, .f32⟩ : BufTy).Contents (Elt F) → (⟨S2x2048x1024, .f32⟩ : BufTy).Contents (Elt F)),
    nullary main_cst_3 (constant S_ .f32 0x00000000#32),
    binary main_v68 main_cst_3 main_v69 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v69 main_v70 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_4 (constant S_ .f32 0x44800000#32),
    unary main_cst_4 main_v71 (broadcastInDim S2x2048x1 ![] bcast_S_S2x2048x1 : (⟨S_, .f32⟩ : BufTy).Contents (Elt F) → (⟨S2x2048x1, .f32⟩ : BufTy).Contents (Elt F)),
    binary main_v70 main_v71 main_v72 (Host.divf : (⟨S2x2048x1, .f32⟩ : BufTy).Contents (Elt F) → (⟨S2x2048x1, .f32⟩ : BufTy).Contents (Elt F) → (⟨S2x2048x1, .f32⟩ : BufTy).Contents (Elt F)),
    nullary main_cst_5 (constant S_ .f32 0x358637BD#32),
    unary main_cst_5 main_v73 (broadcastInDim S2x2048x1 ![] bcast_S_S2x2048x1 : (⟨S_, .f32⟩ : BufTy).Contents (Elt F) → (⟨S2x2048x1, .f32⟩ : BufTy).Contents (Elt F)),
    binary main_v72 main_v73 main_v74 (addf : (⟨S2x2048x1, .f32⟩ : BufTy).Contents (Elt F) → (⟨S2x2048x1, .f32⟩ : BufTy).Contents (Elt F) → (⟨S2x2048x1, .f32⟩ : BufTy).Contents (Elt F)),
    unary main_v74 main_v75 (Host.rsqrt : (⟨S2x2048x1, .f32⟩ : BufTy).Contents (Elt F) → (⟨S2x2048x1, .f32⟩ : BufTy).Contents (Elt F)),
    unary main_v75 main_v76 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v3 main_v76 main_v77 (mulf : (⟨S2x2048x1024, .f32⟩ : BufTy).Contents (Elt F) → (⟨S2x2048x1024, .f32⟩ : BufTy).Contents (Elt F) → (⟨S2x2048x1024, .f32⟩ : BufTy).Contents (Elt F)),
    unary main_arg2 main_v78 (broadcastInDim S1x1x1024 ![2] bcast_S1024_S1x1x1024_2 : (⟨S1024, .f32⟩ : BufTy).Contents (Elt F) → (⟨S1x1x1024, .f32⟩ : BufTy).Contents (Elt F)),
    unary main_v78 main_v79 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v77 main_v79 main_v80 (mulf : (⟨S2x2048x1024, .f32⟩ : BufTy).Contents (Elt F) → (⟨S2x2048x1024, .f32⟩ : BufTy).Contents (Elt F) → (⟨S2x2048x1024, .f32⟩ : BufTy).Contents (Elt F)),
    nullary main_cst_6 (constant S_ .f32 0x3F800000#32),
    unary main_cst_6 main_v81 (broadcastInDim S2x1x1024 ![] bcast_S_S2x1x1024 : (⟨S_, .f32⟩ : BufTy).Contents (Elt F) → (⟨S2x1x1024, .f32⟩ : BufTy).Contents (Elt F)),
    binary main_v81 main_v15 main_v82 (addf : (⟨S2x1x1024, .f32⟩ : BufTy).Contents (Elt F) → (⟨S2x1x1024, .f32⟩ : BufTy).Contents (Elt F) → (⟨S2x1x1024, .f32⟩ : BufTy).Contents (Elt F)),
    unary main_v82 main_v83 (broadcastInDim S2x2048x1024 ![0, 1, 2] bcast_S2x1x1024_S2x2048x1024_0_1_2 : (⟨S2x1x1024, .f32⟩ : BufTy).Contents (Elt F) → (⟨S2x2048x1024, .f32⟩ : BufTy).Contents (Elt F)),
    binary main_v80 main_v83 main_v84 (mulf : (⟨S2x2048x1024, .f32⟩ : BufTy).Contents (Elt F) → (⟨S2x2048x1024, .f32⟩ : BufTy).Contents (Elt F) → (⟨S2x2048x1024, .f32⟩ : BufTy).Contents (Elt F)),
    unary main_v12 main_v85 (broadcastInDim S2x2048x1024 ![0, 1, 2] bcast_S2x1x1024_S2x2048x1024_0_1_2 : (⟨S2x1x1024, .f32⟩ : BufTy).Contents (Elt F) → (⟨S2x2048x1024, .f32⟩ : BufTy).Contents (Elt F)),
    binary main_v84 main_v85 main_v86 (addf : (⟨S2x2048x1024, .f32⟩ : BufTy).Contents (Elt F) → (⟨S2x2048x1024, .f32⟩ : BufTy).Contents (Elt F) → (⟨S2x2048x1024, .f32⟩ : BufTy).Contents (Elt F)),
    binary main_v86 main_arg3 main_v87 ((fun l r => Host.dotGeneral dot_S2x2048x1024_S1024x3072_S2x2048x3072_2_0_01_1_n_n none l r) : (⟨S2x2048x1024, .f32⟩ : BufTy).Contents (Elt F) → (⟨S1024x3072, .f32⟩ : BufTy).Contents (Elt F) → (⟨S2x2048x3072, .f32⟩ : BufTy).Contents (Elt F)),
    unary main_v87 main_v88 ((extractStridedSlice S2x2048x1024 ![0, 0, 0] · slices_S2x2048x3072_S2x2048x1024_0_0_0) : (⟨S2x2048x3072, .f32⟩ : BufTy).Contents (Elt F) → (⟨S2x2048x1024, .f32⟩ : BufTy).Contents (Elt F)),
    unary main_v87 main_v89 ((extractStridedSlice S2x2048x1024 ![0, 0, 1024] · slices_S2x2048x3072_S2x2048x1024_0_0_1024) : (⟨S2x2048x3072, .f32⟩ : BufTy).Contents (Elt F) → (⟨S2x2048x1024, .f32⟩ : BufTy).Contents (Elt F)),
    unary main_v87 main_v90 ((extractStridedSlice S2x2048x1024 ![0, 0, 2048] · slices_S2x2048x3072_S2x2048x1024_0_0_2048) : (⟨S2x2048x3072, .f32⟩ : BufTy).Contents (Elt F) → (⟨S2x2048x1024, .f32⟩ : BufTy).Contents (Elt F)),
    binary main_v89 main_v90 main_v91 (mulf : (⟨S2x2048x1024, .f32⟩ : BufTy).Contents (Elt F) → (⟨S2x2048x1024, .f32⟩ : BufTy).Contents (Elt F) → (⟨S2x2048x1024, .f32⟩ : BufTy).Contents (Elt F)),
    nullary main_c_7 (constantI S_ 32 0#32),
    TRef.unary (TRef.of (T := ⟨S_, .i32⟩) main_c_7) (TRef.of (T := ⟨S_, .f32⟩) main_call1_v0) (sitofp .f32),
    TRef.binary (TRef.of (T := ⟨S2x2048x1024, .f32⟩) main_v91) (TRef.of (T := ⟨S_, .f32⟩) main_call1_v0) (TRef.of (T := ⟨S2x2050x1024, .f32⟩) main_v92) (fun x v => pad S2x2050x1024 ![0, 1, 0] ![0, 1, 0] ![0, 0, 0] x v pads_S2x2048x1024_S2x2050x1024_000_110_000 h_S_),
    unary main_v92 main_v93 ((extractStridedSlice S2x2048x1024 ![0, 0, 0] · slices_S2x2050x1024_S2x2048x1024_0_0_0) : (⟨S2x2050x1024, .f32⟩ : BufTy).Contents (Elt F) → (⟨S2x2048x1024, .f32⟩ : BufTy).Contents (Elt F)),
    unary main_arg4 main_v94 ((extractStridedSlice S1x1024 ![0, 0] · slices_S3x1024_S1x1024_0_0) : (⟨S3x1024, .f32⟩ : BufTy).Contents (Elt F) → (⟨S1x1024, .f32⟩ : BufTy).Contents (Elt F)),
    reshape main_v94 main_v95 (rfl : (.f32 : EltTy) = .f32) shapeCasts_S1x1024_S1024,
    unary main_v95 main_v96 (broadcastInDim S1x1x1024 ![2] bcast_S1024_S1x1x1024_2 : (⟨S1024, .f32⟩ : BufTy).Contents (Elt F) → (⟨S1x1x1024, .f32⟩ : BufTy).Contents (Elt F)),
    unary main_v96 main_v97 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v93 main_v97 main_v98 (mulf : (⟨S2x2048x1024, .f32⟩ : BufTy).Contents (Elt F) → (⟨S2x2048x1024, .f32⟩ : BufTy).Contents (Elt F) → (⟨S2x2048x1024, .f32⟩ : BufTy).Contents (Elt F)),
    unary main_v92 main_v99 ((extractStridedSlice S2x2048x1024 ![0, 1, 0] · slices_S2x2050x1024_S2x2048x1024_0_1_0) : (⟨S2x2050x1024, .f32⟩ : BufTy).Contents (Elt F) → (⟨S2x2048x1024, .f32⟩ : BufTy).Contents (Elt F)),
    unary main_arg4 main_v100 ((extractStridedSlice S1x1024 ![1, 0] · slices_S3x1024_S1x1024_1_0) : (⟨S3x1024, .f32⟩ : BufTy).Contents (Elt F) → (⟨S1x1024, .f32⟩ : BufTy).Contents (Elt F)),
    reshape main_v100 main_v101 (rfl : (.f32 : EltTy) = .f32) shapeCasts_S1x1024_S1024,
    unary main_v101 main_v102 (broadcastInDim S1x1x1024 ![2] bcast_S1024_S1x1x1024_2 : (⟨S1024, .f32⟩ : BufTy).Contents (Elt F) → (⟨S1x1x1024, .f32⟩ : BufTy).Contents (Elt F)),
    unary main_v102 main_v103 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v99 main_v103 main_v104 (mulf : (⟨S2x2048x1024, .f32⟩ : BufTy).Contents (Elt F) → (⟨S2x2048x1024, .f32⟩ : BufTy).Contents (Elt F) → (⟨S2x2048x1024, .f32⟩ : BufTy).Contents (Elt F)),
    binary main_v98 main_v104 main_v105 (addf : (⟨S2x2048x1024, .f32⟩ : BufTy).Contents (Elt F) → (⟨S2x2048x1024, .f32⟩ : BufTy).Contents (Elt F) → (⟨S2x2048x1024, .f32⟩ : BufTy).Contents (Elt F)),
    unary main_v92 main_v106 ((extractStridedSlice S2x2048x1024 ![0, 2, 0] · slices_S2x2050x1024_S2x2048x1024_0_2_0) : (⟨S2x2050x1024, .f32⟩ : BufTy).Contents (Elt F) → (⟨S2x2048x1024, .f32⟩ : BufTy).Contents (Elt F)),
    unary main_arg4 main_v107 ((extractStridedSlice S1x1024 ![2, 0] · slices_S3x1024_S1x1024_2_0) : (⟨S3x1024, .f32⟩ : BufTy).Contents (Elt F) → (⟨S1x1024, .f32⟩ : BufTy).Contents (Elt F)),
    reshape main_v107 main_v108 (rfl : (.f32 : EltTy) = .f32) shapeCasts_S1x1024_S1024,
    unary main_v108 main_v109 (broadcastInDim S1x1x1024 ![2] bcast_S1024_S1x1x1024_2 : (⟨S1024, .f32⟩ : BufTy).Contents (Elt F) → (⟨S1x1x1024, .f32⟩ : BufTy).Contents (Elt F)),
    unary main_v109 main_v110 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v106 main_v110 main_v111 (mulf : (⟨S2x2048x1024, .f32⟩ : BufTy).Contents (Elt F) → (⟨S2x2048x1024, .f32⟩ : BufTy).Contents (Elt F) → (⟨S2x2048x1024, .f32⟩ : BufTy).Contents (Elt F)),
    binary main_v105 main_v111 main_v112 (addf : (⟨S2x2048x1024, .f32⟩ : BufTy).Contents (Elt F) → (⟨S2x2048x1024, .f32⟩ : BufTy).Contents (Elt F) → (⟨S2x2048x1024, .f32⟩ : BufTy).Contents (Elt F)),
    binary main_v88 main_v112 main_v113 (mulf : (⟨S2x2048x1024, .f32⟩ : BufTy).Contents (Elt F) → (⟨S2x2048x1024, .f32⟩ : BufTy).Contents (Elt F) → (⟨S2x2048x1024, .f32⟩ : BufTy).Contents (Elt F)),
    binary main_v113 main_arg5 main_v114 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    unary main_v9 main_v115 (broadcastInDim S1x1x1024 ![2] bcast_S1024_S1x1x1024_2 : (⟨S1024, .f32⟩ : BufTy).Contents (Elt F) → (⟨S1x1x1024, .f32⟩ : BufTy).Contents (Elt F)),
    unary main_v115 main_v116 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v116 main_v67 main_v117 (mulf : (⟨S32x256x1024, .f32⟩ : BufTy).Contents (Elt F) → (⟨S32x256x1024, .f32⟩ : BufTy).Contents (Elt F) → (⟨S32x256x1024, .f32⟩ : BufTy).Contents (Elt F)),
    binary main_v1 main_v117 main_v118 (addf : (⟨S32x256x1024, .f32⟩ : BufTy).Contents (Elt F) → (⟨S32x256x1024, .f32⟩ : BufTy).Contents (Elt F) → (⟨S32x256x1024, .f32⟩ : BufTy).Contents (Elt F)),
    unary main_v18 main_v119 (broadcastInDim S2x2048x1024 ![0, 1, 2] bcast_S2x1x1024_S2x2048x1024_0_1_2 : (⟨S2x1x1024, .f32⟩ : BufTy).Contents (Elt F) → (⟨S2x2048x1024, .f32⟩ : BufTy).Contents (Elt F)),
    binary main_v119 main_v114 main_v120 (mulf : (⟨S2x2048x1024, .f32⟩ : BufTy).Contents (Elt F) → (⟨S2x2048x1024, .f32⟩ : BufTy).Contents (Elt F) → (⟨S2x2048x1024, .f32⟩ : BufTy).Contents (Elt F)),
    binary main_v3 main_v120 main_v121 (addf : (⟨S2x2048x1024, .f32⟩ : BufTy).Contents (Elt F) → (⟨S2x2048x1024, .f32⟩ : BufTy).Contents (Elt F) → (⟨S2x2048x1024, .f32⟩ : BufTy).Contents (Elt F)),
    reshape main_v118 main_v122 (rfl : (.f32 : EltTy) = .f32) shapeCasts_S32x256x1024_S8192x1024,
    reshape main_v121 main_v123 (rfl : (.f32 : EltTy) = .f32) shapeCasts_S2x2048x1024_S4096x1024,
    binary main_v122 main_v123 main_v124 (fn_main_v124 (F := F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., reshape_bufs_sub .., unary_bufs_sub .., unary_bufs_sub .., reshape_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., binary_bufs_sub .., binary_bufs_sub .., unary_bufs_sub .., unary_bufs_sub .., binary_bufs_sub .., binary_bufs_sub .., unary_bufs_sub .., binary_bufs_sub .., binary_bufs_sub .., reshape_bufs_sub .., reshape_bufs_sub .., binary_bufs_sub ..⟩

set_option maxRecDepth 8192 in
/-- `main_v124`'s composed term of the arguments (named: it is long). -/
def res_main_v124 (m : (ℓ : Loc nD τ sig) → Buf (Elt F) ℓ) (c : Dev nD) : Buf (Elt F) ((c.tc : Thread nD τ).loc main_v124) :=
  concatenate S12288x1024 0 [⟨S8192x1024, (shapeCast _ (addf (shapeCast _ (extractStridedSlice S8192x1024 ![0, 0] (m ((c.tc : Thread nD τ).loc main_arg0)) slices_S12288x1024_S8192x1024_0_0) shapeCasts_S8192x1024_S32x256x1024) (mulf (broadcastInDim S32x256x1024 ![0, 1, 2] bcast_S1x1x1024_S32x256x1024_0_1_2 (broadcastInDim S1x1x1024 ![2] bcast_S1024_S1x1x1024_2 (shapeCast _ (extractStridedSlice S1x1x1024 ![0, 2, 0] (m ((c.tc : Thread nD τ).loc main_arg1)) slices_S8x6x1024_S1x1x1024_0_2_0) shapeCasts_S1x1x1024_S1024))) (Host.dotGeneral dot_S32x256x1024_S1024x1024_S32x256x1024_2_0_01_1_n_n none (mulf (extractStridedSlice S32x256x1024 ![0, 0, 0] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_0) (addf (addf (mulf (extractStridedSlice S32x256x1024 ![0, 0, 0] (pad S32x258x1024 ![0, 1, 0] ![0, 1, 0] ![0, 0, 0] (mulf (extractStridedSlice S32x256x1024 ![0, 0, 1024] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_1024) (extractStridedSlice S32x256x1024 ![0, 0, 2048] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_2048)) (sitofp .f32 (constantI S_ 32 0#32)) pads_S32x256x1024_S32x258x1024_000_110_000 h_S_) slices_S32x258x1024_S32x256x1024_0_0_0) (broadcastInDim S32x256x1024 ![0, 1, 2] bcast_S1x1x1024_S32x256x1024_0_1_2 (broadcastInDim S1x1x1024 ![2] bcast_S1024_S1x1x1024_2 (shapeCast _ (extractStridedSlice S1x1024 ![0, 0] (m ((c.tc : Thread nD τ).loc main_arg4)) slices_S3x1024_S1x1024_0_0) shapeCasts_S1x1024_S1024)))) (mulf (extractStridedSlice S32x256x1024 ![0, 1, 0] (pad S32x258x1024 ![0, 1, 0] ![0, 1, 0] ![0, 0, 0] (mulf (extractStridedSlice S32x256x1024 ![0, 0, 1024] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_1024) (extractStridedSlice S32x256x1024 ![0, 0, 2048] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_2048)) (sitofp .f32 (constantI S_ 32 0#32)) pads_S32x256x1024_S32x258x1024_000_110_000 h_S_) slices_S32x258x1024_S32x256x1024_0_1_0) (broadcastInDim S32x256x1024 ![0, 1, 2] bcast_S1x1x1024_S32x256x1024_0_1_2 (broadcastInDim S1x1x1024 ![2] bcast_S1024_S1x1x1024_2 (shapeCast _ (extractStridedSlice S1x1024 ![1, 0] (m ((c.tc : Thread nD τ).loc main_arg4)) slices_S3x1024_S1x1024_1_0) shapeCasts_S1x1024_S1024))))) (mulf (extractStridedSlice S32x256x1024 ![0, 2, 0] (pad S32x258x1024 ![0, 1, 0] ![0, 1, 0] ![0, 0, 0] (mulf (extractStridedSlice S32x256x1024 ![0, 0, 1024] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_1024) (extractStridedSlice S32x256x1024 ![0, 0, 2048] (Host.dotGeneral dot_S32x256x1024_S1024x3072_S32x256x3072_2_0_01_1_n_n none (addf (mulf (mulf (mulf (shapeCast _ (extractStridedSlice S8192x1024 ![0, 0] (m ((c.tc : Thread nD τ).loc main_arg0)) slices_S12288x1024_S8192x1024_0_0) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (extractStridedSlice S8192x1024 ![0, 0] (m ((c.tc : Thread nD τ).loc main_arg0)) slices_S12288x1024_S8192x1024_0_0) shapeCasts_S8192x1024_S32x256x1024) (shapeCast _ (extractStridedSlice S8192x1024 ![0, 0] (m ((c.tc : Thread nD τ).loc main_arg0)) slices_S12288x1024_S8192x1024_0_0) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (m ((c.tc : Thread nD τ).loc main_arg2))))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![0, 0, 0] (m ((c.tc : Thread nD τ).loc main_arg1)) slices_S8x6x1024_S1x1x1024_0_0_0) shapeCasts_S1x1x1024_S1024)))) (m ((c.tc : Thread nD τ).loc main_arg3))) slices_S32x256x3072_S32x256x1024_0_0_2048)) (sitofp .f32 (constantI S_ 32 0#32)) pads_S32x256x1024_S32x258x1024_000_110_000 h_S_) slices_S32x258x1024_S32x256x1024_0_2_0) (broadcastInDim S32x256x1024 ![0, 1, 2] bcast_S1x1x1024_S32x256x1024_0_1_2 (broadcastInDim S1x1x1024 ![2] bcast_S1024_S1x1x1024_2 (shapeCast _ (extractStridedSlice S1x1024 ![2, 0] (m ((c.tc : Thread nD τ).loc main_arg4)) slices_S3x1024_S1x1024_2_0) shapeCasts_S1x1024_S1024)))))) (m ((c.tc : Thread nD τ).loc main_arg5))))) shapeCasts_S32x256x1024_S8192x1024)⟩, ⟨S4096x1024, (shapeCast _ (addf (shapeCast _ (extractStridedSlice S4096x1024 ![8192, 0] (m ((c.tc : Thread nD τ).loc main_arg0)) slices_S12288x1024_S4096x1024_8192_0) shapeCasts_S4096x1024_S2x2048x1024) (mulf (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 2, 0] (m ((c.tc : Thread nD τ).loc main_arg1)) slices_S8x6x1024_S2x1x1024_1_2_0) shapeCasts_S2x1x1024_S2x1024))) (Host.dotGeneral dot_S2x2048x1024_S1024x1024_S2x2048x1024_2_0_01_1_n_n none (mulf (extractStridedSlice S2x2048x1024 ![0, 0, 0] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_0) (addf (addf (mulf (extractStridedSlice S2x2048x1024 ![0, 0, 0] (pad S2x2050x1024 ![0, 1, 0] ![0, 1, 0] ![0, 0, 0] (mulf (extractStridedSlice S2x2048x1024 ![0, 0, 1024] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_1024) (extractStridedSlice S2x2048x1024 ![0, 0, 2048] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_2048)) (sitofp .f32 (constantI S_ 32 0#32)) pads_S2x2048x1024_S2x2050x1024_000_110_000 h_S_) slices_S2x2050x1024_S2x2048x1024_0_0_0) (broadcastInDim S2x2048x1024 ![0, 1, 2] bcast_S1x1x1024_S2x2048x1024_0_1_2 (broadcastInDim S1x1x1024 ![2] bcast_S1024_S1x1x1024_2 (shapeCast _ (extractStridedSlice S1x1024 ![0, 0] (m ((c.tc : Thread nD τ).loc main_arg4)) slices_S3x1024_S1x1024_0_0) shapeCasts_S1x1024_S1024)))) (mulf (extractStridedSlice S2x2048x1024 ![0, 1, 0] (pad S2x2050x1024 ![0, 1, 0] ![0, 1, 0] ![0, 0, 0] (mulf (extractStridedSlice S2x2048x1024 ![0, 0, 1024] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_1024) (extractStridedSlice S2x2048x1024 ![0, 0, 2048] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_2048)) (sitofp .f32 (constantI S_ 32 0#32)) pads_S2x2048x1024_S2x2050x1024_000_110_000 h_S_) slices_S2x2050x1024_S2x2048x1024_0_1_0) (broadcastInDim S2x2048x1024 ![0, 1, 2] bcast_S1x1x1024_S2x2048x1024_0_1_2 (broadcastInDim S1x1x1024 ![2] bcast_S1024_S1x1x1024_2 (shapeCast _ (extractStridedSlice S1x1024 ![1, 0] (m ((c.tc : Thread nD τ).loc main_arg4)) slices_S3x1024_S1x1024_1_0) shapeCasts_S1x1024_S1024))))) (mulf (extractStridedSlice S2x2048x1024 ![0, 2, 0] (pad S2x2050x1024 ![0, 1, 0] ![0, 1, 0] ![0, 0, 0] (mulf (extractStridedSlice S2x2048x1024 ![0, 0, 1024] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_1024) (extractStridedSlice S2x2048x1024 ![0, 0, 2048] (Host.dotGeneral dot_S2x2048x1024_S1024x3072_S2x2048x3072_2_0_01_1_n_n none (addf (mulf (mulf (mulf (shapeCast _ (extractStridedSlice S4096x1024 ![8192, 0] (m ((c.tc : Thread nD τ).loc main_arg0)) slices_S12288x1024_S4096x1024_8192_0) shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ (extractStridedSlice S4096x1024 ![8192, 0] (m ((c.tc : Thread nD τ).loc main_arg0)) slices_S12288x1024_S4096x1024_8192_0) shapeCasts_S4096x1024_S2x2048x1024) (shapeCast _ (extractStridedSlice S4096x1024 ![8192, 0] (m ((c.tc : Thread nD τ).loc main_arg0)) slices_S12288x1024_S4096x1024_8192_0) shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m ((c.tc : Thread nD τ).loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024)))) (m ((c.tc : Thread nD τ).loc main_arg3))) slices_S2x2048x3072_S2x2048x1024_0_0_2048)) (sitofp .f32 (constantI S_ 32 0#32)) pads_S2x2048x1024_S2x2050x1024_000_110_000 h_S_) slices_S2x2050x1024_S2x2048x1024_0_2_0) (broadcastInDim S2x2048x1024 ![0, 1, 2] bcast_S1x1x1024_S2x2048x1024_0_1_2 (broadcastInDim S1x1x1024 ![2] bcast_S1024_S1x1x1024_2 (shapeCast _ (extractStridedSlice S1x1024 ![2, 0] (m ((c.tc : Thread nD τ).loc main_arg4)) slices_S3x1024_S1x1024_2_0) shapeCasts_S1x1024_S1024)))))) (m ((c.tc : Thread nD τ).loc main_arg5))))) shapeCasts_S2x2048x1024_S4096x1024)⟩] concatenates_S8192x1024_S4096x1024_S12288x1024_d0

/-- `res_main_v124` by its position among the values @main returns, 0 counting from 0: the name for hand proofs to cite, since
    a re-print renumbers `main_v124`. An abbreviation: it unfolds to the `res_main_v124` that `run` states. -/
abbrev res_out0 (m : (ℓ : Loc nD τ sig) → Buf (Elt F) ℓ) (c : Dev nD) : Buf (Elt F) ((c.tc : Thread nD τ).loc main_v124) := res_main_v124 m c

set_option maxRecDepth 8192 in
set_option maxHeartbeats 54800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = res_main_v124 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v124).trans (by simp only [ops, TRef.binary, TRef.unary, TRef.toBuf, TRef.ofBuf, cast_eq]; after_results_simp <;> rfl <;> (unfold res_main_v124; rfl)),
      (h c main_arg0).trans (by simp only [ops, TRef.binary, TRef.unary, TRef.toBuf, TRef.ofBuf, cast_eq]; after_results_simp <;> rfl),
      (h c main_arg1).trans (by simp only [ops, TRef.binary, TRef.unary, TRef.toBuf, TRef.ofBuf, cast_eq]; after_results_simp <;> rfl),
      (h c main_arg2).trans (by simp only [ops, TRef.binary, TRef.unary, TRef.toBuf, TRef.ofBuf, cast_eq]; after_results_simp <;> rfl),
      (h c main_arg3).trans (by simp only [ops, TRef.binary, TRef.unary, TRef.toBuf, TRef.ofBuf, cast_eq]; after_results_simp <;> rfl),
      (h c main_arg4).trans (by simp only [ops, TRef.binary, TRef.unary, TRef.toBuf, TRef.ofBuf, cast_eq]; after_results_simp <;> rfl),
      (h c main_arg5).trans (by simp only [ops, TRef.binary, TRef.unary, TRef.toBuf, TRef.ofBuf, cast_eq]; after_results_simp <;> rfl)⟩)
    (run_seq scopedRefs_eq scopedSems_eq defs main (fun _ => ops) main_eq (fun _ => ops_sub) m ρ)

end Cert.Reference2Ideal.Listed

end
-- ==== Proof.ConvRef.lean ====
/- The convolution reference, read token by token. -/
module

public import proofs.«01_k».proof.Proof.ConvRun
public import Idealize.ShloMosaic.Lib.Pointwise
public import proofs.«01_k».proof.Proof.ConvMath

@[expose] public section

set_option maxRecDepth 16384

noncomputable section

open Idealize.ShloMosaic Idealize.ShloMosaic.TcCoe Idealize.SL.Sem

namespace Cert.ConvRef

open Cert.Reference2Ideal Cert.Reference2Ideal.Gen Cert.ConvMath

/-- The whole number zero, read as a float. -/
theorem zero_word : (FloatOps.sitofp .f32 (0#32 : BitVec 32) : Ideal .f32) = (0 : EReal) := by
  show (((0#32 : BitVec 32).toInt : ℝ) : EReal) = 0
  norm_num

/-! ## P -/

section P

/-- The normalised and modulated tokens. -/
def nrmP (x : FVec Ideal S32x256x1024 .f32) (g : FVec Ideal S1024 .f32) (sc1 sh : FVec Ideal S32x256x1024 .f32) : FVec Ideal S32x256x1024 .f32 :=
  addf (mulf (mulf (mulf x (broadcastInDim S32x256x1024 ![0, 1, 2] bcast_S32x256x1_S32x256x1024_0_1_2
      (Host.rsqrt (addf (Host.divf (broadcastInDim S32x256x1 ![0, 1] bcast_S32x256_S32x256x1_0_1
        (Host.reduceAdd (mulf x x) (constant S_ .f32 0x00000000#32) reducesTo_S32x256x1024_S32x256_d2 h_S_))
        (broadcastInDim S32x256x1 ![] bcast_S_S32x256x1 (constant S_ .f32 0x44800000#32)))
        (broadcastInDim S32x256x1 ![] bcast_S_S32x256x1 (constant S_ .f32 0x358637BD#32))))))
      (broadcastInDim S32x256x1024 ![0, 1, 2] bcast_S1x1x1024_S32x256x1024_0_1_2 (broadcastInDim S1x1x1024 ![2] bcast_S1024_S1x1x1024_2 g)))
    sc1) sh

/-- The tokens projected by the input weights. -/
def prjP (n : FVec Ideal S32x256x1024 .f32) (w : FVec Ideal S1024x3072 .f32) : FVec Ideal S32x256x3072 .f32 :=
  Host.dotGeneral dot_S32x256x1024_S1024x3072_S32x256x3072_2_0_01_1_n_n none n w

/-- What the convolution runs over, with a token of zeros before and after each sequence. -/
def cnvP (z : FVec Ideal S32x256x3072 .f32) : FVec Ideal S32x258x1024 .f32 :=
  pad S32x258x1024 ![0, 1, 0] ![0, 1, 0] ![0, 0, 0]
    (mulf (extractStridedSlice S32x256x1024 ![0, 0, 1024] z slices_S32x256x3072_S32x256x1024_0_0_1024)
      (extractStridedSlice S32x256x1024 ![0, 0, 2048] z slices_S32x256x3072_S32x256x1024_0_0_2048))
    (sitofp .f32 (constantI S_ 32 0#32) : FVec Ideal S_ .f32) pads_S32x256x1024_S32x258x1024_000_110_000 h_S_

/-- The output projection of the gated three-tap convolution, gated and added to the tokens. -/
def finP (x gt : FVec Ideal S32x256x1024 .f32) (z : FVec Ideal S32x256x3072 .f32) (u : FVec Ideal S32x258x1024 .f32)
    (C : FVec Ideal S3x1024 .f32) (wo : FVec Ideal S1024x1024 .f32) : FVec Ideal S32x256x1024 .f32 :=
  addf x (mulf gt (Host.dotGeneral dot_S32x256x1024_S1024x1024_S32x256x1024_2_0_01_1_n_n none
    (mulf (extractStridedSlice S32x256x1024 ![0, 0, 0] z slices_S32x256x3072_S32x256x1024_0_0_0)
      (addf (addf
        (mulf (extractStridedSlice S32x256x1024 ![0, 0, 0] u slices_S32x258x1024_S32x256x1024_0_0_0)
          (broadcastInDim S32x256x1024 ![0, 1, 2] bcast_S1x1x1024_S32x256x1024_0_1_2 (broadcastInDim S1x1x1024 ![2] bcast_S1024_S1x1x1024_2
            (shapeCast S1024 (extractStridedSlice S1x1024 ![0, 0] C slices_S3x1024_S1x1024_0_0) shapeCasts_S1x1024_S1024))))
        (mulf (extractStridedSlice S32x256x1024 ![0, 1, 0] u slices_S32x258x1024_S32x256x1024_0_1_0)
          (broadcastInDim S32x256x1024 ![0, 1, 2] bcast_S1x1x1024_S32x256x1024_0_1_2 (broadcastInDim S1x1x1024 ![2] bcast_S1024_S1x1x1024_2
            (shapeCast S1024 (extractStridedSlice S1x1024 ![1, 0] C slices_S3x1024_S1x1024_1_0) shapeCasts_S1x1024_S1024)))))
        (mulf (extractStridedSlice S32x256x1024 ![0, 2, 0] u slices_S32x258x1024_S32x256x1024_0_2_0)
          (broadcastInDim S32x256x1024 ![0, 1, 2] bcast_S1x1x1024_S32x256x1024_0_1_2 (broadcastInDim S1x1x1024 ![2] bcast_S1024_S1x1x1024_2
            (shapeCast S1024 (extractStridedSlice S1x1024 ![2, 0] C slices_S3x1024_S1x1024_2_0) shapeCasts_S1x1024_S1024))))))
    wo))

variable (x gt : FVec Ideal S32x256x1024 .f32) (g : FVec Ideal S1024 .f32) (sc1 sh : FVec Ideal S32x256x1024 .f32)
  (w : FVec Ideal S1024x3072 .f32) (C : FVec Ideal S3x1024 .f32) (wo : FVec Ideal S1024x1024 .f32)
  (b : Fin 32) (r : Fin 256) (sc : Fin 1024 → EReal) (hsc : ∀ k, sc1 (ix3 b r k) = 1 + sc k)

include hsc in
theorem nrmP_at (l : Fin 1024) :
    nrmP x g sc1 sh (ix3 b r l) = modn (fun k => x (ix3 b r k)) (fun k => g (ix1 k)) sc (fun k => sh (ix3 b r k)) l := by
  unfold modn
  pointwise [nrmP]
  rw [hsc]

include hsc in
theorem prjP_at (j : Fin 3072) :
    prjP (nrmP x g sc1 sh) w (ix3 b r j) = proj (fun k => x (ix3 b r k)) (fun k => g (ix1 k)) sc (fun k => sh (ix3 b r k))
      (fun k j => w (ix2 k j)) j := by
  have e : prjP (nrmP x g sc1 sh) w (ix3 b r j) = ∑ k : Fin 1024, (show EReal from nrmP x g sc1 sh (ix3 b r k)) * (show EReal from w (ix2 k j)) := by
    pointwise [prjP]
  rw [e]
  exact Finset.sum_congr rfl fun k _ => congrArg (· * _) (nrmP_at x g sc1 sh b r sc hsc k)

theorem cnvP_at (z : FVec Ideal S32x256x3072 .f32) (i : Fin 258) (l : Fin 1024) :
    cnvP z (ix3 b i l) = if h : 1 ≤ i.val ∧ i.val - 1 < 256 then
      (show EReal from z (ix3 b ⟨i.val - 1, h.2⟩ ⟨1024 + l.val, by omega⟩)) * (show EReal from z (ix3 b ⟨i.val - 1, h.2⟩ ⟨2048 + l.val, by omega⟩))
      else 0 := by
  pointwise [cnvP]
  rw [zero_word]

theorem finP_at (z : FVec Ideal S32x256x3072 .f32) (u : FVec Ideal S32x258x1024 .f32) (l : Fin 1024) :
    finP x gt z u C wo (ix3 b r l) = (show EReal from x (ix3 b r l)) + (show EReal from gt (ix3 b r l)) * ∑ k : Fin 1024,
      (show EReal from z (ix3 b r ⟨k.val, by omega⟩)) *
        ((show EReal from u (ix3 b ⟨r.val, by omega⟩ k)) * C (ix2 0 k)
          + (show EReal from u (ix3 b ⟨1 + r.val, by omega⟩ k)) * C (ix2 1 k)
          + (show EReal from u (ix3 b ⟨2 + r.val, by omega⟩ k)) * C (ix2 2 k)) * wo (ix2 k l) := by
  pointwise [finP]

/-- The layer at a token, by its place in its sequence. -/
theorem tokP (shf gtf : Fin 1024 → EReal) (hsc : ∀ r k, sc1 (ix3 b r k) = 1 + sc k) (hsh : ∀ r k, sh (ix3 b r k) = shf k)
    (hgt : ∀ k, gt (ix3 b r k) = gtf k) (l : Fin 1024) :
    finP x gt (prjP (nrmP x g sc1 sh) w) (cnvP (prjP (nrmP x g sc1 sh) w)) C wo (ix3 b r l)
      = out (fun k => x (ix3 b r k)) (fun k => g (ix1 k)) sc shf gtf (fun k j => w (ix2 k j))
          (fun k => C (ix2 0 k)) (fun k => C (ix2 1 k)) (fun k => C (ix2 2 k)) (fun k j => wo (ix2 k j))
          (fun k => if h : 0 < r.val then gated (fun k => x (ix3 b ⟨r.val - 1, by omega⟩ k)) (fun k => g (ix1 k)) sc shf (fun k j => w (ix2 k j)) k else 0)
          (fun k => if h : r.val + 1 < 256 then gated (fun k => x (ix3 b ⟨r.val + 1, h⟩ k)) (fun k => g (ix1 k)) sc shf (fun k j => w (ix2 k j)) k else 0) l := by
  have hz : ∀ (r : Fin 256) (j : Fin 3072), prjP (nrmP x g sc1 sh) w (ix3 b r j)
      = proj (fun k => x (ix3 b r k)) (fun k => g (ix1 k)) sc shf (fun k j => w (ix2 k j)) j := fun r j => by
    refine (prjP_at x g sc1 sh w b r sc (hsc r) j).trans ?_
    rw [funext (hsh r)]
  have hu : ∀ (i : ℕ) (hi : i < 258) (k : Fin 1024), cnvP (prjP (nrmP x g sc1 sh) w) (ix3 b ⟨i, hi⟩ k)
      = if h : 1 ≤ i ∧ i - 1 < 256 then gated (fun k => x (ix3 b ⟨i - 1, h.2⟩ k)) (fun k => g (ix1 k)) sc shf (fun k j => w (ix2 k j)) k else 0 := fun i hi k => by
    refine (cnvP_at b _ ⟨i, hi⟩ k).trans ?_
    by_cases h : 1 ≤ i ∧ i - 1 < 256
    · rw [dif_pos h, dif_pos h, hz, hz]; rfl
    · rw [dif_neg h, dif_neg h]
  refine (finP_at x gt C wo b r _ _ l).trans ?_
  unfold out
  rw [hgt]
  refine congrArg (fun s => _ + _ * s) (Finset.sum_congr rfl fun k _ => ?_)
  have h0 := hu r.val (by omega) k
  have h1 := hu (1 + r.val) (by omega) k
  have h2 := hu (2 + r.val) (by omega) k
  rw [hz, h0, h1, h2, dif_pos (show 1 ≤ 1 + r.val ∧ 1 + r.val - 1 < 256 by omega)]
  have e1 : (⟨1 + r.val - 1, by omega⟩ : Fin 256) = r := Fin.ext (by simp)
  rw [e1]
  refine congrArg₂ (fun a c => _ * (a * _ + _ + c * _) * _) ?_ ?_
  · dsimp only
    by_cases h : 0 < r.val
    · rw [dif_pos h, dif_pos (show 1 ≤ r.val ∧ r.val - 1 < 256 by omega)]
    · rw [dif_neg h, dif_neg (by omega)]
  · dsimp only
    by_cases h : r.val + 1 < 256
    · rw [dif_pos h, dif_pos (show 1 ≤ 2 + r.val ∧ 2 + r.val - 1 < 256 by omega)]
      exact congrArg (fun i => gated (fun k => x (ix3 b i k)) _ _ _ _ k) (Fin.ext (by show 2 + r.val - 1 = r.val + 1; omega))
    · rw [dif_neg h, dif_neg (by omega)]

end P

/-! ## S -/

section S

/-- The normalised and modulated tokens. -/
def nrmS (x : FVec Ideal S2x2048x1024 .f32) (g : FVec Ideal S1024 .f32) (sc1 sh : FVec Ideal S2x2048x1024 .f32) : FVec Ideal S2x2048x1024 .f32 :=
  addf (mulf (mulf (mulf x (broadcastInDim S2x2048x1024 ![0, 1, 2] bcast_S2x2048x1_S2x2048x1024_0_1_2
      (Host.rsqrt (addf (Host.divf (broadcastInDim S2x2048x1 ![0, 1] bcast_S2x2048_S2x2048x1_0_1
        (Host.reduceAdd (mulf x x) (constant S_ .f32 0x00000000#32) reducesTo_S2x2048x1024_S2x2048_d2 h_S_))
        (broadcastInDim S2x2048x1 ![] bcast_S_S2x2048x1 (constant S_ .f32 0x44800000#32)))
        (broadcastInDim S2x2048x1 ![] bcast_S_S2x2048x1 (constant S_ .f32 0x358637BD#32))))))
      (broadcastInDim S2x2048x1024 ![0, 1, 2] bcast_S1x1x1024_S2x2048x1024_0_1_2 (broadcastInDim S1x1x1024 ![2] bcast_S1024_S1x1x1024_2 g)))
    sc1) sh

/-- The tokens projected by the input weights. -/
def prjS (n : FVec Ideal S2x2048x1024 .f32) (w : FVec Ideal S1024x3072 .f32) : FVec Ideal S2x2048x3072 .f32 :=
  Host.dotGeneral dot_S2x2048x1024_S1024x3072_S2x2048x3072_2_0_01_1_n_n none n w

/-- What the convolution runs over, with a token of zeros before and after each sequence. -/
def cnvS (z : FVec Ideal S2x2048x3072 .f32) : FVec Ideal S2x2050x1024 .f32 :=
  pad S2x2050x1024 ![0, 1, 0] ![0, 1, 0] ![0, 0, 0]
    (mulf (extractStridedSlice S2x2048x1024 ![0, 0, 1024] z slices_S2x2048x3072_S2x2048x1024_0_0_1024)
      (extractStridedSlice S2x2048x1024 ![0, 0, 2048] z slices_S2x2048x3072_S2x2048x1024_0_0_2048))
    (sitofp .f32 (constantI S_ 32 0#32) : FVec Ideal S_ .f32) pads_S2x2048x1024_S2x2050x1024_000_110_000 h_S_

/-- The output projection of the gated three-tap convolution, gated and added to the tokens. -/
def finS (x gt : FVec Ideal S2x2048x1024 .f32) (z : FVec Ideal S2x2048x3072 .f32) (u : FVec Ideal S2x2050x1024 .f32)
    (C : FVec Ideal S3x1024 .f32) (wo : FVec Ideal S1024x1024 .f32) : FVec Ideal S2x2048x1024 .f32 :=
  addf x (mulf gt (Host.dotGeneral dot_S2x2048x1024_S1024x1024_S2x2048x1024_2_0_01_1_n_n none
    (mulf (extractStridedSlice S2x2048x1024 ![0, 0, 0] z slices_S2x2048x3072_S2x2048x1024_0_0_0)
      (addf (addf
        (mulf (extractStridedSlice S2x2048x1024 ![0, 0, 0] u slices_S2x2050x1024_S2x2048x1024_0_0_0)
          (broadcastInDim S2x2048x1024 ![0, 1, 2] bcast_S1x1x1024_S2x2048x1024_0_1_2 (broadcastInDim S1x1x1024 ![2] bcast_S1024_S1x1x1024_2
            (shapeCast S1024 (extractStridedSlice S1x1024 ![0, 0] C slices_S3x1024_S1x1024_0_0) shapeCasts_S1x1024_S1024))))
        (mulf (extractStridedSlice S2x2048x1024 ![0, 1, 0] u slices_S2x2050x1024_S2x2048x1024_0_1_0)
          (broadcastInDim S2x2048x1024 ![0, 1, 2] bcast_S1x1x1024_S2x2048x1024_0_1_2 (broadcastInDim S1x1x1024 ![2] bcast_S1024_S1x1x1024_2
            (shapeCast S1024 (extractStridedSlice S1x1024 ![1, 0] C slices_S3x1024_S1x1024_1_0) shapeCasts_S1x1024_S1024)))))
        (mulf (extractStridedSlice S2x2048x1024 ![0, 2, 0] u slices_S2x2050x1024_S2x2048x1024_0_2_0)
          (broadcastInDim S2x2048x1024 ![0, 1, 2] bcast_S1x1x1024_S2x2048x1024_0_1_2 (broadcastInDim S1x1x1024 ![2] bcast_S1024_S1x1x1024_2
            (shapeCast S1024 (extractStridedSlice S1x1024 ![2, 0] C slices_S3x1024_S1x1024_2_0) shapeCasts_S1x1024_S1024))))))
    wo))

variable (x gt : FVec Ideal S2x2048x1024 .f32) (g : FVec Ideal S1024 .f32) (sc1 sh : FVec Ideal S2x2048x1024 .f32)
  (w : FVec Ideal S1024x3072 .f32) (C : FVec Ideal S3x1024 .f32) (wo : FVec Ideal S1024x1024 .f32)
  (b : Fin 2) (r : Fin 2048) (sc : Fin 1024 → EReal) (hsc : ∀ k, sc1 (ix3 b r k) = 1 + sc k)

include hsc in
theorem nrmS_at (l : Fin 1024) :
    nrmS x g sc1 sh (ix3 b r l) = modn (fun k => x (ix3 b r k)) (fun k => g (ix1 k)) sc (fun k => sh (ix3 b r k)) l := by
  unfold modn
  pointwise [nrmS]
  rw [hsc]

include hsc in
theorem prjS_at (j : Fin 3072) :
    prjS (nrmS x g sc1 sh) w (ix3 b r j) = proj (fun k => x (ix3 b r k)) (fun k => g (ix1 k)) sc (fun k => sh (ix3 b r k))
      (fun k j => w (ix2 k j)) j := by
  have e : prjS (nrmS x g sc1 sh) w (ix3 b r j) = ∑ k : Fin 1024, (show EReal from nrmS x g sc1 sh (ix3 b r k)) * (show EReal from w (ix2 k j)) := by
    pointwise [prjS]
  rw [e]
  exact Finset.sum_congr rfl fun k _ => congrArg (· * _) (nrmS_at x g sc1 sh b r sc hsc k)

theorem cnvS_at (z : FVec Ideal S2x2048x3072 .f32) (i : Fin 2050) (l : Fin 1024) :
    cnvS z (ix3 b i l) = if h : 1 ≤ i.val ∧ i.val - 1 < 2048 then
      (show EReal from z (ix3 b ⟨i.val - 1, h.2⟩ ⟨1024 + l.val, by omega⟩)) * (show EReal from z (ix3 b ⟨i.val - 1, h.2⟩ ⟨2048 + l.val, by omega⟩))
      else 0 := by
  pointwise [cnvS]
  rw [zero_word]

theorem finS_at (z : FVec Ideal S2x2048x3072 .f32) (u : FVec Ideal S2x2050x1024 .f32) (l : Fin 1024) :
    finS x gt z u C wo (ix3 b r l) = (show EReal from x (ix3 b r l)) + (show EReal from gt (ix3 b r l)) * ∑ k : Fin 1024,
      (show EReal from z (ix3 b r ⟨k.val, by omega⟩)) *
        ((show EReal from u (ix3 b ⟨r.val, by omega⟩ k)) * C (ix2 0 k)
          + (show EReal from u (ix3 b ⟨1 + r.val, by omega⟩ k)) * C (ix2 1 k)
          + (show EReal from u (ix3 b ⟨2 + r.val, by omega⟩ k)) * C (ix2 2 k)) * wo (ix2 k l) := by
  pointwise [finS]

/-- The layer at a token, by its place in its sequence. -/
theorem tokS (shf gtf : Fin 1024 → EReal) (hsc : ∀ r k, sc1 (ix3 b r k) = 1 + sc k) (hsh : ∀ r k, sh (ix3 b r k) = shf k)
    (hgt : ∀ k, gt (ix3 b r k) = gtf k) (l : Fin 1024) :
    finS x gt (prjS (nrmS x g sc1 sh) w) (cnvS (prjS (nrmS x g sc1 sh) w)) C wo (ix3 b r l)
      = out (fun k => x (ix3 b r k)) (fun k => g (ix1 k)) sc shf gtf (fun k j => w (ix2 k j))
          (fun k => C (ix2 0 k)) (fun k => C (ix2 1 k)) (fun k => C (ix2 2 k)) (fun k j => wo (ix2 k j))
          (fun k => if h : 0 < r.val then gated (fun k => x (ix3 b ⟨r.val - 1, by omega⟩ k)) (fun k => g (ix1 k)) sc shf (fun k j => w (ix2 k j)) k else 0)
          (fun k => if h : r.val + 1 < 2048 then gated (fun k => x (ix3 b ⟨r.val + 1, h⟩ k)) (fun k => g (ix1 k)) sc shf (fun k j => w (ix2 k j)) k else 0) l := by
  have hz : ∀ (r : Fin 2048) (j : Fin 3072), prjS (nrmS x g sc1 sh) w (ix3 b r j)
      = proj (fun k => x (ix3 b r k)) (fun k => g (ix1 k)) sc shf (fun k j => w (ix2 k j)) j := fun r j => by
    refine (prjS_at x g sc1 sh w b r sc (hsc r) j).trans ?_
    rw [funext (hsh r)]
  have hu : ∀ (i : ℕ) (hi : i < 2050) (k : Fin 1024), cnvS (prjS (nrmS x g sc1 sh) w) (ix3 b ⟨i, hi⟩ k)
      = if h : 1 ≤ i ∧ i - 1 < 2048 then gated (fun k => x (ix3 b ⟨i - 1, h.2⟩ k)) (fun k => g (ix1 k)) sc shf (fun k j => w (ix2 k j)) k else 0 := fun i hi k => by
    refine (cnvS_at b _ ⟨i, hi⟩ k).trans ?_
    by_cases h : 1 ≤ i ∧ i - 1 < 2048
    · rw [dif_pos h, dif_pos h, hz, hz]; rfl
    · rw [dif_neg h, dif_neg h]
  refine (finS_at x gt C wo b r _ _ l).trans ?_
  unfold out
  rw [hgt]
  refine congrArg (fun s => _ + _ * s) (Finset.sum_congr rfl fun k _ => ?_)
  have h0 := hu r.val (by omega) k
  have h1 := hu (1 + r.val) (by omega) k
  have h2 := hu (2 + r.val) (by omega) k
  rw [hz, h0, h1, h2, dif_pos (show 1 ≤ 1 + r.val ∧ 1 + r.val - 1 < 2048 by omega)]
  have e1 : (⟨1 + r.val - 1, by omega⟩ : Fin 2048) = r := Fin.ext (by simp)
  rw [e1]
  refine congrArg₂ (fun a c => _ * (a * _ + _ + c * _) * _) ?_ ?_
  · dsimp only
    by_cases h : 0 < r.val
    · rw [dif_pos h, dif_pos (show 1 ≤ r.val ∧ r.val - 1 < 2048 by omega)]
    · rw [dif_neg h, dif_neg (by omega)]
  · dsimp only
    by_cases h : r.val + 1 < 2048
    · rw [dif_pos h, dif_pos (show 1 ≤ 2 + r.val ∧ 2 + r.val - 1 < 2048 by omega)]
      exact congrArg (fun i => gated (fun k => x (ix3 b i k)) _ _ _ _ k) (Fin.ext (by show 2 + r.val - 1 = r.val + 1; omega))
    · rw [dif_neg h, dif_neg (by omega)]

end S

section wholeP

variable (X : FVec Ideal S12288x1024 .f32) (M : FVec Ideal S8x6x1024 .f32) (G : FVec Ideal S1024 .f32)
  (W : FVec Ideal S1024x3072 .f32) (C : FVec Ideal S3x1024 .f32) (O : FVec Ideal S1024x1024 .f32)

/-- The tokens of this part. -/
def xP : FVec Ideal S32x256x1024 .f32 := shapeCast S32x256x1024 (extractStridedSlice S8192x1024 ![0, 0] X slices_S12288x1024_S8192x1024_0_0) shapeCasts_S8192x1024_S32x256x1024

/-- One plus the scale, for every token. -/
def scP : FVec Ideal S32x256x1024 .f32 := broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast S1024 (extractStridedSlice S1x1x1024 ![0, 1, 0] M slices_S8x6x1024_S1x1x1024_0_1_0) shapeCasts_S1x1x1024_S1024)))

/-- The shift, for every token. -/
def shP : FVec Ideal S32x256x1024 .f32 := broadcastInDim S32x256x1024 ![0, 1, 2] bcast_S1x1x1024_S32x256x1024_0_1_2 (broadcastInDim S1x1x1024 ![2] bcast_S1024_S1x1x1024_2 (shapeCast S1024 (extractStridedSlice S1x1x1024 ![0, 0, 0] M slices_S8x6x1024_S1x1x1024_0_0_0) shapeCasts_S1x1x1024_S1024))

/-- The gate, for every token. -/
def gtP : FVec Ideal S32x256x1024 .f32 := broadcastInDim S32x256x1024 ![0, 1, 2] bcast_S1x1x1024_S32x256x1024_0_1_2 (broadcastInDim S1x1x1024 ![2] bcast_S1024_S1x1x1024_2 (shapeCast S1024 (extractStridedSlice S1x1x1024 ![0, 2, 0] M slices_S8x6x1024_S1x1x1024_0_2_0) shapeCasts_S1x1x1024_S1024))

/-- The layer over this part of the tokens. -/
def wholeP : FVec Ideal S32x256x1024 .f32 :=
  finP (xP X) (gtP M) (prjP (nrmP (xP X) G (scP M) (shP M)) W) (cnvP (prjP (nrmP (xP X) G (scP M) (shP M)) W)) C O

theorem xP_at (b : Fin 32) (r : Fin 256) (k : Fin 1024) : xP X (ix3 b r k) = X (ix2 ⟨b.val * 256 + r.val, by omega⟩ k) := by
  pointwise [xP]

theorem wholeP_at (b : Fin 32) (r : Fin 256) (l : Fin 1024) : wholeP X M G W C O (ix3 b r l) = layer X M G W C O ⟨b.val * 256 + r.val, by omega⟩ l := by
  have hm : modRow (b.val * 256 + r.val) = 0 := by
    unfold modRow
    apply Fin.ext
    split_ifs <;> simp <;> omega
  refine (tokP (xP X) (gtP M) G (scP M) (shP M) W C O b r (fun k => M (ix3 0 1 k)) (fun k => M (ix3 0 0 k)) (fun k => M (ix3 0 2 k))
    ?_ ?_ ?_ l).trans ?_
  · intro r k
    pointwise [scP]
  · intro r k
    pointwise [shP]
  · intro k
    pointwise [gtP]
  unfold layer
  dsimp only
  rw [hm]
  refine congr (congr (congr (congrArg (fun x => out x _ _ _ _ _ _ _ _ _) (funext fun k => xP_at X b r k)) (funext fun k => ?_)) (funext fun k => ?_)) rfl
  · by_cases h : 0 < r.val
    · rw [dif_pos h, if_pos (show HasPrev (b.val * 256 + r.val) by unfold HasPrev; omega)]
      refine congrArg (fun x => gated x _ _ _ _ k) (funext fun k => (xP_at X b _ k).trans (congrArg (fun i => X (ix2 i k)) (Fin.ext ?_)))
      show b.val * 256 + (r.val - 1) = b.val * 256 + r.val - 1
      omega
    · rw [dif_neg h, if_neg (show ¬ HasPrev (b.val * 256 + r.val) by unfold HasPrev; omega)]
  · by_cases h : r.val + 1 < 256
    · rw [dif_pos h, if_pos (show HasNext (b.val * 256 + r.val) by unfold HasNext; omega)]
      refine congrArg (fun x => gated x _ _ _ _ k) (funext fun k => (xP_at X b _ k).trans (congrArg (fun i => X (ix2 i k)) (Fin.ext ?_)))
      show b.val * 256 + (r.val + 1) = min (b.val * 256 + r.val + 1) 12287
      omega
    · rw [dif_neg h, if_neg (show ¬ HasNext (b.val * 256 + r.val) by unfold HasNext; omega)]

end wholeP

section wholeS

variable (X : FVec Ideal S12288x1024 .f32) (M : FVec Ideal S8x6x1024 .f32) (G : FVec Ideal S1024 .f32)
  (W : FVec Ideal S1024x3072 .f32) (C : FVec Ideal S3x1024 .f32) (O : FVec Ideal S1024x1024 .f32)

/-- The tokens of this part. -/
def xS : FVec Ideal S2x2048x1024 .f32 := shapeCast S2x2048x1024 (extractStridedSlice S4096x1024 ![8192, 0] X slices_S12288x1024_S4096x1024_8192_0) shapeCasts_S4096x1024_S2x2048x1024

/-- One plus the scale, for every token. -/
def scS : FVec Ideal S2x2048x1024 .f32 := broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast S2x1024 (extractStridedSlice S2x1x1024 ![1, 1, 0] M slices_S8x6x1024_S2x1x1024_1_1_0) shapeCasts_S2x1x1024_S2x1024)))

/-- The shift, for every token. -/
def shS : FVec Ideal S2x2048x1024 .f32 := broadcastInDim S2x2048x1024 ![0, 1, 2] bcast_S2x1x1024_S2x2048x1024_0_1_2 (broadcastInDim S2x1x1024 ![0, 2] bcast_S2x1024_S2x1x1024_0_2 (shapeCast S2x1024 (extractStridedSlice S2x1x1024 ![1, 0, 0] M slices_S8x6x1024_S2x1x1024_1_0_0) shapeCasts_S2x1x1024_S2x1024))

/-- The gate, for every token. -/
def gtS : FVec Ideal S2x2048x1024 .f32 := broadcastInDim S2x2048x1024 ![0, 1, 2] bcast_S2x1x1024_S2x2048x1024_0_1_2 (broadcastInDim S2x1x1024 ![0, 2] bcast_S2x1024_S2x1x1024_0_2 (shapeCast S2x1024 (extractStridedSlice S2x1x1024 ![1, 2, 0] M slices_S8x6x1024_S2x1x1024_1_2_0) shapeCasts_S2x1x1024_S2x1024))

/-- The layer over this part of the tokens. -/
def wholeS : FVec Ideal S2x2048x1024 .f32 :=
  finS (xS X) (gtS M) (prjS (nrmS (xS X) G (scS M) (shS M)) W) (cnvS (prjS (nrmS (xS X) G (scS M) (shS M)) W)) C O

theorem xS_at (b : Fin 2) (r : Fin 2048) (k : Fin 1024) : xS X (ix3 b r k) = X (ix2 ⟨8192 + (b.val * 2048 + r.val), by omega⟩ k) := by
  pointwise [xS]

theorem wholeS_at (b : Fin 2) (r : Fin 2048) (l : Fin 1024) : wholeS X M G W C O (ix3 b r l) = layer X M G W C O ⟨8192 + (b.val * 2048 + r.val), by omega⟩ l := by
  have hm : modRow (8192 + (b.val * 2048 + r.val)) = ⟨1 + b.val, by omega⟩ := by
    unfold modRow
    apply Fin.ext
    split_ifs <;> simp <;> omega
  refine (tokS (xS X) (gtS M) G (scS M) (shS M) W C O b r (fun k => M (ix3 ⟨1 + b.val, by omega⟩ 1 k)) (fun k => M (ix3 ⟨1 + b.val, by omega⟩ 0 k)) (fun k => M (ix3 ⟨1 + b.val, by omega⟩ 2 k))
    ?_ ?_ ?_ l).trans ?_
  · intro r k
    pointwise [scS]
  · intro r k
    pointwise [shS]
  · intro k
    pointwise [gtS]
  unfold layer
  dsimp only
  rw [hm]
  refine congr (congr (congr (congrArg (fun x => out x _ _ _ _ _ _ _ _ _) (funext fun k => xS_at X b r k)) (funext fun k => ?_)) (funext fun k => ?_)) rfl
  · by_cases h : 0 < r.val
    · rw [dif_pos h, if_pos (show HasPrev (8192 + (b.val * 2048 + r.val)) by unfold HasPrev; omega)]
      refine congrArg (fun x => gated x _ _ _ _ k) (funext fun k => (xS_at X b _ k).trans (congrArg (fun i => X (ix2 i k)) (Fin.ext ?_)))
      show 8192 + (b.val * 2048 + (r.val - 1)) = 8192 + (b.val * 2048 + r.val) - 1
      omega
    · rw [dif_neg h, if_neg (show ¬ HasPrev (8192 + (b.val * 2048 + r.val)) by unfold HasPrev; omega)]
  · by_cases h : r.val + 1 < 2048
    · rw [dif_pos h, if_pos (show HasNext (8192 + (b.val * 2048 + r.val)) by unfold HasNext; omega)]
      refine congrArg (fun x => gated x _ _ _ _ k) (funext fun k => (xS_at X b _ k).trans (congrArg (fun i => X (ix2 i k)) (Fin.ext ?_)))
      show 8192 + (b.val * 2048 + (r.val + 1)) = min (8192 + (b.val * 2048 + r.val) + 1) 12287
      omega
    · rw [dif_neg h, if_neg (show ¬ HasNext (8192 + (b.val * 2048 + r.val)) by unfold HasNext; omega)]

end wholeS

/-- The two parts, one after the other. -/
def both (P : FVec Ideal S32x256x1024 .f32) (S : FVec Ideal S2x2048x1024 .f32) : FVec Ideal S12288x1024 .f32 :=
  concatenate S12288x1024 0 [⟨S8192x1024, shapeCast S8192x1024 P shapeCasts_S32x256x1024_S8192x1024⟩,
    ⟨S4096x1024, shapeCast S4096x1024 S shapeCasts_S2x2048x1024_S4096x1024⟩] concatenates_S8192x1024_S4096x1024_S12288x1024_d0

theorem both_at (P : FVec Ideal S32x256x1024 .f32) (S : FVec Ideal S2x2048x1024 .f32) (j : Fin 12288) (l : Fin 1024) :
    both P S (ix2 j l) = if h : j.val < 8192 then P (ix3 ⟨j.val / 256, by omega⟩ ⟨j.val % 256, by omega⟩ l)
      else S (ix3 ⟨(j.val - 8192) / 2048, by omega⟩ ⟨(j.val - 8192) % 2048, by omega⟩ l) := by
  pointwise [both]

open Cert.Reference2Ideal.Listed in
/-- The reference's result is the layer. -/
theorem res_eq (m : (ℓ : Loc nD τ sig) → Buf (Elt Ideal) ℓ) (c : Dev nD) (j : Fin 12288) (l : Fin 1024) :
    res_main_v124 m c (ix2 j l) = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) j l := by
  have e : res_main_v124 m c = both
      (wholeP (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)))
      (wholeS (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) := rfl
  rw [e, both_at]
  by_cases h : j.val < 8192
  · rw [dif_pos h]
    refine (wholeP_at _ _ _ _ _ _ _ _ l).trans (congrArg (fun i => layer _ _ _ _ _ _ i l) (Fin.ext ?_))
    show j.val / 256 * 256 + j.val % 256 = j.val
    omega
  · rw [dif_neg h]
    refine (wholeS_at _ _ _ _ _ _ _ _ l).trans (congrArg (fun i => layer _ _ _ _ _ _ i l) (Fin.ext ?_))
    show 8192 + ((j.val - 8192) / 2048 * 2048 + (j.val - 8192) % 2048) = j.val
    omega

end Cert.ConvRef

end
-- ==== Proof.ConvClaim.lean ====
/- The claims about the convolution. -/
module

public import proofs.«01_k».proof.Defs
public import proofs.«01_k».proof.Proof.ConvValue
public import proofs.«01_k».proof.Proof.ConvRef
public import Idealize.ShloMosaic.Lib.Quiescent

@[expose] public section

noncomputable section

open Idealize.ShloMosaic Idealize.ShloMosaic.TcCoe Idealize.SL.Sem

namespace Cert.ConvClaim

theorem quiescent : Cert.quiescent_Reference2Ideal := fun m g _ =>
  (θ_run Cert.Reference2Ideal.defs _ _).mono (fun r h => ⟨fun c => (h c).2, sem_eq_zero_of_no_sems (by decide) r.2⟩)
    (Cert.Reference2Ideal.Listed.run m g)

/-- The kernel's array and the reference's are the same layer. -/
theorem algebraic : Cert.algebraic_Kernel2Ideal_Reference2Ideal := by
  pair_intro
  · run_from Cert.Kernel2Ideal.Gen.run_main m g
  · run_from Cert.Reference2Ideal.Listed.run m' g'
    rw [Cert.ConvValue.final m c]
    funext i
    obtain ⟨j, l, rfl⟩ : ∃ (j : Fin 12288) (l : Fin 1024), i = ix2 j l := ⟨i 0, i 1, by funext a; fin_cases a <;> rfl⟩
    obtain ⟨h0, h1, h2, h3, h4, h5⟩ := hagree c
    refine (Cert.ConvRef.res_eq m' c j l).trans ?_
    rw [h0, h1, h2, h3, h4, h5]
    rfl

end Cert.ConvClaim

end
-- ==== Proof.InMath.lean ====
/- The mathematics of the attention's input projection, token by token, over plain functions of extended reals. -/
module

public import proofs.«01_k».proof.Proof.ConvMath
public import proofs.«01_k».proof.Proof.AttnCore

@[expose] public section

noncomputable section

open Idealize.ShloMosaic

namespace Cert.InMath

open Cert.ConvMath Cert.AttnCore

/-- The normalised and modulated row against column `j` of the input weights. -/
def zrow (x g sc sh : Fin 1024 → EReal) (w : Fin 1024 → Fin 1280 → EReal) (j : Fin 1280) : EReal :=
  ∑ k, modn x g sc sh k * w k j

/-- One head's channels, normalised by their root mean square and scaled. -/
def hnorm (z g : Fin 64 → EReal) (e : Fin 64) : EReal :=
  z e * Ideal.rsqrt (Ideal.div (∑ d, z d * z d) (Ideal.ofBits .f32 0x42800000#32) + Ideal.ofBits .f32 0x358637BD#32) * g e

/-- The angle at place `p` of the `j`-th frequency. -/
def ang (p : ℕ) (j : Fin 16) : EReal :=
  ((p : ℝ) : EReal) * Ideal.pow (Ideal.ofBits .f32 0x461C4000#32) (Ideal.div (-((j.val : ℝ) : EReal)) (Ideal.ofBits .f32 0x41800000#32))

/-- The angle of channel `e` of a head at token `t` of its sample: by the token's row on the lower half of the channels,
    by its column on the upper half. -/
def angle (t e : ℕ) : EReal := ang (if e < 32 then t / 64 else t % 64) ⟨e % 16, Nat.mod_lt _ (by decide)⟩

/-- The rotation of one head's channels at token `t` of its sample. -/
def rot (t : ℕ) (a : Fin 64 → EReal) (e : Fin 64) : EReal :=
  if h : e.val % 32 < 16 then a e * Ideal.cos (angle t e.val) - a ⟨e.val + 16, by omega⟩ * Ideal.sin (angle t e.val)
  else a e * Ideal.cos (angle t e.val) + a ⟨e.val - 16, by omega⟩ * Ideal.sin (angle t e.val)

/-- The rotation at token `j` of all: none for a prompt's. -/
def place (j : ℕ) (a : Fin 64 → EReal) (e : Fin 64) : EReal := if j < 8192 then a e else rot ((j - 8192) % 2048) a e

/-- The kernel's factor of a channel itself. -/
def cosOf (j e : ℕ) : EReal := if j < 8192 then 1 else Ideal.cos (angle ((j - 8192) % 2048) e)

/-- The kernel's factor of a channel's partner, sixteen channels away. -/
def sinOf (j e : ℕ) : EReal :=
  if j < 8192 then 0 else if e % 32 < 16 then -Ideal.sin (angle ((j - 8192) % 2048) e) else Ideal.sin (angle ((j - 8192) % 2048) e)

/-- A channel's partner. -/
def mate (e : Fin 64) : Fin 64 := if h : e.val % 32 < 16 then ⟨e.val + 16, by omega⟩ else ⟨e.val - 16, by omega⟩

theorem place_eq (j : ℕ) (a : Fin 64 → EReal) (e : Fin 64) : a e * cosOf j e.val + a (mate e) * sinOf j e.val = place j a e := by
  unfold place cosOf sinOf mate rot
  by_cases hj : j < 8192
  · rw [if_pos hj, if_pos hj, if_pos hj, mul_one, mul_zero, add_zero]
  · rw [if_neg hj, if_neg hj, if_neg hj]
    by_cases h : e.val % 32 < 16
    · rw [if_pos h, dif_pos h, dif_pos h, mul_neg]; rfl
    · rw [if_neg h, dif_neg h, dif_neg h]

/-! ## Numbers that are not infinite -/

/-- A number that is not infinite. -/
def Real' (x : EReal) : Prop := ∃ r : ℝ, x = r

theorem real_add {x y : EReal} (hx : Real' x) (hy : Real' y) : Real' (x + y) := by
  obtain ⟨a, rfl⟩ := hx; obtain ⟨b, rfl⟩ := hy; exact ⟨a + b, (EReal.coe_add a b).symm⟩

theorem real_mul {x y : EReal} (hx : Real' x) (hy : Real' y) : Real' (x * y) := by
  obtain ⟨a, rfl⟩ := hx; obtain ⟨b, rfl⟩ := hy; exact ⟨a * b, (EReal.coe_mul a b).symm⟩

theorem coe_sum {n : ℕ} (a : Fin n → ℝ) : ((∑ k, a k : ℝ) : EReal) = ∑ k, (a k : EReal) := by
  induction n with
  | zero => simp
  | succ n ih => rw [Fin.sum_univ_succ, Fin.sum_univ_succ, EReal.coe_add, ih]

theorem real_sum {n : ℕ} (f : Fin n → EReal) (h : ∀ k, Real' (f k)) : Real' (∑ k, f k) := by
  choose a ha using h
  refine ⟨∑ k, a k, ?_⟩
  rw [coe_sum]
  exact Finset.sum_congr rfl fun k _ => ha k

theorem sub_self_real {x : EReal} (h : Real' x) : x - x = 0 := by
  obtain ⟨a, rfl⟩ := h
  rw [← EReal.coe_sub, sub_self, EReal.coe_zero]

theorem size_eq : Ideal.ofBits .f32 0x44800000#32 = ((1024 : ℝ) : EReal) := by
  simp [Ideal.ofBits, Ideal.ieee, -EReal.coe_mul]; norm_num

theorem head_eq : Ideal.ofBits .f32 0x42800000#32 = ((64 : ℝ) : EReal) := by
  simp [Ideal.ofBits, Ideal.ieee, -EReal.coe_mul]; norm_num

theorem inv_head_eq : Ideal.ofBits .f32 0x3C800000#32 = ((1 / 64 : ℝ) : EReal) := by
  simp [Ideal.ofBits, Ideal.ieee, -EReal.coe_mul]; norm_num

theorem eps_pos : ∃ r : ℝ, 0 < r ∧ Ideal.ofBits .f32 0x358637BD#32 = (r : EReal) := by
  refine ⟨_, ?_, by simp [Ideal.ofBits, Ideal.ieee, -EReal.coe_mul]; rfl⟩
  norm_num

/-- Multiplying by a sixty-fourth is dividing by sixty-four. -/
theorem mul_inv_head (x : EReal) : x * Ideal.ofBits .f32 0x3C800000#32 = Ideal.div x (Ideal.ofBits .f32 0x42800000#32) := by
  rw [inv_head_eq, head_eq]
  unfold Ideal.div
  rw [if_neg (by exact_mod_cast (by norm_num : (64 : ℝ) ≠ 0)), ← EReal.coe_inv]
  norm_num

theorem real_modn (x g sc sh : Fin 1024 → EReal) (hx : ∀ k, Real' (x k)) (hg : ∀ k, Real' (g k)) (hsc : ∀ k, Real' (sc k))
    (hsh : ∀ k, Real' (sh k)) (l : Fin 1024) : Real' (modn x g sc sh l) := by
  have hr : Real' (Ideal.rsqrt (Ideal.div (∑ k, x k * x k) (Ideal.ofBits .f32 0x44800000#32) + Ideal.ofBits .f32 0x358637BD#32)) := by
    choose a ha using hx
    obtain ⟨e, he, hee⟩ := eps_pos
    have hs : (∑ k, x k * x k) = ((∑ k, a k * a k : ℝ) : EReal) := by
      rw [coe_sum]
      exact Finset.sum_congr rfl fun k _ => by rw [ha k, EReal.coe_mul]
    have hn : 0 ≤ ∑ k, a k * a k := Finset.sum_nonneg fun k _ => mul_self_nonneg _
    rw [hs, hee, size_eq]
    unfold Ideal.div
    rw [if_neg (by exact_mod_cast (by norm_num : (1024 : ℝ) ≠ 0)), ← EReal.coe_inv, ← EReal.coe_mul, ← EReal.coe_add, Ideal.rsqrt_coe]
    have hp : 0 < (∑ k, a k * a k) * (1024 : ℝ)⁻¹ + e := by positivity
    rw [if_neg (not_lt.2 hp.le), if_neg hp.ne']
    exact ⟨_, rfl⟩
  exact real_add (real_mul (real_mul (real_mul (hx l) hr) (hg l)) (real_add ⟨1, EReal.coe_one.symm⟩ (hsc l))) (hsh l)

theorem real_zrow (x g sc sh : Fin 1024 → EReal) (w : Fin 1024 → Fin 1280 → EReal) (hx : ∀ k, Real' (x k)) (hg : ∀ k, Real' (g k))
    (hsc : ∀ k, Real' (sc k)) (hsh : ∀ k, Real' (sh k)) (hw : ∀ k j, Real' (w k j)) (j : Fin 1280) : Real' (zrow x g sc sh w j) :=
  real_sum _ fun k => real_mul (real_modn x g sc sh hx hg hsc hsh k) (hw k j)

theorem zrow_congr {x x' g g' sc sc' sh sh' : Fin 1024 → EReal} {w w' : Fin 1024 → Fin 1280 → EReal} (hx : ∀ k, x k = x' k) (hg : ∀ k, g k = g' k)
    (hsc : ∀ k, sc k = sc' k) (hsh : ∀ k, sh k = sh' k) (hw : ∀ k j, w k j = w' k j) (j : Fin 1280) : zrow x g sc sh w j = zrow x' g' sc' sh' w' j := by
  rw [funext hx, funext hg, funext hsc, funext hsh, funext fun k => funext (hw k)]

theorem hnorm_congr {z z' g g' : Fin 64 → EReal} (hz : ∀ k, z k = z' k) (hg : ∀ k, g k = g' k) (e : Fin 64) : hnorm z g e = hnorm z' g' e := by
  rw [funext hz, funext hg]

/-! ## Over the whole arrays -/

section
variable (X : (⟨2, ![12288, 1024]⟩ : Shape).Idx → EReal) (M : (⟨3, ![8, 6, 1024]⟩ : Shape).Idx → EReal)
  (G : (⟨1, ![1024]⟩ : Shape).Idx → EReal) (W : (⟨2, ![1024, 1280]⟩ : Shape).Idx → EReal) (QG KG : (⟨1, ![64]⟩ : Shape).Idx → EReal)

/-- Token `j`'s normalised and modulated row, projected. -/
def zz (j : Fin 12288) (i : Fin 1280) : EReal :=
  zrow (fun k => X (ix2 j k)) (fun k => G (ix1 k)) (fun k => M (ix3 (modRow j) 1 k)) (fun k => M (ix3 (modRow j) 0 k)) (fun k i => W (ix2 k i)) i

/-- Token `j`'s query of head `h`, normalised. -/
def qry (j : Fin 12288) (h : Fin 8) : Fin 64 → EReal := hnorm (fun d => zz X M G W j ⟨64 * h.val + d.val, by omega⟩) (fun d => QG (ix1 d))

/-- Token `j`'s key of head `h`, normalised. -/
def key (j : Fin 12288) (h : Fin 2) : Fin 64 → EReal := hnorm (fun d => zz X M G W j ⟨512 + (64 * h.val + d.val), by omega⟩) (fun d => KG (ix1 d))

/-- The queries, rotated and scaled. -/
def qOut (j : Fin 12288) (c : Fin 512) : EReal :=
  place j (qry X M G W QG j ⟨c.val / 64, by omega⟩) ⟨c.val % 64, by omega⟩ * Cert.AttnMath.eighth

/-- The keys, rotated, the heads in order and again in the other order. -/
def kOut (j : Fin 12288) (c : Fin 256) : EReal := place j (key X M G W KG j (kvOf c.val)) ⟨c.val % 64, by omega⟩

/-- The values, the heads in order and again in the other order. -/
def vOut (j : Fin 12288) (c : Fin 256) : EReal := zz X M G W j ⟨640 + (64 * (kvOf c.val).val + c.val % 64), by omega⟩

/-- The new keys, before the rotation. -/
def kNew (j : Fin 12288) (c : Fin 128) : EReal := key X M G W KG j ⟨c.val / 64, by omega⟩ ⟨c.val % 64, by omega⟩

/-- The new values. -/
def vNew (j : Fin 12288) (c : Fin 128) : EReal := zz X M G W j ⟨640 + c.val, by omega⟩

/-- The pooling input. -/
def pOut (j : Fin 12288) (c : Fin 512) : EReal := zz X M G W j ⟨768 + c.val, by omega⟩

end

end Cert.InMath

end
-- ==== Proof.InTab.lean ====
/- The rotation's words and tables: the position's two coordinates, the angles, their cosines and sines. -/
module

public import proofs.«01_k».proof.Proof.Gen.Kernel4Ideal.Frame
public import proofs.«01_k».proof.Proof.InMath
public import Idealize.ShloMosaic.Lib.Claim

@[expose] public section

set_option maxRecDepth 16384

noncomputable section

open Idealize.ShloMosaic Idealize.ShloMosaic.TcCoe Idealize.SL.Sem

namespace Cert.InTab

open Cert.Kernel4Ideal Cert.Kernel4Ideal.Gen Cert.InMath

/-- The words of the positions' rows: the position divided by 64, rounded down. -/
def rowW : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The divisor of the remainder. -/
def divW : IVec S_ 32 := select (cmpi .eq (id (constantI S_ 32 64#32)) (constantI S_ 32 0#32)) (constantI S_ 32 1#32) (id (constantI S_ 32 64#32))

/-- The words of the positions' columns: the remainder of the position by 64. -/
def colW : IVec S2048 32 :=
  select (andi (cmpi .ne (cmpi .slt (Host.remsi (iotaInDim S2048 32 0) (broadcastInDim S2048 ![] bcast_S_S2048 divW)) (broadcastInDim S2048 ![] bcast_S_S2048 (constantI S_ 32 0#32)))
        (broadcastInDim S2048 ![] bcast_S_S2048 (cmpi .slt divW (constantI S_ 32 0#32))))
      (cmpi .ne (Host.remsi (iotaInDim S2048 32 0) (broadcastInDim S2048 ![] bcast_S_S2048 divW)) (broadcastInDim S2048 ![] bcast_S_S2048 (constantI S_ 32 0#32))))
    (addi (Host.remsi (iotaInDim S2048 32 0) (broadcastInDim S2048 ![] bcast_S_S2048 divW)) (broadcastInDim S2048 ![] bcast_S_S2048 divW))
    (Host.remsi (iotaInDim S2048 32 0) (broadcastInDim S2048 ![] bcast_S_S2048 divW))

theorem rowW_at (r : Fin 2048) : (rowW (ix1 r)).toInt = ((r.val / 64 : ℕ) : ℤ) := by
  unfold rowW
  pointwise
  revert r
  decide +kernel

theorem colW_at (r : Fin 2048) : (colW (ix1 r)).toInt = ((r.val % 64 : ℕ) : ℤ) := by
  unfold colW divW
  pointwise
  revert r
  decide +kernel

/-- The angles of the positions whose coordinate is a word of `w`. -/
def angs (w : IVec S2048 32) : FVec Ideal S2048x16 .f32 :=
  mulf (broadcastInDim S2048x16 ![0, 1] bcast_S2048x1_S2048x16_0_1 (broadcastInDim S2048x1 ![0] bcast_S2048_S2048x1_0 (sitofp .f32 w)))
    (broadcastInDim S2048x16 ![0, 1] bcast_S1x16_S2048x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

theorem lane_word : ∀ j : Fin 16, (BitVec.ofNat 32 j.val).toInt = ((j.val : ℕ) : ℤ) := by decide +kernel

theorem angs_at (w : IVec S2048 32) (r : Fin 2048) (n : ℕ) (h : (w (ix1 r)).toInt = (n : ℤ)) (j : Fin 16) : angs w (ix2 r j) = ang n j := by
  unfold angs
  pointwise
  have e1 : (FloatOps.sitofp (F := Ideal) .f32 (w (ix1 r)) : EReal) = ((n : ℝ) : EReal) := by
    show ((((w (ix1 r)).toInt : ℤ) : ℝ) : EReal) = _
    rw [h]; norm_cast
  have e2 : (FloatOps.sitofp (F := Ideal) .f32 (BitVec.ofNat 32 j.val) : EReal) = ((j.val : ℝ) : EReal) := by
    show ((((BitVec.ofNat 32 j.val).toInt : ℤ) : ℝ) : EReal) = _
    rw [lane_word]; norm_cast
  rw [e1, e2]
  rfl

end Cert.InTab

end
-- ==== Proof.InBody.lean ====
/- What the input projection's body computes, over the blocks it loads: the projected rows, their heads normalised, and the rotation. -/
module

public import proofs.«01_k».proof.Proof.Gen.Kernel4Ideal.Skeleton
public import proofs.«01_k».proof.Proof.InMath
public import proofs.«01_k».proof.Proof.AttnBody
public import Idealize.ShloMosaic.Lib.WordCmp

@[expose] public section

set_option maxRecDepth 16384

noncomputable section

open Idealize.ShloMosaic Idealize.ShloMosaic.TcCoe Idealize.SL.Sem

namespace Cert.InBody

open Cert.Kernel4Ideal Cert.Kernel4Ideal.Gen Cert.ConvMath Cert.InMath Cert.AttnMath Cert.AttnCore

/-! ## The projected rows -/

/-- The normalised and modulated block. -/
def nrm (x : FVec Ideal S256x1024 .f32) (g : FVec Ideal S1x1024 .f32) (sh sc : FVec Ideal S1x1x1024 .f32) : FVec Ideal S256x1024 .f32 :=
  addf (mulf (mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024))
    (broadcastTo S256x1024 (addf (broadcast S1x1024 (Scalar.ofBits .f32 0x3F800000#32)) (shapeCast S1x1024 sc shapeCasts_S1x1x1024_S1x1024)) broadcasts_S1x1024_S256x1024))
    (broadcastTo S256x1024 (shapeCast S1x1024 sh shapeCasts_S1x1x1024_S1x1024) broadcasts_S1x1024_S256x1024)

variable (x : FVec Ideal S256x1024 .f32) (g : FVec Ideal S1x1024 .f32) (sh sc : FVec Ideal S1x1x1024 .f32) (w : FVec Ideal S1024x1280 .bf16)

theorem nrm_at (r : Fin 256) (l : Fin 1024) :
    nrm x g sh sc (ix2 r l) = modn (fun k => x (ix2 r k)) (fun k => g (ix2 0 k)) (fun k => sc (ix3 0 0 k)) (fun k => sh (ix3 0 0 k)) l := by
  unfold modn
  pointwise! [nrm]

theorem z_at (r : Fin 256) (j : Fin 1280) :
    k0_pay4 (F := Ideal) x g sh sc w (ix2 r j) = zrow (fun k => x (ix2 r k)) (fun k => g (ix2 0 k)) (fun k => sc (ix3 0 0 k)) (fun k => sh (ix3 0 0 k))
      (fun k j => w (ix2 k j)) j := by
  have e : k0_pay4 x g sh sc w = matmul dot_S256x1024_S1024x1280_S256x1280_1_0_0_1_n_n none (truncf .bf16 (nrm x g sh sc) bitsLt_bf16_f32)
      (shapeCast S1024x1280 w shapeCasts_S1024x1280_S1024x1280) (constant S256x1280 .f32 0x00000000#32) := rfl
  rw [e]
  have e2 : matmul dot_S256x1024_S1024x1280_S256x1280_1_0_0_1_n_n none (truncf .bf16 (nrm x g sh sc) bitsLt_bf16_f32)
      (shapeCast S1024x1280 w shapeCasts_S1024x1280_S1024x1280) (constant S256x1280 .f32 0x00000000#32) (ix2 r j)
      = ∑ k : Fin 1024, (show EReal from nrm x g sh sc (ix2 r k)) * (show EReal from w (ix2 k j)) := by
    pointwise
  rw [e2]
  exact Finset.sum_congr rfl fun k _ => congrArg (· * _) (nrm_at x g sh sc r k)

/-! ## Two heads normalised -/

/-- Two heads side by side, each over its root mean square; the squares summed in two parts, through a matrix of zeros and ones. -/
def hn (bd : FVec Ideal S128x128 .bf16) (c : FVec Ideal S256x128 .f32) : FVec Ideal S256x128 .f32 :=
  mulf c (rsqrt (addf (mulf (addf
      (matmul dot_S256x128_S128x128_S256x128_1_0_0_1_n_n none (truncf .bf16 (mulf c c) bitsLt_bf16_f32) bd (constant S256x128 .f32 0x00000000#32))
      (matmul dot_S256x128_S128x128_S256x128_1_0_0_1_n_n none
        (truncf .bf16 (subf (mulf c c) (extf .f32 (truncf .bf16 (mulf c c) bitsLt_bf16_f32) bitsLt_bf16_f32)) bitsLt_bf16_f32) bd (constant S256x128 .f32 0x00000000#32)))
    (broadcast S256x128 (Scalar.ofBits .f32 0x3C800000#32))) (broadcast S256x128 (Scalar.ofBits .f32 0x358637BD#32))))

theorem hn_at (bd : FVec Ideal S128x128 .bf16) (hbd : ∀ a b : Fin 128, bd (ix2 a b) = if (a.val < 64 ↔ b.val < 64) then (1 : EReal) else 0)
    (c : FVec Ideal S256x128 .f32) (r : Fin 256) (hc : ∀ l, Real' (c (ix2 r l))) (l : Fin 128) :
    hn bd c (ix2 r l) = (show EReal from c (ix2 r l)) * Ideal.rsqrt (Ideal.div (∑ d : Fin 64, (show EReal from c (ix2 r ⟨64 * (l.val / 64) + d.val, by omega⟩))
      * (show EReal from c (ix2 r ⟨64 * (l.val / 64) + d.val, by omega⟩))) (Ideal.ofBits .f32 0x42800000#32) + Ideal.ofBits .f32 0x358637BD#32) := by
  have e : hn bd c (ix2 r l) = (show EReal from c (ix2 r l)) * Ideal.rsqrt (((∑ k : Fin 128, (show EReal from c (ix2 r k)) * (show EReal from c (ix2 r k)) * (show EReal from bd (ix2 k l)))
      + (∑ k : Fin 128, ((show EReal from c (ix2 r k)) * (show EReal from c (ix2 r k)) - (show EReal from c (ix2 r k)) * (show EReal from c (ix2 r k))) * (show EReal from bd (ix2 k l))))
      * Ideal.ofBits .f32 0x3C800000#32 + Ideal.ofBits .f32 0x358637BD#32) := by
    pointwise [hn]
  have h2 : (∑ k : Fin 128, ((show EReal from c (ix2 r k)) * (show EReal from c (ix2 r k)) - (show EReal from c (ix2 r k)) * (show EReal from c (ix2 r k))) * (show EReal from bd (ix2 k l))) = 0 :=
    Finset.sum_eq_zero fun k _ => by rw [sub_self_real (real_mul (hc k) (hc k)), zero_mul]
  have h1 : (∑ k : Fin 128, (show EReal from c (ix2 r k)) * (show EReal from c (ix2 r k)) * (show EReal from bd (ix2 k l)))
      = ∑ d : Fin 64, (show EReal from c (ix2 r ⟨64 * (l.val / 64) + d.val, by omega⟩)) * (show EReal from c (ix2 r ⟨64 * (l.val / 64) + d.val, by omega⟩)) := by
    by_cases h : l.val < 64
    · refine Eq.trans ?_ ((Cert.AttnBody.sum_lo (fun k => (show EReal from c (ix2 r k)) * (show EReal from c (ix2 r k)))).trans ?_)
      · refine Finset.sum_congr rfl fun k _ => ?_
        show _ * bd (ix2 k l) = _
        rw [hbd]
        by_cases hk : k.val < 64
        · rw [if_pos (iff_of_true hk h), if_pos hk, mul_one]
        · rw [if_neg (fun q => hk (q.2 h)), if_neg hk, mul_zero]
      · refine Finset.sum_congr rfl fun d _ => ?_
        have ed : (⟨d.val, by omega⟩ : Fin 128) = ⟨64 * (l.val / 64) + d.val, by omega⟩ := Fin.ext (by show d.val = 64 * (l.val / 64) + d.val; omega)
        rw [ed]
    · refine Eq.trans ?_ ((Cert.AttnBody.sum_hi (fun k => (show EReal from c (ix2 r k)) * (show EReal from c (ix2 r k)))).trans ?_)
      · refine Finset.sum_congr rfl fun k _ => ?_
        show _ * bd (ix2 k l) = _
        rw [hbd]
        by_cases hk : k.val < 64
        · rw [if_neg (fun q => h (q.1 hk)), if_neg (not_not.2 hk), mul_zero]
        · rw [if_pos (iff_of_false hk h), if_pos hk, mul_one]
      · refine Finset.sum_congr rfl fun d _ => ?_
        have ed : (⟨64 + d.val, by omega⟩ : Fin 128) = ⟨64 * (l.val / 64) + d.val, by omega⟩ := Fin.ext (by show 64 + d.val = 64 * (l.val / 64) + d.val; omega)
        rw [ed]
  rw [e, h2, h1, add_zero, mul_inv_head]

/-- Two heads' lanes of the projected queries. -/
abbrev chunk (o : ℕ) (h : S256x512.Slices ![0, o] S256x128) (z : FVec Ideal S256x512 .f32) : FVec Ideal S256x128 .f32 :=
  extractStridedSlice S256x128 ![0, o] z h

theorem chunk_at (o : ℕ) (h) (ho : o + 128 ≤ 512) (z : FVec Ideal S256x512 .f32) (r : Fin 256) (l : Fin 128) :
    chunk o h z (ix2 r l) = z (ix2 r ⟨o + l.val, by omega⟩) := by
  pointwise [chunk]

/-- Four pairs of heads side by side. -/
abbrev four (a b c d : FVec Ideal S256x128 .f32) : FVec Ideal S256x512 .f32 :=
  concatenate S256x512 1 [⟨S256x128, a⟩, ⟨S256x128, b⟩, ⟨S256x128, c⟩, ⟨S256x128, d⟩] concatenates_S256x128_S256x128_S256x128_S256x128_S256x512_d1

theorem four_at (a b c d : FVec Ideal S256x128 .f32) (r : Fin 256) (F : Fin 512 → EReal)
    (ha : ∀ l : Fin 128, a (ix2 r l) = F ⟨0 + l.val, by omega⟩) (hb : ∀ l : Fin 128, b (ix2 r l) = F ⟨128 + l.val, by omega⟩)
    (hc : ∀ l : Fin 128, c (ix2 r l) = F ⟨256 + l.val, by omega⟩) (hd : ∀ l : Fin 128, d (ix2 r l) = F ⟨384 + l.val, by omega⟩) (l : Fin 512) :
    four a b c d (ix2 r l) = F l := by
  pointwise [four]
  split
  · rw [ha]; exact congrArg F (Fin.ext (by simp))
  · split
    · rw [hb]; exact congrArg F (Fin.ext (by simp; omega))
    · split
      · rw [hc]; exact congrArg F (Fin.ext (by simp; omega))
      · rw [hd]; exact congrArg F (Fin.ext (by simp; omega))

/-! ## The rotation of two heads -/

/-- Two heads rotated: each lane by its cosine, its partner by its sine. -/
def rp (a cs sn : FVec Ideal S256x128 .f32) : FVec Ideal S256x128 .f32 :=
  addf (mulf a cs) (mulf (select (k0_pay25) (dynamicRotate 1 112#32 none a rotates_S256x128_d1) (dynamicRotate 1 16#32 none a rotates_S256x128_d1)) sn)

/-- A lane's partner, sixteen lanes away in its half of a head. -/
def mateN (c : ℕ) : ℕ := if c % 32 < 16 then c + 16 else c - 16

theorem mateN_lt (c n : ℕ) (h : c < 32 * n) : mateN c < 32 * n := by
  unfold mateN
  split <;> omega

theorem mask_at (r : Fin 256) (l : Fin 128) : k0_pay25 (ix2 r l) = BitVec.ofBool (decide (l.val % 32 < 16)) := by
  pointwise [k0_pay25]
  exact (by decide +kernel : ∀ l : Fin 128, IntOp.cmpi .slt (IntOp.andi (BitVec.ofNat 32 l.val) 31#32) 16#32 = BitVec.ofBool (decide (l.val % 32 < 16))) l

theorem rp_at (a cs sn : FVec Ideal S256x128 .f32) (r : Fin 256) (l : Fin 128) :
    rp a cs sn (ix2 r l) = (show EReal from a (ix2 r l)) * cs (ix2 r l)
      + (show EReal from a (ix2 r ⟨mateN l.val, mateN_lt _ 4 l.isLt⟩)) * sn (ix2 r l) := by
  have e : rp a cs sn (ix2 r l) = (show EReal from a (ix2 r l)) * cs (ix2 r l)
      + Scalar.select (k0_pay25 (ix2 r l)) (show EReal from a (ix2 r ⟨(l.val + 128 - 112) % 128, Nat.mod_lt _ (by decide)⟩))
        (show EReal from a (ix2 r ⟨(l.val + 128 - 16) % 128, Nat.mod_lt _ (by decide)⟩)) * sn (ix2 r l) := by
    pointwise [rp]
  rw [e, mask_at, Cert.AttnBody.select_if]
  refine congrArg (fun v : EReal => (show EReal from a (ix2 r l)) * cs (ix2 r l) + v * (show EReal from sn (ix2 r l))) ?_
  by_cases h : l.val % 32 < 16
  · rw [if_pos h]
    exact congrArg (fun i => a (ix2 r i)) (Fin.ext (by show (l.val + 128 - 112) % 128 = mateN l.val; unfold mateN; rw [if_pos h]; omega))
  · rw [if_neg h]
    exact congrArg (fun i => a (ix2 r i)) (Fin.ext (by show (l.val + 128 - 16) % 128 = mateN l.val; unfold mateN; rw [if_neg h]; omega))

/-! ## What the body stores -/

/-- A lane of a row of heads over its head's root mean square. -/
def headN (z : Fin 512 → EReal) (c : Fin 512) : EReal :=
  z c * Ideal.rsqrt (Ideal.div (∑ d : Fin 64, z ⟨64 * (c.val / 64) + d.val, by omega⟩ * z ⟨64 * (c.val / 64) + d.val, by omega⟩)
    (Ideal.ofBits .f32 0x42800000#32) + Ideal.ofBits .f32 0x358637BD#32)

/-- A lane of a row of heads rotated by the tables. -/
def turn (z cs sn : Fin 512 → EReal) (c : Fin 512) : EReal := z c * cs c + z ⟨mateN c.val, mateN_lt _ 16 c.isLt⟩ * sn c

/-- The queries, each head normalised and scaled. -/
def qn (bd : FVec Ideal S128x128 .bf16) (z : FVec Ideal S256x512 .f32) (qg : FVec Ideal S1x512 .f32) : FVec Ideal S256x512 .f32 :=
  mulf (four (hn bd (chunk 0 slices_S256x512_o0_0_S256x128 z)) (hn bd (chunk 128 slices_S256x512_o0_128_S256x128 z))
    (hn bd (chunk 256 slices_S256x512_o0_256_S256x128 z)) (hn bd (chunk 384 slices_S256x512_o0_384_S256x128 z)))
    (broadcastTo S256x512 qg broadcasts_S1x512_S256x512)

theorem qn_eq (bd : FVec Ideal S128x128 .bf16) (qg : FVec Ideal S1x512 .f32) :
    k0_pay19 (k0_pay5 bd) (k0_pay7 qg) (k0_pay12 (k0_pay5 bd) (k0_pay8 x g sh sc w) (k0_pay9 x g sh sc w) (k0_pay10 x g sh sc w) (k0_pay11 x g sh sc w))
      (k0_pay13 (k0_pay5 bd) (k0_pay6 x g sh sc w)) (k0_pay14 (k0_pay5 bd) (k0_pay6 x g sh sc w)) (k0_pay15 (k0_pay6 x g sh sc w))
      (k0_pay17 (k0_pay6 x g sh sc w)) (k0_pay18 (k0_pay6 x g sh sc w)) (constant S256x128 .f32 0x00000000#32)
    = qn (k0_pay5 bd) (k0_pay6 x g sh sc w) (k0_pay7 qg) := rfl

section
variable (bd : FVec Ideal S128x128 .bf16) (hbd : ∀ a b : Fin 128, bd (ix2 a b) = if (a.val < 64 ↔ b.val < 64) then (1 : EReal) else 0)

include hbd in
theorem qn_at (z : FVec Ideal S256x512 .f32) (qg : FVec Ideal S1x512 .f32) (r : Fin 256) (hz : ∀ l, Real' (z (ix2 r l))) (c : Fin 512) :
    qn bd z qg (ix2 r c) = hnorm (fun d => z (ix2 r ⟨64 * (c.val / 64) + d.val, by omega⟩)) (fun d => qg (ix2 0 ⟨64 * (c.val / 64) + d.val, by omega⟩))
      ⟨c.val % 64, by omega⟩ := by
  have eb : broadcastTo S256x512 qg broadcasts_S1x512_S256x512 (ix2 r c) = qg (ix2 0 c) := by pointwise
  have e : qn bd z qg (ix2 r c) = (show EReal from four (hn bd (chunk 0 slices_S256x512_o0_0_S256x128 z)) (hn bd (chunk 128 slices_S256x512_o0_128_S256x128 z))
    (hn bd (chunk 256 slices_S256x512_o0_256_S256x128 z)) (hn bd (chunk 384 slices_S256x512_o0_384_S256x128 z)) (ix2 r c))
      * (show EReal from broadcastTo S256x512 qg broadcasts_S1x512_S256x512 (ix2 r c)) := rfl
  have k : ∀ (o : ℕ) (h) (ho : o + 128 ≤ 512) (h6 : o % 64 = 0) (l : Fin 128), hn bd (chunk o h z) (ix2 r l) = headN (fun c => z (ix2 r c)) ⟨o + l.val, by omega⟩ := by
    intro o h ho h6 l
    unfold headN
    refine (hn_at bd hbd _ r (fun l => by rw [chunk_at o h ho]; exact hz _) l).trans ?_
    simp only [chunk_at o h ho]
    have ed : ∀ d : Fin 64, (⟨o + (64 * (l.val / 64) + d.val), by omega⟩ : Fin 512) = ⟨64 * ((o + l.val) / 64) + d.val, by omega⟩ := fun d =>
      Fin.ext (by show o + (64 * (l.val / 64) + d.val) = 64 * ((o + l.val) / 64) + d.val; omega)
    simp only [ed]
  rw [e, eb, four_at _ _ _ _ r (headN fun c => z (ix2 r c)) (k 0 _ (by decide) (by decide)) (k 128 _ (by decide) (by decide)) (k 256 _ (by decide) (by decide)) (k 384 _ (by decide) (by decide))]
  unfold hnorm headN
  have ec : (⟨64 * (c.val / 64) + c.val % 64, by omega⟩ : Fin 512) = c := Fin.ext (by show 64 * (c.val / 64) + c.val % 64 = c.val; omega)
  dsimp only
  rw [ec]

include hbd in
theorem kn_at (z : FVec Ideal S256x1280 .f32) (kg : FVec Ideal S1x128 .f32) (r : Fin 256) (hz : ∀ l, Real' (z (ix2 r l))) (c : Fin 128) :
    k0_pay20 z bd kg (ix2 r c) = hnorm (fun d => z (ix2 r ⟨512 + (64 * (c.val / 64) + d.val), by omega⟩)) (fun d => kg (ix2 0 ⟨64 * (c.val / 64) + d.val, by omega⟩))
      ⟨c.val % 64, by omega⟩ := by
  have es : ∀ l : Fin 128, extractStridedSlice S256x128 ![0, 512] z slices_S256x1280_o0_512_S256x128 (ix2 r l) = z (ix2 r ⟨512 + l.val, by omega⟩) := fun l => by pointwise
  have eb : broadcastTo S256x128 (shapeCast S1x128 kg shapeCasts_S1x128_S1x128) broadcasts_S1x128_S256x128 (ix2 r c) = kg (ix2 0 c) := by pointwise
  have e : k0_pay20 z bd kg (ix2 r c) = (show EReal from hn bd (extractStridedSlice S256x128 ![0, 512] z slices_S256x1280_o0_512_S256x128) (ix2 r c))
      * (show EReal from broadcastTo S256x128 (shapeCast S1x128 kg shapeCasts_S1x128_S1x128) broadcasts_S1x128_S256x128 (ix2 r c)) := rfl
  rw [e, eb, hn_at bd hbd _ r (fun l => by rw [es]; exact hz _)]
  simp only [es]
  unfold hnorm
  have ec : (⟨64 * (c.val / 64) + c.val % 64, by omega⟩ : Fin 128) = c := Fin.ext (by show 64 * (c.val / 64) + c.val % 64 = c.val; omega)
  have ez : (⟨512 + (64 * (c.val / 64) + c.val % 64), by omega⟩ : Fin 1280) = ⟨512 + c.val, by omega⟩ := Fin.ext (by show 512 + (64 * (c.val / 64) + c.val % 64) = 512 + c.val; omega)
  dsimp only
  rw [ec, ez]

end

theorem q_at (Q cs sn : FVec Ideal S256x512 .f32) (r : Fin 256) (c : Fin 512) :
    k0_pay26 Q (k0_pay23 cs) sn (ix2 r c) = turn (fun c => Q (ix2 r c)) (fun c => cs (ix2 r c)) (fun c => sn (ix2 r c)) c * eighth := by
  have e23 : k0_pay23 cs = cs := by funext i; pointwise [k0_pay23]
  have e24 : k0_pay24 sn = sn := by funext i; pointwise [k0_pay24]
  have e : k0_pay26 Q cs sn (ix2 r c) = (show EReal from four
      (rp (chunk 0 slices_S256x512_o0_0_S256x128 Q) (chunk 0 slices_S256x512_o0_0_S256x128 cs) (chunk 0 slices_S256x512_o0_0_S256x128 (k0_pay24 sn)))
      (rp (chunk 128 slices_S256x512_o0_128_S256x128 Q) (chunk 128 slices_S256x512_o0_128_S256x128 cs) (chunk 128 slices_S256x512_o0_128_S256x128 (k0_pay24 sn)))
      (rp (chunk 256 slices_S256x512_o0_256_S256x128 Q) (chunk 256 slices_S256x512_o0_256_S256x128 cs) (chunk 256 slices_S256x512_o0_256_S256x128 (k0_pay24 sn)))
      (rp (chunk 384 slices_S256x512_o0_384_S256x128 Q) (chunk 384 slices_S256x512_o0_384_S256x128 cs) (chunk 384 slices_S256x512_o0_384_S256x128 (k0_pay24 sn)))
      (ix2 r c)) * eighth := rfl
  have k : ∀ (o : ℕ) (h) (ho : o + 128 ≤ 512) (h6 : o % 32 = 0) (l : Fin 128), rp (chunk o h Q) (chunk o h cs) (chunk o h sn) (ix2 r l)
      = turn (fun c => Q (ix2 r c)) (fun c => cs (ix2 r c)) (fun c => sn (ix2 r c)) ⟨o + l.val, by omega⟩ := by
    intro o h ho h6 l
    unfold turn
    refine (rp_at _ _ _ r l).trans ?_
    simp only [chunk_at o h ho]
    refine congrArg (fun i => _ + Q (ix2 r i) * _) (Fin.ext ?_)
    show o + mateN l.val = mateN (o + l.val)
    unfold mateN
    have : (o + l.val) % 32 = l.val % 32 := by omega
    rw [this]
    split <;> omega
  rw [e23, e, e24, four_at _ _ _ _ r (turn (fun c => Q (ix2 r c)) (fun c => cs (ix2 r c)) (fun c => sn (ix2 r c))) (k 0 _ (by decide) (by decide)) (k 128 _ (by decide) (by decide)) (k 256 _ (by decide) (by decide)) (k 384 _ (by decide) (by decide))]

/-- A row of two heads, and again with the heads in the other order. -/
theorem swap_at (a : FVec Ideal S256x128 .f32) (r : Fin 256) (c : Fin 256) :
    k0_pay3 a (ix2 r c) = a (ix2 r ⟨64 * (kvOf c.val).val + c.val % 64, by omega⟩) := by
  have e : k0_pay3 a (ix2 r c) = if h : c.val < 128 then a (ix2 r ⟨c.val, h⟩) else a (ix2 r ⟨(c.val - 128 + 128 - 64) % 128, Nat.mod_lt _ (by decide)⟩) := by
    pointwise [k0_pay3]
  rw [e]
  have hv : (kvOf c.val).val = if c.val < 64 then 0 else if c.val < 192 then 1 else 0 := by
    unfold kvOf
    split
    · rfl
    · split <;> rfl
  have hc := c.isLt
  by_cases h : c.val < 128
  · rw [dif_pos h]
    refine congrArg (fun i => a (ix2 r i)) (Fin.ext ?_)
    show c.val = 64 * (kvOf c.val).val + c.val % 64
    rw [hv]
    split <;> [skip; split] <;> omega
  · rw [dif_neg h]
    refine congrArg (fun i => a (ix2 r i)) (Fin.ext ?_)
    show (c.val - 128 + 128 - 64) % 128 = 64 * (kvOf c.val).val + c.val % 64
    rw [hv]
    split <;> [skip; split] <;> omega

theorem k_at (K : FVec Ideal S256x128 .f32) (cs sn : FVec Ideal S256x512 .f32) (r : Fin 256) (c : Fin 256) :
    k0_pay2 K (k0_pay23 cs) (k0_pay24 sn) k0_pay25 (k0_pay27 K) 16#32 (ix2 r c)
      = (fun l : Fin 128 => (show EReal from K (ix2 r l)) * cs (ix2 r ⟨l.val, by omega⟩)
          + (show EReal from K (ix2 r ⟨mateN l.val, mateN_lt _ 4 l.isLt⟩)) * sn (ix2 r ⟨l.val, by omega⟩)) ⟨64 * (kvOf c.val).val + c.val % 64, by omega⟩ := by
  have e23 : k0_pay23 cs = cs := by funext i; pointwise [k0_pay23]
  have e24 : k0_pay24 sn = sn := by funext i; pointwise [k0_pay24]
  have e : k0_pay2 K cs sn k0_pay25 (k0_pay27 K) 16#32 = k0_pay3 (rp K (chunk 0 slices_S256x512_o0_0_S256x128 cs) (chunk 0 slices_S256x512_o0_0_S256x128 sn)) := rfl
  rw [e23, e24, e, swap_at, rp_at, chunk_at 0 _ (by decide), chunk_at 0 _ (by decide)]
  simp only [Nat.zero_add]

theorem v_at (z : FVec Ideal S256x1280 .f32) (r : Fin 256) (c : Fin 128) : k0_pay21 z (ix2 r c) = z (ix2 r ⟨640 + c.val, by omega⟩) := by
  pointwise [k0_pay21]

theorem p_at (z : FVec Ideal S256x1280 .f32) (r : Fin 256) (c : Fin 512) : k0_pay22 z (ix2 r c) = z (ix2 r ⟨768 + c.val, by omega⟩) := by
  pointwise [k0_pay22]

theorem z512_at (r : Fin 256) (c : Fin 512) : k0_pay6 (F := Ideal) x g sh sc w (ix2 r c) = k0_pay4 (F := Ideal) x g sh sc w (ix2 r ⟨c.val, by omega⟩) := by
  pointwise [k0_pay6]

end Cert.InBody

end
-- ==== Proof.InOut.lean ====
/- What the input projection's body leaves in its six output blocks, over the blocks of its inputs. -/
module

public import proofs.«01_k».proof.Proof.Gen.Kernel4Ideal.Frame
public import proofs.«01_k».proof.Proof.InBody
public import Idealize.ShloMosaic.Lib.Claim

@[expose] public section

set_option maxRecDepth 16384

noncomputable section

open Idealize.ShloMosaic Idealize.ShloMosaic.TcCoe Idealize.SL.Sem

namespace Cert.InOut

open Cert.Kernel4Ideal Cert.Kernel4Ideal.Gen Cert.ConvMath Cert.InMath Cert.AttnMath Cert.AttnCore Cert.InBody

variable (x0 : FVec Ideal S256x1024 .f32) (x1 : FVec Ideal S1x6x1024 .f32) (x2 : FVec Ideal S1x1024 .f32) (x3 : FVec Ideal S1024x1280 .bf16)
  (x4 : FVec Ideal S1x512 .f32) (x5 : FVec Ideal S1x128 .f32) (x6 : FVec Ideal S128x128 .bf16) (x7 x8 : FVec Ideal S256x512 .f32)

/-- Row `r` of the blocks is token `j` of the arrays. -/
structure Reads (X : FVec Ideal S12288x1024 .f32) (M : FVec Ideal S8x6x1024 .f32) (G : FVec Ideal S1024 .f32) (W : FVec Ideal S1024x1280 .f32)
    (QG KG : FVec Ideal S64 .f32) (r : Fin 256) (j : Fin 12288) : Prop where
  x : ∀ k, x0 (ix2 r k) = X (ix2 j k)
  m : ∀ i k, x1 (ix3 0 i k) = M (ix3 (modRow j) i k)
  g : ∀ k, x2 (ix2 0 k) = G (ix1 k)
  w : ∀ k i, x3 (ix2 k i) = W (ix2 k i)
  qg : ∀ c : Fin 512, x4 (ix2 0 c) = QG (ix1 ⟨c.val % 64, by omega⟩)
  kg : ∀ c : Fin 128, x5 (ix2 0 c) = KG (ix1 ⟨c.val % 64, by omega⟩)
  bd : ∀ a b : Fin 128, x6 (ix2 a b) = if (a.val < 64 ↔ b.val < 64) then (1 : EReal) else 0
  cs : ∀ c : Fin 512, x7 (ix2 r c) = cosOf j (c.val % 64)
  sn : ∀ c : Fin 512, x8 (ix2 r c) = sinOf j (c.val % 64)

variable {x0 x1 x2 x3 x4 x5 x6 x7 x8} {X : FVec Ideal S12288x1024 .f32} {M : FVec Ideal S8x6x1024 .f32} {G : FVec Ideal S1024 .f32} {W : FVec Ideal S1024x1280 .f32}
  {QG KG : FVec Ideal S64 .f32} {r : Fin 256} {j : Fin 12288} (h : Reads x0 x1 x2 x3 x4 x5 x6 x7 x8 X M G W QG KG r j)

include h

theorem z_row (i : Fin 1280) : k0_pay4 (F := Ideal) x0 x2 (View.ld x1 r0_2) (View.ld x1 r0_3) x3 (ix2 r i) = zz X M G W j i := by
  refine (z_at _ _ _ _ _ r i).trans (zrow_congr (fun k => ?_) (fun k => ?_) (fun k => ?_) (fun k => ?_) (fun k i => ?_) i)
  · exact h.x k
  · exact h.g k
  · refine Eq.trans ?_ (h.m 1 k); pointwise [r0_3]
  · refine Eq.trans ?_ (h.m 0 k); pointwise [r0_2]
  · exact h.w k i

theorem bd_row (a b : Fin 128) : k0_pay5 (F := Ideal) x6 (ix2 a b) = if (a.val < 64 ↔ b.val < 64) then (1 : EReal) else 0 := by
  refine Eq.trans ?_ (h.bd a b); pointwise [k0_pay5]

theorem pOut_at (c : Fin 512) : out0_14 (F := Ideal) x0 x1 x2 x3 x4 x5 x6 x7 x8 (ix2 r c) = pOut X M G W j c := by
  unfold_out out0_14; frame_out
  exact (p_at _ r c).trans (z_row h _)

theorem vNew_at (c : Fin 128) : out0_13 (F := Ideal) x0 x1 x2 x3 x4 x5 x6 x7 x8 (ix2 r c) = vNew X M G W j c := by
  unfold_out out0_13; frame_out
  exact (v_at _ r c).trans (z_row h _)

theorem vOut_at (c : Fin 256) : out0_11 (F := Ideal) x0 x1 x2 x3 x4 x5 x6 x7 x8 (ix2 r c) = vOut X M G W j c := by
  unfold_out out0_11; frame_out
  exact (swap_at _ r c).trans ((v_at _ r _).trans (z_row h _))

section
variable (hz : ∀ i, Real' (zz X M G W j i))
include hz

theorem key_at (c : Fin 128) : k0_pay20 (F := Ideal) (k0_pay4 x0 x2 (View.ld x1 r0_2) (View.ld x1 r0_3) x3)
    (k0_pay5 x6) x5 (ix2 r c) = kNew X M G W KG j c := by
  refine (kn_at _ (bd_row h) _ _ r (fun l => by rw [z_row h]; exact hz l) c).trans ?_
  unfold kNew key
  refine hnorm_congr (fun d => z_row h _) (fun d => (h.kg _).trans (congrArg (fun i => KG (ix1 i)) (Fin.ext ?_))) _
  show (64 * (c.val / 64) + d.val) % 64 = d.val
  omega

theorem kNew_at (c : Fin 128) : out0_12 (F := Ideal) x0 x1 x2 x3 x4 x5 x6 x7 x8 (ix2 r c) = kNew X M G W KG j c := by
  unfold_out out0_12; frame_out
  exact key_at h hz c

theorem kOut_at (c : Fin 256) : out0_10 (F := Ideal) x0 x1 x2 x3 x4 x5 x6 x7 x8 (ix2 r c) = kOut X M G W KG j c := by
  unfold_out out0_10; frame_out
  refine (k_at _ _ _ r c).trans ?_
  have hk : (kvOf c.val).val < 2 := (kvOf c.val).isLt
  dsimp only
  rw [key_at h hz, key_at h hz, h.cs, h.sn]
  unfold kOut
  rw [← place_eq]
  have em : (64 * (kvOf c.val).val + c.val % 64) % 64 = c.val % 64 := by omega
  have ed : (64 * (kvOf c.val).val + c.val % 64) / 64 = (kvOf c.val).val := by omega
  have md : mateN (64 * (kvOf c.val).val + c.val % 64) / 64 = (kvOf c.val).val := by unfold mateN; split <;> omega
  have mm : mateN (64 * (kvOf c.val).val + c.val % 64) % 64 = (mate ⟨c.val % 64, by omega⟩).val := by
    unfold mateN mate; dsimp only; split <;> split <;> simp only <;> omega
  have k1 : ∀ (l : Fin 128) (k : Fin 2) (e : Fin 64), l.val / 64 = k.val → l.val % 64 = e.val → kNew X M G W KG j l = key X M G W KG j k e := fun l k e h1 h2 =>
    congrArg₂ (fun k e => key X M G W KG j k e) (Fin.ext h1) (Fin.ext h2)
  rw [k1 _ (kvOf c.val) ⟨c.val % 64, by omega⟩ ed em, k1 _ (kvOf c.val) (mate ⟨c.val % 64, by omega⟩) md mm]
  dsimp only
  rw [em]

theorem qry_at (c : Fin 512) : qn (k0_pay5 x6) (k0_pay6 x0 x2 (View.ld x1 r0_2) (View.ld x1 r0_3) x3)
    (k0_pay7 x4) (ix2 r c) = qry X M G W QG j ⟨c.val / 64, by omega⟩ ⟨c.val % 64, by omega⟩ := by
  have hq : ∀ l, k0_pay6 (F := Ideal) x0 x2 (View.ld x1 r0_2) (View.ld x1 r0_3) x3 (ix2 r l) = zz X M G W j ⟨l.val, by omega⟩ :=
    fun l => (z512_at _ _ _ _ _ r l).trans (z_row h _)
  refine (qn_at _ (bd_row h) _ _ r (fun l => by rw [hq]; exact hz _) c).trans ?_
  unfold qry
  refine hnorm_congr (fun d => hq _) (fun d => ?_) _
  have e : k0_pay7 x4 (ix2 0 ⟨64 * (c.val / 64) + d.val, by omega⟩) = x4 (ix2 0 ⟨64 * (c.val / 64) + d.val, by omega⟩) := by pointwise [k0_pay7]
  refine e.trans ((h.qg _).trans (congrArg (fun i => QG (ix1 i)) (Fin.ext ?_)))
  show (64 * (c.val / 64) + d.val) % 64 = d.val
  omega

theorem qOut_at (c : Fin 512) : out0_9 (F := Ideal) x0 x1 x2 x3 x4 x5 x6 x7 x8 (ix2 r c) = qOut X M G W QG j c := by
  unfold_out out0_9; frame_out
  rw [qn_eq]
  refine (q_at _ _ _ r c).trans ?_
  unfold qOut turn
  dsimp only
  rw [qry_at h hz, qry_at h hz, h.cs, h.sn, ← place_eq]
  have md : mateN c.val / 64 = c.val / 64 := by unfold mateN; split <;> omega
  have mm : mateN c.val % 64 = (mate ⟨c.val % 64, by omega⟩).val := by
    unfold mateN mate; dsimp only; split <;> split <;> simp only <;> omega
  have e : qry X M G W QG j ⟨mateN c.val / 64, by omega⟩ ⟨mateN c.val % 64, by omega⟩
      = qry X M G W QG j ⟨c.val / 64, by omega⟩ (mate ⟨c.val % 64, by omega⟩) := congrArg₂ (fun k e => qry X M G W QG j k e) (Fin.ext md) (Fin.ext mm)
  rw [e]

end

end Cert.InOut

end
-- ==== Proof.InEntry.lean ====
/- What the host code hands the input projection's call, and where each grid point's blocks lie in it. -/
module

public import proofs.«01_k».proof.Proof.InTab
public import proofs.«01_k».proof.Proof.InOut
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InEntry

open Cert.Kernel4Ideal Cert.Kernel4Ideal.Gen Cert.InMath Cert.InTab

variable (m : (ℓ : Loc nD τ sig) → Buf (Elt Ideal) ℓ)

/-- The block each window is at, by the grid point. -/
theorem idx : ∀ t : Fin cfg0.N, win0_0.index t = ![t.val, 0] ∧ win0_1.index t = ![if t.val < 32 then 0 else if t.val < 40 then 1 else 2, 0, 0]
    ∧ win0_2.index t = ![0, 0] ∧ win0_3.index t = ![0, 0] ∧ win0_4.index t = ![0, 0] ∧ win0_5.index t = ![0, 0] ∧ win0_6.index t = ![0, 0]
    ∧ win0_7.index t = ![if t.val < 32 then 0 else 1 + (t.val - 32) % 8, 0] ∧ win0_8.index t = ![if t.val < 32 then 0 else 1 + (t.val - 32) % 8, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

/-- The contents when the mask is built. -/
abbrev σ1 (c : Dev nD) : Valuation τ sig (Elt Ideal) := StableHlo.after hostOps0 (fun b => m (c, b))

/-- The contents when the positions' rows are built. -/
abbrev σ2 (c : Dev nD) : Valuation τ sig (Elt Ideal) := StableHlo.after hostOps0_2 (StableHlo.after hostOps0_1 (σ1 m c))

/-- The contents when the tables are built. -/
abbrev σ3 (c : Dev nD) : Valuation τ sig (Elt Ideal) := StableHlo.after hostOps0_3 (σ2 m c)

theorem V_split (c : Dev nD) (b : Ref sig .tc) : V m c b = StableHlo.after hostOps0_4 (σ3 m c) (Proc.devRef .tc b) := by
  show StableHlo.after (hostOps0 ++ (hostOps0_1 ++ (hostOps0_2 ++ (hostOps0_3 ++ (hostOps0_4 ++ []))))) (fun b => m (c, b)) _ = _
  rw [StableHlo.after_append, StableHlo.after_append, StableHlo.after_append, StableHlo.after_append, List.append_nil]

theorem rows_at (c : Dev nD) : σ3 m c (Proc.devRef .tc main_v12) = rowW := by
  have e1 : σ3 m c (Proc.devRef .tc main_v12) = StableHlo.after hostOps0_1 (σ1 m c) (Proc.devRef .tc main_v12) := by
    unfold σ3 σ2
    generalize σ1 m c = σ
    entry_read
    rfl
  have e2 : σ1 m c (Proc.devRef .tc main_v11) = iotaInDim S2048 32 0 := by unfold σ1; entry_read; rfl
  have e3 : σ1 m c (Proc.devRef .tc main_c_1) = constantI S_ 32 64#32 := by unfold σ1; entry_read; rfl
  rw [e1]
  revert e2 e3
  generalize σ1 m c = σ
  intro e2 e3
  entry_read
  rw [e2, e3]
  rfl

theorem cols_at (c : Dev nD) : σ3 m c (Proc.devRef .tc main_v13) = colW := by
  have e2 : σ2 m c (Proc.devRef .tc main_v11) = iotaInDim S2048 32 0 := by unfold σ2 σ1; entry_read; rfl
  have e3 : σ2 m c (Proc.devRef .tc main_c_2) = constantI S_ 32 64#32 := by unfold σ2 σ1; entry_read; rfl
  unfold σ3
  revert e2 e3
  generalize σ2 m c = σ
  intro e2 e3
  entry_read
  rw [e2, e3]
  rfl

theorem V_bd (c : Dev nD) (a b : Fin 128) : V m c main_v10 (ix2 a b) = if (a.val < 64 ↔ b.val < 64) then (1 : EReal) else 0 := by
  have e : V m c main_v10 = σ1 m c (Proc.devRef .tc main_v10) := by
    rw [V_split]; unfold σ3 σ2; generalize σ1 m c = σ; entry_read; rfl
  rw [e]
  unfold σ1
  entry_read
  pointwise
  have h : ∀ a : Fin 128, IntOp.cmpi .slt (BitVec.ofNat 32 a.val) 64#32 = if a.val < 64 then 1#1 else 0#1 := by decide +kernel
  rw [h, h]
  by_cases ha : a.val < 64 <;> by_cases hb : b.val < 64 <;> simp only [ha, hb, if_true, if_false, iff_self, iff_true, true_iff, iff_false, not_true, not_false_iff]
  all_goals first
    | (show (((1#1 : BitVec 1).toNat : ℝ) : EReal) = 1; norm_num)
    | (show (((0#1 : BitVec 1).toNat : ℝ) : EReal) = 0; norm_num)

theorem V_g (c : Dev nD) (k : Fin 1024) : V m c main_v52 (ix2 0 k) = m ((c : Thread nD τ).loc main_arg2) (ix1 k) := by
  rw [← V_main_arg2 m c, V_split, V_split]
  generalize σ3 m c = σ
  entry_read
  pointwise

theorem V_w (c : Dev nD) (k : Fin 1024) (i : Fin 1280) : V m c main_v53 (ix2 k i) = m ((c : Thread nD τ).loc main_arg3) (ix2 k i) := by
  rw [← V_main_arg3 m c, V_split, V_split]
  generalize σ3 m c = σ
  entry_read
  pointwise

theorem V_qg (c : Dev nD) (l : Fin 512) : V m c main_v57 (ix2 0 l) = m ((c : Thread nD τ).loc main_arg4) (ix1 ⟨l.val % 64, by omega⟩) := by
  rw [← V_main_arg4 m c, V_split, V_split]
  generalize σ3 m c = σ
  entry_read
  pointwise

theorem V_kg (c : Dev nD) (l : Fin 128) : V m c main_v61 (ix2 0 l) = m ((c : Thread nD τ).loc main_arg5) (ix1 ⟨l.val % 64, by omega⟩) := by
  rw [← V_main_arg5 m c, V_split, V_split]
  generalize σ3 m c = σ
  entry_read
  pointwise

/-- The four quarters of a token's table row. -/
def quarters (a b d e : FVec Ideal S2048x16 .f32) : FVec Ideal S2048x64 .f32 :=
  concatenate S2048x64 1 [⟨S2048x16, a⟩, ⟨S2048x16, b⟩, ⟨S2048x16, d⟩, ⟨S2048x16, e⟩] concatenates_S2048x16_S2048x16_S2048x16_S2048x16_S2048x64_d1

/-- A table: 256 rows of one value, then a row a token, and the same for each head. -/
def table (z : BitVec 32) (T : FVec Ideal S2048x64 .f32) : FVec Ideal S2304x512 .f32 :=
  shapeCast S2304x512 (broadcastInDim S1x2304x8x64 ![0, 1, 2, 3] bcast_S1x2304x1x64_S1x2304x8x64_0_1_2_3
    (shapeCast S1x2304x1x64 (concatenate S2304x64 0 [⟨S256x64, broadcastInDim S256x64 ![] bcast_S_S256x64 (constant S_ .f32 z)⟩, ⟨S2048x64, T⟩]
      concatenates_S256x64_S2048x64_S2304x64_d0) shapeCasts_S2304x64_S1x2304x1x64)) shapeCasts_S1x2304x8x64_S2304x512

theorem table_at (z : BitVec 32) (T : FVec Ideal S2048x64 .f32) (r : Fin 2304) (l : Fin 512) :
    table z T (ix2 r l) = if h : r.val < 256 then Ideal.ofBits .f32 z else T (ix2 ⟨r.val - 256, by omega⟩ ⟨l.val % 64, by omega⟩) := by
  unfold table
  pointwise

theorem quarters_at (a b d e : FVec Ideal S2048x16 .f32) (r : Fin 2048) (l : Fin 64) : quarters a b d e (ix2 r l)
    = if l.val < 16 then a (ix2 r ⟨l.val % 16, by omega⟩) else if l.val < 32 then b (ix2 r ⟨l.val % 16, by omega⟩)
      else if l.val < 48 then d (ix2 r ⟨l.val % 16, by omega⟩) else e (ix2 r ⟨l.val % 16, by omega⟩) := by
  unfold quarters
  pointwise
  by_cases h1 : l.val < 16
  · rw [dif_pos h1, if_pos h1]
    exact congrArg (fun k => a (ix2 r k)) (Fin.ext (by show l.val = l.val % 16; omega))
  rw [dif_neg h1, if_neg h1]
  by_cases h2 : l.val < 32
  · rw [dif_pos (by omega), if_pos h2]
    exact congrArg (fun k => b (ix2 r k)) (Fin.ext (by show l.val - 16 = l.val % 16; omega))
  rw [dif_neg (by omega), if_neg h2]
  by_cases h3 : l.val < 48
  · rw [dif_pos (by omega), if_pos h3]
    exact congrArg (fun k => d (ix2 r k)) (Fin.ext (by show l.val - 16 - 16 = l.val % 16; omega))
  rw [dif_neg (by omega), if_neg h3]
  exact congrArg (fun k => e (ix2 r k)) (Fin.ext (by show l.val - 16 - 16 - 16 = l.val % 16; omega))

/-- A table's sines, and their negatives. -/
abbrev sinF (x : FVec Ideal S2048x16 .f32) : FVec Ideal S2048x16 .f32 := Host.sin x
abbrev nsinF (x : FVec Ideal S2048x16 .f32) : FVec Ideal S2048x16 .f32 := Host.negf (Host.sin x)

/-- The host operations up to the cosines, the first table's row, the sines, the second table's row, and the rest. -/
abbrev opsA : List (HloOp τ sig (Elt Ideal)) := hostOps0_4.take 22
abbrev opsB : List (HloOp τ sig (Elt Ideal)) := (hostOps0_4.drop 22).take 1
abbrev opsC : List (HloOp τ sig (Elt Ideal)) := (hostOps0_4.drop 23).take 6
abbrev opsD : List (HloOp τ sig (Elt Ideal)) := (hostOps0_4.drop 29).take 1
abbrev opsE : List (HloOp τ sig (Elt Ideal)) := hostOps0_4.drop 30

theorem ops_eq : (hostOps0_4 : List (HloOp τ sig (Elt Ideal))) = opsA ++ (opsB ++ (opsC ++ (opsD ++ opsE))) := rfl

theorem read_A (σ : Valuation τ sig (Elt Ideal)) : StableHlo.after opsA σ (Proc.devRef .tc main_v25) = angs (σ (Proc.devRef .tc main_v12))
    ∧ StableHlo.after opsA σ (Proc.devRef .tc main_v31) = angs (σ (Proc.devRef .tc main_v13))
    ∧ StableHlo.after opsA σ (Proc.devRef .tc main_v32) = Host.cos (angs (σ (Proc.devRef .tc main_v12)))
    ∧ StableHlo.after opsA σ (Proc.devRef .tc main_v33) = Host.cos (angs (σ (Proc.devRef .tc main_v13))) := by
  simp only [opsA, hostOps0_4, List.take_succ_cons, List.take_zero]
  refine ⟨?_, ?_, ?_, ?_⟩ <;> (entry_read; rfl)

theorem read_B (σ : Valuation τ sig (Elt Ideal)) : StableHlo.after opsB σ (Proc.devRef .tc main_v34)
    = quarters (σ (Proc.devRef .tc main_v32)) (σ (Proc.devRef .tc main_v32)) (σ (Proc.devRef .tc main_v33)) (σ (Proc.devRef .tc main_v33)) := by
  simp only [opsB, hostOps0_4, List.drop_succ_cons, List.drop_zero, List.take_succ_cons, List.take_zero]
  rw [StableHlo.after_cons, StableHlo.after_nil]
  refine (StableHlo.nary4_result _ _ _ _).trans ?_
  rfl

theorem keep_B (σ : Valuation τ sig (Elt Ideal)) : StableHlo.after opsB σ (Proc.devRef .tc main_v25) = σ (Proc.devRef .tc main_v25)
    ∧ StableHlo.after opsB σ (Proc.devRef .tc main_v31) = σ (Proc.devRef .tc main_v31) := by
  simp only [opsB, hostOps0_4, List.drop_succ_cons, List.drop_zero, List.take_succ_cons, List.take_zero]
  refine ⟨?_, ?_⟩ <;> (entry_read; rfl)

theorem read_C (σ : Valuation τ sig (Elt Ideal)) : StableHlo.after opsC σ (Proc.devRef .tc main_v36) = nsinF (σ (Proc.devRef .tc main_v25))
    ∧ StableHlo.after opsC σ (Proc.devRef .tc main_v37) = sinF (σ (Proc.devRef .tc main_v25))
    ∧ StableHlo.after opsC σ (Proc.devRef .tc main_v39) = nsinF (σ (Proc.devRef .tc main_v31))
    ∧ StableHlo.after opsC σ (Proc.devRef .tc main_v40) = sinF (σ (Proc.devRef .tc main_v31))
    ∧ StableHlo.after opsC σ (Proc.devRef .tc main_v34) = σ (Proc.devRef .tc main_v34) := by
  simp only [opsC, hostOps0_4, List.drop_succ_cons, List.drop_zero, List.take_succ_cons, List.take_zero]
  refine ⟨?_, ?_, ?_, ?_, ?_⟩ <;> (entry_read; rfl)

theorem read_D (σ : Valuation τ sig (Elt Ideal)) : StableHlo.after opsD σ (Proc.devRef .tc main_v41)
    = quarters (σ (Proc.devRef .tc main_v36)) (σ (Proc.devRef .tc main_v37)) (σ (Proc.devRef .tc main_v39)) (σ (Proc.devRef .tc main_v40)) := by
  simp only [opsD, hostOps0_4, List.drop_succ_cons, List.drop_zero, List.take_succ_cons, List.take_zero]
  rw [StableHlo.after_cons, StableHlo.after_nil]
  refine (StableHlo.nary4_result _ _ _ _).trans ?_
  rfl

theorem keep_D (σ : Valuation τ sig (Elt Ideal)) : StableHlo.after opsD σ (Proc.devRef .tc main_v34) = σ (Proc.devRef .tc main_v34) := by
  simp only [opsD, hostOps0_4, List.drop_succ_cons, List.drop_zero, List.take_succ_cons, List.take_zero]
  entry_read; rfl

theorem read_E (σ : Valuation τ sig (Elt Ideal)) : StableHlo.after opsE σ (Proc.devRef .tc main_v48) = table 0x3F800000#32 (σ (Proc.devRef .tc main_v34))
    ∧ StableHlo.after opsE σ (Proc.devRef .tc main_v51) = table 0x00000000#32 (σ (Proc.devRef .tc main_v41)) := by
  simp only [opsE, hostOps0_4, List.drop_succ_cons, List.drop_zero]
  refine ⟨?_, ?_⟩ <;> (entry_read; rfl)

theorem V_cos (c : Dev nD) : V m c main_v48 = table 0x3F800000#32 (quarters (Host.cos (angs rowW)) (Host.cos (angs rowW)) (Host.cos (angs colW)) (Host.cos (angs colW))) := by
  have h := read_A (σ3 m c)
  rw [rows_at, cols_at] at h
  rw [V_split, ops_eq, StableHlo.after_append, StableHlo.after_append, StableHlo.after_append, StableHlo.after_append, (read_E _).1, keep_D, (read_C _).2.2.2.2, read_B,
    h.2.2.1, h.2.2.2]

theorem V_sin (c : Dev nD) : V m c main_v51 = table 0x00000000#32 (quarters (nsinF (angs rowW)) (sinF (angs rowW)) (nsinF (angs colW)) (sinF (angs colW))) := by
  have h := read_A (σ3 m c)
  rw [rows_at, cols_at] at h
  rw [V_split, ops_eq, StableHlo.after_append, StableHlo.after_append, StableHlo.after_append, StableHlo.after_append, (read_E _).2, read_D, (read_C _).1, (read_C _).2.1,
    (read_C _).2.2.1, (read_C _).2.2.2.1, (keep_B _).1, (keep_B _).2, h.1, h.2.1]

/-- The tables at row `r` of the block a grid point reads. -/
theorem cos_at (c : Dev nD) (j : ℕ) (r : Fin 2304) (hr : r.val = if j < 8192 then j % 256 else 256 + (j - 8192) % 2048) (l : Fin 512) :
    V m c main_v48 (ix2 r l) = cosOf j (l.val % 64) := by
  rw [V_cos, table_at]
  unfold cosOf
  by_cases hj : j < 8192
  · rw [if_pos hj] at hr ⊢
    rw [dif_pos (by omega)]
    simp [Ideal.ofBits, Ideal.ieee, -EReal.coe_mul]; norm_num
  · rw [if_neg hj] at hr ⊢
    rw [dif_neg (by omega), quarters_at]
    have e : r.val - 256 = (j - 8192) % 2048 := by omega
    have m16 : l.val % 64 % 16 = l.val % 16 := by omega
    have a1 := angs_at rowW ⟨r.val - 256, by omega⟩ _ (rowW_at _) ⟨l.val % 64 % 16, by omega⟩
    have a2 := angs_at colW ⟨r.val - 256, by omega⟩ _ (colW_at _) ⟨l.val % 64 % 16, by omega⟩
    have c1 : ∀ (w : IVec S2048 32) i, Host.cos (angs w) i = Ideal.cos (angs w i) := fun _ _ => rfl
    rw [c1, c1, a1, a2]
    unfold angle
    dsimp only
    rw [e]
    by_cases h1 : l.val % 64 < 32
    · simp only [if_pos h1, ite_self]
    · rw [if_neg (by omega)]; simp only [if_neg h1, ite_self]

theorem sin_at (c : Dev nD) (j : ℕ) (r : Fin 2304) (hr : r.val = if j < 8192 then j % 256 else 256 + (j - 8192) % 2048) (l : Fin 512) :
    V m c main_v51 (ix2 r l) = sinOf j (l.val % 64) := by
  rw [V_sin, table_at]
  unfold sinOf
  by_cases hj : j < 8192
  · rw [if_pos hj] at hr ⊢
    rw [dif_pos (by omega)]
    simp [Ideal.ofBits, Ideal.ieee, -EReal.coe_mul]
  · rw [if_neg hj] at hr ⊢
    rw [dif_neg (by omega), quarters_at]
    have e : r.val - 256 = (j - 8192) % 2048 := by omega
    have a1 := angs_at rowW ⟨r.val - 256, by omega⟩ _ (rowW_at _) ⟨l.val % 64 % 16, by omega⟩
    have a2 := angs_at colW ⟨r.val - 256, by omega⟩ _ (colW_at _) ⟨l.val % 64 % 16, by omega⟩
    have c1 : ∀ (w : IVec S2048 32) i, sinF (angs w) i = Ideal.sin (angs w i) := fun _ _ => rfl
    have c2 : ∀ (w : IVec S2048 32) i, nsinF (angs w) i = -Ideal.sin (angs w i) := fun _ _ => rfl
    rw [c1, c1, c2, c2, a1, a2]
    unfold angle
    dsimp only
    rw [e]
    by_cases h1 : l.val % 64 < 16
    · rw [if_pos h1, if_pos (by omega), if_pos (by omega)]
    rw [if_neg h1]
    by_cases h2 : l.val % 64 < 32
    · rw [if_neg (show ¬ l.val % 64 % 32 < 16 by omega)]; simp only [if_pos h2]
    rw [if_neg h2]
    by_cases h3 : l.val % 64 < 48
    · rw [if_pos h3, if_pos (show l.val % 64 % 32 < 16 by omega)]; simp only [if_neg h2]
    rw [if_neg h3, if_neg (show ¬ l.val % 64 % 32 < 16 by omega)]; simp only [if_neg h2]

end Cert.InEntry

end
-- ==== Proof.InValue.lean ====
/- What the input projection's call leaves in its six arrays, over the arrays it is launched with. -/
module

public import proofs.«01_k».proof.Proof.InEntry
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InValue

open Cert.Kernel4Ideal Cert.Kernel4Ideal.Gen Cert.ConvMath Cert.InMath Cert.InEntry Cert.InOut

variable (m : (ℓ : Loc nD τ sig) → Buf (Elt Ideal) ℓ)

/-- The arguments. -/
abbrev aX (c : Dev nD) : FVec Ideal S12288x1024 .f32 := m ((c : Thread nD τ).loc main_arg0)
abbrev aM (c : Dev nD) : FVec Ideal S8x6x1024 .f32 := m ((c : Thread nD τ).loc main_arg1)
abbrev aG (c : Dev nD) : FVec Ideal S1024 .f32 := m ((c : Thread nD τ).loc main_arg2)
abbrev aW (c : Dev nD) : FVec Ideal S1024x1280 .f32 := m ((c : Thread nD τ).loc main_arg3)
abbrev aQ (c : Dev nD) : FVec Ideal S64 .f32 := m ((c : Thread nD τ).loc main_arg4)
abbrev aK (c : Dev nD) : FVec Ideal S64 .f32 := m ((c : Thread nD τ).loc main_arg5)

theorem token_lt (t : Fin cfg0.N) (r : Fin 256) : 256 * t.val + r.val < 12288 := by
  have := t.isLt
  have : cfg0.N = 48 := by decide
  omega

/-- Row `r` of the block at `t`. -/
abbrev tok (t : Fin cfg0.N) (r : Fin 256) : Fin 12288 := ⟨256 * t.val + r.val, token_lt t r⟩

theorem modRow_tok (t : Fin cfg0.N) (r : Fin 256) : (modRow (tok t r)).val = if t.val < 32 then 0 else if t.val < 40 then 1 else 2 := by
  have := r.isLt
  unfold modRow
  dsimp only
  by_cases h1 : t.val < 32
  · rw [if_pos h1, if_pos (by omega)]; rfl
  · rw [if_neg h1, if_neg (by omega)]
    by_cases h2 : t.val < 40
    · rw [if_pos h2, if_pos (by omega)]; rfl
    · rw [if_neg h2, if_neg (by omega)]; rfl

theorem b_x (c : Dev nD) (t : Fin cfg0.N) (r : Fin 256) (k : Fin 1024) : iblk m c 0 t (ix2 r k : S256x1024.Idx) = aX m c (ix2 (tok t r) k) := by
  refine Eq.trans ?_ (congrFun (V_main_arg0 m c) _)
  blk_ext [iblk, idx t]

theorem b_m (c : Dev nD) (t : Fin cfg0.N) (r : Fin 256) (i : Fin 6) (k : Fin 1024) : iblk m c 1 t (ix3 0 i k : S1x6x1024.Idx) = aM m c (ix3 (modRow (tok t r)) i k) := by
  refine Eq.trans ?_ (congrFun (V_main_arg1 m c) _)
  blk_ext [iblk, idx t]
  rw [modRow_tok, Nat.add_zero]

theorem b_g (c : Dev nD) (t : Fin cfg0.N) (k : Fin 1024) : iblk m c 2 t (ix2 0 k : S1x1024.Idx) = aG m c (ix1 k) := by
  refine Eq.trans ?_ (V_g m c k)
  blk_ext [iblk, idx t]

theorem b_w (c : Dev nD) (t : Fin cfg0.N) (k : Fin 1024) (i : Fin 1280) : iblk m c 3 t (ix2 k i : S1024x1280.Idx) = aW m c (ix2 k i) := by
  refine Eq.trans ?_ (V_w m c k i)
  blk_ext [iblk, idx t]

theorem b_qg (c : Dev nD) (t : Fin cfg0.N) (l : Fin 512) : iblk m c 4 t (ix2 0 l : S1x512.Idx) = aQ m c (ix1 ⟨l.val % 64, by omega⟩) := by
  refine Eq.trans ?_ (V_qg m c l)
  blk_ext [iblk, idx t]

theorem b_kg (c : Dev nD) (t : Fin cfg0.N) (l : Fin 128) : iblk m c 5 t (ix2 0 l : S1x128.Idx) = aK m c (ix1 ⟨l.val % 64, by omega⟩) := by
  refine Eq.trans ?_ (V_kg m c l)
  blk_ext [iblk, idx t]

theorem b_bd (c : Dev nD) (t : Fin cfg0.N) (a b : Fin 128) : iblk m c 6 t (ix2 a b : S128x128.Idx) = if (a.val < 64 ↔ b.val < 64) then (1 : EReal) else 0 := by
  refine Eq.trans ?_ (V_bd m c a b)
  blk_ext [iblk, idx t]

/-- The table row of row `r` of the block at `t`. -/
theorem row_tok (t : Fin cfg0.N) (r : Fin 256) : 256 * (if t.val < 32 then 0 else 1 + (t.val - 32) % 8) + r.val
    = if 256 * t.val + r.val < 8192 then (256 * t.val + r.val) % 256 else 256 + (256 * t.val + r.val - 8192) % 2048 := by
  have := r.isLt
  by_cases h : t.val < 32
  · rw [if_pos h, if_pos (by omega)]; omega
  · rw [if_neg h, if_neg (by omega)]; omega

theorem row_lt (t : Fin cfg0.N) (r : Fin 256) : 256 * (if t.val < 32 then 0 else 1 + (t.val - 32) % 8) + r.val < 2304 := by split <;> omega

theorem b_cs (c : Dev nD) (t : Fin cfg0.N) (r : Fin 256) (l : Fin 512) : iblk m c 7 t (ix2 r l : S256x512.Idx) = cosOf (256 * t.val + r.val) (l.val % 64) := by
  refine Eq.trans ?_ (cos_at m c _ ⟨_, row_lt t r⟩ (row_tok t r) l)
  blk_ext [iblk, idx t]

theorem b_sn (c : Dev nD) (t : Fin cfg0.N) (r : Fin 256) (l : Fin 512) : iblk m c 8 t (ix2 r l : S256x512.Idx) = sinOf (256 * t.val + r.val) (l.val % 64) := by
  refine Eq.trans ?_ (sin_at m c _ ⟨_, row_lt t r⟩ (row_tok t r) l)
  blk_ext [iblk, idx t]

theorem reads (c : Dev nD) (t : Fin cfg0.N) (r : Fin 256) :
    Reads (iblk m c 0 t) (iblk m c 1 t) (iblk m c 2 t) (iblk m c 3 t) (iblk m c 4 t) (iblk m c 5 t) (iblk m c 6 t) (iblk m c 7 t) (iblk m c 8 t)
      (aX m c) (aM m c) (aG m c) (aW m c) (aQ m c) (aK m c) r (tok t r) :=
  ⟨b_x m c t r, b_m m c t r, b_g m c t, b_w m c t, b_qg m c t, b_kg m c t, b_bd m c t, b_cs m c t r, b_sn m c t r⟩

/-- No argument of the projection is infinite. -/
structure Finite (X : FVec Ideal S12288x1024 .f32) (M : FVec Ideal S8x6x1024 .f32) (G : FVec Ideal S1024 .f32) (W : FVec Ideal S1024x1280 .f32) : Prop where
  x : ∀ i, Real' (X i)
  m : ∀ i, Real' (M i)
  g : ∀ i, Real' (G i)
  w : ∀ i, Real' (W i)

theorem Finite.zz {X : FVec Ideal S12288x1024 .f32} {M : FVec Ideal S8x6x1024 .f32} {G : FVec Ideal S1024 .f32} {W : FVec Ideal S1024x1280 .f32} (h : Finite X M G W)
    (j : Fin 12288) (i : Fin 1280) : Real' (zz X M G W j i) :=
  real_zrow _ _ _ _ _ (fun _ => h.x _) (fun _ => h.g _) (fun _ => h.m _) (fun _ => h.m _) (fun _ _ => h.w _) i

set_option maxHeartbeats 1000000 in
theorem final_p (c : Dev nD) : (dats m 0 c).arrAt 14 (cfgs 0).N = fun i : S12288x512.Idx => pOut (aX m c) (aM m c) (aG m c) (aW m c) (i 0) (i 1) := by
  refine (dats m 0 c).arrAt_eq_of_covers 14 _ (by decide +kernel) fun t _ y => ?_
  blk_simp
  rw [after0_14]
  idx_vars y
  refine (pOut_at (reads m c t y0) y1).trans ?_
  refine congrArg₂ (pOut _ _ _ _) (Fin.ext ?_) (Fin.ext ?_)
  · show 256 * t.val + y0.val = _
    blk_simp [idx t]; omega
  · blk_simp [idx t]

set_option maxHeartbeats 1000000 in
theorem final_vnew (c : Dev nD) : (dats m 0 c).arrAt 13 (cfgs 0).N = fun i : S12288x128.Idx => vNew (aX m c) (aM m c) (aG m c) (aW m c) (i 0) (i 1) := by
  refine (dats m 0 c).arrAt_eq_of_covers 13 _ (by decide +kernel) fun t _ y => ?_
  blk_simp
  rw [after0_13]
  idx_vars y
  refine (vNew_at (reads m c t y0) y1).trans ?_
  refine congrArg₂ (vNew _ _ _ _) (Fin.ext ?_) (Fin.ext ?_)
  · show 256 * t.val + y0.val = _
    blk_simp [idx t]; omega
  · blk_simp [idx t]

set_option maxHeartbeats 1000000 in
theorem final_v (c : Dev nD) : (dats m 0 c).arrAt 11 (cfgs 0).N = fun i : S12288x256.Idx => vOut (aX m c) (aM m c) (aG m c) (aW m c) (i 0) (i 1) := by
  refine (dats m 0 c).arrAt_eq_of_covers 11 _ (by decide +kernel) fun t _ y => ?_
  blk_simp
  rw [after0_11]
  idx_vars y
  refine (vOut_at (reads m c t y0) y1).trans ?_
  refine congrArg₂ (vOut _ _ _ _) (Fin.ext ?_) (Fin.ext ?_)
  · show 256 * t.val + y0.val = _
    blk_simp [idx t]; omega
  · blk_simp [idx t]

set_option maxHeartbeats 1000000 in
theorem final_knew (c : Dev nD) (hf : Finite (aX m c) (aM m c) (aG m c) (aW m c)) :
    (dats m 0 c).arrAt 12 (cfgs 0).N = fun i : S12288x128.Idx => kNew (aX m c) (aM m c) (aG m c) (aW m c) (aK m c) (i 0) (i 1) := by
  refine (dats m 0 c).arrAt_eq_of_covers 12 _ (by decide +kernel) fun t _ y => ?_
  blk_simp
  rw [after0_12]
  idx_vars y
  refine (kNew_at (reads m c t y0) (hf.zz _) y1).trans ?_
  refine congrArg₂ (kNew _ _ _ _ _) (Fin.ext ?_) (Fin.ext ?_)
  · show 256 * t.val + y0.val = _
    blk_simp [idx t]; omega
  · blk_simp [idx t]

set_option maxHeartbeats 1000000 in
theorem final_k (c : Dev nD) (hf : Finite (aX m c) (aM m c) (aG m c) (aW m c)) :
    (dats m 0 c).arrAt 10 (cfgs 0).N = fun i : S12288x256.Idx => kOut (aX m c) (aM m c) (aG m c) (aW m c) (aK m c) (i 0) (i 1) := by
  refine (dats m 0 c).arrAt_eq_of_covers 10 _ (by decide +kernel) fun t _ y => ?_
  blk_simp
  rw [after0_10]
  idx_vars y
  refine (kOut_at (reads m c t y0) (hf.zz _) y1).trans ?_
  refine congrArg₂ (kOut _ _ _ _ _) (Fin.ext ?_) (Fin.ext ?_)
  · show 256 * t.val + y0.val = _
    blk_simp [idx t]; omega
  · blk_simp [idx t]

set_option maxHeartbeats 1000000 in
theorem final_q (c : Dev nD) (hf : Finite (aX m c) (aM m c) (aG m c) (aW m c)) :
    (dats m 0 c).arrAt 9 (cfgs 0).N = fun i : S12288x512.Idx => qOut (aX m c) (aM m c) (aG m c) (aW m c) (aQ m c) (i 0) (i 1) := by
  refine (dats m 0 c).arrAt_eq_of_covers 9 _ (by decide +kernel) fun t _ y => ?_
  blk_simp
  rw [after0_9]
  idx_vars y
  refine (qOut_at (reads m c t y0) (hf.zz _) y1).trans ?_
  refine congrArg₂ (qOut _ _ _ _ _) (Fin.ext ?_) (Fin.ext ?_)
  · show 256 * t.val + y0.val = _
    blk_simp [idx t]; omega
  · blk_simp [idx t]

end Cert.InValue

end
-- ==== Proof.InPre.lean ====
/- The precondition of the input projection read: no token, modulation, scale or weight is infinite. -/
module

public import proofs.«01_k».proof.Pre_finite_in
public import Idealize.ShloMosaic.Lib.ReduceAll
public import proofs.«01_k».proof.Proof.AttnPre
public import Idealize.ShloMosaic.Lib.Claim

@[expose] public section

set_option maxRecDepth 16384

noncomputable section

open Idealize.ShloMosaic

namespace Cert.InPre

open Cert.Pre_finite_in

instance facts : Facts where
  bcast_S_S12288x1024 := by decide
  reducesTo_S12288x1024_S_d0_1 := by decide
  h_S_ := by decide
  bcast_S_S8x6x1024 := by decide
  reducesTo_S8x6x1024_S_d0_1_2 := by decide
  bcast_S_S1024 := by decide
  reducesTo_S1024_S_d0 := by decide
  bcast_S_S1024x1280 := by decide
  reducesTo_S1024x1280_S_d0_1 := by decide

instance : Subsingleton S_.Idx := ⟨fun a b => funext fun i => i.elim0⟩

theorem read (a0 : FVec Ideal S12288x1024 .f32) (a1 : FVec Ideal S8x6x1024 .f32) (a2 : FVec Ideal S1024 .f32) (a3 : FVec Ideal S1024x1280 .f32)
    (a4 a5 : FVec Ideal S64 .f32) (h : Cert.Pre_finite_in.fn (F := Ideal) a0 a1 a2 a3 a4 a5 = fun _ => 1#1) :
    (∀ i, ∃ r : ℝ, (show EReal from a0 i) = r) ∧ (∀ i, ∃ r : ℝ, (show EReal from a1 i) = r) ∧ (∀ i, ∃ r : ℝ, (show EReal from a2 i) = r)
      ∧ (∀ i, ∃ r : ℝ, (show EReal from a3 i) = r) := by
  have h0 := congrFun h (fun i => i.elim0)
  simp only [Cert.Pre_finite_in.fn, Cert.Pre_finite_in.fn_part1] at h0
  have h1 := IntOp.andi_eq_one.1 h0
  have h2 := IntOp.andi_eq_one.1 h1.1
  have h3 := IntOp.andi_eq_one.1 h2.1
  refine ⟨fun i => ?_, fun i => ?_, fun i => ?_, fun i => ?_⟩
  · have := Host.reduce_andi_all _ _ _ _ _ h3.1 i; exact Cert.AttnPre.real_of _ this
  · have := Host.reduce_andi_all _ _ _ _ _ h3.2 i; exact Cert.AttnPre.real_of _ this
  · have := Host.reduce_andi_all _ _ _ _ _ h2.2 i; exact Cert.AttnPre.real_of _ this
  · have := Host.reduce_andi_all _ _ _ _ _ h1.2 i; exact Cert.AttnPre.real_of _ this

end Cert.InPre

end
-- ==== Proof.InRef.lean ====
/- What the reference of the input projection computes, read at an element. -/
module

public import proofs.«01_k».proof.Proof.Gen.Reference4Ideal.Run
public import proofs.«01_k».proof.Proof.ConvRef
public import proofs.«01_k».proof.Proof.InTab
public import Idealize.ShloMosaic.Lib.Claim

@[expose] public section

set_option maxRecDepth 16384

noncomputable section

open Idealize.ShloMosaic Idealize.ShloMosaic.TcCoe Idealize.SL.Sem Idealize.ShloMosaic.StableHlo

namespace Cert.InRef

open Cert.Reference4Ideal Cert.Reference4Ideal.Gen Cert.Reference4Ideal.Value Cert.ConvMath Cert.InMath Cert.AttnCore Cert.ConvRef

/-! ## The projected tokens -/

section
variable (X : FVec Ideal S12288x1024 .f32) (M : FVec Ideal S8x6x1024 .f32) (G : FVec Ideal S1024 .f32) (W : FVec Ideal S1024x1280 .f32)

/-- The prompts' tokens, projected. -/
def zP : FVec Ideal S32x256x1280 .f32 :=
  Host.dotGeneral dot_S32x256x1024_S1024x1280_S32x256x1280_2_0_01_1_n_n none (nrmP (xP X) G (scP M) (shP M)) W

/-- The samples' tokens, projected. -/
def zS : FVec Ideal S2x2048x1280 .f32 :=
  Host.dotGeneral dot_S2x2048x1024_S1024x1280_S2x2048x1280_2_0_01_1_n_n none (nrmS (xS X) G (scS M) (shS M)) W

theorem prj_P (n : FVec Ideal S32x256x1024 .f32) (b : Fin 32) (r : Fin 256) (i : Fin 1280) :
    Host.dotGeneral dot_S32x256x1024_S1024x1280_S32x256x1280_2_0_01_1_n_n none n W (ix3 b r i) = ∑ k : Fin 1024, (show EReal from n (ix3 b r k)) * (show EReal from W (ix2 k i)) := by
  pointwise

theorem prj_S (n : FVec Ideal S2x2048x1024 .f32) (b : Fin 2) (r : Fin 2048) (i : Fin 1280) :
    Host.dotGeneral dot_S2x2048x1024_S1024x1280_S2x2048x1280_2_0_01_1_n_n none n W (ix3 b r i) = ∑ k : Fin 1024, (show EReal from n (ix3 b r k)) * (show EReal from W (ix2 k i)) := by
  pointwise

theorem zP_at (b : Fin 32) (r : Fin 256) (i : Fin 1280) : zP X M G W (ix3 b r i) = zz X M G W ⟨b.val * 256 + r.val, by omega⟩ i := by
  have hm : modRow (b.val * 256 + r.val) = 0 := by unfold modRow; rw [if_pos (by omega)]
  refine (prj_P W _ b r i).trans ?_
  unfold zz zrow
  refine Finset.sum_congr rfl fun k _ => congrArg (fun z : EReal => z * _) ?_
  refine (nrmP_at (xP X) G (scP M) (shP M) b r (fun k => M (ix3 0 1 k)) (fun k => by pointwise [scP]) k).trans ?_
  rw [funext fun k => xP_at X b r k, funext fun k => (show shP M (ix3 b r k) = M (ix3 0 0 k) by pointwise [shP])]
  dsimp only
  rw [hm]

theorem zS_at (b : Fin 2) (r : Fin 2048) (i : Fin 1280) : zS X M G W (ix3 b r i) = zz X M G W ⟨8192 + (b.val * 2048 + r.val), by omega⟩ i := by
  have hm : modRow (8192 + (b.val * 2048 + r.val)) = ⟨1 + b.val, by omega⟩ := by
    unfold modRow
    apply Fin.ext
    split_ifs <;> simp <;> omega
  refine (prj_S W _ b r i).trans ?_
  unfold zz zrow
  refine Finset.sum_congr rfl fun k _ => congrArg (fun z : EReal => z * _) ?_
  refine (nrmS_at (xS X) G (scS M) (shS M) b r (fun k => M (ix3 ⟨1 + b.val, by omega⟩ 1 k)) (fun k => by pointwise [scS]) k).trans ?_
  rw [funext fun k => xS_at X b r k, funext fun k => (show shS M (ix3 b r k) = M (ix3 ⟨1 + b.val, by omega⟩ 0 k) by pointwise [shS])]
  dsimp only
  rw [hm]

end

/-! ## The heads -/

/-- The heads of the prompts' queries, keys and values, and of the samples'. -/
def headP8 (z : FVec Ideal S32x256x1280 .f32) : FVec Ideal S32x256x8x64 .f32 :=
  shapeCast S32x256x8x64 (extractStridedSlice S32x256x512 ![0, 0, 0] z slices_S32x256x1280_S32x256x512_0_0_0) shapeCasts_S32x256x512_S32x256x8x64
def headP2 (z : FVec Ideal S32x256x1280 .f32) : FVec Ideal S32x256x2x64 .f32 :=
  shapeCast S32x256x2x64 (extractStridedSlice S32x256x128 ![0, 0, 512] z slices_S32x256x1280_S32x256x128_0_0_512) shapeCasts_S32x256x128_S32x256x2x64
def headPv (z : FVec Ideal S32x256x1280 .f32) : FVec Ideal S32x256x2x64 .f32 :=
  shapeCast S32x256x2x64 (extractStridedSlice S32x256x128 ![0, 0, 640] z slices_S32x256x1280_S32x256x128_0_0_640) shapeCasts_S32x256x128_S32x256x2x64
def headS8 (z : FVec Ideal S2x2048x1280 .f32) : FVec Ideal S2x2048x8x64 .f32 :=
  shapeCast S2x2048x8x64 (extractStridedSlice S2x2048x512 ![0, 0, 0] z slices_S2x2048x1280_S2x2048x512_0_0_0) shapeCasts_S2x2048x512_S2x2048x8x64
def headS2 (z : FVec Ideal S2x2048x1280 .f32) : FVec Ideal S2x2048x2x64 .f32 :=
  shapeCast S2x2048x2x64 (extractStridedSlice S2x2048x128 ![0, 0, 512] z slices_S2x2048x1280_S2x2048x128_0_0_512) shapeCasts_S2x2048x128_S2x2048x2x64
def headSv (z : FVec Ideal S2x2048x1280 .f32) : FVec Ideal S2x2048x2x64 .f32 :=
  shapeCast S2x2048x2x64 (extractStridedSlice S2x2048x128 ![0, 0, 640] z slices_S2x2048x1280_S2x2048x128_0_0_640) shapeCasts_S2x2048x128_S2x2048x2x64

theorem headP8_at (z : FVec Ideal S32x256x1280 .f32) (b : Fin 32) (r : Fin 256) (h : Fin 8) (e : Fin 64) :
    headP8 z (ix4 b r h e) = z (ix3 b r ⟨h.val * 64 + e.val, by omega⟩) := by pointwise [headP8]
theorem headP2_at (z : FVec Ideal S32x256x1280 .f32) (b : Fin 32) (r : Fin 256) (h : Fin 2) (e : Fin 64) :
    headP2 z (ix4 b r h e) = z (ix3 b r ⟨512 + (h.val * 64 + e.val), by omega⟩) := by pointwise [headP2]
theorem headPv_at (z : FVec Ideal S32x256x1280 .f32) (b : Fin 32) (r : Fin 256) (h : Fin 2) (e : Fin 64) :
    headPv z (ix4 b r h e) = z (ix3 b r ⟨640 + (h.val * 64 + e.val), by omega⟩) := by pointwise [headPv]
theorem headS8_at (z : FVec Ideal S2x2048x1280 .f32) (b : Fin 2) (r : Fin 2048) (h : Fin 8) (e : Fin 64) :
    headS8 z (ix4 b r h e) = z (ix3 b r ⟨h.val * 64 + e.val, by omega⟩) := by pointwise [headS8]
theorem headS2_at (z : FVec Ideal S2x2048x1280 .f32) (b : Fin 2) (r : Fin 2048) (h : Fin 2) (e : Fin 64) :
    headS2 z (ix4 b r h e) = z (ix3 b r ⟨512 + (h.val * 64 + e.val), by omega⟩) := by pointwise [headS2]
theorem headSv_at (z : FVec Ideal S2x2048x1280 .f32) (b : Fin 2) (r : Fin 2048) (h : Fin 2) (e : Fin 64) :
    headSv z (ix4 b r h e) = z (ix3 b r ⟨640 + (h.val * 64 + e.val), by omega⟩) := by pointwise [headSv]

/-- The normalised heads. -/
def nP8 (a : FVec Ideal S32x256x8x64 .f32) (g : FVec Ideal S64 .f32) : FVec Ideal S32x256x8x64 .f32 :=
  mulf (mulf a (broadcastInDim S32x256x8x64 ![0, 1, 2, 3] bcast_S32x256x8x1_S32x256x8x64_0_1_2_3 (Host.rsqrt (addf (Host.divf (broadcastInDim S32x256x8x1 ![0, 1, 2] bcast_S32x256x8_S32x256x8x1_0_1_2
    (Host.reduceAdd (mulf a a) (constant S_ .f32 0x00000000#32) reducesTo_S32x256x8x64_S32x256x8_d3 h_S_)) (broadcastInDim S32x256x8x1 ![] bcast_S_S32x256x8x1 (constant S_ .f32 0x42800000#32)))
    (broadcastInDim S32x256x8x1 ![] bcast_S_S32x256x8x1 (constant S_ .f32 0x358637BD#32))))))
    (broadcastInDim S32x256x8x64 ![0, 1, 2, 3] bcast_S1x1x1x64_S32x256x8x64_0_1_2_3 (broadcastInDim S1x1x1x64 ![3] bcast_S64_S1x1x1x64_3 g))
def nP2 (a : FVec Ideal S32x256x2x64 .f32) (g : FVec Ideal S64 .f32) : FVec Ideal S32x256x2x64 .f32 :=
  mulf (mulf a (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2
    (Host.reduceAdd (mulf a a) (constant S_ .f32 0x00000000#32) reducesTo_S32x256x2x64_S32x256x2_d3 h_S_)) (broadcastInDim S32x256x2x1 ![] bcast_S_S32x256x2x1 (constant S_ .f32 0x42800000#32)))
    (broadcastInDim S32x256x2x1 ![] bcast_S_S32x256x2x1 (constant S_ .f32 0x358637BD#32))))))
    (broadcastInDim S32x256x2x64 ![0, 1, 2, 3] bcast_S1x1x1x64_S32x256x2x64_0_1_2_3 (broadcastInDim S1x1x1x64 ![3] bcast_S64_S1x1x1x64_3 g))
def nS8 (a : FVec Ideal S2x2048x8x64 .f32) (g : FVec Ideal S64 .f32) : FVec Ideal S2x2048x8x64 .f32 :=
  mulf (mulf a (broadcastInDim S2x2048x8x64 ![0, 1, 2, 3] bcast_S2x2048x8x1_S2x2048x8x64_0_1_2_3 (Host.rsqrt (addf (Host.divf (broadcastInDim S2x2048x8x1 ![0, 1, 2] bcast_S2x2048x8_S2x2048x8x1_0_1_2
    (Host.reduceAdd (mulf a a) (constant S_ .f32 0x00000000#32) reducesTo_S2x2048x8x64_S2x2048x8_d3 h_S_)) (broadcastInDim S2x2048x8x1 ![] bcast_S_S2x2048x8x1 (constant S_ .f32 0x42800000#32)))
    (broadcastInDim S2x2048x8x1 ![] bcast_S_S2x2048x8x1 (constant S_ .f32 0x358637BD#32))))))
    (broadcastInDim S2x2048x8x64 ![0, 1, 2, 3] bcast_S1x1x1x64_S2x2048x8x64_0_1_2_3 (broadcastInDim S1x1x1x64 ![3] bcast_S64_S1x1x1x64_3 g))
def nS2 (a : FVec Ideal S2x2048x2x64 .f32) (g : FVec Ideal S64 .f32) : FVec Ideal S2x2048x2x64 .f32 :=
  mulf (mulf a (broadcastInDim S2x2048x2x64 ![0, 1, 2, 3] bcast_S2x2048x2x1_S2x2048x2x64_0_1_2_3 (Host.rsqrt (addf (Host.divf (broadcastInDim S2x2048x2x1 ![0, 1, 2] bcast_S2x2048x2_S2x2048x2x1_0_1_2
    (Host.reduceAdd (mulf a a) (constant S_ .f32 0x00000000#32) reducesTo_S2x2048x2x64_S2x2048x2_d3 h_S_)) (broadcastInDim S2x2048x2x1 ![] bcast_S_S2x2048x2x1 (constant S_ .f32 0x42800000#32)))
    (broadcastInDim S2x2048x2x1 ![] bcast_S_S2x2048x2x1 (constant S_ .f32 0x358637BD#32))))))
    (broadcastInDim S2x2048x2x64 ![0, 1, 2, 3] bcast_S1x1x1x64_S2x2048x2x64_0_1_2_3 (broadcastInDim S1x1x1x64 ![3] bcast_S64_S1x1x1x64_3 g))

theorem nP8_at (a : FVec Ideal S32x256x8x64 .f32) (g : FVec Ideal S64 .f32) (b : Fin 32) (r : Fin 256) (h : Fin 8) (e : Fin 64) :
    nP8 a g (ix4 b r h e) = hnorm (fun d => a (ix4 b r h d)) (fun d => g (ix1 d)) e := by unfold hnorm; pointwise [nP8]
theorem nP2_at (a : FVec Ideal S32x256x2x64 .f32) (g : FVec Ideal S64 .f32) (b : Fin 32) (r : Fin 256) (h : Fin 2) (e : Fin 64) :
    nP2 a g (ix4 b r h e) = hnorm (fun d => a (ix4 b r h d)) (fun d => g (ix1 d)) e := by unfold hnorm; pointwise [nP2]
theorem nS8_at (a : FVec Ideal S2x2048x8x64 .f32) (g : FVec Ideal S64 .f32) (b : Fin 2) (r : Fin 2048) (h : Fin 8) (e : Fin 64) :
    nS8 a g (ix4 b r h e) = hnorm (fun d => a (ix4 b r h d)) (fun d => g (ix1 d)) e := by unfold hnorm; pointwise [nS8]
theorem nS2_at (a : FVec Ideal S2x2048x2x64 .f32) (g : FVec Ideal S64 .f32) (b : Fin 2) (r : Fin 2048) (h : Fin 2) (e : Fin 64) :
    nS2 a g (ix4 b r h e) = hnorm (fun d => a (ix4 b r h d)) (fun d => g (ix1 d)) e := by unfold hnorm; pointwise [nS2]

/-! ## The rotation -/

/-- One half of the channels, rotated. -/
def seg8 (u v : FVec Ideal S2x2048x8x16 .f32) (A : FVec Ideal S2048x16 .f32) : FVec Ideal S2x2048x8x32 .f32 :=
  concatenate S2x2048x8x32 3
    [⟨S2x2048x8x16, subf (mulf u (broadcastInDim S2x2048x8x16 ![0, 1, 2, 3] bcast_S1x2048x1x16_S2x2048x8x16_0_1_2_3 (broadcastInDim S1x2048x1x16 ![1, 3] bcast_S2048x16_S1x2048x1x16_1_3 (Host.cos A))))
      (mulf v (broadcastInDim S2x2048x8x16 ![0, 1, 2, 3] bcast_S1x2048x1x16_S2x2048x8x16_0_1_2_3 (broadcastInDim S1x2048x1x16 ![1, 3] bcast_S2048x16_S1x2048x1x16_1_3 (Host.sin A))))⟩,
     ⟨S2x2048x8x16, addf (mulf v (broadcastInDim S2x2048x8x16 ![0, 1, 2, 3] bcast_S1x2048x1x16_S2x2048x8x16_0_1_2_3 (broadcastInDim S1x2048x1x16 ![1, 3] bcast_S2048x16_S1x2048x1x16_1_3 (Host.cos A))))
      (mulf u (broadcastInDim S2x2048x8x16 ![0, 1, 2, 3] bcast_S1x2048x1x16_S2x2048x8x16_0_1_2_3 (broadcastInDim S1x2048x1x16 ![1, 3] bcast_S2048x16_S1x2048x1x16_1_3 (Host.sin A))))⟩]
    concatenates_S2x2048x8x16_S2x2048x8x16_S2x2048x8x32_d3
def seg2 (u v : FVec Ideal S2x2048x2x16 .f32) (A : FVec Ideal S2048x16 .f32) : FVec Ideal S2x2048x2x32 .f32 :=
  concatenate S2x2048x2x32 3
    [⟨S2x2048x2x16, subf (mulf u (broadcastInDim S2x2048x2x16 ![0, 1, 2, 3] bcast_S1x2048x1x16_S2x2048x2x16_0_1_2_3 (broadcastInDim S1x2048x1x16 ![1, 3] bcast_S2048x16_S1x2048x1x16_1_3 (Host.cos A))))
      (mulf v (broadcastInDim S2x2048x2x16 ![0, 1, 2, 3] bcast_S1x2048x1x16_S2x2048x2x16_0_1_2_3 (broadcastInDim S1x2048x1x16 ![1, 3] bcast_S2048x16_S1x2048x1x16_1_3 (Host.sin A))))⟩,
     ⟨S2x2048x2x16, addf (mulf v (broadcastInDim S2x2048x2x16 ![0, 1, 2, 3] bcast_S1x2048x1x16_S2x2048x2x16_0_1_2_3 (broadcastInDim S1x2048x1x16 ![1, 3] bcast_S2048x16_S1x2048x1x16_1_3 (Host.cos A))))
      (mulf u (broadcastInDim S2x2048x2x16 ![0, 1, 2, 3] bcast_S1x2048x1x16_S2x2048x2x16_0_1_2_3 (broadcastInDim S1x2048x1x16 ![1, 3] bcast_S2048x16_S1x2048x1x16_1_3 (Host.sin A))))⟩]
    concatenates_S2x2048x2x16_S2x2048x2x16_S2x2048x2x32_d3

theorem seg8_at (u v : FVec Ideal S2x2048x8x16 .f32) (A : FVec Ideal S2048x16 .f32) (b : Fin 2) (t : Fin 2048) (h : Fin 8) (e : Fin 32) :
    seg8 u v A (ix4 b t h e) = if k : e.val < 16
      then (show EReal from u (ix4 b t h ⟨e.val, k⟩)) * Ideal.cos (A (ix2 t ⟨e.val, k⟩)) - (show EReal from v (ix4 b t h ⟨e.val, k⟩)) * Ideal.sin (A (ix2 t ⟨e.val, k⟩))
      else (show EReal from v (ix4 b t h ⟨e.val - 16, by omega⟩)) * Ideal.cos (A (ix2 t ⟨e.val - 16, by omega⟩))
        + (show EReal from u (ix4 b t h ⟨e.val - 16, by omega⟩)) * Ideal.sin (A (ix2 t ⟨e.val - 16, by omega⟩)) := by
  unfold seg8
  pointwise
theorem seg2_at (u v : FVec Ideal S2x2048x2x16 .f32) (A : FVec Ideal S2048x16 .f32) (b : Fin 2) (t : Fin 2048) (h : Fin 2) (e : Fin 32) :
    seg2 u v A (ix4 b t h e) = if k : e.val < 16
      then (show EReal from u (ix4 b t h ⟨e.val, k⟩)) * Ideal.cos (A (ix2 t ⟨e.val, k⟩)) - (show EReal from v (ix4 b t h ⟨e.val, k⟩)) * Ideal.sin (A (ix2 t ⟨e.val, k⟩))
      else (show EReal from v (ix4 b t h ⟨e.val - 16, by omega⟩)) * Ideal.cos (A (ix2 t ⟨e.val - 16, by omega⟩))
        + (show EReal from u (ix4 b t h ⟨e.val - 16, by omega⟩)) * Ideal.sin (A (ix2 t ⟨e.val - 16, by omega⟩)) := by
  unfold seg2
  pointwise

end Cert.InRef

end
-- ==== Proof.InRes.lean ====
/- The results of the reference of the input projection, read at an element. -/
module

public import proofs.«01_k».proof.Proof.InRef

@[expose] public section

set_option maxRecDepth 16384

noncomputable section

open Idealize.ShloMosaic Idealize.ShloMosaic.TcCoe Idealize.SL.Sem Idealize.ShloMosaic.StableHlo

namespace Cert.InRes

open Cert.Reference4Ideal Cert.Reference4Ideal.Gen Cert.Reference4Ideal.Value Cert.ConvMath Cert.InMath Cert.AttnCore Cert.ConvRef Cert.InRef

/-! ## Both halves rotated -/

def join8 (u v : FVec Ideal S2x2048x8x32 .f32) : FVec Ideal S2x2048x8x64 .f32 :=
  concatenate S2x2048x8x64 3 [⟨S2x2048x8x32, u⟩, ⟨S2x2048x8x32, v⟩] concatenates_S2x2048x8x32_S2x2048x8x32_S2x2048x8x64_d3
def join2 (u v : FVec Ideal S2x2048x2x32 .f32) : FVec Ideal S2x2048x2x64 .f32 :=
  concatenate S2x2048x2x64 3 [⟨S2x2048x2x32, u⟩, ⟨S2x2048x2x32, v⟩] concatenates_S2x2048x2x32_S2x2048x2x32_S2x2048x2x64_d3

theorem join8_at (u v : FVec Ideal S2x2048x8x32 .f32) (b : Fin 2) (t : Fin 2048) (h : Fin 8) (e : Fin 64) :
    join8 u v (ix4 b t h e) = if k : e.val < 32 then u (ix4 b t h ⟨e.val, k⟩) else v (ix4 b t h ⟨e.val - 32, by omega⟩) := by
  unfold join8
  pointwise
theorem join2_at (u v : FVec Ideal S2x2048x2x32 .f32) (b : Fin 2) (t : Fin 2048) (h : Fin 2) (e : Fin 64) :
    join2 u v (ix4 b t h e) = if k : e.val < 32 then u (ix4 b t h ⟨e.val, k⟩) else v (ix4 b t h ⟨e.val - 32, by omega⟩) := by
  unfold join2
  pointwise

/-- Sixteen channels of the heads, from channel `o` of the halves of thirty-two at channel `p`. -/
def lo8 (a : FVec Ideal S2x2048x8x64 .f32) : FVec Ideal S2x2048x8x32 .f32 := extractStridedSlice S2x2048x8x32 ![0, 0, 0, 0] a slices_S2x2048x8x64_S2x2048x8x32_0_0_0_0
def hi8 (a : FVec Ideal S2x2048x8x64 .f32) : FVec Ideal S2x2048x8x32 .f32 := extractStridedSlice S2x2048x8x32 ![0, 0, 0, 32] a slices_S2x2048x8x64_S2x2048x8x32_0_0_0_32
def lo2 (a : FVec Ideal S2x2048x2x64 .f32) : FVec Ideal S2x2048x2x32 .f32 := extractStridedSlice S2x2048x2x32 ![0, 0, 0, 0] a slices_S2x2048x2x64_S2x2048x2x32_0_0_0_0
def hi2 (a : FVec Ideal S2x2048x2x64 .f32) : FVec Ideal S2x2048x2x32 .f32 := extractStridedSlice S2x2048x2x32 ![0, 0, 0, 32] a slices_S2x2048x2x64_S2x2048x2x32_0_0_0_32

/-- One half of the channels, rotated, from the half. -/
def turn8 (a : FVec Ideal S2x2048x8x32 .f32) (A : FVec Ideal S2048x16 .f32) : FVec Ideal S2x2048x8x32 .f32 :=
  seg8 (extractStridedSlice S2x2048x8x16 ![0, 0, 0, 0] a slices_S2x2048x8x32_S2x2048x8x16_0_0_0_0)
    (extractStridedSlice S2x2048x8x16 ![0, 0, 0, 16] a slices_S2x2048x8x32_S2x2048x8x16_0_0_0_16) A
def turn2 (a : FVec Ideal S2x2048x2x32 .f32) (A : FVec Ideal S2048x16 .f32) : FVec Ideal S2x2048x2x32 .f32 :=
  seg2 (extractStridedSlice S2x2048x2x16 ![0, 0, 0, 0] a slices_S2x2048x2x32_S2x2048x2x16_0_0_0_0)
    (extractStridedSlice S2x2048x2x16 ![0, 0, 0, 16] a slices_S2x2048x2x32_S2x2048x2x16_0_0_0_16) A

theorem lo8_at (a : FVec Ideal S2x2048x8x64 .f32) (b : Fin 2) (t : Fin 2048) (h : Fin 8) (e : Fin 32) : lo8 a (ix4 b t h e) = a (ix4 b t h ⟨e.val, by omega⟩) := by pointwise [lo8]
theorem hi8_at (a : FVec Ideal S2x2048x8x64 .f32) (b : Fin 2) (t : Fin 2048) (h : Fin 8) (e : Fin 32) : hi8 a (ix4 b t h e) = a (ix4 b t h ⟨32 + e.val, by omega⟩) := by pointwise [hi8]
theorem lo2_at (a : FVec Ideal S2x2048x2x64 .f32) (b : Fin 2) (t : Fin 2048) (h : Fin 2) (e : Fin 32) : lo2 a (ix4 b t h e) = a (ix4 b t h ⟨e.val, by omega⟩) := by pointwise [lo2]
theorem hi2_at (a : FVec Ideal S2x2048x2x64 .f32) (b : Fin 2) (t : Fin 2048) (h : Fin 2) (e : Fin 32) : hi2 a (ix4 b t h e) = a (ix4 b t h ⟨32 + e.val, by omega⟩) := by pointwise [hi2]

theorem turn8_at (a : FVec Ideal S2x2048x8x32 .f32) (A : FVec Ideal S2048x16 .f32) (b : Fin 2) (t : Fin 2048) (h : Fin 8) (e : Fin 32) :
    turn8 a A (ix4 b t h e) = if k : e.val < 16
      then (show EReal from a (ix4 b t h e)) * Ideal.cos (A (ix2 t ⟨e.val, k⟩)) - (show EReal from a (ix4 b t h ⟨e.val + 16, by omega⟩)) * Ideal.sin (A (ix2 t ⟨e.val, k⟩))
      else (show EReal from a (ix4 b t h e)) * Ideal.cos (A (ix2 t ⟨e.val - 16, by omega⟩))
        + (show EReal from a (ix4 b t h ⟨e.val - 16, by omega⟩)) * Ideal.sin (A (ix2 t ⟨e.val - 16, by omega⟩)) := by
  have h0 : ∀ d : Fin 16, extractStridedSlice S2x2048x8x16 ![0, 0, 0, 0] a slices_S2x2048x8x32_S2x2048x8x16_0_0_0_0 (ix4 b t h d) = a (ix4 b t h ⟨d.val, by omega⟩) := fun d => by pointwise
  have h1 : ∀ d : Fin 16, extractStridedSlice S2x2048x8x16 ![0, 0, 0, 16] a slices_S2x2048x8x32_S2x2048x8x16_0_0_0_16 (ix4 b t h d) = a (ix4 b t h ⟨16 + d.val, by omega⟩) := fun d => by pointwise
  refine (seg8_at _ _ A b t h e).trans ?_
  by_cases k : e.val < 16
  · rw [dif_pos k, dif_pos k, h0, h1]
    simp only [Nat.add_comm 16]
  · rw [dif_neg k, dif_neg k, h0, h1]
    have hk : (⟨16 + (e.val - 16), by omega⟩ : Fin 32) = e := Fin.ext (by show 16 + (e.val - 16) = e.val; omega)
    dsimp only
    rw [hk]
theorem turn2_at (a : FVec Ideal S2x2048x2x32 .f32) (A : FVec Ideal S2048x16 .f32) (b : Fin 2) (t : Fin 2048) (h : Fin 2) (e : Fin 32) :
    turn2 a A (ix4 b t h e) = if k : e.val < 16
      then (show EReal from a (ix4 b t h e)) * Ideal.cos (A (ix2 t ⟨e.val, k⟩)) - (show EReal from a (ix4 b t h ⟨e.val + 16, by omega⟩)) * Ideal.sin (A (ix2 t ⟨e.val, k⟩))
      else (show EReal from a (ix4 b t h e)) * Ideal.cos (A (ix2 t ⟨e.val - 16, by omega⟩))
        + (show EReal from a (ix4 b t h ⟨e.val - 16, by omega⟩)) * Ideal.sin (A (ix2 t ⟨e.val - 16, by omega⟩)) := by
  have h0 : ∀ d : Fin 16, extractStridedSlice S2x2048x2x16 ![0, 0, 0, 0] a slices_S2x2048x2x32_S2x2048x2x16_0_0_0_0 (ix4 b t h d) = a (ix4 b t h ⟨d.val, by omega⟩) := fun d => by pointwise
  have h1 : ∀ d : Fin 16, extractStridedSlice S2x2048x2x16 ![0, 0, 0, 16] a slices_S2x2048x2x32_S2x2048x2x16_0_0_0_16 (ix4 b t h d) = a (ix4 b t h ⟨16 + d.val, by omega⟩) := fun d => by pointwise
  refine (seg2_at _ _ A b t h e).trans ?_
  by_cases k : e.val < 16
  · rw [dif_pos k, dif_pos k, h0, h1]
    simp only [Nat.add_comm 16]
  · rw [dif_neg k, dif_neg k, h0, h1]
    have hk : (⟨16 + (e.val - 16), by omega⟩ : Fin 32) = e := Fin.ext (by show 16 + (e.val - 16) = e.val; omega)
    dsimp only
    rw [hk]

/-- The samples' heads, rotated by the token's row and column. -/
def rope8 (a : FVec Ideal S2x2048x8x64 .f32) : FVec Ideal S2x2048x8x64 .f32 := join8 (turn8 (lo8 a) (Cert.InTab.angs Cert.InTab.rowW)) (turn8 (hi8 a) (Cert.InTab.angs Cert.InTab.colW))
def rope2 (a : FVec Ideal S2x2048x2x64 .f32) : FVec Ideal S2x2048x2x64 .f32 := join2 (turn2 (lo2 a) (Cert.InTab.angs Cert.InTab.rowW)) (turn2 (hi2 a) (Cert.InTab.angs Cert.InTab.colW))

/-- The rotation of a head, from its halves. -/
theorem rot_halves (t : ℕ) (a : Fin 64 → EReal) (e : Fin 64) (A B : Fin 16 → EReal) (hA : ∀ j, A j = ang (t / 64) j) (hB : ∀ j, B j = ang (t % 64) j) :
    (if k : e.val < 32
      then (if k' : e.val < 16 then a e * Ideal.cos (A ⟨e.val, k'⟩) - a ⟨e.val + 16, by omega⟩ * Ideal.sin (A ⟨e.val, k'⟩)
        else a e * Ideal.cos (A ⟨e.val - 16, by omega⟩) + a ⟨e.val - 16, by omega⟩ * Ideal.sin (A ⟨e.val - 16, by omega⟩))
      else (if k' : e.val - 32 < 16 then a e * Ideal.cos (B ⟨e.val - 32, k'⟩) - a ⟨32 + (e.val - 32 + 16), by omega⟩ * Ideal.sin (B ⟨e.val - 32, k'⟩)
        else a e * Ideal.cos (B ⟨e.val - 32 - 16, by omega⟩) + a ⟨32 + (e.val - 32 - 16), by omega⟩ * Ideal.sin (B ⟨e.val - 32 - 16, by omega⟩)))
    = rot t a e := by
  unfold rot angle
  simp only [hA, hB]
  by_cases k : e.val < 32
  · rw [dif_pos k]
    simp only [if_pos k]
    by_cases k' : e.val < 16
    · have he : (⟨e.val % 16, Nat.mod_lt _ (by decide)⟩ : Fin 16) = ⟨e.val, k'⟩ := Fin.ext (by show e.val % 16 = e.val; omega)
      rw [dif_pos k', dif_pos (by omega), he]
    · have he : (⟨e.val % 16, Nat.mod_lt _ (by decide)⟩ : Fin 16) = ⟨e.val - 16, by omega⟩ := Fin.ext (by show e.val % 16 = e.val - 16; omega)
      rw [dif_neg k', dif_neg (by omega), he]
  · rw [dif_neg k]
    simp only [if_neg k]
    by_cases k' : e.val - 32 < 16
    · have he : (⟨e.val % 16, Nat.mod_lt _ (by decide)⟩ : Fin 16) = ⟨e.val - 32, k'⟩ := Fin.ext (by show e.val % 16 = e.val - 32; omega)
      have hp : (⟨32 + (e.val - 32 + 16), by omega⟩ : Fin 64) = ⟨e.val + 16, by omega⟩ := Fin.ext (by show 32 + (e.val - 32 + 16) = e.val + 16; omega)
      rw [dif_pos k', dif_pos (by omega), he, hp]
    · have he : (⟨e.val % 16, Nat.mod_lt _ (by decide)⟩ : Fin 16) = ⟨e.val - 32 - 16, by omega⟩ := Fin.ext (by show e.val % 16 = e.val - 32 - 16; omega)
      have hp : (⟨32 + (e.val - 32 - 16), by omega⟩ : Fin 64) = ⟨e.val - 16, by omega⟩ := Fin.ext (by show 32 + (e.val - 32 - 16) = e.val - 16; omega)
      rw [dif_neg k', dif_neg (by omega), he, hp]

theorem rope8_at (a : FVec Ideal S2x2048x8x64 .f32) (b : Fin 2) (t : Fin 2048) (h : Fin 8) (e : Fin 64) :
    rope8 a (ix4 b t h e) = rot t.val (fun d => a (ix4 b t h d)) e := by
  rw [← rot_halves t.val (fun d => a (ix4 b t h d)) e (fun j => Cert.InTab.angs Cert.InTab.rowW (ix2 t j)) (fun j => Cert.InTab.angs Cert.InTab.colW (ix2 t j))
    (fun j => Cert.InTab.angs_at _ t _ (Cert.InTab.rowW_at t) j) (fun j => Cert.InTab.angs_at _ t _ (Cert.InTab.colW_at t) j)]
  refine (join8_at _ _ b t h e).trans ?_
  by_cases k : e.val < 32
  · rw [dif_pos k, dif_pos k, turn8_at]
    simp only [lo8_at]
  · have he : (⟨32 + (e.val - 32), by omega⟩ : Fin 64) = e := Fin.ext (by show 32 + (e.val - 32) = e.val; omega)
    rw [dif_neg k, dif_neg k, turn8_at]
    simp only [hi8_at, he]
theorem rope2_at (a : FVec Ideal S2x2048x2x64 .f32) (b : Fin 2) (t : Fin 2048) (h : Fin 2) (e : Fin 64) :
    rope2 a (ix4 b t h e) = rot t.val (fun d => a (ix4 b t h d)) e := by
  rw [← rot_halves t.val (fun d => a (ix4 b t h d)) e (fun j => Cert.InTab.angs Cert.InTab.rowW (ix2 t j)) (fun j => Cert.InTab.angs Cert.InTab.colW (ix2 t j))
    (fun j => Cert.InTab.angs_at _ t _ (Cert.InTab.rowW_at t) j) (fun j => Cert.InTab.angs_at _ t _ (Cert.InTab.colW_at t) j)]
  refine (join2_at _ _ b t h e).trans ?_
  by_cases k : e.val < 32
  · rw [dif_pos k, dif_pos k, turn2_at]
    simp only [lo2_at]
  · have he : (⟨32 + (e.val - 32), by omega⟩ : Fin 64) = e := Fin.ext (by show 32 + (e.val - 32) = e.val; omega)
    rw [dif_neg k, dif_neg k, turn2_at]
    simp only [hi2_at, he]

/-! ## Prompts and samples together -/

def all8 (P : FVec Ideal S32x256x8x64 .f32) (S : FVec Ideal S2x2048x8x64 .f32) : FVec Ideal S12288x512 .f32 :=
  concatenate S12288x512 0 [⟨S8192x512, shapeCast S8192x512 P shapeCasts_S32x256x8x64_S8192x512⟩, ⟨S4096x512, shapeCast S4096x512 S shapeCasts_S2x2048x8x64_S4096x512⟩] concatenates_S8192x512_S4096x512_S12288x512_d0
def all2 (P : FVec Ideal S32x256x2x64 .f32) (S : FVec Ideal S2x2048x2x64 .f32) : FVec Ideal S12288x128 .f32 :=
  concatenate S12288x128 0 [⟨S8192x128, shapeCast S8192x128 P shapeCasts_S32x256x2x64_S8192x128⟩, ⟨S4096x128, shapeCast S4096x128 S shapeCasts_S2x2048x2x64_S4096x128⟩] concatenates_S8192x128_S4096x128_S12288x128_d0
def all4 (P : FVec Ideal S32x256x4x64 .f32) (S : FVec Ideal S2x2048x4x64 .f32) : FVec Ideal S12288x256 .f32 :=
  concatenate S12288x256 0 [⟨S8192x256, shapeCast S8192x256 P shapeCasts_S32x256x4x64_S8192x256⟩, ⟨S4096x256, shapeCast S4096x256 S shapeCasts_S2x2048x4x64_S4096x256⟩] concatenates_S8192x256_S4096x256_S12288x256_d0
def allw (P : FVec Ideal S32x256x512 .f32) (S : FVec Ideal S2x2048x512 .f32) : FVec Ideal S12288x512 .f32 :=
  concatenate S12288x512 0 [⟨S8192x512, shapeCast S8192x512 P shapeCasts_S32x256x512_S8192x512⟩, ⟨S4096x512, shapeCast S4096x512 S shapeCasts_S2x2048x512_S4096x512⟩] concatenates_S8192x512_S4096x512_S12288x512_d0
def allz (P : FVec Ideal S32x256x1280 .f32) (S : FVec Ideal S2x2048x1280 .f32) : FVec Ideal S12288x512 .f32 :=
  allw (extractStridedSlice S32x256x512 ![0, 0, 768] P slices_S32x256x1280_S32x256x512_0_0_768) (extractStridedSlice S2x2048x512 ![0, 0, 768] S slices_S2x2048x1280_S2x2048x512_0_0_768)

theorem all8_at (P : FVec Ideal S32x256x8x64 .f32) (S : FVec Ideal S2x2048x8x64 .f32) (j : Fin 12288) (c : Fin 512) :
    all8 P S (ix2 j c) = if h : j.val < 8192 then P (ix4 ⟨j.val / 256, by omega⟩ ⟨j.val % 256, by omega⟩ ⟨c.val / 64, by omega⟩ ⟨c.val % 64, by omega⟩)
      else S (ix4 ⟨(j.val - 8192) / 2048, by omega⟩ ⟨(j.val - 8192) % 2048, by omega⟩ ⟨c.val / 64, by omega⟩ ⟨c.val % 64, by omega⟩) := by
  unfold all8
  pointwise
theorem all2_at (P : FVec Ideal S32x256x2x64 .f32) (S : FVec Ideal S2x2048x2x64 .f32) (j : Fin 12288) (c : Fin 128) :
    all2 P S (ix2 j c) = if h : j.val < 8192 then P (ix4 ⟨j.val / 256, by omega⟩ ⟨j.val % 256, by omega⟩ ⟨c.val / 64, by omega⟩ ⟨c.val % 64, by omega⟩)
      else S (ix4 ⟨(j.val - 8192) / 2048, by omega⟩ ⟨(j.val - 8192) % 2048, by omega⟩ ⟨c.val / 64, by omega⟩ ⟨c.val % 64, by omega⟩) := by
  unfold all2
  pointwise
theorem all4_at (P : FVec Ideal S32x256x4x64 .f32) (S : FVec Ideal S2x2048x4x64 .f32) (j : Fin 12288) (c : Fin 256) :
    all4 P S (ix2 j c) = if h : j.val < 8192 then P (ix4 ⟨j.val / 256, by omega⟩ ⟨j.val % 256, by omega⟩ ⟨c.val / 64, by omega⟩ ⟨c.val % 64, by omega⟩)
      else S (ix4 ⟨(j.val - 8192) / 2048, by omega⟩ ⟨(j.val - 8192) % 2048, by omega⟩ ⟨c.val / 64, by omega⟩ ⟨c.val % 64, by omega⟩) := by
  unfold all4
  pointwise
theorem allw_at (P : FVec Ideal S32x256x512 .f32) (S : FVec Ideal S2x2048x512 .f32) (j : Fin 12288) (c : Fin 512) :
    allw P S (ix2 j c) = if h : j.val < 8192 then P (ix3 ⟨j.val / 256, by omega⟩ ⟨j.val % 256, by omega⟩ c)
      else S (ix3 ⟨(j.val - 8192) / 2048, by omega⟩ ⟨(j.val - 8192) % 2048, by omega⟩ c) := by
  unfold allw
  pointwise
theorem allz_at (P : FVec Ideal S32x256x1280 .f32) (S : FVec Ideal S2x2048x1280 .f32) (j : Fin 12288) (c : Fin 512) :
    allz P S (ix2 j c) = if h : j.val < 8192 then P (ix3 ⟨j.val / 256, by omega⟩ ⟨j.val % 256, by omega⟩ ⟨768 + c.val, by omega⟩)
      else S (ix3 ⟨(j.val - 8192) / 2048, by omega⟩ ⟨(j.val - 8192) % 2048, by omega⟩ ⟨768 + c.val, by omega⟩) := by
  have hP : ∀ b r, extractStridedSlice S32x256x512 ![0, 0, 768] P slices_S32x256x1280_S32x256x512_0_0_768 (ix3 b r c) = P (ix3 b r ⟨768 + c.val, by omega⟩) := fun b r => by pointwise
  have hS : ∀ b r, extractStridedSlice S2x2048x512 ![0, 0, 768] S slices_S2x2048x1280_S2x2048x512_0_0_768 (ix3 b r c) = S (ix3 b r ⟨768 + c.val, by omega⟩) := fun b r => by pointwise
  refine (allw_at _ _ j c).trans ?_
  by_cases h : j.val < 8192
  · rw [dif_pos h, dif_pos h, hP]
  · rw [dif_neg h, dif_neg h, hS]

/-! ## The heads in order and again in the other order -/

def dblP (A : FVec Ideal S32x256x2x64 .f32) : FVec Ideal S32x256x4x64 .f32 :=
  concatenate S32x256x4x64 2 [⟨S32x256x2x64, A⟩, ⟨S32x256x2x64, Host.reverse [2] A⟩] concatenates_S32x256x2x64_S32x256x2x64_S32x256x4x64_d2
def dblS (A : FVec Ideal S2x2048x2x64 .f32) : FVec Ideal S2x2048x4x64 .f32 :=
  concatenate S2x2048x4x64 2 [⟨S2x2048x2x64, A⟩, ⟨S2x2048x2x64, Host.reverse [2] A⟩] concatenates_S2x2048x2x64_S2x2048x2x64_S2x2048x4x64_d2

/-- The head behind each of the four places. -/
theorem dbl_head (f : Fin 2 → EReal) (l : Fin 256) :
    (if h : l.val / 64 < 2 then f ⟨l.val / 64, h⟩ else f ⟨2 - (l.val / 64 - 2 + 1), by omega⟩) = f (kvOf l.val) := by
  by_cases h : l.val / 64 < 2
  · rw [dif_pos h]
    refine congrArg f (Fin.ext ?_)
    show l.val / 64 = _
    unfold kvOf
    by_cases h1 : l.val < 64
    · rw [if_pos h1]; show l.val / 64 = 0; omega
    · rw [if_neg h1, if_pos (by omega)]; show l.val / 64 = 1; omega
  · rw [dif_neg h]
    refine congrArg f (Fin.ext ?_)
    show 2 - (l.val / 64 - 2 + 1) = _
    unfold kvOf
    rw [if_neg (by omega)]
    by_cases h1 : l.val < 192
    · rw [if_pos h1]; show 2 - (l.val / 64 - 2 + 1) = 1; omega
    · rw [if_neg h1]; show 2 - (l.val / 64 - 2 + 1) = 0; omega

theorem dblP_at (A : FVec Ideal S32x256x2x64 .f32) (b : Fin 32) (s : Fin 256) (l : Fin 256) (e : Fin 64) :
    dblP A (ix4 b s ⟨l.val / 64, by omega⟩ e) = A (ix4 b s (kvOf l.val) e) := by
  refine Eq.trans ?_ (dbl_head (fun h => A (ix4 b s h e)) l)
  unfold dblP
  pointwise
  by_cases h : l.val / 64 < 2
  · rw [dif_pos h, dif_pos h]
  · rw [dif_neg h, dif_neg h]
    exact congrArg (fun h => A (ix4 b s (h : Fin 2) _)) (if_pos (show (2 : Fin 4) ∈ [2] by decide))
theorem dblS_at (A : FVec Ideal S2x2048x2x64 .f32) (b : Fin 2) (s : Fin 2048) (l : Fin 256) (e : Fin 64) :
    dblS A (ix4 b s ⟨l.val / 64, by omega⟩ e) = A (ix4 b s (kvOf l.val) e) := by
  refine Eq.trans ?_ (dbl_head (fun h => A (ix4 b s h e)) l)
  unfold dblS
  pointwise
  by_cases h : l.val / 64 < 2
  · rw [dif_pos h, dif_pos h]
  · rw [dif_neg h, dif_neg h]
    exact congrArg (fun h => A (ix4 b s (h : Fin 2) _)) (if_pos (show (2 : Fin 4) ∈ [2] by decide))

/-! ## The results -/

section
variable (X : FVec Ideal S12288x1024 .f32) (M : FVec Ideal S8x6x1024 .f32) (G : FVec Ideal S1024 .f32) (W : FVec Ideal S1024x1280 .f32) (QG KG : FVec Ideal S64 .f32)

theorem qP_at (b : Fin 32) (r : Fin 256) (h : Fin 8) (e : Fin 64) : nP8 (headP8 (zP X M G W)) QG (ix4 b r h e) = qry X M G W QG ⟨b.val * 256 + r.val, by omega⟩ h e := by
  refine (nP8_at _ _ b r h e).trans (hnorm_congr (fun d => ?_) (fun _ => rfl) e)
  refine (headP8_at _ b r h d).trans ((zP_at X M G W b r _).trans ?_)
  simp only [Nat.mul_comm h.val 64]
theorem kP_at (b : Fin 32) (r : Fin 256) (h : Fin 2) (e : Fin 64) : nP2 (headP2 (zP X M G W)) KG (ix4 b r h e) = key X M G W KG ⟨b.val * 256 + r.val, by omega⟩ h e := by
  refine (nP2_at _ _ b r h e).trans (hnorm_congr (fun d => ?_) (fun _ => rfl) e)
  refine (headP2_at _ b r h d).trans ((zP_at X M G W b r _).trans ?_)
  simp only [Nat.mul_comm h.val 64]
theorem qS_at (b : Fin 2) (r : Fin 2048) (h : Fin 8) (e : Fin 64) : nS8 (headS8 (zS X M G W)) QG (ix4 b r h e) = qry X M G W QG ⟨8192 + (b.val * 2048 + r.val), by omega⟩ h e := by
  refine (nS8_at _ _ b r h e).trans (hnorm_congr (fun d => ?_) (fun _ => rfl) e)
  refine (headS8_at _ b r h d).trans ((zS_at X M G W b r _).trans ?_)
  simp only [Nat.mul_comm h.val 64]
theorem kS_at (b : Fin 2) (r : Fin 2048) (h : Fin 2) (e : Fin 64) : nS2 (headS2 (zS X M G W)) KG (ix4 b r h e) = key X M G W KG ⟨8192 + (b.val * 2048 + r.val), by omega⟩ h e := by
  refine (nS2_at _ _ b r h e).trans (hnorm_congr (fun d => ?_) (fun _ => rfl) e)
  refine (headS2_at _ b r h d).trans ((zS_at X M G W b r _).trans ?_)
  simp only [Nat.mul_comm h.val 64]

/-- A prompt's token, and a sample's, from its prompt or sample and its place. -/
theorem tokP (j : Fin 12288) (h : j.val < 8192) : (⟨j.val / 256 * 256 + j.val % 256, by omega⟩ : Fin 12288) = j := Fin.ext (by show j.val / 256 * 256 + j.val % 256 = j.val; omega)
theorem tokS (j : Fin 12288) (h : ¬ j.val < 8192) : (⟨8192 + ((j.val - 8192) / 2048 * 2048 + (j.val - 8192) % 2048), by omega⟩ : Fin 12288) = j :=
  Fin.ext (by show 8192 + ((j.val - 8192) / 2048 * 2048 + (j.val - 8192) % 2048) = j.val; omega)

theorem q_res (j : Fin 12288) (c : Fin 512) :
    mulf (all8 (nP8 (headP8 (zP X M G W)) QG) (rope8 (nS8 (headS8 (zS X M G W)) QG))) (broadcastInDim S12288x512 ![] bcast_S_S12288x512 (constant S_ .f32 0x3E000000#32)) (ix2 j c)
      = qOut X M G W QG j c := by
  show (show EReal from all8 _ _ (ix2 j c)) * Cert.AttnMath.eighth = _
  unfold qOut place
  refine congrArg (fun z : EReal => z * _) ((all8_at _ _ j c).trans ?_)
  by_cases h : j.val < 8192
  · rw [dif_pos h, if_pos h, qP_at]
    dsimp only
    rw [tokP j h]
  · rw [dif_neg h, if_neg h, rope8_at]
    simp only [qS_at]
    rw [tokS j h]

theorem k_res (j : Fin 12288) (c : Fin 256) :
    all4 (dblP (nP2 (headP2 (zP X M G W)) KG)) (dblS (rope2 (nS2 (headS2 (zS X M G W)) KG))) (ix2 j c) = kOut X M G W KG j c := by
  unfold kOut place
  refine (all4_at _ _ j c).trans ?_
  by_cases h : j.val < 8192
  · rw [dif_pos h, if_pos h, dblP_at, kP_at]
    dsimp only
    rw [tokP j h]
  · rw [dif_neg h, if_neg h, dblS_at, rope2_at]
    simp only [kS_at]
    rw [tokS j h]

theorem v_res (j : Fin 12288) (c : Fin 256) :
    all4 (dblP (headPv (zP X M G W))) (dblS (headSv (zS X M G W))) (ix2 j c) = vOut X M G W j c := by
  unfold vOut
  refine (all4_at _ _ j c).trans ?_
  by_cases h : j.val < 8192
  · rw [dif_pos h, dblP_at, headPv_at, zP_at]
    dsimp only
    rw [tokP j h]
    simp only [Nat.mul_comm 64]
  · rw [dif_neg h, dblS_at, headSv_at, zS_at]
    dsimp only
    rw [tokS j h]
    simp only [Nat.mul_comm 64]

theorem knew_res (j : Fin 12288) (c : Fin 128) : all2 (nP2 (headP2 (zP X M G W)) KG) (nS2 (headS2 (zS X M G W)) KG) (ix2 j c) = kNew X M G W KG j c := by
  unfold kNew
  refine (all2_at _ _ j c).trans ?_
  by_cases h : j.val < 8192
  · rw [dif_pos h, kP_at]
    dsimp only
    rw [tokP j h]
  · rw [dif_neg h, kS_at]
    dsimp only
    rw [tokS j h]

theorem vnew_res (j : Fin 12288) (c : Fin 128) : all2 (headPv (zP X M G W)) (headSv (zS X M G W)) (ix2 j c) = vNew X M G W j c := by
  unfold vNew
  have hc : (⟨640 + (c.val / 64 * 64 + c.val % 64), by omega⟩ : Fin 1280) = ⟨640 + c.val, by omega⟩ := Fin.ext (by show 640 + (c.val / 64 * 64 + c.val % 64) = 640 + c.val; omega)
  refine (all2_at _ _ j c).trans ?_
  by_cases h : j.val < 8192
  · rw [dif_pos h, headPv_at, zP_at]
    dsimp only
    rw [tokP j h, hc]
  · rw [dif_neg h, headSv_at, zS_at]
    dsimp only
    rw [tokS j h, hc]

theorem p_res (j : Fin 12288) (c : Fin 512) : allz (zP X M G W) (zS X M G W) (ix2 j c) = pOut X M G W j c := by
  unfold pOut
  refine (allz_at _ _ j c).trans ?_
  by_cases h : j.val < 8192
  · rw [dif_pos h, zP_at]
    dsimp only
    rw [tokP j h]
  · rw [dif_neg h, zS_at]
    dsimp only
    rw [tokS j h]

end

/-! ## The results of the program -/

/-- Every index of an array of tokens is a token and a channel. -/
theorem pair_idx {n k : ℕ} (i : (⟨2, ![n, k]⟩ : Shape).Idx) : i = ix2 (i 0) (i 1) := by
  funext a
  fin_cases a <;> rfl

section
variable (L : Valuation τ sig (Elt Ideal))

/-- The arguments as the program finds them. -/
abbrev lX : FVec Ideal S12288x1024 .f32 := L (Proc.devRef .tc main_arg0)
abbrev lM : FVec Ideal S8x6x1024 .f32 := L (Proc.devRef .tc main_arg1)
abbrev lG : FVec Ideal S1024 .f32 := L (Proc.devRef .tc main_arg2)
abbrev lW : FVec Ideal S1024x1280 .f32 := L (Proc.devRef .tc main_arg3)
abbrev lQ : FVec Ideal S64 .f32 := L (Proc.devRef .tc main_arg4)
abbrev lK : FVec Ideal S64 .f32 := L (Proc.devRef .tc main_arg5)

theorem v29_eq : res_main_v29 L = zP (lX L) (lM L) (lG L) (lW L) := rfl
theorem v88_eq : res_main_v88 L = zS (lX L) (lM L) (lG L) (lW L) := rfl
theorem v31_eq : res_main_v31 L = headP8 (res_main_v29 L) := rfl
theorem v59_eq : res_main_v59 L = nP2 (headP2 (res_main_v29 L)) (lK L) := rfl
theorem v61_eq : res_main_v61 L = headPv (res_main_v29 L) := rfl
theorem v103_eq : res_main_v103 L = nS8 (headS8 (res_main_v88 L)) (lQ L) := rfl
theorem v118_eq : res_main_v118 L = nS2 (headS2 (res_main_v88 L)) (lK L) := rfl
theorem v120_eq : res_main_v120 L = headSv (res_main_v88 L) := rfl
theorem v137_eq : res_main_v137 L = Cert.InTab.angs Cert.InTab.rowW := rfl
theorem v161_eq : res_main_v161 L = Cert.InTab.angs Cert.InTab.colW := rfl
theorem v202_eq : res_main_v202 L = Cert.InTab.angs Cert.InTab.rowW := rfl
theorem v226_eq : res_main_v226 L = Cert.InTab.angs Cert.InTab.colW := rfl
theorem v244_eq : res_main_v244 L = rope2 (res_main_v118 L) := by
  unfold rope2
  rw [← v202_eq L]
  exact congrArg (join2 _) (congrArg (turn2 _) (v226_eq L))

/-- The queries' rotated halves, named. -/
theorem rope8_eq : join8 (seg8 (res_main_v142 L) (res_main_v143 L) (res_main_v137 L)) (seg8 (res_main_v166 L) (res_main_v167 L) (res_main_v161 L)) = rope8 (res_main_v103 L) := by
  unfold rope8
  rw [← v137_eq L, ← v161_eq L]
  rfl

theorem q_fn : mulf (all8 (nP8 (res_main_v31 L) (lQ L)) (join8 (seg8 (res_main_v142 L) (res_main_v143 L) (res_main_v137 L)) (seg8 (res_main_v166 L) (res_main_v167 L) (res_main_v161 L))))
      (broadcastInDim S12288x512 ![] bcast_S_S12288x512 (constant S_ .f32 0x3E000000#32))
    = fun i : S12288x512.Idx => qOut (lX L) (lM L) (lG L) (lW L) (lQ L) (i 0) (i 1) := by
  rw [rope8_eq, v103_eq, v31_eq, v29_eq, v88_eq]
  exact funext fun i => (congrArg _ (pair_idx i)).trans (q_res (lX L) (lM L) (lG L) (lW L) (lQ L) (i 0) (i 1))

theorem k_fn : all4 (dblP (res_main_v59 L)) (dblS (res_main_v244 L)) = fun i : S12288x256.Idx => kOut (lX L) (lM L) (lG L) (lW L) (lK L) (i 0) (i 1) := by
  rw [v244_eq, v118_eq, v59_eq, v29_eq, v88_eq]
  exact funext fun i => (congrArg _ (pair_idx i)).trans (k_res (lX L) (lM L) (lG L) (lW L) (lK L) (i 0) (i 1))

theorem v_fn : all4 (dblP (res_main_v61 L)) (dblS (res_main_v120 L)) = fun i : S12288x256.Idx => vOut (lX L) (lM L) (lG L) (lW L) (i 0) (i 1) := by
  rw [v61_eq, v120_eq, v29_eq, v88_eq]
  exact funext fun i => (congrArg _ (pair_idx i)).trans (v_res (lX L) (lM L) (lG L) (lW L) (i 0) (i 1))

theorem knew_fn : all2 (res_main_v59 L) (res_main_v118 L) = fun i : S12288x128.Idx => kNew (lX L) (lM L) (lG L) (lW L) (lK L) (i 0) (i 1) := by
  rw [v59_eq, v118_eq, v29_eq, v88_eq]
  exact funext fun i => (congrArg _ (pair_idx i)).trans (knew_res (lX L) (lM L) (lG L) (lW L) (lK L) (i 0) (i 1))

theorem vnew_fn : all2 (res_main_v61 L) (res_main_v120 L) = fun i : S12288x128.Idx => vNew (lX L) (lM L) (lG L) (lW L) (i 0) (i 1) := by
  rw [v61_eq, v120_eq, v29_eq, v88_eq]
  exact funext fun i => (congrArg _ (pair_idx i)).trans (vnew_res (lX L) (lM L) (lG L) (lW L) (i 0) (i 1))

theorem p_fn : allz (res_main_v29 L) (res_main_v88 L) = fun i : S12288x512.Idx => pOut (lX L) (lM L) (lG L) (lW L) (i 0) (i 1) := by
  rw [v29_eq, v88_eq]
  exact funext fun i => (congrArg _ (pair_idx i)).trans (p_res (lX L) (lM L) (lG L) (lW L) (i 0) (i 1))

end

/-! ## The run -/

/-- What the reference leaves in its six results, and in its arguments. -/
theorem run (m : (ℓ : Loc nD τ sig) → Buf (Elt Ideal) ℓ) (ρ : Dev nD → PrngReg)
    (X : Dev nD → FVec Ideal S12288x1024 .f32) (M : Dev nD → FVec Ideal S8x6x1024 .f32) (G : Dev nD → FVec Ideal S1024 .f32)
    (W : Dev nD → FVec Ideal S1024x1280 .f32) (QG KG : Dev nD → FVec Ideal S64 .f32)
    (hX : ∀ c : Dev nD, m ((c.tc : Thread nD τ).loc main_arg0) = X c) (hM : ∀ c : Dev nD, m ((c.tc : Thread nD τ).loc main_arg1) = M c)
    (hG : ∀ c : Dev nD, m ((c.tc : Thread nD τ).loc main_arg2) = G c) (hW : ∀ c : Dev nD, m ((c.tc : Thread nD τ).loc main_arg3) = W c)
    (hQ : ∀ c : Dev nD, m ((c.tc : Thread nD τ).loc main_arg4) = QG c) (hK : ∀ c : Dev nD, m ((c.tc : Thread nD τ).loc main_arg5) = KG c) :
    θ_run defs (onTc (τ := τ) (main (F := Ideal))) ⟨m, fun _ => 0, ρ⟩ fun r => ∀ c : Dev nD,
      r.2.mem ((c.tc : Thread nD τ).loc main_v184) = (fun i : S12288x512.Idx => qOut (X c) (M c) (G c) (W c) (QG c) (i 0) (i 1))
      ∧ r.2.mem ((c.tc : Thread nD τ).loc main_v249) = (fun i : S12288x256.Idx => kOut (X c) (M c) (G c) (W c) (KG c) (i 0) (i 1))
      ∧ r.2.mem ((c.tc : Thread nD τ).loc main_v256) = (fun i : S12288x256.Idx => vOut (X c) (M c) (G c) (W c) (i 0) (i 1))
      ∧ r.2.mem ((c.tc : Thread nD τ).loc main_v259) = (fun i : S12288x128.Idx => kNew (X c) (M c) (G c) (W c) (KG c) (i 0) (i 1))
      ∧ r.2.mem ((c.tc : Thread nD τ).loc main_v262) = (fun i : S12288x128.Idx => vNew (X c) (M c) (G c) (W c) (i 0) (i 1))
      ∧ r.2.mem ((c.tc : Thread nD τ).loc main_v265) = (fun i : S12288x512.Idx => pOut (X c) (M c) (G c) (W c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference4Ideal.Value.run m ρ)
  obtain ⟨h0, h1, h2, h3, h4, h5, ha⟩ := h c
  rw [← hX c, ← hM c, ← hG c, ← hW c, ← hQ c, ← hK c]
  exact ⟨h0.trans (q_fn (launchContents m c)), h1.trans (k_fn (launchContents m c)), h2.trans (v_fn (launchContents m c)),
    h3.trans (knew_fn (launchContents m c)), h4.trans (vnew_fn (launchContents m c)), h5.trans (p_fn (launchContents m c)), ha⟩

end Cert.InRes

end
-- ==== Proof.InClaim.lean ====
/- The input projection's kernel and its reference leave the same six arrays, whenever no input but the two gains of the heads is infinite. -/
module

public import proofs.«01_k».proof.Defs
public import proofs.«01_k».proof.Proof.InValue
public import proofs.«01_k».proof.Proof.InPre
public import proofs.«01_k».proof.Proof.InRes
public import Idealize.ShloMosaic.Lib.Quiescent

@[expose] public section

set_option maxRecDepth 16384

noncomputable section

open Idealize.ShloMosaic Idealize.ShloMosaic.TcCoe Idealize.SL.Sem

namespace Cert.InClaim

open Cert.InMath Cert.InValue

theorem quiescent : Cert.quiescent_Reference4Ideal := fun m g _ =>
  (θ_run Cert.Reference4Ideal.defs _ _).mono (fun r h => ⟨fun c => (h c).2.2.2.2.2.2, sem_eq_zero_of_no_sems (by decide) r.2⟩)
    (Cert.Reference4Ideal.Value.run m g)

section Kernel

open Cert.Kernel4Ideal Cert.Kernel4Ideal.Gen

variable (m : (ℓ : Loc nD τ sig) → Buf (Elt Ideal) ℓ)

/-- The lines after the region change the format of three arrays, which keeps their numbers. -/
theorem tail_q (V : Valuation τ sig (Elt Ideal)) : StableHlo.after (hostOps1 (F := Ideal)) V (Proc.devRef .tc main_v63) = V (Proc.devRef .tc main_v62_0) := by
  after_results
  rfl

theorem tail_k (V : Valuation τ sig (Elt Ideal)) : StableHlo.after (hostOps1 (F := Ideal)) V (Proc.devRef .tc main_v64) = V (Proc.devRef .tc main_v62_1) := by
  after_results
  rfl

theorem tail_v (V : Valuation τ sig (Elt Ideal)) : StableHlo.after (hostOps1 (F := Ideal)) V (Proc.devRef .tc main_v65) = V (Proc.devRef .tc main_v62_2) := by
  after_results
  rfl

set_option maxHeartbeats 4000000 in
/-- What the kernel's program leaves in its six results, and in its arguments. -/
theorem run (g : Dev nD → PrngReg) (hf : ∀ c : Dev nD, Finite (aX m c) (aM m c) (aG m c) (aW m c)) :
    θ_run defs (onTc (τ := τ) (main (F := Ideal))) ⟨m, fun _ => 0, g⟩ fun r => ∀ c : Dev nD,
      r.2.mem ((c.tc : Thread nD τ).loc main_v63) = (fun i : S12288x512.Idx => qOut (aX m c) (aM m c) (aG m c) (aW m c) (aQ m c) (i 0) (i 1))
      ∧ r.2.mem ((c.tc : Thread nD τ).loc main_v64) = (fun i : S12288x256.Idx => kOut (aX m c) (aM m c) (aG m c) (aW m c) (aK m c) (i 0) (i 1))
      ∧ r.2.mem ((c.tc : Thread nD τ).loc main_v65) = (fun i : S12288x256.Idx => vOut (aX m c) (aM m c) (aG m c) (aW m c) (i 0) (i 1))
      ∧ r.2.mem ((c.tc : Thread nD τ).loc main_v62_3) = (fun i : S12288x128.Idx => kNew (aX m c) (aM m c) (aG m c) (aW m c) (aK m c) (i 0) (i 1))
      ∧ r.2.mem ((c.tc : Thread nD τ).loc main_v62_4) = (fun i : S12288x128.Idx => vNew (aX m c) (aM m c) (aG m c) (aW m c) (i 0) (i 1))
      ∧ r.2.mem ((c.tc : Thread nD τ).loc main_v62_5) = (fun i : S12288x512.Idx => pOut (aX m c) (aM m c) (aG m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (θ_run_and (run_main m g) (unchanged m g))
  obtain ⟨hp, ha⟩ := h
  have key : ∀ w, Pipeline.withArrays (cfgs 0).spec c (V0 m c) (fun w => (dats m 0 c).arrAt w (cfgs 0).N) (Proc.devRef .tc (Pipeline.arrRef (cfgs 0).spec w)) = (dats m 0 c).arrAt w (cfgs 0).N :=
    fun w => Pipeline.withArrays_arr _ launch0.win.arr_inj c _ _ w
  refine ⟨?_, ?_, ?_, ?_, ?_, ?_, ha c⟩
  · exact ((hp c).2 main_v63 (Pipeline.mem_restRefs_of main_v63 (by decide) (by decide))).trans ((tail_q _).trans ((key 9).trans (Cert.InValue.final_q m c (hf c))))
  · exact ((hp c).2 main_v64 (Pipeline.mem_restRefs_of main_v64 (by decide) (by decide))).trans ((tail_k _).trans ((key 10).trans (Cert.InValue.final_k m c (hf c))))
  · exact ((hp c).2 main_v65 (Pipeline.mem_restRefs_of main_v65 (by decide) (by decide))).trans ((tail_v _).trans ((key 11).trans (Cert.InValue.final_v m c)))
  · refine Eq.trans ?_ (Cert.InValue.final_knew m c (hf c))
    exact (hp c).1 12
  · refine Eq.trans ?_ (Cert.InValue.final_vnew m c)
    exact (hp c).1 13
  · refine Eq.trans ?_ (Cert.InValue.final_p m c)
    exact (hp c).1 14

end Kernel

/-- The kernel's arrays and the reference's are the same. -/
theorem algebraic : Cert.algebraic_Kernel4Ideal_Reference4Ideal_pre_finite_in := by
  intro m g m' g' hpre hagree
  have hf : ∀ c : Dev Cert.Kernel4Ideal.nD, Finite (aX m c) (aM m c) (aG m c) (aW m c) := fun c =>
    have h := Cert.InPre.read _ _ _ _ _ _ (hpre c)
    ⟨h.1, h.2.1, h.2.2.1, h.2.2.2⟩
  refine ⟨fun c i => qOut (aX m c) (aM m c) (aG m c) (aW m c) (aQ m c) (i 0) (i 1), fun c i => kOut (aX m c) (aM m c) (aG m c) (aW m c) (aK m c) (i 0) (i 1),
    fun c i => vOut (aX m c) (aM m c) (aG m c) (aW m c) (i 0) (i 1), fun c i => kNew (aX m c) (aM m c) (aG m c) (aW m c) (aK m c) (i 0) (i 1),
    fun c i => vNew (aX m c) (aM m c) (aG m c) (aW m c) (i 0) (i 1), fun c i => pOut (aX m c) (aM m c) (aG m c) (aW m c) (i 0) (i 1), ?_, ?_⟩
  · exact run m g hf
  · exact Cert.InRes.run m' g' _ _ _ _ _ _ (fun c => (hagree c).1) (fun c => (hagree c).2.1) (fun c => (hagree c).2.2.1) (fun c => (hagree c).2.2.2.1)
      (fun c => (hagree c).2.2.2.2.1) (fun c => (hagree c).2.2.2.2.2)

end Cert.InClaim

end
-- ==== Proof.ModValue.lean ====
/- The array the modulation kernel leaves: a gate of each conditioning row, times the layer's matrix, plus its offsets. -/
module

public import proofs.«01_k».proof.Proof.Gen.Kernel5Ideal.Frame
public import Idealize.ShloMosaic.Lib.Pointwise
public import Idealize.ShloMosaic.Lib.Claim
public import Idealize.ShloMosaic.Lib.Pipeline.ValueKit
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.ModValue

/-- A number times its logistic. -/
def silu (x : EReal) : EReal := x * Ideal.logistic x

/-- One entry of one layer's modulation from a conditioning row. -/
def modRow (q : Fin 1024 → EReal) (W : Fin 1024 → EReal) (b : EReal) : EReal := (∑ k, silu (q k) * W k) + b

/-- The modulation: the context's row, the two samples' rows, five rows of zeros. -/
def modAt (C : (⟨2, ![2, 1024]⟩ : Shape).Idx → EReal) (X : (⟨1, ![1024]⟩ : Shape).Idx → EReal)
    (W : (⟨3, ![4, 1024, 6144]⟩ : Shape).Idx → EReal) (B : (⟨2, ![4, 6144]⟩ : Shape).Idx → EReal) (d : Fin 4) (r : Fin 8) (i : Fin 6144) : EReal :=
  if h : r.val < 3 then
    modRow (if g : r.val = 0 then fun k => X (ix1 k) else fun k => C (ix2 ⟨r.val - 1, by omega⟩ k)) (fun k => W (ix3 d k i)) (B (ix2 d i))
  else 0

open Cert.Kernel5Ideal Cert.Kernel5Ideal.Gen

/-- One row of the body's block. -/
def row (o : ℕ) (h : S1024x8.Slices ![0, o] S1024x1) (q : FVec Ideal S1024x8 .f32) (w : FVec Ideal S1x1024x1536 .f32) (b : FVec Ideal S1x1x1536 .f32) : FVec Ideal S1x1536 .f32 :=
  addf (shapeCast S1x1536 (multiReduction .add [0] S1536 (mulf (broadcastTo S1024x1536 (extractStridedSlice S1024x1 ![0, o] (mulf q (logistic q)) h) broadcasts_S1024x1_S1024x1536)
    (shapeCast S1024x1536 w shapeCasts_S1x1024x1536_S1024x1536)) 0x00000000#32 reduces_S1024x1536_S1536 (.inl rfl) rfl) shapeCasts_S1536_S1x1536)
    (shapeCast S1x1536 b shapeCasts_S1x1x1536_S1x1536)

theorem row_at (o : ℕ) (h : S1024x8.Slices ![0, o] S1024x1) (ho : o < 8) (q : FVec Ideal S1024x8 .f32) (w : FVec Ideal S1x1024x1536 .f32) (b : FVec Ideal S1x1x1536 .f32)
    (i : Fin 1536) : row o h q w b (ix2 0 i) = modRow (fun k => q (ix2 k ⟨o, ho⟩)) (fun k => w (ix3 0 k i)) (b (ix3 0 0 i)) := by
  unfold modRow silu
  pointwise [row]

theorem rows_at (a b c : FVec Ideal S1x1536 .f32) (z : FVec Ideal S5x1536 .f32) (r : Fin 8) (i : Fin 1536) :
    shapeCast S1x8x1536 (concatenate S8x1536 0 [⟨S1x1536, a⟩, ⟨S1x1536, b⟩, ⟨S1x1536, c⟩, ⟨S5x1536, z⟩] concatenates_S1x1536_S1x1536_S1x1536_S5x1536_S8x1536_d0)
      shapeCasts_S8x1536_S1x8x1536 (ix3 0 r i)
      = if r.val < 1 then a (ix2 0 i) else if r.val < 2 then b (ix2 0 i) else if h : r.val < 3 then c (ix2 0 i) else z (ix2 ⟨r.val - 3, by omega⟩ i) := by
  pointwise
  by_cases h0 : r.val < 1
  · rw [dif_pos h0, if_pos h0]
    exact congrArg (fun q => a (ix2 q i)) (Subsingleton.elim (α := Fin 1) _ _)
  rw [dif_neg h0, if_neg h0]
  by_cases h1 : r.val < 2
  · rw [dif_pos (by omega), if_pos h1]
    exact congrArg (fun q => b (ix2 q i)) (Subsingleton.elim (α := Fin 1) _ _)
  rw [dif_neg (by omega), if_neg h1]
  by_cases h2 : r.val < 3
  · rw [dif_pos (by omega), dif_pos h2]
    exact congrArg (fun q => c (ix2 q i)) (Subsingleton.elim (α := Fin 1) _ _)
  · rw [dif_neg (by omega), dif_neg h2]
    rfl

theorem body_at (q : FVec Ideal S1024x8 .f32) (w : FVec Ideal S1x1024x1536 .f32) (b : FVec Ideal S1x1x1536 .f32) (r : Fin 8) (i : Fin 1536) :
    k0_pay1 (F := Ideal) q w b b b (ix3 0 r i)
      = if r.val < 3 then modRow (fun k => q (ix2 k r)) (fun k => w (ix3 0 k i)) (b (ix3 0 0 i)) else 0 := by
  have e : shapeCast S1024x8 q shapeCasts_S1024x8_S1024x8 = q := by
    funext u
    idx_vars u
    pointwise
  have e2 : k0_pay1 (F := Ideal) q w b b b = shapeCast S1x8x1536 (concatenate S8x1536 0 [⟨S1x1536, row 0 slices_S1024x8_o0_0_S1024x1 (shapeCast S1024x8 q shapeCasts_S1024x8_S1024x8) w b⟩,
      ⟨S1x1536, row 1 slices_S1024x8_o0_1_S1024x1 (shapeCast S1024x8 q shapeCasts_S1024x8_S1024x8) w b⟩,
      ⟨S1x1536, row 2 slices_S1024x8_o0_2_S1024x1 (shapeCast S1024x8 q shapeCasts_S1024x8_S1024x8) w b⟩,
      ⟨S5x1536, broadcast S5x1536 (Scalar.ofBits .f32 0x00000000#32)⟩] concatenates_S1x1536_S1x1536_S1x1536_S5x1536_S8x1536_d0) shapeCasts_S8x1536_S1x8x1536 := rfl
  rw [e2, e, rows_at]
  have key : ∀ (o : ℕ) (ho : o < 8) (h : S1024x8.Slices ![0, o] S1024x1), r.val = o →
      row o h q w b (ix2 0 i) = modRow (fun k => q (ix2 k r)) (fun k => w (ix3 0 k i)) (b (ix3 0 0 i)) := fun o ho h hr => by
    rw [row_at o h ho]
    exact congrArg (fun u => modRow (fun k => q (ix2 k u)) _ _) (Fin.ext hr.symm)
  split_ifs with h0 h1 h2 <;> try omega
  · exact key 0 (by omega) _ (by omega)
  · exact key 1 (by omega) _ (by omega)
  · exact key 2 (by omega) _ (by omega)
  · exact Ideal.ofBits_zero_f32

/-- A one-entry array of a word. -/
theorem word_at (j : IVec S1 32) (v : BitVec 32) (hj : j (ix1 0) = v) (q : S1.Idx) : j q = v := by
  rw [← hj]; exact congrArg j (funext fun b => match b with | ⟨0, _⟩ => Subsingleton.elim (α := Fin 1) _ _)

/-- The context's row set as the first column. -/
theorem first_at (z : FVec Ideal S1024x8 .f32) (X : FVec Ideal S1024 .f32) (j : IVec S1 32) (hj : j (ix1 0) = 0#32) (k : Fin 1024) (r : Fin 8) (hr : r.val = 0) :
    Host.scatter scatter_S1024x8_S1_S1024_0_1_1_0 (fun _ b => b) z j X (ix2 k r) = X (ix1 k) := by
  have key : ∀ u : S1024.Idx, scatter_S1024x8_S1_S1024_0_1_1_0.resultIdx? u j = some (ix2 k r : S1024x8.Idx) ↔ u = ix1 k := fun u => by
    have w0 : scatter_S1024x8_S1_S1024_0_1_1_0.window u 0 = (u 0).val := rfl
    have w1 : scatter_S1024x8_S1_S1024_0_1_1_0.window u 1 = 0 := rfl
    have s0 : scatter_S1024x8_S1_S1024_0_1_1_0.start u j 0 = 0 := by
      unfold ScatterDims.start
      rw [dif_neg (by decide)]
    have s1 : scatter_S1024x8_S1_S1024_0_1_1_0.start u j 1 = 0 := by
      unfold ScatterDims.start
      rw [dif_pos (by decide), word_at j _ hj]; rfl
    refine (Routing.resultIdx?_ix2 _ u j k r).trans ?_
    rw [w0, w1, s0, s1, hr]
    idx_vars u
    constructor
    · rintro ⟨h0, _⟩
      exact congrArg (fun q => (ix1 q : S1024.Idx)) (Fin.ext (by have : ((u0.val : ℤ)) = k.val := by simpa using h0
                                                                 omega))
    · intro h
      have h' : u0 = k := congrFun h 0
      rw [h']
      constructor
      · show (0 : ℤ) + (k.val : ℤ) = k.val; omega
      · rfl
  exact Routing.scatter_set_hit _ _ _ _ _ _ (fun u hu => by rw [(key u).1 hu]) (ix1 k) ((key _).2 rfl)

/-- Where the samples' rows land. -/
theorem lands (j : IVec S1 32) (hj : j (ix1 0) = 1#32) (k : Fin 1024) (r : Fin 8) (a : Fin 1024) (b : Fin 2) :
    scatter_S1024x8_S1_S1024x2_01_n_1_0.resultIdx? (ix2 a b : S1024x2.Idx) j = some (ix2 k r : S1024x8.Idx) ↔ a = k ∧ b.val + 1 = r.val := by
  have w0 : scatter_S1024x8_S1_S1024x2_01_n_1_0.window (ix2 a b : S1024x2.Idx) 0 = a.val := rfl
  have w1 : scatter_S1024x8_S1_S1024x2_01_n_1_0.window (ix2 a b : S1024x2.Idx) 1 = b.val := rfl
  have s0 : scatter_S1024x8_S1_S1024x2_01_n_1_0.start (ix2 a b : S1024x2.Idx) j 0 = 0 := by
    unfold ScatterDims.start
    rw [dif_neg (by decide)]
  have s1 : scatter_S1024x8_S1_S1024x2_01_n_1_0.start (ix2 a b : S1024x2.Idx) j 1 = 1 := by
    unfold ScatterDims.start
    rw [dif_pos (by decide), word_at j _ hj]; rfl
  refine (Routing.resultIdx?_ix2 _ _ j k r).trans ?_
  rw [w0, w1, s0, s1]
  constructor
  · rintro ⟨h0, h1⟩; exact ⟨Fin.ext (by omega), by omega⟩
  · rintro ⟨rfl, h⟩; exact ⟨by omega, by omega⟩

/-- The samples' rows set as the second and third columns. -/
theorem next_at (z : FVec Ideal S1024x8 .f32) (C : FVec Ideal S1024x2 .f32) (j : IVec S1 32) (hj : j (ix1 0) = 1#32) (k : Fin 1024) (r : Fin 8) (h3 : r.val < 3) :
    Host.scatter scatter_S1024x8_S1_S1024x2_01_n_1_0 (fun _ b => b) z j C (ix2 k r)
      = if g : r.val = 0 then z (ix2 k r) else C (ix2 k ⟨r.val - 1, by omega⟩) := by
  by_cases g : r.val = 0
  · rw [dif_pos g]
    refine Routing.scatter_set_miss _ _ _ _ _ fun u hu => ?_
    idx_vars u
    exact absurd ((lands j hj k r u0 u1).1 hu).2 (by omega)
  · rw [dif_neg g]
    refine Routing.scatter_set_hit _ _ _ _ _ _ (fun u hu => ?_) (ix2 k ⟨r.val - 1, by omega⟩) ((lands j hj k r _ _).2 ⟨rfl, by show r.val - 1 + 1 = r.val; omega⟩)
    idx_vars u
    obtain ⟨rfl, h⟩ := (lands j hj k r u0 u1).1 hu
    exact congrArg (fun q => C (ix2 u0 q)) (Fin.ext (by show u1.val = r.val - 1; omega))

variable (m : (ℓ : Loc nD τ sig) → Buf (Elt Ideal) ℓ)

/-- The block each window is at, by the grid point. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The conditioning rows as the region finds them. -/
theorem V_cond (c : Dev nD) : V m c main_v5 = Host.scatter scatter_S1024x8_S1_S1024x2_01_n_1_0 (fun _ b => b)
    (Host.scatter scatter_S1024x8_S1_S1024_0_1_1_0 (fun _ b => b)
      (broadcastInDim S1024x8 ![] bcast_S_S1024x8 (constant S_ .f32 0x00000000#32) : FVec Ideal S1024x8 .f32)
      (broadcastInDim S1 ![] bcast_S_S1 (constantI S_ 32 0#32)) (m ((c : Thread nD τ).loc main_arg1)))
    (broadcastInDim S1 ![] bcast_S_S1 (constantI S_ 32 1#32))
    (transpose S1024x2 [1, 0] (m ((c : Thread nD τ).loc main_arg0)) transposes_S2x1024_S1024x2_1_0) := by
  show StableHlo.after hostOps0 (fun b => m (c, b)) (Proc.tc.devRef main_v5) = _
  after_results

theorem off_at (B : FVec Ideal S4x6144 .f32) (d : Fin 4) (i : Fin 6144) :
    shapeCast S4x1x6144 B shapeCasts_S4x6144_S4x1x6144 (ix3 d 0 i) = B (ix2 d i) := by
  pointwise

/-- The offsets as the region finds them. -/
theorem V_off (c : Dev nD) : V m c main_v6 = shapeCast S4x1x6144 (m ((c : Thread nD τ).loc main_arg3)) shapeCasts_S4x6144_S4x1x6144 := by
  show StableHlo.after hostOps0 (fun b => m (c, b)) (Proc.tc.devRef main_v6) = _
  after_results
  rfl

theorem cond_blk (c : Dev nD) (t : Fin cfg0.N) (k : Fin 1024) (r : Fin 8) (h3 : r.val < 3) :
    iblk m c 0 t (ix2 k r : S1024x8.Idx)
      = if g : r.val = 0 then m ((c : Thread nD τ).loc main_arg1) (ix1 k) else m ((c : Thread nD τ).loc main_arg0) (ix2 ⟨r.val - 1, by omega⟩ k) := by
  have h : iblk m c 0 t (ix2 k r : S1024x8.Idx) = V m c main_v5 (ix2 k r) := by blk_ext [iblk, idx t]
  rw [h, V_cond, next_at _ _ _ rfl k r h3]
  refine dite_congr rfl (fun g => first_at _ _ _ rfl k r g) (fun g => ?_)
  pointwise

set_option maxHeartbeats 1000000 in
theorem final (c : Dev nD) : (dats m 0 c).arrAt 3 (cfgs 0).N = fun i : S4x8x6144.Idx =>
    modAt (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 3 _ (by decide +kernel) fun t _ y => ?_
  blk_simp
  rw [after0_3]; frame_out
  idx_vars y
  have e0 : y0 = 0 := Subsingleton.elim (α := Fin 1) _ _
  subst e0
  refine (body_at _ _ _ y1 y2).trans ?_
  have hd : t.val / 4 < 4 := by have : t.val < 16 := t.isLt; omega
  have hi : 1536 * (t.val % 4) + y2.val < 6144 := by omega
  have hw : ∀ k : Fin 1024, iblk m c 1 t (ix3 0 k y2 : S1x1024x1536.Idx)
      = m ((c : Thread nD τ).loc main_arg2) (ix3 ⟨t.val / 4, hd⟩ k ⟨1536 * (t.val % 4) + y2.val, hi⟩) := fun k => by
    blk_ext [iblk, V, idx t]
  have hb : iblk m c 2 t (ix3 0 0 y2 : S1x1x1536.Idx) = m ((c : Thread nD τ).loc main_arg3) (ix2 ⟨t.val / 4, hd⟩ ⟨1536 * (t.val % 4) + y2.val, hi⟩) := by
    have h : iblk m c 2 t (ix3 0 0 y2 : S1x1x1536.Idx) = V m c main_v6 (ix3 ⟨t.val / 4, hd⟩ 0 ⟨1536 * (t.val % 4) + y2.val, hi⟩) := by blk_ext [iblk, idx t]
    rw [h, V_off, off_at]
  refine Eq.trans (b := modAt (m ((c : Thread nD τ).loc main_arg0)) (m ((c : Thread nD τ).loc main_arg1)) (m ((c : Thread nD τ).loc main_arg2))
      (m ((c : Thread nD τ).loc main_arg3)) ⟨t.val / 4, hd⟩ y1 ⟨1536 * (t.val % 4) + y2.val, hi⟩) ?_ ?_
  · unfold modAt
    by_cases h3 : y1.val < 3
    · rw [if_pos h3, dif_pos h3, hb, funext hw]
      refine congrArg (fun q => modRow q _ _) (funext fun k => (cond_blk m c t k y1 h3).trans ?_)
      split <;> rfl
    · rw [if_neg h3, dif_neg h3]
  · congr 1 <;> refine Fin.ext ?_ <;> blk_simp [idx t]
    · show t.val / 4 = t.val / 4 + 0; omega
    · show 1536 * (t.val % 4) + y2.val = t.val % 4 * 1536 + y2.val; omega

end Cert.ModValue

end
-- ==== Proof.ModRef.lean ====
/- The modulation reference, read entry by entry. -/
module

public import proofs.«01_k».proof.Proof.Gen.Reference5Ideal.Run
public import proofs.«01_k».proof.Proof.ModValue
public import Idealize.ShloMosaic.Lib.Pointwise

@[expose] public section

set_option maxRecDepth 16384

noncomputable section

open Idealize.ShloMosaic Idealize.ShloMosaic.TcCoe Idealize.SL.Sem

namespace Cert.ModRef

open Cert.Reference5Ideal Cert.Reference5Ideal.Gen Cert.ModValue

variable (C : FVec Ideal S2x1024 .f32) (X : FVec Ideal S1024 .f32) (W : FVec Ideal S4x1024x6144 .f32) (B : FVec Ideal S4x6144 .f32)

/-- The context's row, gated. -/
def gateX : FVec Ideal S1024 .f32 :=
  mulf X (Host.divf (broadcastInDim S1024 ![] bcast_S_S1024 (constant S_ .f32 0x3F800000#32))
    (addf (broadcastInDim S1024 ![] bcast_S_S1024 (constant S_ .f32 0x3F800000#32)) (Host.exp (Host.negf X))))

/-- The samples' rows, gated. -/
def gateC : FVec Ideal S2x1024 .f32 :=
  mulf C (Host.divf (broadcastInDim S2x1024 ![] bcast_S_S2x1024 (constant S_ .f32 0x3F800000#32))
    (addf (broadcastInDim S2x1024 ![] bcast_S_S2x1024 (constant S_ .f32 0x3F800000#32)) (Host.exp (Host.negf C))))

theorem gateX_at (k : Fin 1024) : gateX X (ix1 k) = silu (X (ix1 k)) := by
  unfold silu Ideal.logistic
  pointwise [gateX]

theorem gateC_at (b : Fin 2) (k : Fin 1024) : gateC C (ix2 b k) = silu (C (ix2 b k)) := by
  unfold silu Ideal.logistic
  pointwise [gateC]

/-- The context's part. -/
def partX (g : FVec Ideal S1024 .f32) : FVec Ideal S4x1x6144 .f32 :=
  broadcastInDim S4x1x6144 ![0, 2] bcast_S4x6144_S4x1x6144_0_2 (addf (Host.dotGeneral dot_S1024_S4x1024x6144_S4x6144_0_1_n_02_n_n none g W) B)

/-- The samples' part. -/
def partC (g : FVec Ideal S2x1024 .f32) : FVec Ideal S4x2x6144 .f32 :=
  addf (transpose S4x2x6144 [0, 2, 1] (Host.dotGeneral dot_S4x1024x6144_S2x1024_S4x6144x2_1_1_02_0_n_n none W g) transposes_S4x6144x2_S4x2x6144_0_2_1)
    (broadcastInDim S4x2x6144 ![0, 1, 2] bcast_S4x1x6144_S4x2x6144_0_1_2 (broadcastInDim S4x1x6144 ![0, 2] bcast_S4x6144_S4x1x6144_0_2 B))

theorem partX_at (g : FVec Ideal S1024 .f32) (d : Fin 4) (r : Fin 1) (i : Fin 6144) :
    partX W B g (ix3 d r i) = (∑ k : Fin 1024, (show EReal from g (ix1 k)) * (show EReal from W (ix3 d k i))) + (show EReal from B (ix2 d i)) := by
  pointwise [partX]

theorem partC_at (g : FVec Ideal S2x1024 .f32) (d : Fin 4) (b : Fin 2) (i : Fin 6144) :
    partC W B g (ix3 d b i) = (∑ k : Fin 1024, (show EReal from W (ix3 d k i)) * (show EReal from g (ix2 b k))) + (show EReal from B (ix2 d i)) := by
  pointwise [partC]

theorem stack_at (a : FVec Ideal S4x1x6144 .f32) (b : FVec Ideal S4x2x6144 .f32) (z : FVec Ideal S4x5x6144 .f32) (d : Fin 4) (r : Fin 8) (i : Fin 6144) :
    concatenate S4x8x6144 1 [⟨S4x1x6144, a⟩, ⟨S4x2x6144, b⟩, ⟨S4x5x6144, z⟩] concatenates_S4x1x6144_S4x2x6144_S4x5x6144_S4x8x6144_d1 (ix3 d r i)
      = if h : r.val < 1 then a (ix3 d ⟨r.val, h⟩ i) else if h : r.val - 1 < 2 then b (ix3 d ⟨r.val - 1, h⟩ i) else z (ix3 d ⟨r.val - 1 - 2, by omega⟩ i) := by
  pointwise

/-- The reference's array before its last reshape. -/
theorem stack_eq : concatenate S4x8x6144 1 [⟨S4x1x6144, partX W B (gateX X)⟩, ⟨S4x2x6144, partC W B (gateC C)⟩,
      ⟨S4x5x6144, (broadcastInDim S4x5x6144 ![] bcast_S_S4x5x6144 (constant S_ .f32 0x00000000#32) : FVec Ideal S4x5x6144 .f32)⟩]
      concatenates_S4x1x6144_S4x2x6144_S4x5x6144_S4x8x6144_d1 = fun i : S4x8x6144.Idx => modAt C X W B (i 0) (i 1) (i 2) := by
  funext u
  obtain ⟨d, r, i, rfl⟩ : ∃ (d : Fin 4) (r : Fin 8) (i : Fin 6144), u = ix3 d r i := ⟨u 0, u 1, u 2, by funext a; fin_cases a <;> rfl⟩
  show _ = modAt C X W B d r i
  rw [stack_at]
  unfold modAt modRow
  by_cases h0 : r.val < 1
  · rw [dif_pos h0, dif_pos (by omega), dif_pos (by omega), partX_at]
    exact congrArg (· + (show EReal from B (ix2 d i))) (Finset.sum_congr rfl fun k _ => congrArg (· * (show EReal from W (ix3 d k i))) (gateX_at X k))
  rw [dif_neg h0]
  by_cases h1 : r.val < 3
  · rw [dif_pos (by omega), dif_pos h1, dif_neg (by omega), partC_at]
    exact congrArg (· + (show EReal from B (ix2 d i))) (Finset.sum_congr rfl fun k _ =>
      (mul_comm _ _).trans (congrArg (· * (show EReal from W (ix3 d k i))) (gateC_at C _ k)))
  · rw [dif_neg (by omega), dif_neg h1]
    pointwise

end Cert.ModRef

end
-- ==== Proof.ModClaim.lean ====
/- The modulation kernel and its reference leave the same array. -/
module

public import proofs.«01_k».proof.Defs
public import proofs.«01_k».proof.Proof.ModRef
public import Idealize.ShloMosaic.Lib.Quiescent

@[expose] public section

set_option maxRecDepth 16384

noncomputable section

open Idealize.ShloMosaic Idealize.ShloMosaic.TcCoe Idealize.SL.Sem

namespace Cert.ModClaim

open Cert.ModValue

theorem quiescent : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

section Kernel

open Cert.Kernel5Ideal Cert.Kernel5Ideal.Gen

/-- The modulation with its columns split six ways. -/
def split6 (C : FVec Ideal S2x1024 .f32) (X : FVec Ideal S1024 .f32) (W : FVec Ideal S4x1024x6144 .f32) (B : FVec Ideal S4x6144 .f32) : FVec Ideal S4x8x6x1024 .f32 :=
  shapeCast S4x8x6x1024 (fun i : S4x8x6144.Idx => modAt C X W B (i 0) (i 1) (i 2)) shapeCasts_S4x8x6144_S4x8x6x1024

variable (m : (ℓ : Loc nD τ sig) → Buf (Elt Ideal) ℓ)

theorem tail (V : Valuation τ sig (Elt Ideal)) : StableHlo.after (hostOps1 (F := Ideal)) V (Proc.devRef .tc main_v8)
    = shapeCast S4x8x6x1024 (V (Proc.devRef .tc main_v7)) shapeCasts_S4x8x6144_S4x8x6x1024 := by
  after_results
  rfl

/-- What the kernel's program leaves in its result, and in its arguments. -/
theorem run (g : Dev nD → PrngReg) :
    θ_run defs (onTc (τ := τ) (main (F := Ideal))) ⟨m, fun _ => 0, g⟩ fun r => ∀ c : Dev nD,
      r.2.mem ((c.tc : Thread nD τ).loc main_v8) = split6 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m g) (unchanged m g))
  obtain ⟨hp, ha⟩ := h
  have key : Pipeline.withArrays (cfgs 0).spec c (V0 m c) (fun w => (dats m 0 c).arrAt w (cfgs 0).N) (Proc.devRef .tc (Pipeline.arrRef (cfgs 0).spec 3)) = (dats m 0 c).arrAt 3 (cfgs 0).N :=
    Pipeline.withArrays_arr _ launch0.win.arr_inj c _ _ 3
  refine ⟨?_, ha c⟩
  refine ((hp c).2 main_v8 (Pipeline.mem_restRefs_of main_v8 (by decide) (by decide))).trans ((tail _).trans ?_)
  exact congrArg (fun z => shapeCast S4x8x6x1024 z shapeCasts_S4x8x6144_S4x8x6x1024) (key.trans (Cert.ModValue.final m c))

end Kernel

/-- The kernel's array and the reference's are the same. -/
theorem algebraic : Cert.algebraic_Kernel5Ideal_Reference5Ideal := by
  intro m g m' g' _ hagree
  refine ⟨fun c => split6 (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), run m g, ?_⟩
  refine (θ_run Cert.Reference5Ideal.defs _ _).mono (fun r h c => ⟨(h c).1.trans ?_, (h c).2⟩) (Cert.Reference5Ideal.Value.run m' g')
  obtain ⟨h0, h1, h2, h3⟩ := hagree c
  rw [h0, h1, h2, h3]
  exact congrArg (fun z => shapeCast Cert.Reference5Ideal.S4x8x6x1024 z Cert.Reference5Ideal.Gen.facts.shapeCasts_S4x8x6144_S4x8x6x1024) (Cert.ModRef.stack_eq _ _ _ _)

end Cert.ModClaim

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4Ideal.Frame
public import proofs.«01_k».proof.Proof.Gen.Reference4Ideal.Run
public import proofs.«01_k».proof.Proof.Gen.Kernel4.Frame
public import proofs.«01_k».proof.Proof.Gen.Kernel5.Frame
public import proofs.«01_k».proof.Proof.Gen.Kernel5Ideal.Frame
public import proofs.«01_k».proof.Proof.Gen.Reference5Ideal.Run
public import proofs.«01_k».proof.Proof.AttnClaim
public import proofs.«01_k».proof.Proof.CtxClaim
public import proofs.«01_k».proof.Proof.ConvClaim
public import proofs.«01_k».proof.Proof.InClaim
public import proofs.«01_k».proof.Proof.ModClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.AttnPre.facts, Cert.CtxPre.facts, Cert.InPre.facts,
  fun m ρ _ => Cert.Kernel.Gen.frame m ρ, fun m ρ _ => Cert.KernelIdeal.Gen.frame m ρ, fun m ρ _ => Cert.KernelIdeal.Gen.frame m ρ,
  Cert.AttnClaim.quiescent, fun m ρ _ => Cert.AttnClaim.quiescent m ρ trivial,
  fun m ρ _ => Cert.Kernel2.Gen.frame m ρ, fun m ρ _ => Cert.Kernel2Ideal.Gen.frame m ρ, Cert.ConvClaim.quiescent,
  fun m ρ _ => Cert.Kernel3.Gen.frame m ρ, fun m ρ _ => Cert.Kernel3Ideal.Gen.frame m ρ, fun m ρ _ => Cert.Kernel3Ideal.Gen.frame m ρ,
  Cert.CtxClaim.quiescent, fun m ρ _ => Cert.CtxClaim.quiescent m ρ trivial,
  fun m ρ _ => Cert.Kernel4.Gen.frame m ρ, fun m ρ _ => Cert.Kernel4Ideal.Gen.frame m ρ, fun m ρ _ => Cert.Kernel4Ideal.Gen.frame m ρ,
  Cert.InClaim.quiescent, fun m ρ _ => Cert.InClaim.quiescent m ρ trivial,
  fun m ρ _ => Cert.Kernel5.Gen.frame m ρ, fun m ρ _ => Cert.Kernel5Ideal.Gen.frame m ρ, Cert.ModClaim.quiescent,
  trivial, Cert.AttnClaim.algebraic, trivial, Cert.ConvClaim.algebraic, trivial, Cert.CtxClaim.algebraic,
  trivial, Cert.InClaim.algebraic, trivial, Cert.ModClaim.algebraic⟩

end Cert.Proof

end
